-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_KernelIdeal [hPre_finite_queries_KernelIdeal : Cert.Pre_finite_queries_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_ReferenceIdeal [hPre_finite_queries_ReferenceIdeal : Cert.Pre_finite_queries_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_KernelIdeal [hKernelIdeal : Cert.KernelIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_ReferenceIdeal [hReferenceIdeal : Cert.ReferenceIdeal.Facts] [hPre_finite_queries_ReferenceIdeal : Cert.Pre_finite_queries_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_queries_KernelIdeal [hKernelIdeal : Cert.KernelIdeal.Facts] [hReferenceIdeal : Cert.ReferenceIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v56) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_queries_KernelIdeal : Cert.Pre_finite_queries_KernelIdeal.Facts) (hPre_finite_queries_ReferenceIdeal : Cert.Pre_finite_queries_ReferenceIdeal.Facts),
    quiescent_Kernel (hKernel := hKernel)
    ∧ quiescent_KernelIdeal (hKernelIdeal := hKernelIdeal)
    ∧ quiescent_KernelIdeal_pre_finite_queries_KernelIdeal (hKernelIdeal := hKernelIdeal) (hPre_finite_queries_KernelIdeal := hPre_finite_queries_KernelIdeal)
    ∧ quiescent_ReferenceIdeal (hReferenceIdeal := hReferenceIdeal)
    ∧ quiescent_ReferenceIdeal_pre_finite_queries_ReferenceIdeal (hReferenceIdeal := hReferenceIdeal) (hPre_finite_queries_ReferenceIdeal := hPre_finite_queries_ReferenceIdeal)
    ∧ preserves_Kernel_KernelIdeal
    ∧ algebraic_KernelIdeal_ReferenceIdeal_pre_finite_queries_KernelIdeal (hKernelIdeal := hKernelIdeal) (hReferenceIdeal := hReferenceIdeal) (hPre_finite_queries_KernelIdeal := hPre_finite_queries_KernelIdeal)
-- ==== Pre_finite_queries_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x256x512 .bf16) (main_arg1 : FVec F S512x256 .bf16) (main_arg2 : FVec F S2x256x32x64 .bf16) (main_arg3 : FVec F S2x256x32x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  main_v10
-- ==== Pre_finite_queries_ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S2x256x512 .bf16) (main_arg1 : FVec F S512x2048 .bf16) (main_arg2 : FVec F S2x2048x32x64 .bf16) (main_arg3 : FVec F S2x2048x32x64 .bf16) (main_arg4 : FVec F S2048x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x2048 .f32 := (extf .f32 · bitsLt_bf16_f32) main_arg1
  let main_v6 : FVec F S512x2048 .f32 := Host.absf main_v5
  let main_cst_0 : FVec F S_ .f32 := constant S_ .f32 0x7F800000#32
  let main_v7 : FVec F S512x2048 .f32 := broadcastInDim S512x2048 ![] bcast_S_S512x2048 main_cst_0
  let main_v8 : IVec S512x2048 1 := cmpf .olt main_v6 main_v7
  let main_c_1 : IVec S_ 1 := constantI S_ 1 1#1
  let main_v9 : IVec S_ 1 := (fun x v => Host.reduce IntOp.andi x v reducesTo_S512x2048_S_d0_1 h_S_) main_v8 main_c_1
  let main_v10 : IVec S_ 1 := andi main_v4 main_v9
  main_v10
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S2x2x32x256x64 : Shape := ⟨5, ![2, 2, 32, 256, 64]⟩
abbrev S2x2x4x8x256x64 : Shape := ⟨6, ![2, 2, 4, 8, 256, 64]⟩
abbrev S8x2x32x512 : Shape := ⟨4, ![8, 2, 32, 512]⟩
abbrev S8x4 : Shape := ⟨2, ![8, 4]⟩
abbrev S8 : Shape := ⟨1, ![8]⟩
abbrev S1 : Shape := ⟨1, ![1]⟩
abbrev S_ : Shape := ⟨0, ![]⟩
abbrev S2x32x256x64 : Shape := ⟨4, ![2, 32, 256, 64]⟩
abbrev S2x1x32x256x64 : Shape := ⟨5, ![2, 1, 32, 256, 64]⟩
abbrev S2x2x4x1x256x64 : Shape := ⟨6, ![2, 2, 4, 1, 256, 64]⟩
abbrev S2x2x4x256x64 : Shape := ⟨5, ![2, 2, 4, 256, 64]⟩
abbrev S512x512 : Shape := ⟨2, ![512, 512]⟩
abbrev S2x256x4x64 : Shape := ⟨4, ![2, 256, 4, 64]⟩
abbrev S2x4x256x64 : Shape := ⟨4, ![2, 4, 256, 64]⟩
abbrev S8x256x64 : Shape := ⟨3, ![8, 256, 64]⟩
abbrev S1x1 : Shape := ⟨2, ![1, 1]⟩
abbrev S2x2x4x1x64x64 : Shape := ⟨6, ![2, 2, 4, 1, 64, 64]⟩
abbrev S2x2x4x64x64 : Shape := ⟨5, ![2, 2, 4, 64, 64]⟩
abbrev S8x64x64 : Shape := ⟨3, ![8, 64, 64]⟩
abbrev S2x1x4x8x64x64 : Shape := ⟨6, ![2, 1, 4, 8, 64, 64]⟩
abbrev S2x4x8x64x64 : Shape := ⟨5, ![2, 4, 8, 64, 64]⟩
abbrev S8x512x64 : Shape := ⟨3, ![8, 512, 64]⟩
abbrev S8x64x512 : Shape := ⟨3, ![8, 64, 512]⟩
abbrev S8x64 : Shape := ⟨2, ![8, 64]⟩
abbrev S8x64x1 : Shape := ⟨3, ![8, 64, 1]⟩
abbrev S2x4x64x64 : Shape := ⟨4, ![2, 4, 64, 64]⟩
abbrev S2x64x4x64 : Shape := ⟨4, ![2, 64, 4, 64]⟩
abbrev S2x64x256 : Shape := ⟨3, ![2, 64, 256]⟩
abbrev S2x64x512 : Shape := ⟨3, ![2, 64, 512]⟩
abbrev S1x2x32x512 : Shape := ⟨4, ![1, 2, 32, 512]⟩
abbrev S2x32x512 : Shape := ⟨3, ![2, 32, 512]⟩
abbrev S8x1x1x1 : Shape := ⟨4, ![8, 1, 1, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x32x64, .bf16⟩
  | .hbm, ⟨3, _⟩ => ⟨S2x256x32x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x32x64, .bf16⟩
  | .local _ .vmem, ⟨3, _⟩ => ⟨S2x256x32x64, .bf16⟩
  | .local _ .vmem, ⟨4, _⟩ => ⟨S256x512, .bf16⟩
  | .local _ .vmem, ⟨5, _⟩ => ⟨S2x256x512, .f32⟩
  | .local _ .vmem, ⟨6, _⟩ => ⟨S2x2x32x256x64, .i8⟩
  | .local _ .vmem, ⟨7, _⟩ => ⟨S2x2x4x8x256x64, .i8⟩
  | .local _ .vmem, ⟨8, _⟩ => ⟨S2x256x512, .f32⟩
  | .local _ .vmem, ⟨9, _⟩ => ⟨S2x256x512, .bf16⟩
  | .local _ .vmem, ⟨10, _⟩ => ⟨S8x2x32x512, .bf16⟩
  | .local _ .vmem, ⟨11, _⟩ => ⟨S2x256x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  (ofTc nBuf bufTy 1 103 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 6 → Nat :=
  let c0_i32_84 : BitVec 32 := 0#32
  let c0_i32_85 : BitVec 32 := 0#32
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let c0_i32_88 : BitVec 32 := 0#32
  ![0, 0, 0, v2.toNat, 0, 0]
def k0_off2 (d0 : Dev nD) : Fin 5 → Nat :=
  let c0_i32_89 : BitVec 32 := 0#32
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_82 : BitVec 32 := 4#32
  let v127 : BitVec 32 := Scalar.muli v2 c4_i32_82
  let c0_i32_91 : BitVec 32 := 0#32
  let c0_i32_92 : BitVec 32 := 0#32
  ![0, 0, v127.toNat, 0, 0]
def k0_off3 (d0 : Dev nD) (c1_i32_102 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.addi v2 c1_i32_102
  let c8_i32_103 : BitVec 32 := 8#32
  let c0_i32_104 : BitVec 32 := 0#32
  let v146 : BitVec 1 := Scalar.cmpi .eq c8_i32_103 c0_i32_104
  let c1_i32_105 : BitVec 32 := 1#32
  let v147 : BitVec 32 := Scalar.select v146 c1_i32_105 c8_i32_103
  let v148 : BitVec 32 := Scalar.remsi v145 v147
  let c0_i32_107 : BitVec 32 := 0#32
  let v150 : BitVec 1 := Scalar.cmpi .slt v148 c0_i32_107
  let c0_i32_108 : BitVec 32 := 0#32
  let v151 : BitVec 1 := Scalar.cmpi .slt v147 c0_i32_108
  let v152 : BitVec 1 := Scalar.xori v150 v151
  let c0_i32_106 : BitVec 32 := 0#32
  let v149 : BitVec 1 := Scalar.cmpi .ne v148 c0_i32_106
  let v153 : BitVec 1 := Scalar.andi v152 v149
  let v154 : BitVec 32 := Scalar.addi v148 v147
  let v155 : BitVec 32 := Scalar.select v153 v154 v148
  let c0_i32_111 : BitVec 32 := 0#32
  ![v155.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_110 : BitVec 32 := 0#32
  ![v2.toNat, 0]
def k0_off5 (d0 : Dev nD) : Fin 6 → Nat :=
  let c0_i32_114 : BitVec 32 := 0#32
  let c0_i32_115 : BitVec 32 := 0#32
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_117 : BitVec 32 := 0#32
  let c0_i32_118 : BitVec 32 := 0#32
  ![0, 0, 0, v2.toNat, 0, 0]
def k0_off6 (d0 : Dev nD) (c1_i32_102 : BitVec 32) : Fin 5 → Nat :=
  let c0_i32_119 : BitVec 32 := 0#32
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.addi v2 c1_i32_102
  let c8_i32_103 : BitVec 32 := 8#32
  let c0_i32_104 : BitVec 32 := 0#32
  let v146 : BitVec 1 := Scalar.cmpi .eq c8_i32_103 c0_i32_104
  let c1_i32_105 : BitVec 32 := 1#32
  let v147 : BitVec 32 := Scalar.select v146 c1_i32_105 c8_i32_103
  let v148 : BitVec 32 := Scalar.remsi v145 v147
  let c0_i32_107 : BitVec 32 := 0#32
  let v150 : BitVec 1 := Scalar.cmpi .slt v148 c0_i32_107
  let c0_i32_108 : BitVec 32 := 0#32
  let v151 : BitVec 1 := Scalar.cmpi .slt v147 c0_i32_108
  let v152 : BitVec 1 := Scalar.xori v150 v151
  let c0_i32_106 : BitVec 32 := 0#32
  let v149 : BitVec 1 := Scalar.cmpi .ne v148 c0_i32_106
  let v153 : BitVec 1 := Scalar.andi v152 v149
  let v154 : BitVec 32 := Scalar.addi v148 v147
  let v155 : BitVec 32 := Scalar.select v153 v154 v148
  let c4_i32_109 : BitVec 32 := 4#32
  let v156 : BitVec 32 := Scalar.muli v155 c4_i32_109
  let c0_i32_121 : BitVec 32 := 0#32
  let c0_i32_122 : BitVec 32 := 0#32
  ![0, 0, v156.toNat, 0, 0]
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v145 : BitVec 32 := Scalar.addi v2 c1_i32_102
  let c8_i32_103 : BitVec 32 := 8#32
  let c0_i32_104 : BitVec 32 := 0#32
  let v146 : BitVec 1 := Scalar.cmpi .eq c8_i32_103 c0_i32_104
  let c1_i32_105 : BitVec 32 := 1#32
  let v147 : BitVec 32 := Scalar.select v146 c1_i32_105 c8_i32_103
  let v148 : BitVec 32 := Scalar.remsi v145 v147
  let c0_i32_107 : BitVec 32 := 0#32
  let v150 : BitVec 1 := Scalar.cmpi .slt v148 c0_i32_107
  let c0_i32_108 : BitVec 32 := 0#32
  let v151 : BitVec 1 := Scalar.cmpi .slt v147 c0_i32_108
  let v152 : BitVec 1 := Scalar.xori v150 v151
  let c0_i32_106 : BitVec 32 := 0#32
  let v149 : BitVec 1 := Scalar.cmpi .ne v148 c0_i32_106
  let v153 : BitVec 1 := Scalar.andi v152 v149
  let v154 : BitVec 32 := Scalar.addi v148 v147
  let v155 : BitVec 32 := Scalar.select v153 v154 v148
  let c1_i32_112 : BitVec 32 := 1#32
  let v157 : BitVec 32 := Scalar.muli v155 c1_i32_112
  let v158 : BitVec 32 := Scalar.addi c0_i32_113 v157
  v158.toNat
def k0_dev9 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_123 : BitVec 32 := 2#32
  let v166 : BitVec 32 := Scalar.addi v2 c2_i32_123
  let c8_i32_124 : BitVec 32 := 8#32
  let c0_i32_125 : BitVec 32 := 0#32
  let v167 : BitVec 1 := Scalar.cmpi .eq c8_i32_124 c0_i32_125
  let c1_i32_126 : BitVec 32 := 1#32
  let v168 : BitVec 32 := Scalar.select v167 c1_i32_126 c8_i32_124
  let v169 : BitVec 32 := Scalar.remsi v166 v168
  let c0_i32_128 : BitVec 32 := 0#32
  let v171 : BitVec 1 := Scalar.cmpi .slt v169 c0_i32_128
  let c0_i32_129 : BitVec 32 := 0#32
  let v172 : BitVec 1 := Scalar.cmpi .slt v168 c0_i32_129
  let v173 : BitVec 1 := Scalar.xori v171 v172
  let c0_i32_127 : BitVec 32 := 0#32
  let v170 : BitVec 1 := Scalar.cmpi .ne v169 c0_i32_127
  let v174 : BitVec 1 := Scalar.andi v173 v170
  let v175 : BitVec 32 := Scalar.addi v169 v168
  let v176 : BitVec 32 := Scalar.select v174 v175 v169
  let c1_i32_133 : BitVec 32 := 1#32
  let v178 : BitVec 32 := Scalar.muli v176 c1_i32_133
  let v179 : BitVec 32 := Scalar.addi c0_i32_134 v178
  v179.toNat
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_144 : BitVec 32 := 3#32
  let v187 : BitVec 32 := Scalar.addi v2 c3_i32_144
  let c8_i32_145 : BitVec 32 := 8#32
  let c0_i32_146 : BitVec 32 := 0#32
  let v188 : BitVec 1 := Scalar.cmpi .eq c8_i32_145 c0_i32_146
  let c1_i32_147 : BitVec 32 := 1#32
  let v189 : BitVec 32 := Scalar.select v188 c1_i32_147 c8_i32_145
  let v190 : BitVec 32 := Scalar.remsi v187 v189
  let c0_i32_149 : BitVec 32 := 0#32
  let v192 : BitVec 1 := Scalar.cmpi .slt v190 c0_i32_149
  let c0_i32_150 : BitVec 32 := 0#32
  let v193 : BitVec 1 := Scalar.cmpi .slt v189 c0_i32_150
  let v194 : BitVec 1 := Scalar.xori v192 v193
  let c0_i32_148 : BitVec 32 := 0#32
  let v191 : BitVec 1 := Scalar.cmpi .ne v190 c0_i32_148
  let v195 : BitVec 1 := Scalar.andi v194 v191
  let v196 : BitVec 32 := Scalar.addi v190 v189
  let v197 : BitVec 32 := Scalar.select v195 v196 v190
  let c1_i32_154 : BitVec 32 := 1#32
  let v199 : BitVec 32 := Scalar.muli v197 c1_i32_154
  let v200 : BitVec 32 := Scalar.addi c0_i32_155 v199
  v200.toNat
def k0_dev11 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_165 : BitVec 32 := 4#32
  let v208 : BitVec 32 := Scalar.addi v2 c4_i32_165
  let c8_i32_166 : BitVec 32 := 8#32
  let c0_i32_167 : BitVec 32 := 0#32
  let v209 : BitVec 1 := Scalar.cmpi .eq c8_i32_166 c0_i32_167
  let c1_i32_168 : BitVec 32 := 1#32
  let v210 : BitVec 32 := Scalar.select v209 c1_i32_168 c8_i32_166
  let v211 : BitVec 32 := Scalar.remsi v208 v210
  let c0_i32_170 : BitVec 32 := 0#32
  let v213 : BitVec 1 := Scalar.cmpi .slt v211 c0_i32_170
  let c0_i32_171 : BitVec 32 := 0#32
  let v214 : BitVec 1 := Scalar.cmpi .slt v210 c0_i32_171
  let v215 : BitVec 1 := Scalar.xori v213 v214
  let c0_i32_169 : BitVec 32 := 0#32
  let v212 : BitVec 1 := Scalar.cmpi .ne v211 c0_i32_169
  let v216 : BitVec 1 := Scalar.andi v215 v212
  let v217 : BitVec 32 := Scalar.addi v211 v210
  let v218 : BitVec 32 := Scalar.select v216 v217 v211
  let c1_i32_175 : BitVec 32 := 1#32
  let v220 : BitVec 32 := Scalar.muli v218 c1_i32_175
  let v221 : BitVec 32 := Scalar.addi c0_i32_176 v220
  v221.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_186 : BitVec 32 := 5#32
  let v229 : BitVec 32 := Scalar.addi v2 c5_i32_186
  let c8_i32_187 : BitVec 32 := 8#32
  let c0_i32_188 : BitVec 32 := 0#32
  let v230 : BitVec 1 := Scalar.cmpi .eq c8_i32_187 c0_i32_188
  let c1_i32_189 : BitVec 32 := 1#32
  let v231 : BitVec 32 := Scalar.select v230 c1_i32_189 c8_i32_187
  let v232 : BitVec 32 := Scalar.remsi v229 v231
  let c0_i32_191 : BitVec 32 := 0#32
  let v234 : BitVec 1 := Scalar.cmpi .slt v232 c0_i32_191
  let c0_i32_192 : BitVec 32 := 0#32
  let v235 : BitVec 1 := Scalar.cmpi .slt v231 c0_i32_192
  let v236 : BitVec 1 := Scalar.xori v234 v235
  let c0_i32_190 : BitVec 32 := 0#32
  let v233 : BitVec 1 := Scalar.cmpi .ne v232 c0_i32_190
  let v237 : BitVec 1 := Scalar.andi v236 v233
  let v238 : BitVec 32 := Scalar.addi v232 v231
  let v239 : BitVec 32 := Scalar.select v237 v238 v232
  let c1_i32_196 : BitVec 32 := 1#32
  let v241 : BitVec 32 := Scalar.muli v239 c1_i32_196
  let v242 : BitVec 32 := Scalar.addi c0_i32_197 v241
  v242.toNat
def k0_dev13 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_207 : BitVec 32 := 6#32
  let v250 : BitVec 32 := Scalar.addi v2 c6_i32_207
  let c8_i32_208 : BitVec 32 := 8#32
  let c0_i32_209 : BitVec 32 := 0#32
  let v251 : BitVec 1 := Scalar.cmpi .eq c8_i32_208 c0_i32_209
  let c1_i32_210 : BitVec 32 := 1#32
  let v252 : BitVec 32 := Scalar.select v251 c1_i32_210 c8_i32_208
  let v253 : BitVec 32 := Scalar.remsi v250 v252
  let c0_i32_212 : BitVec 32 := 0#32
  let v255 : BitVec 1 := Scalar.cmpi .slt v253 c0_i32_212
  let c0_i32_213 : BitVec 32 := 0#32
  let v256 : BitVec 1 := Scalar.cmpi .slt v252 c0_i32_213
  let v257 : BitVec 1 := Scalar.xori v255 v256
  let c0_i32_211 : BitVec 32 := 0#32
  let v254 : BitVec 1 := Scalar.cmpi .ne v253 c0_i32_211
  let v258 : BitVec 1 := Scalar.andi v257 v254
  let v259 : BitVec 32 := Scalar.addi v253 v252
  let v260 : BitVec 32 := Scalar.select v258 v259 v253
  let c1_i32_217 : BitVec 32 := 1#32
  let v262 : BitVec 32 := Scalar.muli v260 c1_i32_217
  let v263 : BitVec 32 := Scalar.addi c0_i32_218 v262
  v263.toNat
def k0_dev14 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_228 : BitVec 32 := 7#32
  let v271 : BitVec 32 := Scalar.addi v2 c7_i32_228
  let c8_i32_229 : BitVec 32 := 8#32
  let c0_i32_230 : BitVec 32 := 0#32
  let v272 : BitVec 1 := Scalar.cmpi .eq c8_i32_229 c0_i32_230
  let c1_i32_231 : BitVec 32 := 1#32
  let v273 : BitVec 32 := Scalar.select v272 c1_i32_231 c8_i32_229
  let v274 : BitVec 32 := Scalar.remsi v271 v273
  let c0_i32_233 : BitVec 32 := 0#32
  let v276 : BitVec 1 := Scalar.cmpi .slt v274 c0_i32_233
  let c0_i32_234 : BitVec 32 := 0#32
  let v277 : BitVec 1 := Scalar.cmpi .slt v273 c0_i32_234
  let v278 : BitVec 1 := Scalar.xori v276 v277
  let c0_i32_232 : BitVec 32 := 0#32
  let v275 : BitVec 1 := Scalar.cmpi .ne v274 c0_i32_232
  let v279 : BitVec 1 := Scalar.andi v278 v275
  let v280 : BitVec 32 := Scalar.addi v274 v273
  let v281 : BitVec 32 := Scalar.select v279 v280 v274
  let c1_i32_238 : BitVec 32 := 1#32
  let v283 : BitVec 32 := Scalar.muli v281 c1_i32_238
  let v284 : BitVec 32 := Scalar.addi c0_i32_239 v283
  v284.toNat
def k0_off7 (d0 : Dev nD) (c1_i32_249 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v292 : BitVec 32 := Scalar.addi v2 c1_i32_249
  let c8_i32_250 : BitVec 32 := 8#32
  let c0_i32_251 : BitVec 32 := 0#32
  let v293 : BitVec 1 := Scalar.cmpi .eq c8_i32_250 c0_i32_251
  let c1_i32_252 : BitVec 32 := 1#32
  let v294 : BitVec 32 := Scalar.select v293 c1_i32_252 c8_i32_250
  let v295 : BitVec 32 := Scalar.remsi v292 v294
  let c0_i32_254 : BitVec 32 := 0#32
  let v297 : BitVec 1 := Scalar.cmpi .slt v295 c0_i32_254
  let c0_i32_255 : BitVec 32 := 0#32
  let v298 : BitVec 1 := Scalar.cmpi .slt v294 c0_i32_255
  let v299 : BitVec 1 := Scalar.xori v297 v298
  let c0_i32_253 : BitVec 32 := 0#32
  let v296 : BitVec 1 := Scalar.cmpi .ne v295 c0_i32_253
  let v300 : BitVec 1 := Scalar.andi v299 v296
  let v301 : BitVec 32 := Scalar.addi v295 v294
  let v302 : BitVec 32 := Scalar.select v300 v301 v295
  let c1_i32_258 : BitVec 32 := 1#32
  ![v302.toNat, 1]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_257 : BitVec 32 := 1#32
  ![v2.toNat, 1]
def k0_off9 (d0 : Dev nD) : Fin 6 → Nat :=
  let c0_i32_261 : BitVec 32 := 0#32
  let c0_i32_262 : BitVec 32 := 0#32
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let c0_i32_264 : BitVec 32 := 0#32
  ![0, 0, 0, v2.toNat, 64, 0]
def k0_off10 (d0 : Dev nD) (c1_i32_249 : BitVec 32) : Fin 5 → Nat :=
  let c0_i32_265 : BitVec 32 := 0#32
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v292 : BitVec 32 := Scalar.addi v2 c1_i32_249
  let c8_i32_250 : BitVec 32 := 8#32
  let c0_i32_251 : BitVec 32 := 0#32
  let v293 : BitVec 1 := Scalar.cmpi .eq c8_i32_250 c0_i32_251
  let c1_i32_252 : BitVec 32 := 1#32
  let v294 : BitVec 32 := Scalar.select v293 c1_i32_252 c8_i32_250
  let v295 : BitVec 32 := Scalar.remsi v292 v294
  let c0_i32_254 : BitVec 32 := 0#32
  let v297 : BitVec 1 := Scalar.cmpi .slt v295 c0_i32_254
  let c0_i32_255 : BitVec 32 := 0#32
  let v298 : BitVec 1 := Scalar.cmpi .slt v294 c0_i32_255
  let v299 : BitVec 1 := Scalar.xori v297 v298
  let c0_i32_253 : BitVec 32 := 0#32
  let v296 : BitVec 1 := Scalar.cmpi .ne v295 c0_i32_253
  let v300 : BitVec 1 := Scalar.andi v299 v296
  let v301 : BitVec 32 := Scalar.addi v295 v294
  let v302 : BitVec 32 := Scalar.select v300 v301 v295
  let c4_i32_256 : BitVec 32 := 4#32
  let v303 : BitVec 32 := Scalar.muli v302 c4_i32_256
  let c64_i32_267 : BitVec 32 := 64#32
  let c0_i32_268 : BitVec 32 := 0#32
  ![0, 0, v303.toNat, 64, 0]
def k0_dev15 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_249 : BitVec 32 := 1#32
  let v292 : BitVec 32 := Scalar.addi v2 c1_i32_249
  let c8_i32_250 : BitVec 32 := 8#32
  let c0_i32_251 : BitVec 32 := 0#32
  let v293 : BitVec 1 := Scalar.cmpi .eq c8_i32_250 c0_i32_251
  let c1_i32_252 : BitVec 32 := 1#32
  let v294 : BitVec 32 := Scalar.select v293 c1_i32_252 c8_i32_250
  let v295 : BitVec 32 := Scalar.remsi v292 v294
  let c0_i32_254 : BitVec 32 := 0#32
  let v297 : BitVec 1 := Scalar.cmpi .slt v295 c0_i32_254
  let c0_i32_255 : BitVec 32 := 0#32
  let v298 : BitVec 1 := Scalar.cmpi .slt v294 c0_i32_255
  let v299 : BitVec 1 := Scalar.xori v297 v298
  let c0_i32_253 : BitVec 32 := 0#32
  let v296 : BitVec 1 := Scalar.cmpi .ne v295 c0_i32_253
  let v300 : BitVec 1 := Scalar.andi v299 v296
  let v301 : BitVec 32 := Scalar.addi v295 v294
  let v302 : BitVec 32 := Scalar.select v300 v301 v295
  let c1_i32_259 : BitVec 32 := 1#32
  let v304 : BitVec 32 := Scalar.muli v302 c1_i32_259
  let v305 : BitVec 32 := Scalar.addi c0_i32_260 v304
  v305.toNat
def k0_dev16 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_269 : BitVec 32 := 2#32
  let v313 : BitVec 32 := Scalar.addi v2 c2_i32_269
  let c8_i32_270 : BitVec 32 := 8#32
  let c0_i32_271 : BitVec 32 := 0#32
  let v314 : BitVec 1 := Scalar.cmpi .eq c8_i32_270 c0_i32_271
  let c1_i32_272 : BitVec 32 := 1#32
  let v315 : BitVec 32 := Scalar.select v314 c1_i32_272 c8_i32_270
  let v316 : BitVec 32 := Scalar.remsi v313 v315
  let c0_i32_274 : BitVec 32 := 0#32
  let v318 : BitVec 1 := Scalar.cmpi .slt v316 c0_i32_274
  let c0_i32_275 : BitVec 32 := 0#32
  let v319 : BitVec 1 := Scalar.cmpi .slt v315 c0_i32_275
  let v320 : BitVec 1 := Scalar.xori v318 v319
  let c0_i32_273 : BitVec 32 := 0#32
  let v317 : BitVec 1 := Scalar.cmpi .ne v316 c0_i32_273
  let v321 : BitVec 1 := Scalar.andi v320 v317
  let v322 : BitVec 32 := Scalar.addi v316 v315
  let v323 : BitVec 32 := Scalar.select v321 v322 v316
  let c1_i32_279 : BitVec 32 := 1#32
  let v325 : BitVec 32 := Scalar.muli v323 c1_i32_279
  let v326 : BitVec 32 := Scalar.addi c0_i32_280 v325
  v326.toNat
def k0_dev17 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_290 : BitVec 32 := 3#32
  let v334 : BitVec 32 := Scalar.addi v2 c3_i32_290
  let c8_i32_291 : BitVec 32 := 8#32
  let c0_i32_292 : BitVec 32 := 0#32
  let v335 : BitVec 1 := Scalar.cmpi .eq c8_i32_291 c0_i32_292
  let c1_i32_293 : BitVec 32 := 1#32
  let v336 : BitVec 32 := Scalar.select v335 c1_i32_293 c8_i32_291
  let v337 : BitVec 32 := Scalar.remsi v334 v336
  let c0_i32_295 : BitVec 32 := 0#32
  let v339 : BitVec 1 := Scalar.cmpi .slt v337 c0_i32_295
  let c0_i32_296 : BitVec 32 := 0#32
  let v340 : BitVec 1 := Scalar.cmpi .slt v336 c0_i32_296
  let v341 : BitVec 1 := Scalar.xori v339 v340
  let c0_i32_294 : BitVec 32 := 0#32
  let v338 : BitVec 1 := Scalar.cmpi .ne v337 c0_i32_294
  let v342 : BitVec 1 := Scalar.andi v341 v338
  let v343 : BitVec 32 := Scalar.addi v337 v336
  let v344 : BitVec 32 := Scalar.select v342 v343 v337
  let c1_i32_300 : BitVec 32 := 1#32
  let v346 : BitVec 32 := Scalar.muli v344 c1_i32_300
  let v347 : BitVec 32 := Scalar.addi c0_i32_301 v346
  v347.toNat
def k0_dev18 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_311 : BitVec 32 := 4#32
  let v355 : BitVec 32 := Scalar.addi v2 c4_i32_311
  let c8_i32_312 : BitVec 32 := 8#32
  let c0_i32_313 : BitVec 32 := 0#32
  let v356 : BitVec 1 := Scalar.cmpi .eq c8_i32_312 c0_i32_313
  let c1_i32_314 : BitVec 32 := 1#32
  let v357 : BitVec 32 := Scalar.select v356 c1_i32_314 c8_i32_312
  let v358 : BitVec 32 := Scalar.remsi v355 v357
  let c0_i32_316 : BitVec 32 := 0#32
  let v360 : BitVec 1 := Scalar.cmpi .slt v358 c0_i32_316
  let c0_i32_317 : BitVec 32 := 0#32
  let v361 : BitVec 1 := Scalar.cmpi .slt v357 c0_i32_317
  let v362 : BitVec 1 := Scalar.xori v360 v361
  let c0_i32_315 : BitVec 32 := 0#32
  let v359 : BitVec 1 := Scalar.cmpi .ne v358 c0_i32_315
  let v363 : BitVec 1 := Scalar.andi v362 v359
  let v364 : BitVec 32 := Scalar.addi v358 v357
  let v365 : BitVec 32 := Scalar.select v363 v364 v358
  let c1_i32_321 : BitVec 32 := 1#32
  let v367 : BitVec 32 := Scalar.muli v365 c1_i32_321
  let v368 : BitVec 32 := Scalar.addi c0_i32_322 v367
  v368.toNat
def k0_dev19 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_332 : BitVec 32 := 5#32
  let v376 : BitVec 32 := Scalar.addi v2 c5_i32_332
  let c8_i32_333 : BitVec 32 := 8#32
  let c0_i32_334 : BitVec 32 := 0#32
  let v377 : BitVec 1 := Scalar.cmpi .eq c8_i32_333 c0_i32_334
  let c1_i32_335 : BitVec 32 := 1#32
  let v378 : BitVec 32 := Scalar.select v377 c1_i32_335 c8_i32_333
  let v379 : BitVec 32 := Scalar.remsi v376 v378
  let c0_i32_337 : BitVec 32 := 0#32
  let v381 : BitVec 1 := Scalar.cmpi .slt v379 c0_i32_337
  let c0_i32_338 : BitVec 32 := 0#32
  let v382 : BitVec 1 := Scalar.cmpi .slt v378 c0_i32_338
  let v383 : BitVec 1 := Scalar.xori v381 v382
  let c0_i32_336 : BitVec 32 := 0#32
  let v380 : BitVec 1 := Scalar.cmpi .ne v379 c0_i32_336
  let v384 : BitVec 1 := Scalar.andi v383 v380
  let v385 : BitVec 32 := Scalar.addi v379 v378
  let v386 : BitVec 32 := Scalar.select v384 v385 v379
  let c1_i32_342 : BitVec 32 := 1#32
  let v388 : BitVec 32 := Scalar.muli v386 c1_i32_342
  let v389 : BitVec 32 := Scalar.addi c0_i32_343 v388
  v389.toNat
def k0_dev20 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_353 : BitVec 32 := 6#32
  let v397 : BitVec 32 := Scalar.addi v2 c6_i32_353
  let c8_i32_354 : BitVec 32 := 8#32
  let c0_i32_355 : BitVec 32 := 0#32
  let v398 : BitVec 1 := Scalar.cmpi .eq c8_i32_354 c0_i32_355
  let c1_i32_356 : BitVec 32 := 1#32
  let v399 : BitVec 32 := Scalar.select v398 c1_i32_356 c8_i32_354
  let v400 : BitVec 32 := Scalar.remsi v397 v399
  let c0_i32_358 : BitVec 32 := 0#32
  let v402 : BitVec 1 := Scalar.cmpi .slt v400 c0_i32_358
  let c0_i32_359 : BitVec 32 := 0#32
  let v403 : BitVec 1 := Scalar.cmpi .slt v399 c0_i32_359
  let v404 : BitVec 1 := Scalar.xori v402 v403
  let c0_i32_357 : BitVec 32 := 0#32
  let v401 : BitVec 1 := Scalar.cmpi .ne v400 c0_i32_357
  let v405 : BitVec 1 := Scalar.andi v404 v401
  let v406 : BitVec 32 := Scalar.addi v400 v399
  let v407 : BitVec 32 := Scalar.select v405 v406 v400
  let c1_i32_363 : BitVec 32 := 1#32
  let v409 : BitVec 32 := Scalar.muli v407 c1_i32_363
  let v410 : BitVec 32 := Scalar.addi c0_i32_364 v409
  v410.toNat
def k0_dev21 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_374 : BitVec 32 := 7#32
  let v418 : BitVec 32 := Scalar.addi v2 c7_i32_374
  let c8_i32_375 : BitVec 32 := 8#32
  let c0_i32_376 : BitVec 32 := 0#32
  let v419 : BitVec 1 := Scalar.cmpi .eq c8_i32_375 c0_i32_376
  let c1_i32_377 : BitVec 32 := 1#32
  let v420 : BitVec 32 := Scalar.select v419 c1_i32_377 c8_i32_375
  let v421 : BitVec 32 := Scalar.remsi v418 v420
  let c0_i32_379 : BitVec 32 := 0#32
  let v423 : BitVec 1 := Scalar.cmpi .slt v421 c0_i32_379
  let c0_i32_380 : BitVec 32 := 0#32
  let v424 : BitVec 1 := Scalar.cmpi .slt v420 c0_i32_380
  let v425 : BitVec 1 := Scalar.xori v423 v424
  let c0_i32_378 : BitVec 32 := 0#32
  let v422 : BitVec 1 := Scalar.cmpi .ne v421 c0_i32_378
  let v426 : BitVec 1 := Scalar.andi v425 v422
  let v427 : BitVec 32 := Scalar.addi v421 v420
  let v428 : BitVec 32 := Scalar.select v426 v427 v421
  let c1_i32_384 : BitVec 32 := 1#32
  let v430 : BitVec 32 := Scalar.muli v428 c1_i32_384
  let v431 : BitVec 32 := Scalar.addi c0_i32_385 v430
  v431.toNat
def k0_off11 (d0 : Dev nD) (c1_i32_395 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v439 : BitVec 32 := Scalar.addi v2 c1_i32_395
  let c8_i32_396 : BitVec 32 := 8#32
  let c0_i32_397 : BitVec 32 := 0#32
  let v440 : BitVec 1 := Scalar.cmpi .eq c8_i32_396 c0_i32_397
  let c1_i32_398 : BitVec 32 := 1#32
  let v441 : BitVec 32 := Scalar.select v440 c1_i32_398 c8_i32_396
  let v442 : BitVec 32 := Scalar.remsi v439 v441
  let c0_i32_400 : BitVec 32 := 0#32
  let v444 : BitVec 1 := Scalar.cmpi .slt v442 c0_i32_400
  let c0_i32_401 : BitVec 32 := 0#32
  let v445 : BitVec 1 := Scalar.cmpi .slt v441 c0_i32_401
  let v446 : BitVec 1 := Scalar.xori v444 v445
  let c0_i32_399 : BitVec 32 := 0#32
  let v443 : BitVec 1 := Scalar.cmpi .ne v442 c0_i32_399
  let v447 : BitVec 1 := Scalar.andi v446 v443
  let v448 : BitVec 32 := Scalar.addi v442 v441
  let v449 : BitVec 32 := Scalar.select v447 v448 v442
  let c2_i32_404 : BitVec 32 := 2#32
  ![v449.toNat, 2]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_403 : BitVec 32 := 2#32
  ![v2.toNat, 2]
def k0_off13 (d0 : Dev nD) : Fin 6 → Nat :=
  let c0_i32_407 : BitVec 32 := 0#32
  let c0_i32_408 : BitVec 32 := 0#32
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let c0_i32_410 : BitVec 32 := 0#32
  ![0, 0, 0, v2.toNat, 128, 0]
def k0_off14 (d0 : Dev nD) (c1_i32_395 : BitVec 32) : Fin 5 → Nat :=
  let c0_i32_411 : BitVec 32 := 0#32
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v439 : BitVec 32 := Scalar.addi v2 c1_i32_395
  let c8_i32_396 : BitVec 32 := 8#32
  let c0_i32_397 : BitVec 32 := 0#32
  let v440 : BitVec 1 := Scalar.cmpi .eq c8_i32_396 c0_i32_397
  let c1_i32_398 : BitVec 32 := 1#32
  let v441 : BitVec 32 := Scalar.select v440 c1_i32_398 c8_i32_396
  let v442 : BitVec 32 := Scalar.remsi v439 v441
  let c0_i32_400 : BitVec 32 := 0#32
  let v444 : BitVec 1 := Scalar.cmpi .slt v442 c0_i32_400
  let c0_i32_401 : BitVec 32 := 0#32
  let v445 : BitVec 1 := Scalar.cmpi .slt v441 c0_i32_401
  let v446 : BitVec 1 := Scalar.xori v444 v445
  let c0_i32_399 : BitVec 32 := 0#32
  let v443 : BitVec 1 := Scalar.cmpi .ne v442 c0_i32_399
  let v447 : BitVec 1 := Scalar.andi v446 v443
  let v448 : BitVec 32 := Scalar.addi v442 v441
  let v449 : BitVec 32 := Scalar.select v447 v448 v442
  let c4_i32_402 : BitVec 32 := 4#32
  let v450 : BitVec 32 := Scalar.muli v449 c4_i32_402
  let c128_i32_413 : BitVec 32 := 128#32
  let c0_i32_414 : BitVec 32 := 0#32
  ![0, 0, v450.toNat, 128, 0]
def k0_dev22 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v439 : BitVec 32 := Scalar.addi v2 c1_i32_395
  let c8_i32_396 : BitVec 32 := 8#32
  let c0_i32_397 : BitVec 32 := 0#32
  let v440 : BitVec 1 := Scalar.cmpi .eq c8_i32_396 c0_i32_397
  let c1_i32_398 : BitVec 32 := 1#32
  let v441 : BitVec 32 := Scalar.select v440 c1_i32_398 c8_i32_396
  let v442 : BitVec 32 := Scalar.remsi v439 v441
  let c0_i32_400 : BitVec 32 := 0#32
  let v444 : BitVec 1 := Scalar.cmpi .slt v442 c0_i32_400
  let c0_i32_401 : BitVec 32 := 0#32
  let v445 : BitVec 1 := Scalar.cmpi .slt v441 c0_i32_401
  let v446 : BitVec 1 := Scalar.xori v444 v445
  let c0_i32_399 : BitVec 32 := 0#32
  let v443 : BitVec 1 := Scalar.cmpi .ne v442 c0_i32_399
  let v447 : BitVec 1 := Scalar.andi v446 v443
  let v448 : BitVec 32 := Scalar.addi v442 v441
  let v449 : BitVec 32 := Scalar.select v447 v448 v442
  let c1_i32_405 : BitVec 32 := 1#32
  let v451 : BitVec 32 := Scalar.muli v449 c1_i32_405
  let v452 : BitVec 32 := Scalar.addi c0_i32_406 v451
  v452.toNat
def k0_dev23 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_415 : BitVec 32 := 2#32
  let v460 : BitVec 32 := Scalar.addi v2 c2_i32_415
  let c8_i32_416 : BitVec 32 := 8#32
  let c0_i32_417 : BitVec 32 := 0#32
  let v461 : BitVec 1 := Scalar.cmpi .eq c8_i32_416 c0_i32_417
  let c1_i32_418 : BitVec 32 := 1#32
  let v462 : BitVec 32 := Scalar.select v461 c1_i32_418 c8_i32_416
  let v463 : BitVec 32 := Scalar.remsi v460 v462
  let c0_i32_420 : BitVec 32 := 0#32
  let v465 : BitVec 1 := Scalar.cmpi .slt v463 c0_i32_420
  let c0_i32_421 : BitVec 32 := 0#32
  let v466 : BitVec 1 := Scalar.cmpi .slt v462 c0_i32_421
  let v467 : BitVec 1 := Scalar.xori v465 v466
  let c0_i32_419 : BitVec 32 := 0#32
  let v464 : BitVec 1 := Scalar.cmpi .ne v463 c0_i32_419
  let v468 : BitVec 1 := Scalar.andi v467 v464
  let v469 : BitVec 32 := Scalar.addi v463 v462
  let v470 : BitVec 32 := Scalar.select v468 v469 v463
  let c1_i32_425 : BitVec 32 := 1#32
  let v472 : BitVec 32 := Scalar.muli v470 c1_i32_425
  let v473 : BitVec 32 := Scalar.addi c0_i32_426 v472
  v473.toNat
def k0_dev24 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_436 : BitVec 32 := 3#32
  let v481 : BitVec 32 := Scalar.addi v2 c3_i32_436
  let c8_i32_437 : BitVec 32 := 8#32
  let c0_i32_438 : BitVec 32 := 0#32
  let v482 : BitVec 1 := Scalar.cmpi .eq c8_i32_437 c0_i32_438
  let c1_i32_439 : BitVec 32 := 1#32
  let v483 : BitVec 32 := Scalar.select v482 c1_i32_439 c8_i32_437
  let v484 : BitVec 32 := Scalar.remsi v481 v483
  let c0_i32_441 : BitVec 32 := 0#32
  let v486 : BitVec 1 := Scalar.cmpi .slt v484 c0_i32_441
  let c0_i32_442 : BitVec 32 := 0#32
  let v487 : BitVec 1 := Scalar.cmpi .slt v483 c0_i32_442
  let v488 : BitVec 1 := Scalar.xori v486 v487
  let c0_i32_440 : BitVec 32 := 0#32
  let v485 : BitVec 1 := Scalar.cmpi .ne v484 c0_i32_440
  let v489 : BitVec 1 := Scalar.andi v488 v485
  let v490 : BitVec 32 := Scalar.addi v484 v483
  let v491 : BitVec 32 := Scalar.select v489 v490 v484
  let c1_i32_446 : BitVec 32 := 1#32
  let v493 : BitVec 32 := Scalar.muli v491 c1_i32_446
  let v494 : BitVec 32 := Scalar.addi c0_i32_447 v493
  v494.toNat
def k0_dev25 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_457 : BitVec 32 := 4#32
  let v502 : BitVec 32 := Scalar.addi v2 c4_i32_457
  let c8_i32_458 : BitVec 32 := 8#32
  let c0_i32_459 : BitVec 32 := 0#32
  let v503 : BitVec 1 := Scalar.cmpi .eq c8_i32_458 c0_i32_459
  let c1_i32_460 : BitVec 32 := 1#32
  let v504 : BitVec 32 := Scalar.select v503 c1_i32_460 c8_i32_458
  let v505 : BitVec 32 := Scalar.remsi v502 v504
  let c0_i32_462 : BitVec 32 := 0#32
  let v507 : BitVec 1 := Scalar.cmpi .slt v505 c0_i32_462
  let c0_i32_463 : BitVec 32 := 0#32
  let v508 : BitVec 1 := Scalar.cmpi .slt v504 c0_i32_463
  let v509 : BitVec 1 := Scalar.xori v507 v508
  let c0_i32_461 : BitVec 32 := 0#32
  let v506 : BitVec 1 := Scalar.cmpi .ne v505 c0_i32_461
  let v510 : BitVec 1 := Scalar.andi v509 v506
  let v511 : BitVec 32 := Scalar.addi v505 v504
  let v512 : BitVec 32 := Scalar.select v510 v511 v505
  let c1_i32_467 : BitVec 32 := 1#32
  let v514 : BitVec 32 := Scalar.muli v512 c1_i32_467
  let v515 : BitVec 32 := Scalar.addi c0_i32_468 v514
  v515.toNat
def k0_dev26 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_478 : BitVec 32 := 5#32
  let v523 : BitVec 32 := Scalar.addi v2 c5_i32_478
  let c8_i32_479 : BitVec 32 := 8#32
  let c0_i32_480 : BitVec 32 := 0#32
  let v524 : BitVec 1 := Scalar.cmpi .eq c8_i32_479 c0_i32_480
  let c1_i32_481 : BitVec 32 := 1#32
  let v525 : BitVec 32 := Scalar.select v524 c1_i32_481 c8_i32_479
  let v526 : BitVec 32 := Scalar.remsi v523 v525
  let c0_i32_483 : BitVec 32 := 0#32
  let v528 : BitVec 1 := Scalar.cmpi .slt v526 c0_i32_483
  let c0_i32_484 : BitVec 32 := 0#32
  let v529 : BitVec 1 := Scalar.cmpi .slt v525 c0_i32_484
  let v530 : BitVec 1 := Scalar.xori v528 v529
  let c0_i32_482 : BitVec 32 := 0#32
  let v527 : BitVec 1 := Scalar.cmpi .ne v526 c0_i32_482
  let v531 : BitVec 1 := Scalar.andi v530 v527
  let v532 : BitVec 32 := Scalar.addi v526 v525
  let v533 : BitVec 32 := Scalar.select v531 v532 v526
  let c1_i32_488 : BitVec 32 := 1#32
  let v535 : BitVec 32 := Scalar.muli v533 c1_i32_488
  let v536 : BitVec 32 := Scalar.addi c0_i32_489 v535
  v536.toNat
def k0_dev27 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_499 : BitVec 32 := 6#32
  let v544 : BitVec 32 := Scalar.addi v2 c6_i32_499
  let c8_i32_500 : BitVec 32 := 8#32
  let c0_i32_501 : BitVec 32 := 0#32
  let v545 : BitVec 1 := Scalar.cmpi .eq c8_i32_500 c0_i32_501
  let c1_i32_502 : BitVec 32 := 1#32
  let v546 : BitVec 32 := Scalar.select v545 c1_i32_502 c8_i32_500
  let v547 : BitVec 32 := Scalar.remsi v544 v546
  let c0_i32_504 : BitVec 32 := 0#32
  let v549 : BitVec 1 := Scalar.cmpi .slt v547 c0_i32_504
  let c0_i32_505 : BitVec 32 := 0#32
  let v550 : BitVec 1 := Scalar.cmpi .slt v546 c0_i32_505
  let v551 : BitVec 1 := Scalar.xori v549 v550
  let c0_i32_503 : BitVec 32 := 0#32
  let v548 : BitVec 1 := Scalar.cmpi .ne v547 c0_i32_503
  let v552 : BitVec 1 := Scalar.andi v551 v548
  let v553 : BitVec 32 := Scalar.addi v547 v546
  let v554 : BitVec 32 := Scalar.select v552 v553 v547
  let c1_i32_509 : BitVec 32 := 1#32
  let v556 : BitVec 32 := Scalar.muli v554 c1_i32_509
  let v557 : BitVec 32 := Scalar.addi c0_i32_510 v556
  v557.toNat
def k0_dev28 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_520 : BitVec 32 := 7#32
  let v565 : BitVec 32 := Scalar.addi v2 c7_i32_520
  let c8_i32_521 : BitVec 32 := 8#32
  let c0_i32_522 : BitVec 32 := 0#32
  let v566 : BitVec 1 := Scalar.cmpi .eq c8_i32_521 c0_i32_522
  let c1_i32_523 : BitVec 32 := 1#32
  let v567 : BitVec 32 := Scalar.select v566 c1_i32_523 c8_i32_521
  let v568 : BitVec 32 := Scalar.remsi v565 v567
  let c0_i32_525 : BitVec 32 := 0#32
  let v570 : BitVec 1 := Scalar.cmpi .slt v568 c0_i32_525
  let c0_i32_526 : BitVec 32 := 0#32
  let v571 : BitVec 1 := Scalar.cmpi .slt v567 c0_i32_526
  let v572 : BitVec 1 := Scalar.xori v570 v571
  let c0_i32_524 : BitVec 32 := 0#32
  let v569 : BitVec 1 := Scalar.cmpi .ne v568 c0_i32_524
  let v573 : BitVec 1 := Scalar.andi v572 v569
  let v574 : BitVec 32 := Scalar.addi v568 v567
  let v575 : BitVec 32 := Scalar.select v573 v574 v568
  let c1_i32_530 : BitVec 32 := 1#32
  let v577 : BitVec 32 := Scalar.muli v575 c1_i32_530
  let v578 : BitVec 32 := Scalar.addi c0_i32_531 v577
  v578.toNat
def k0_off15 (d0 : Dev nD) (c1_i32_541 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v586 : BitVec 32 := Scalar.addi v2 c1_i32_541
  let c8_i32_542 : BitVec 32 := 8#32
  let c0_i32_543 : BitVec 32 := 0#32
  let v587 : BitVec 1 := Scalar.cmpi .eq c8_i32_542 c0_i32_543
  let c1_i32_544 : BitVec 32 := 1#32
  let v588 : BitVec 32 := Scalar.select v587 c1_i32_544 c8_i32_542
  let v589 : BitVec 32 := Scalar.remsi v586 v588
  let c0_i32_546 : BitVec 32 := 0#32
  let v591 : BitVec 1 := Scalar.cmpi .slt v589 c0_i32_546
  let c0_i32_547 : BitVec 32 := 0#32
  let v592 : BitVec 1 := Scalar.cmpi .slt v588 c0_i32_547
  let v593 : BitVec 1 := Scalar.xori v591 v592
  let c0_i32_545 : BitVec 32 := 0#32
  let v590 : BitVec 1 := Scalar.cmpi .ne v589 c0_i32_545
  let v594 : BitVec 1 := Scalar.andi v593 v590
  let v595 : BitVec 32 := Scalar.addi v589 v588
  let v596 : BitVec 32 := Scalar.select v594 v595 v589
  let c3_i32_550 : BitVec 32 := 3#32
  ![v596.toNat, 3]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_549 : BitVec 32 := 3#32
  ![v2.toNat, 3]
def k0_off17 (d0 : Dev nD) : Fin 6 → Nat :=
  let c0_i32_553 : BitVec 32 := 0#32
  let c0_i32_554 : BitVec 32 := 0#32
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32 : BitVec 32 := 192#32
  let c0_i32_556 : BitVec 32 := 0#32
  ![0, 0, 0, v2.toNat, 192, 0]
def k0_off18 (d0 : Dev nD) (c1_i32_541 : BitVec 32) : Fin 5 → Nat :=
  let c0_i32_557 : BitVec 32 := 0#32
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v586 : BitVec 32 := Scalar.addi v2 c1_i32_541
  let c8_i32_542 : BitVec 32 := 8#32
  let c0_i32_543 : BitVec 32 := 0#32
  let v587 : BitVec 1 := Scalar.cmpi .eq c8_i32_542 c0_i32_543
  let c1_i32_544 : BitVec 32 := 1#32
  let v588 : BitVec 32 := Scalar.select v587 c1_i32_544 c8_i32_542
  let v589 : BitVec 32 := Scalar.remsi v586 v588
  let c0_i32_546 : BitVec 32 := 0#32
  let v591 : BitVec 1 := Scalar.cmpi .slt v589 c0_i32_546
  let c0_i32_547 : BitVec 32 := 0#32
  let v592 : BitVec 1 := Scalar.cmpi .slt v588 c0_i32_547
  let v593 : BitVec 1 := Scalar.xori v591 v592
  let c0_i32_545 : BitVec 32 := 0#32
  let v590 : BitVec 1 := Scalar.cmpi .ne v589 c0_i32_545
  let v594 : BitVec 1 := Scalar.andi v593 v590
  let v595 : BitVec 32 := Scalar.addi v589 v588
  let v596 : BitVec 32 := Scalar.select v594 v595 v589
  let c4_i32_548 : BitVec 32 := 4#32
  let v597 : BitVec 32 := Scalar.muli v596 c4_i32_548
  let c192_i32_559 : BitVec 32 := 192#32
  let c0_i32_560 : BitVec 32 := 0#32
  ![0, 0, v597.toNat, 192, 0]
def k0_dev29 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_541 : BitVec 32 := 1#32
  let v586 : BitVec 32 := Scalar.addi v2 c1_i32_541
  let c8_i32_542 : BitVec 32 := 8#32
  let c0_i32_543 : BitVec 32 := 0#32
  let v587 : BitVec 1 := Scalar.cmpi .eq c8_i32_542 c0_i32_543
  let c1_i32_544 : BitVec 32 := 1#32
  let v588 : BitVec 32 := Scalar.select v587 c1_i32_544 c8_i32_542
  let v589 : BitVec 32 := Scalar.remsi v586 v588
  let c0_i32_546 : BitVec 32 := 0#32
  let v591 : BitVec 1 := Scalar.cmpi .slt v589 c0_i32_546
  let c0_i32_547 : BitVec 32 := 0#32
  let v592 : BitVec 1 := Scalar.cmpi .slt v588 c0_i32_547
  let v593 : BitVec 1 := Scalar.xori v591 v592
  let c0_i32_545 : BitVec 32 := 0#32
  let v590 : BitVec 1 := Scalar.cmpi .ne v589 c0_i32_545
  let v594 : BitVec 1 := Scalar.andi v593 v590
  let v595 : BitVec 32 := Scalar.addi v589 v588
  let v596 : BitVec 32 := Scalar.select v594 v595 v589
  let c1_i32_551 : BitVec 32 := 1#32
  let v598 : BitVec 32 := Scalar.muli v596 c1_i32_551
  let v599 : BitVec 32 := Scalar.addi c0_i32_552 v598
  v599.toNat
def k0_dev30 (d0 : Dev nD) : Nat :=
  let c0_i32_572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_561 : BitVec 32 := 2#32
  let v607 : BitVec 32 := Scalar.addi v2 c2_i32_561
  let c8_i32_562 : BitVec 32 := 8#32
  let c0_i32_563 : BitVec 32 := 0#32
  let v608 : BitVec 1 := Scalar.cmpi .eq c8_i32_562 c0_i32_563
  let c1_i32_564 : BitVec 32 := 1#32
  let v609 : BitVec 32 := Scalar.select v608 c1_i32_564 c8_i32_562
  let v610 : BitVec 32 := Scalar.remsi v607 v609
  let c0_i32_566 : BitVec 32 := 0#32
  let v612 : BitVec 1 := Scalar.cmpi .slt v610 c0_i32_566
  let c0_i32_567 : BitVec 32 := 0#32
  let v613 : BitVec 1 := Scalar.cmpi .slt v609 c0_i32_567
  let v614 : BitVec 1 := Scalar.xori v612 v613
  let c0_i32_565 : BitVec 32 := 0#32
  let v611 : BitVec 1 := Scalar.cmpi .ne v610 c0_i32_565
  let v615 : BitVec 1 := Scalar.andi v614 v611
  let v616 : BitVec 32 := Scalar.addi v610 v609
  let v617 : BitVec 32 := Scalar.select v615 v616 v610
  let c1_i32_571 : BitVec 32 := 1#32
  let v619 : BitVec 32 := Scalar.muli v617 c1_i32_571
  let v620 : BitVec 32 := Scalar.addi c0_i32_572 v619
  v620.toNat
def k0_dev31 (d0 : Dev nD) : Nat :=
  let c0_i32_593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_582 : BitVec 32 := 3#32
  let v628 : BitVec 32 := Scalar.addi v2 c3_i32_582
  let c8_i32_583 : BitVec 32 := 8#32
  let c0_i32_584 : BitVec 32 := 0#32
  let v629 : BitVec 1 := Scalar.cmpi .eq c8_i32_583 c0_i32_584
  let c1_i32_585 : BitVec 32 := 1#32
  let v630 : BitVec 32 := Scalar.select v629 c1_i32_585 c8_i32_583
  let v631 : BitVec 32 := Scalar.remsi v628 v630
  let c0_i32_587 : BitVec 32 := 0#32
  let v633 : BitVec 1 := Scalar.cmpi .slt v631 c0_i32_587
  let c0_i32_588 : BitVec 32 := 0#32
  let v634 : BitVec 1 := Scalar.cmpi .slt v630 c0_i32_588
  let v635 : BitVec 1 := Scalar.xori v633 v634
  let c0_i32_586 : BitVec 32 := 0#32
  let v632 : BitVec 1 := Scalar.cmpi .ne v631 c0_i32_586
  let v636 : BitVec 1 := Scalar.andi v635 v632
  let v637 : BitVec 32 := Scalar.addi v631 v630
  let v638 : BitVec 32 := Scalar.select v636 v637 v631
  let c1_i32_592 : BitVec 32 := 1#32
  let v640 : BitVec 32 := Scalar.muli v638 c1_i32_592
  let v641 : BitVec 32 := Scalar.addi c0_i32_593 v640
  v641.toNat
def k0_dev32 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_603 : BitVec 32 := 4#32
  let v649 : BitVec 32 := Scalar.addi v2 c4_i32_603
  let c8_i32_604 : BitVec 32 := 8#32
  let c0_i32_605 : BitVec 32 := 0#32
  let v650 : BitVec 1 := Scalar.cmpi .eq c8_i32_604 c0_i32_605
  let c1_i32_606 : BitVec 32 := 1#32
  let v651 : BitVec 32 := Scalar.select v650 c1_i32_606 c8_i32_604
  let v652 : BitVec 32 := Scalar.remsi v649 v651
  let c0_i32_608 : BitVec 32 := 0#32
  let v654 : BitVec 1 := Scalar.cmpi .slt v652 c0_i32_608
  let c0_i32_609 : BitVec 32 := 0#32
  let v655 : BitVec 1 := Scalar.cmpi .slt v651 c0_i32_609
  let v656 : BitVec 1 := Scalar.xori v654 v655
  let c0_i32_607 : BitVec 32 := 0#32
  let v653 : BitVec 1 := Scalar.cmpi .ne v652 c0_i32_607
  let v657 : BitVec 1 := Scalar.andi v656 v653
  let v658 : BitVec 32 := Scalar.addi v652 v651
  let v659 : BitVec 32 := Scalar.select v657 v658 v652
  let c1_i32_613 : BitVec 32 := 1#32
  let v661 : BitVec 32 := Scalar.muli v659 c1_i32_613
  let v662 : BitVec 32 := Scalar.addi c0_i32_614 v661
  v662.toNat
def k0_dev33 (d0 : Dev nD) : Nat :=
  let c0_i32_635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_624 : BitVec 32 := 5#32
  let v670 : BitVec 32 := Scalar.addi v2 c5_i32_624
  let c8_i32_625 : BitVec 32 := 8#32
  let c0_i32_626 : BitVec 32 := 0#32
  let v671 : BitVec 1 := Scalar.cmpi .eq c8_i32_625 c0_i32_626
  let c1_i32_627 : BitVec 32 := 1#32
  let v672 : BitVec 32 := Scalar.select v671 c1_i32_627 c8_i32_625
  let v673 : BitVec 32 := Scalar.remsi v670 v672
  let c0_i32_629 : BitVec 32 := 0#32
  let v675 : BitVec 1 := Scalar.cmpi .slt v673 c0_i32_629
  let c0_i32_630 : BitVec 32 := 0#32
  let v676 : BitVec 1 := Scalar.cmpi .slt v672 c0_i32_630
  let v677 : BitVec 1 := Scalar.xori v675 v676
  let c0_i32_628 : BitVec 32 := 0#32
  let v674 : BitVec 1 := Scalar.cmpi .ne v673 c0_i32_628
  let v678 : BitVec 1 := Scalar.andi v677 v674
  let v679 : BitVec 32 := Scalar.addi v673 v672
  let v680 : BitVec 32 := Scalar.select v678 v679 v673
  let c1_i32_634 : BitVec 32 := 1#32
  let v682 : BitVec 32 := Scalar.muli v680 c1_i32_634
  let v683 : BitVec 32 := Scalar.addi c0_i32_635 v682
  v683.toNat
def k0_dev34 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_645 : BitVec 32 := 6#32
  let v691 : BitVec 32 := Scalar.addi v2 c6_i32_645
  let c8_i32_646 : BitVec 32 := 8#32
  let c0_i32_647 : BitVec 32 := 0#32
  let v692 : BitVec 1 := Scalar.cmpi .eq c8_i32_646 c0_i32_647
  let c1_i32_648 : BitVec 32 := 1#32
  let v693 : BitVec 32 := Scalar.select v692 c1_i32_648 c8_i32_646
  let v694 : BitVec 32 := Scalar.remsi v691 v693
  let c0_i32_650 : BitVec 32 := 0#32
  let v696 : BitVec 1 := Scalar.cmpi .slt v694 c0_i32_650
  let c0_i32_651 : BitVec 32 := 0#32
  let v697 : BitVec 1 := Scalar.cmpi .slt v693 c0_i32_651
  let v698 : BitVec 1 := Scalar.xori v696 v697
  let c0_i32_649 : BitVec 32 := 0#32
  let v695 : BitVec 1 := Scalar.cmpi .ne v694 c0_i32_649
  let v699 : BitVec 1 := Scalar.andi v698 v695
  let v700 : BitVec 32 := Scalar.addi v694 v693
  let v701 : BitVec 32 := Scalar.select v699 v700 v694
  let c1_i32_655 : BitVec 32 := 1#32
  let v703 : BitVec 32 := Scalar.muli v701 c1_i32_655
  let v704 : BitVec 32 := Scalar.addi c0_i32_656 v703
  v704.toNat
def k0_dev35 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_666 : BitVec 32 := 7#32
  let v712 : BitVec 32 := Scalar.addi v2 c7_i32_666
  let c8_i32_667 : BitVec 32 := 8#32
  let c0_i32_668 : BitVec 32 := 0#32
  let v713 : BitVec 1 := Scalar.cmpi .eq c8_i32_667 c0_i32_668
  let c1_i32_669 : BitVec 32 := 1#32
  let v714 : BitVec 32 := Scalar.select v713 c1_i32_669 c8_i32_667
  let v715 : BitVec 32 := Scalar.remsi v712 v714
  let c0_i32_671 : BitVec 32 := 0#32
  let v717 : BitVec 1 := Scalar.cmpi .slt v715 c0_i32_671
  let c0_i32_672 : BitVec 32 := 0#32
  let v718 : BitVec 1 := Scalar.cmpi .slt v714 c0_i32_672
  let v719 : BitVec 1 := Scalar.xori v717 v718
  let c0_i32_670 : BitVec 32 := 0#32
  let v716 : BitVec 1 := Scalar.cmpi .ne v715 c0_i32_670
  let v720 : BitVec 1 := Scalar.andi v719 v716
  let v721 : BitVec 32 := Scalar.addi v715 v714
  let v722 : BitVec 32 := Scalar.select v720 v721 v715
  let c1_i32_676 : BitVec 32 := 1#32
  let v724 : BitVec 32 := Scalar.muli v722 c1_i32_676
  let v725 : BitVec 32 := Scalar.addi c0_i32_677 v724
  v725.toNat
def k0_off19 (d0 : Dev nD) (c1_i32_697 : BitVec 32) : Fin 6 → Nat :=
  let c0_i32_708 : BitVec 32 := 0#32
  let c0_i32_709 : BitVec 32 := 0#32
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v738 : BitVec 32 := Scalar.addi v2 c1_i32_697
  let c8_i32_698 : BitVec 32 := 8#32
  let c0_i32_699 : BitVec 32 := 0#32
  let v739 : BitVec 1 := Scalar.cmpi .eq c8_i32_698 c0_i32_699
  let c1_i32_700 : BitVec 32 := 1#32
  let v740 : BitVec 32 := Scalar.select v739 c1_i32_700 c8_i32_698
  let v741 : BitVec 32 := Scalar.remsi v738 v740
  let c0_i32_702 : BitVec 32 := 0#32
  let v743 : BitVec 1 := Scalar.cmpi .slt v741 c0_i32_702
  let c0_i32_703 : BitVec 32 := 0#32
  let v744 : BitVec 1 := Scalar.cmpi .slt v740 c0_i32_703
  let v745 : BitVec 1 := Scalar.xori v743 v744
  let c0_i32_701 : BitVec 32 := 0#32
  let v742 : BitVec 1 := Scalar.cmpi .ne v741 c0_i32_701
  let v746 : BitVec 1 := Scalar.andi v745 v742
  let v747 : BitVec 32 := Scalar.addi v741 v740
  let v748 : BitVec 32 := Scalar.select v746 v747 v741
  let c0_i32_711 : BitVec 32 := 0#32
  let c0_i32_712 : BitVec 32 := 0#32
  ![0, 0, 0, v748.toNat, 0, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_869 : BitVec 32 := 0#32
  let v901 : BitVec 1 := Scalar.cmpi .ne v2 c0_i32_869
  let v902 : BitVec 32 := Scalar.extui v901
  let c0_i32_870 : BitVec 32 := 0#32
  let v903 : BitVec 1 := Scalar.cmpi .ne v902 c0_i32_870
  v903

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2160 : BitVec 32 := 0#32
  let c0_i32_2161 : BitVec 32 := 0#32
  let c0_i32_2162 : BitVec 32 := 0#32
  ![v2.toNat, 0, 0, 0]
def k0_dev36 : Nat :=
  let c0_i32_2159 : BitVec 32 := 0#32
  let c0_i32_2157 : BitVec 32 := 0#32
  let c1_i32_2158 : BitVec 32 := 1#32
  let v2077 : BitVec 32 := Scalar.muli c0_i32_2157 c1_i32_2158
  let v2078 : BitVec 32 := Scalar.addi c0_i32_2159 v2077
  v2078.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_871 : BitVec 32 := 1#32
  let v904 : BitVec 1 := Scalar.cmpi .ne v2 c1_i32_871
  let v905 : BitVec 32 := Scalar.extui v904
  let c0_i32_872 : BitVec 32 := 0#32
  let v906 : BitVec 1 := Scalar.cmpi .ne v905 c0_i32_872
  v906

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2160 : BitVec 32 := 0#32
  let c0_i32_2161 : BitVec 32 := 0#32
  let c0_i32_2162 : BitVec 32 := 0#32
  ![v2.toNat, 0, 0, 0]
def k0_dev37 : Nat :=
  let c0_i32_2159 : BitVec 32 := 0#32
  let c1_i32_2157 : BitVec 32 := 1#32
  let c1_i32_2158 : BitVec 32 := 1#32
  let v2077 : BitVec 32 := Scalar.muli c1_i32_2157 c1_i32_2158
  let v2078 : BitVec 32 := Scalar.addi c0_i32_2159 v2077
  v2078.toNat
def k0_off24 (d0 : Dev nD) (c1_i32_873 : BitVec 32) : Fin 6 → Nat :=
  let c0_i32_884 : BitVec 32 := 0#32
  let c0_i32_885 : BitVec 32 := 0#32
  let c0_i32_886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v907 : BitVec 32 := Scalar.addi v2 c1_i32_873
  let c8_i32_874 : BitVec 32 := 8#32
  let c0_i32_875 : BitVec 32 := 0#32
  let v908 : BitVec 1 := Scalar.cmpi .eq c8_i32_874 c0_i32_875
  let c1_i32_876 : BitVec 32 := 1#32
  let v909 : BitVec 32 := Scalar.select v908 c1_i32_876 c8_i32_874
  let v910 : BitVec 32 := Scalar.remsi v907 v909
  let c0_i32_878 : BitVec 32 := 0#32
  let v912 : BitVec 1 := Scalar.cmpi .slt v910 c0_i32_878
  let c0_i32_879 : BitVec 32 := 0#32
  let v913 : BitVec 1 := Scalar.cmpi .slt v909 c0_i32_879
  let v914 : BitVec 1 := Scalar.xori v912 v913
  let c0_i32_877 : BitVec 32 := 0#32
  let v911 : BitVec 1 := Scalar.cmpi .ne v910 c0_i32_877
  let v915 : BitVec 1 := Scalar.andi v914 v911
  let v916 : BitVec 32 := Scalar.addi v910 v909
  let v917 : BitVec 32 := Scalar.select v915 v916 v910
  let c64_i32_887 : BitVec 32 := 64#32
  let c0_i32_888 : BitVec 32 := 0#32
  ![0, 0, 0, v917.toNat, 64, 0]
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1044 : BitVec 32 := 2#32
  let v1070 : BitVec 1 := Scalar.cmpi .ne v2 c2_i32_1044
  let v1071 : BitVec 32 := Scalar.extui v1070
  let c0_i32_1045 : BitVec 32 := 0#32
  let v1072 : BitVec 1 := Scalar.cmpi .ne v1071 c0_i32_1045
  v1072

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2160 : BitVec 32 := 0#32
  let c0_i32_2161 : BitVec 32 := 0#32
  let c0_i32_2162 : BitVec 32 := 0#32
  ![v2.toNat, 0, 0, 0]
def k0_dev38 : Nat :=
  let c0_i32_2159 : BitVec 32 := 0#32
  let c2_i32_2157 : BitVec 32 := 2#32
  let c1_i32_2158 : BitVec 32 := 1#32
  let v2077 : BitVec 32 := Scalar.muli c2_i32_2157 c1_i32_2158
  let v2078 : BitVec 32 := Scalar.addi c0_i32_2159 v2077
  v2078.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1046 : BitVec 32 := 3#32
  let v1073 : BitVec 1 := Scalar.cmpi .ne v2 c3_i32_1046
  let v1074 : BitVec 32 := Scalar.extui v1073
  let c0_i32_1047 : BitVec 32 := 0#32
  let v1075 : BitVec 1 := Scalar.cmpi .ne v1074 c0_i32_1047
  v1075

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2160 : BitVec 32 := 0#32
  let c0_i32_2161 : BitVec 32 := 0#32
  let c0_i32_2162 : BitVec 32 := 0#32
  ![v2.toNat, 0, 0, 0]
def k0_dev39 : Nat :=
  let c0_i32_2159 : BitVec 32 := 0#32
  let c3_i32_2157 : BitVec 32 := 3#32
  let c1_i32_2158 : BitVec 32 := 1#32
  let v2077 : BitVec 32 := Scalar.muli c3_i32_2157 c1_i32_2158
  let v2078 : BitVec 32 := Scalar.addi c0_i32_2159 v2077
  v2078.toNat
def k0_off29 (d0 : Dev nD) (c1_i32_1048 : BitVec 32) : Fin 6 → Nat :=
  let c0_i32_1059 : BitVec 32 := 0#32
  let c0_i32_1060 : BitVec 32 := 0#32
  let c0_i32_1061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1076 : BitVec 32 := Scalar.addi v2 c1_i32_1048
  let c8_i32_1049 : BitVec 32 := 8#32
  let c0_i32_1050 : BitVec 32 := 0#32
  let v1077 : BitVec 1 := Scalar.cmpi .eq c8_i32_1049 c0_i32_1050
  let c1_i32_1051 : BitVec 32 := 1#32
  let v1078 : BitVec 32 := Scalar.select v1077 c1_i32_1051 c8_i32_1049
  let v1079 : BitVec 32 := Scalar.remsi v1076 v1078
  let c0_i32_1053 : BitVec 32 := 0#32
  let v1081 : BitVec 1 := Scalar.cmpi .slt v1079 c0_i32_1053
  let c0_i32_1054 : BitVec 32 := 0#32
  let v1082 : BitVec 1 := Scalar.cmpi .slt v1078 c0_i32_1054
  let v1083 : BitVec 1 := Scalar.xori v1081 v1082
  let c0_i32_1052 : BitVec 32 := 0#32
  let v1080 : BitVec 1 := Scalar.cmpi .ne v1079 c0_i32_1052
  let v1084 : BitVec 1 := Scalar.andi v1083 v1080
  let v1085 : BitVec 32 := Scalar.addi v1079 v1078
  let v1086 : BitVec 32 := Scalar.select v1084 v1085 v1079
  let c128_i32_1062 : BitVec 32 := 128#32
  let c0_i32_1063 : BitVec 32 := 0#32
  ![0, 0, 0, v1086.toNat, 128, 0]
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1219 : BitVec 32 := 4#32
  let v1239 : BitVec 1 := Scalar.cmpi .ne v2 c4_i32_1219
  let v1240 : BitVec 32 := Scalar.extui v1239
  let c0_i32_1220 : BitVec 32 := 0#32
  let v1241 : BitVec 1 := Scalar.cmpi .ne v1240 c0_i32_1220
  v1241

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2160 : BitVec 32 := 0#32
  let c0_i32_2161 : BitVec 32 := 0#32
  let c0_i32_2162 : BitVec 32 := 0#32
  ![v2.toNat, 0, 0, 0]
def k0_dev40 : Nat :=
  let c0_i32_2159 : BitVec 32 := 0#32
  let c4_i32_2157 : BitVec 32 := 4#32
  let c1_i32_2158 : BitVec 32 := 1#32
  let v2077 : BitVec 32 := Scalar.muli c4_i32_2157 c1_i32_2158
  let v2078 : BitVec 32 := Scalar.addi c0_i32_2159 v2077
  v2078.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1221 : BitVec 32 := 5#32
  let v1242 : BitVec 1 := Scalar.cmpi .ne v2 c5_i32_1221
  let v1243 : BitVec 32 := Scalar.extui v1242
  let c0_i32_1222 : BitVec 32 := 0#32
  let v1244 : BitVec 1 := Scalar.cmpi .ne v1243 c0_i32_1222
  v1244

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2160 : BitVec 32 := 0#32
  let c0_i32_2161 : BitVec 32 := 0#32
  let c0_i32_2162 : BitVec 32 := 0#32
  ![v2.toNat, 0, 0, 0]
def k0_dev41 : Nat :=
  let c0_i32_2159 : BitVec 32 := 0#32
  let c5_i32_2157 : BitVec 32 := 5#32
  let c1_i32_2158 : BitVec 32 := 1#32
  let v2077 : BitVec 32 := Scalar.muli c5_i32_2157 c1_i32_2158
  let v2078 : BitVec 32 := Scalar.addi c0_i32_2159 v2077
  v2078.toNat
def k0_off34 (d0 : Dev nD) (c1_i32_1223 : BitVec 32) : Fin 6 → Nat :=
  let c0_i32_1234 : BitVec 32 := 0#32
  let c0_i32_1235 : BitVec 32 := 0#32
  let c0_i32_1236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1245 : BitVec 32 := Scalar.addi v2 c1_i32_1223
  let c8_i32_1224 : BitVec 32 := 8#32
  let c0_i32_1225 : BitVec 32 := 0#32
  let v1246 : BitVec 1 := Scalar.cmpi .eq c8_i32_1224 c0_i32_1225
  let c1_i32_1226 : BitVec 32 := 1#32
  let v1247 : BitVec 32 := Scalar.select v1246 c1_i32_1226 c8_i32_1224
  let v1248 : BitVec 32 := Scalar.remsi v1245 v1247
  let c0_i32_1228 : BitVec 32 := 0#32
  let v1250 : BitVec 1 := Scalar.cmpi .slt v1248 c0_i32_1228
  let c0_i32_1229 : BitVec 32 := 0#32
  let v1251 : BitVec 1 := Scalar.cmpi .slt v1247 c0_i32_1229
  let v1252 : BitVec 1 := Scalar.xori v1250 v1251
  let c0_i32_1227 : BitVec 32 := 0#32
  let v1249 : BitVec 1 := Scalar.cmpi .ne v1248 c0_i32_1227
  let v1253 : BitVec 1 := Scalar.andi v1252 v1249
  let v1254 : BitVec 32 := Scalar.addi v1248 v1247
  let v1255 : BitVec 32 := Scalar.select v1253 v1254 v1248
  let c192_i32_1237 : BitVec 32 := 192#32
  let c0_i32_1238 : BitVec 32 := 0#32
  ![0, 0, 0, v1255.toNat, 192, 0]
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1394 : BitVec 32 := 6#32
  let v1408 : BitVec 1 := Scalar.cmpi .ne v2 c6_i32_1394
  let v1409 : BitVec 32 := Scalar.extui v1408
  let c0_i32_1395 : BitVec 32 := 0#32
  let v1410 : BitVec 1 := Scalar.cmpi .ne v1409 c0_i32_1395
  v1410

def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off36 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2160 : BitVec 32 := 0#32
  let c0_i32_2161 : BitVec 32 := 0#32
  let c0_i32_2162 : BitVec 32 := 0#32
  ![v2.toNat, 0, 0, 0]
def k0_dev42 : Nat :=
  let c0_i32_2159 : BitVec 32 := 0#32
  let c6_i32_2157 : BitVec 32 := 6#32
  let c1_i32_2158 : BitVec 32 := 1#32
  let v2077 : BitVec 32 := Scalar.muli c6_i32_2157 c1_i32_2158
  let v2078 : BitVec 32 := Scalar.addi c0_i32_2159 v2077
  v2078.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1396 : BitVec 32 := 7#32
  let v1411 : BitVec 1 := Scalar.cmpi .ne v2 c7_i32_1396
  let v1412 : BitVec 32 := Scalar.extui v1411
  let c0_i32_1397 : BitVec 32 := 0#32
  let v1413 : BitVec 1 := Scalar.cmpi .ne v1412 c0_i32_1397
  v1413

def k0_off37 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off38 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2160 : BitVec 32 := 0#32
  let c0_i32_2161 : BitVec 32 := 0#32
  let c0_i32_2162 : BitVec 32 := 0#32
  ![v2.toNat, 0, 0, 0]
def k0_dev43 : Nat :=
  let c0_i32_2159 : BitVec 32 := 0#32
  let c7_i32_2157 : BitVec 32 := 7#32
  let c1_i32_2158 : BitVec 32 := 1#32
  let v2077 : BitVec 32 := Scalar.muli c7_i32_2157 c1_i32_2158
  let v2078 : BitVec 32 := Scalar.addi c0_i32_2159 v2077
  v2078.toNat
def k0_off39 (d0 : Dev nD) (c1_i32_1398 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1414 : BitVec 32 := Scalar.addi v2 c1_i32_1398
  let c8_i32_1399 : BitVec 32 := 8#32
  let c0_i32_1400 : BitVec 32 := 0#32
  let v1415 : BitVec 1 := Scalar.cmpi .eq c8_i32_1399 c0_i32_1400
  let c1_i32_1401 : BitVec 32 := 1#32
  let v1416 : BitVec 32 := Scalar.select v1415 c1_i32_1401 c8_i32_1399
  let v1417 : BitVec 32 := Scalar.remsi v1414 v1416
  let c0_i32_1403 : BitVec 32 := 0#32
  let v1419 : BitVec 1 := Scalar.cmpi .slt v1417 c0_i32_1403
  let c0_i32_1404 : BitVec 32 := 0#32
  let v1420 : BitVec 1 := Scalar.cmpi .slt v1416 c0_i32_1404
  let v1421 : BitVec 1 := Scalar.xori v1419 v1420
  let c0_i32_1402 : BitVec 32 := 0#32
  let v1418 : BitVec 1 := Scalar.cmpi .ne v1417 c0_i32_1402
  let v1422 : BitVec 1 := Scalar.andi v1421 v1418
  let v1423 : BitVec 32 := Scalar.addi v1417 v1416
  let v1424 : BitVec 32 := Scalar.select v1422 v1423 v1417
  ![v1424.toNat]
def k0_off40 (d0 : Dev nD) (c1_i32_1398 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1414 : BitVec 32 := Scalar.addi v2 c1_i32_1398
  let c8_i32_1399 : BitVec 32 := 8#32
  let c0_i32_1400 : BitVec 32 := 0#32
  let v1415 : BitVec 1 := Scalar.cmpi .eq c8_i32_1399 c0_i32_1400
  let c1_i32_1401 : BitVec 32 := 1#32
  let v1416 : BitVec 32 := Scalar.select v1415 c1_i32_1401 c8_i32_1399
  let v1417 : BitVec 32 := Scalar.remsi v1414 v1416
  let c0_i32_1403 : BitVec 32 := 0#32
  let v1419 : BitVec 1 := Scalar.cmpi .slt v1417 c0_i32_1403
  let c0_i32_1404 : BitVec 32 := 0#32
  let v1420 : BitVec 1 := Scalar.cmpi .slt v1416 c0_i32_1404
  let v1421 : BitVec 1 := Scalar.xori v1419 v1420
  let c0_i32_1402 : BitVec 32 := 0#32
  let v1418 : BitVec 1 := Scalar.cmpi .ne v1417 c0_i32_1402
  let v1422 : BitVec 1 := Scalar.andi v1421 v1418
  let v1423 : BitVec 32 := Scalar.addi v1417 v1416
  let v1424 : BitVec 32 := Scalar.select v1422 v1423 v1417
  let c0_i32_1407 : BitVec 32 := 0#32
  let c0_i32_1408 : BitVec 32 := 0#32
  let c0_i32_1409 : BitVec 32 := 0#32
  ![v1424.toNat, 0, 0, 0]
def k0_off41 (d0 : Dev nD) : Fin 3 → Nat :=
  let c0_1508 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v1548 : BitVec 32 := Scalar.muli v2 c32_i32
  let v1549 : Index := Scalar.indexCast v1548
  let c0_1509 : Index := 0#32
  ![0, v1549.toNat, 0]
def k0_off42 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off43 (d0 : Dev nD) : Fin 3 → Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_1525 : BitVec 32 := 32#32
  let v1575 : BitVec 32 := Scalar.muli v2 c32_i32_1525
  let c0_i32_1529 : BitVec 32 := 0#32
  ![0, v1575.toNat, 0]
def k0_dev44 (d0 : Dev nD) : Nat :=
  let c0_i32_1527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1517 : BitVec 32 := 1#32
  let v1563 : BitVec 32 := Scalar.addi v2 c1_i32_1517
  let c8_i32_1518 : BitVec 32 := 8#32
  let c0_i32_1519 : BitVec 32 := 0#32
  let v1564 : BitVec 1 := Scalar.cmpi .eq c8_i32_1518 c0_i32_1519
  let c1_i32_1520 : BitVec 32 := 1#32
  let v1565 : BitVec 32 := Scalar.select v1564 c1_i32_1520 c8_i32_1518
  let v1566 : BitVec 32 := Scalar.remsi v1563 v1565
  let c0_i32_1522 : BitVec 32 := 0#32
  let v1568 : BitVec 1 := Scalar.cmpi .slt v1566 c0_i32_1522
  let c0_i32_1523 : BitVec 32 := 0#32
  let v1569 : BitVec 1 := Scalar.cmpi .slt v1565 c0_i32_1523
  let v1570 : BitVec 1 := Scalar.xori v1568 v1569
  let c0_i32_1521 : BitVec 32 := 0#32
  let v1567 : BitVec 1 := Scalar.cmpi .ne v1566 c0_i32_1521
  let v1571 : BitVec 1 := Scalar.andi v1570 v1567
  let v1572 : BitVec 32 := Scalar.addi v1566 v1565
  let v1573 : BitVec 32 := Scalar.select v1571 v1572 v1566
  let c1_i32_1526 : BitVec 32 := 1#32
  let v1576 : BitVec 32 := Scalar.muli v1573 c1_i32_1526
  let v1577 : BitVec 32 := Scalar.addi c0_i32_1527 v1576
  v1577.toNat
def k0_dev45 (d0 : Dev nD) : Nat :=
  let c0_i32_1542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1532 : BitVec 32 := 2#32
  let v1584 : BitVec 32 := Scalar.addi v2 c2_i32_1532
  let c8_i32_1533 : BitVec 32 := 8#32
  let c0_i32_1534 : BitVec 32 := 0#32
  let v1585 : BitVec 1 := Scalar.cmpi .eq c8_i32_1533 c0_i32_1534
  let c1_i32_1535 : BitVec 32 := 1#32
  let v1586 : BitVec 32 := Scalar.select v1585 c1_i32_1535 c8_i32_1533
  let v1587 : BitVec 32 := Scalar.remsi v1584 v1586
  let c0_i32_1537 : BitVec 32 := 0#32
  let v1589 : BitVec 1 := Scalar.cmpi .slt v1587 c0_i32_1537
  let c0_i32_1538 : BitVec 32 := 0#32
  let v1590 : BitVec 1 := Scalar.cmpi .slt v1586 c0_i32_1538
  let v1591 : BitVec 1 := Scalar.xori v1589 v1590
  let c0_i32_1536 : BitVec 32 := 0#32
  let v1588 : BitVec 1 := Scalar.cmpi .ne v1587 c0_i32_1536
  let v1592 : BitVec 1 := Scalar.andi v1591 v1588
  let v1593 : BitVec 32 := Scalar.addi v1587 v1586
  let v1594 : BitVec 32 := Scalar.select v1592 v1593 v1587
  let c1_i32_1541 : BitVec 32 := 1#32
  let v1597 : BitVec 32 := Scalar.muli v1594 c1_i32_1541
  let v1598 : BitVec 32 := Scalar.addi c0_i32_1542 v1597
  v1598.toNat
def k0_dev46 (d0 : Dev nD) : Nat :=
  let c0_i32_1557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1547 : BitVec 32 := 3#32
  let v1605 : BitVec 32 := Scalar.addi v2 c3_i32_1547
  let c8_i32_1548 : BitVec 32 := 8#32
  let c0_i32_1549 : BitVec 32 := 0#32
  let v1606 : BitVec 1 := Scalar.cmpi .eq c8_i32_1548 c0_i32_1549
  let c1_i32_1550 : BitVec 32 := 1#32
  let v1607 : BitVec 32 := Scalar.select v1606 c1_i32_1550 c8_i32_1548
  let v1608 : BitVec 32 := Scalar.remsi v1605 v1607
  let c0_i32_1552 : BitVec 32 := 0#32
  let v1610 : BitVec 1 := Scalar.cmpi .slt v1608 c0_i32_1552
  let c0_i32_1553 : BitVec 32 := 0#32
  let v1611 : BitVec 1 := Scalar.cmpi .slt v1607 c0_i32_1553
  let v1612 : BitVec 1 := Scalar.xori v1610 v1611
  let c0_i32_1551 : BitVec 32 := 0#32
  let v1609 : BitVec 1 := Scalar.cmpi .ne v1608 c0_i32_1551
  let v1613 : BitVec 1 := Scalar.andi v1612 v1609
  let v1614 : BitVec 32 := Scalar.addi v1608 v1607
  let v1615 : BitVec 32 := Scalar.select v1613 v1614 v1608
  let c1_i32_1556 : BitVec 32 := 1#32
  let v1618 : BitVec 32 := Scalar.muli v1615 c1_i32_1556
  let v1619 : BitVec 32 := Scalar.addi c0_i32_1557 v1618
  v1619.toNat
def k0_dev47 (d0 : Dev nD) : Nat :=
  let c0_i32_1572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1562 : BitVec 32 := 4#32
  let v1626 : BitVec 32 := Scalar.addi v2 c4_i32_1562
  let c8_i32_1563 : BitVec 32 := 8#32
  let c0_i32_1564 : BitVec 32 := 0#32
  let v1627 : BitVec 1 := Scalar.cmpi .eq c8_i32_1563 c0_i32_1564
  let c1_i32_1565 : BitVec 32 := 1#32
  let v1628 : BitVec 32 := Scalar.select v1627 c1_i32_1565 c8_i32_1563
  let v1629 : BitVec 32 := Scalar.remsi v1626 v1628
  let c0_i32_1567 : BitVec 32 := 0#32
  let v1631 : BitVec 1 := Scalar.cmpi .slt v1629 c0_i32_1567
  let c0_i32_1568 : BitVec 32 := 0#32
  let v1632 : BitVec 1 := Scalar.cmpi .slt v1628 c0_i32_1568
  let v1633 : BitVec 1 := Scalar.xori v1631 v1632
  let c0_i32_1566 : BitVec 32 := 0#32
  let v1630 : BitVec 1 := Scalar.cmpi .ne v1629 c0_i32_1566
  let v1634 : BitVec 1 := Scalar.andi v1633 v1630
  let v1635 : BitVec 32 := Scalar.addi v1629 v1628
  let v1636 : BitVec 32 := Scalar.select v1634 v1635 v1629
  let c1_i32_1571 : BitVec 32 := 1#32
  let v1639 : BitVec 32 := Scalar.muli v1636 c1_i32_1571
  let v1640 : BitVec 32 := Scalar.addi c0_i32_1572 v1639
  v1640.toNat
def k0_dev48 (d0 : Dev nD) : Nat :=
  let c0_i32_1587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1577 : BitVec 32 := 5#32
  let v1647 : BitVec 32 := Scalar.addi v2 c5_i32_1577
  let c8_i32_1578 : BitVec 32 := 8#32
  let c0_i32_1579 : BitVec 32 := 0#32
  let v1648 : BitVec 1 := Scalar.cmpi .eq c8_i32_1578 c0_i32_1579
  let c1_i32_1580 : BitVec 32 := 1#32
  let v1649 : BitVec 32 := Scalar.select v1648 c1_i32_1580 c8_i32_1578
  let v1650 : BitVec 32 := Scalar.remsi v1647 v1649
  let c0_i32_1582 : BitVec 32 := 0#32
  let v1652 : BitVec 1 := Scalar.cmpi .slt v1650 c0_i32_1582
  let c0_i32_1583 : BitVec 32 := 0#32
  let v1653 : BitVec 1 := Scalar.cmpi .slt v1649 c0_i32_1583
  let v1654 : BitVec 1 := Scalar.xori v1652 v1653
  let c0_i32_1581 : BitVec 32 := 0#32
  let v1651 : BitVec 1 := Scalar.cmpi .ne v1650 c0_i32_1581
  let v1655 : BitVec 1 := Scalar.andi v1654 v1651
  let v1656 : BitVec 32 := Scalar.addi v1650 v1649
  let v1657 : BitVec 32 := Scalar.select v1655 v1656 v1650
  let c1_i32_1586 : BitVec 32 := 1#32
  let v1660 : BitVec 32 := Scalar.muli v1657 c1_i32_1586
  let v1661 : BitVec 32 := Scalar.addi c0_i32_1587 v1660
  v1661.toNat
def k0_dev49 (d0 : Dev nD) : Nat :=
  let c0_i32_1602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1592 : BitVec 32 := 6#32
  let v1668 : BitVec 32 := Scalar.addi v2 c6_i32_1592
  let c8_i32_1593 : BitVec 32 := 8#32
  let c0_i32_1594 : BitVec 32 := 0#32
  let v1669 : BitVec 1 := Scalar.cmpi .eq c8_i32_1593 c0_i32_1594
  let c1_i32_1595 : BitVec 32 := 1#32
  let v1670 : BitVec 32 := Scalar.select v1669 c1_i32_1595 c8_i32_1593
  let v1671 : BitVec 32 := Scalar.remsi v1668 v1670
  let c0_i32_1597 : BitVec 32 := 0#32
  let v1673 : BitVec 1 := Scalar.cmpi .slt v1671 c0_i32_1597
  let c0_i32_1598 : BitVec 32 := 0#32
  let v1674 : BitVec 1 := Scalar.cmpi .slt v1670 c0_i32_1598
  let v1675 : BitVec 1 := Scalar.xori v1673 v1674
  let c0_i32_1596 : BitVec 32 := 0#32
  let v1672 : BitVec 1 := Scalar.cmpi .ne v1671 c0_i32_1596
  let v1676 : BitVec 1 := Scalar.andi v1675 v1672
  let v1677 : BitVec 32 := Scalar.addi v1671 v1670
  let v1678 : BitVec 32 := Scalar.select v1676 v1677 v1671
  let c1_i32_1601 : BitVec 32 := 1#32
  let v1681 : BitVec 32 := Scalar.muli v1678 c1_i32_1601
  let v1682 : BitVec 32 := Scalar.addi c0_i32_1602 v1681
  v1682.toNat
def k0_dev50 (d0 : Dev nD) : Nat :=
  let c0_i32_1617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1607 : BitVec 32 := 7#32
  let v1689 : BitVec 32 := Scalar.addi v2 c7_i32_1607
  let c8_i32_1608 : BitVec 32 := 8#32
  let c0_i32_1609 : BitVec 32 := 0#32
  let v1690 : BitVec 1 := Scalar.cmpi .eq c8_i32_1608 c0_i32_1609
  let c1_i32_1610 : BitVec 32 := 1#32
  let v1691 : BitVec 32 := Scalar.select v1690 c1_i32_1610 c8_i32_1608
  let v1692 : BitVec 32 := Scalar.remsi v1689 v1691
  let c0_i32_1612 : BitVec 32 := 0#32
  let v1694 : BitVec 1 := Scalar.cmpi .slt v1692 c0_i32_1612
  let c0_i32_1613 : BitVec 32 := 0#32
  let v1695 : BitVec 1 := Scalar.cmpi .slt v1691 c0_i32_1613
  let v1696 : BitVec 1 := Scalar.xori v1694 v1695
  let c0_i32_1611 : BitVec 32 := 0#32
  let v1693 : BitVec 1 := Scalar.cmpi .ne v1692 c0_i32_1611
  let v1697 : BitVec 1 := Scalar.andi v1696 v1693
  let v1698 : BitVec 32 := Scalar.addi v1692 v1691
  let v1699 : BitVec 32 := Scalar.select v1697 v1698 v1692
  let c1_i32_1616 : BitVec 32 := 1#32
  let v1702 : BitVec 32 := Scalar.muli v1699 c1_i32_1616
  let v1703 : BitVec 32 := Scalar.addi c0_i32_1617 v1702
  v1703.toNat
def k0_off44 (d0 : Dev nD) (c1_i32_1622 : BitVec 32) : Fin 3 → Nat :=
  let c0_i32_1632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1710 : BitVec 32 := Scalar.addi v2 c1_i32_1622
  let c8_i32_1623 : BitVec 32 := 8#32
  let c0_i32_1624 : BitVec 32 := 0#32
  let v1711 : BitVec 1 := Scalar.cmpi .eq c8_i32_1623 c0_i32_1624
  let c1_i32_1625 : BitVec 32 := 1#32
  let v1712 : BitVec 32 := Scalar.select v1711 c1_i32_1625 c8_i32_1623
  let v1713 : BitVec 32 := Scalar.remsi v1710 v1712
  let c0_i32_1627 : BitVec 32 := 0#32
  let v1715 : BitVec 1 := Scalar.cmpi .slt v1713 c0_i32_1627
  let c0_i32_1628 : BitVec 32 := 0#32
  let v1716 : BitVec 1 := Scalar.cmpi .slt v1712 c0_i32_1628
  let v1717 : BitVec 1 := Scalar.xori v1715 v1716
  let c0_i32_1626 : BitVec 32 := 0#32
  let v1714 : BitVec 1 := Scalar.cmpi .ne v1713 c0_i32_1626
  let v1718 : BitVec 1 := Scalar.andi v1717 v1714
  let v1719 : BitVec 32 := Scalar.addi v1713 v1712
  let v1720 : BitVec 32 := Scalar.select v1718 v1719 v1713
  let c32_i32_1629 : BitVec 32 := 32#32
  let v1721 : BitVec 32 := Scalar.muli v1720 c32_i32_1629
  let c0_i32_1633 : BitVec 32 := 0#32
  ![0, v1721.toNat, 0]
def k0_off45 (d0 : Dev nD) (c1_i32_1622 : BitVec 32) : Fin 3 → Nat :=
  let c0_1638 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1710 : BitVec 32 := Scalar.addi v2 c1_i32_1622
  let c8_i32_1623 : BitVec 32 := 8#32
  let c0_i32_1624 : BitVec 32 := 0#32
  let v1711 : BitVec 1 := Scalar.cmpi .eq c8_i32_1623 c0_i32_1624
  let c1_i32_1625 : BitVec 32 := 1#32
  let v1712 : BitVec 32 := Scalar.select v1711 c1_i32_1625 c8_i32_1623
  let v1713 : BitVec 32 := Scalar.remsi v1710 v1712
  let c0_i32_1627 : BitVec 32 := 0#32
  let v1715 : BitVec 1 := Scalar.cmpi .slt v1713 c0_i32_1627
  let c0_i32_1628 : BitVec 32 := 0#32
  let v1716 : BitVec 1 := Scalar.cmpi .slt v1712 c0_i32_1628
  let v1717 : BitVec 1 := Scalar.xori v1715 v1716
  let c0_i32_1626 : BitVec 32 := 0#32
  let v1714 : BitVec 1 := Scalar.cmpi .ne v1713 c0_i32_1626
  let v1718 : BitVec 1 := Scalar.andi v1717 v1714
  let v1719 : BitVec 32 := Scalar.addi v1713 v1712
  let v1720 : BitVec 32 := Scalar.select v1718 v1719 v1713
  let c32_i32_1637 : BitVec 32 := 32#32
  let v1728 : BitVec 32 := Scalar.muli v1720 c32_i32_1637
  let v1729 : Index := Scalar.indexCast v1728
  let c0_1639 : Index := 0#32
  ![0, v1729.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2140 : BitVec 32 := 0#32
  let v2053 : BitVec 1 := Scalar.cmpi .ne v2 c0_i32_2140
  let v2054 : BitVec 32 := Scalar.extui v2053
  let c0_i32_2141 : BitVec 32 := 0#32
  let v2055 : BitVec 1 := Scalar.cmpi .ne v2054 c0_i32_2141
  v2055

def k0_off46 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2162 : BitVec 32 := 0#32
  let c0_i32_2163 : BitVec 32 := 0#32
  let c0_i32_2164 : BitVec 32 := 0#32
  ![v2.toNat, 0, 0, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2142 : BitVec 32 := 1#32
  let v2056 : BitVec 1 := Scalar.cmpi .ne v2 c1_i32_2142
  let v2057 : BitVec 32 := Scalar.extui v2056
  let c0_i32_2143 : BitVec 32 := 0#32
  let v2058 : BitVec 1 := Scalar.cmpi .ne v2057 c0_i32_2143
  v2058

def k0_off47 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2162 : BitVec 32 := 0#32
  let c0_i32_2163 : BitVec 32 := 0#32
  let c0_i32_2164 : BitVec 32 := 0#32
  ![v2.toNat, 0, 0, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2144 : BitVec 32 := 2#32
  let v2059 : BitVec 1 := Scalar.cmpi .ne v2 c2_i32_2144
  let v2060 : BitVec 32 := Scalar.extui v2059
  let c0_i32_2145 : BitVec 32 := 0#32
  let v2061 : BitVec 1 := Scalar.cmpi .ne v2060 c0_i32_2145
  v2061

def k0_off48 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2162 : BitVec 32 := 0#32
  let c0_i32_2163 : BitVec 32 := 0#32
  let c0_i32_2164 : BitVec 32 := 0#32
  ![v2.toNat, 0, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2146 : BitVec 32 := 3#32
  let v2062 : BitVec 1 := Scalar.cmpi .ne v2 c3_i32_2146
  let v2063 : BitVec 32 := Scalar.extui v2062
  let c0_i32_2147 : BitVec 32 := 0#32
  let v2064 : BitVec 1 := Scalar.cmpi .ne v2063 c0_i32_2147
  v2064

def k0_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2161 : BitVec 32 := 0#32
  let c0_i32_2162 : BitVec 32 := 0#32
  let c0_i32_2163 : BitVec 32 := 0#32
  ![v2.toNat, 0, 0, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2148 : BitVec 32 := 4#32
  let v2065 : BitVec 1 := Scalar.cmpi .ne v2 c4_i32_2148
  let v2066 : BitVec 32 := Scalar.extui v2065
  let c0_i32_2149 : BitVec 32 := 0#32
  let v2067 : BitVec 1 := Scalar.cmpi .ne v2066 c0_i32_2149
  v2067

def k0_off50 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2162 : BitVec 32 := 0#32
  let c0_i32_2163 : BitVec 32 := 0#32
  let c0_i32_2164 : BitVec 32 := 0#32
  ![v2.toNat, 0, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2150 : BitVec 32 := 5#32
  let v2068 : BitVec 1 := Scalar.cmpi .ne v2 c5_i32_2150
  let v2069 : BitVec 32 := Scalar.extui v2068
  let c0_i32_2151 : BitVec 32 := 0#32
  let v2070 : BitVec 1 := Scalar.cmpi .ne v2069 c0_i32_2151
  v2070

def k0_off51 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2161 : BitVec 32 := 0#32
  let c0_i32_2162 : BitVec 32 := 0#32
  let c0_i32_2163 : BitVec 32 := 0#32
  ![v2.toNat, 0, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2152 : BitVec 32 := 6#32
  let v2071 : BitVec 1 := Scalar.cmpi .ne v2 c6_i32_2152
  let v2072 : BitVec 32 := Scalar.extui v2071
  let c0_i32_2153 : BitVec 32 := 0#32
  let v2073 : BitVec 1 := Scalar.cmpi .ne v2072 c0_i32_2153
  v2073

def k0_off52 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2162 : BitVec 32 := 0#32
  let c0_i32_2163 : BitVec 32 := 0#32
  let c0_i32_2164 : BitVec 32 := 0#32
  ![v2.toNat, 0, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2154 : BitVec 32 := 7#32
  let v2074 : BitVec 1 := Scalar.cmpi .ne v2 c7_i32_2154
  let v2075 : BitVec 32 := Scalar.extui v2074
  let c0_i32_2155 : BitVec 32 := 0#32
  let v2076 : BitVec 1 := Scalar.cmpi .ne v2075 c0_i32_2155
  v2076

def k0_off53 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2161 : BitVec 32 := 0#32
  let c0_i32_2162 : BitVec 32 := 0#32
  let c0_i32_2163 : BitVec 32 := 0#32
  ![v2.toNat, 0, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S_ : Shape := ⟨0, ![]⟩
abbrev S2x256x2048 : Shape := ⟨3, ![2, 256, 2048]⟩
abbrev S2x256x32x64 : Shape := ⟨4, ![2, 256, 32, 64]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x32x256x2048 : Shape := ⟨4, ![2, 32, 256, 2048]⟩
abbrev S1x1x256x2048 : Shape := ⟨4, ![1, 1, 256, 2048]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 172
  | .vmem => 0
  | .smem => 0
  | _ => 0

abbrev hbmTy0_0 (i : Nat) : BufTy := match i % 128 with
  | 0 => ⟨S2x256x512, .bf16⟩
  | 1 => ⟨S512x2048, .bf16⟩
  | 2 => ⟨S2x2048x32x64, .bf16⟩
  | 3 => ⟨S2x2048x32x64, .bf16⟩
  | 4 => ⟨S2048x512, .bf16⟩
  | 5 => ⟨S2x256x512, .f32⟩
  | 6 => ⟨S512x2048, .f32⟩
  | 7 => ⟨S2048x512, .f32⟩
  | 8 => ⟨S2x2048x32x64, .f32⟩
  | 9 => ⟨S_, .f32⟩
  | 10 => ⟨S2x2048x32x64, .f32⟩
  | 11 => ⟨S2x2048x32x64, .f32⟩
  | 12 => ⟨S2x2048x32x64, .f32⟩
  | 13 => ⟨S_, .f32⟩
  | 14 => ⟨S_, .f32⟩
  | 15 => ⟨S_, .f32⟩
  | 16 => ⟨S2x2048x32x64, .f32⟩
  | 17 => ⟨S2x2048x32x64, .f32⟩
  | 18 => ⟨S_, .f32⟩
  | 19 => ⟨S2x2048x32x64, .f32⟩
  | 20 => ⟨S2x2048x32x64, .f32⟩
  | 21 => ⟨S_, .f32⟩
  | 22 => ⟨S2x2048x32x64, .f32⟩
  | 23 => ⟨S2x2048x32x64, .f32⟩
  | 24 => ⟨S2x2048x32x64, .f32⟩
  | 25 => ⟨S_, .f32⟩
  | 26 => ⟨S2x2048x32x64, .f32⟩
  | 27 => ⟨S2x2048x32x64, .f32⟩
  | 28 => ⟨S2x2048x32x64, .f32⟩
  | 29 => ⟨S_, .f32⟩
  | 30 => ⟨S_, .f32⟩
  | 31 => ⟨S_, .f32⟩
  | 32 => ⟨S2x2048x32x64, .f32⟩
  | 33 => ⟨S2x2048x32x64, .f32⟩
  | 34 => ⟨S_, .f32⟩
  | 35 => ⟨S2x2048x32x64, .f32⟩
  | 36 => ⟨S2x2048x32x64, .f32⟩
  | 37 => ⟨S_, .f32⟩
  | 38 => ⟨S2x2048x32x64, .f32⟩
  | 39 => ⟨S2x2048x32x64, .f32⟩
  | 40 => ⟨S2x256x2048, .f32⟩
  | 41 => ⟨S2x256x32x64, .f32⟩
  | 42 => ⟨S256, .i32⟩
  | 43 => ⟨S_, .i32⟩
  | 44 => ⟨S_, .i32⟩
  | 45 => ⟨S256, .i32⟩
  | 46 => ⟨S256, .i32⟩
  | 47 => ⟨S256, .i32⟩
  | 48 => ⟨S_, .i32⟩
  | 49 => ⟨S256, .i32⟩
  | 50 => ⟨S256, .i1⟩
  | 51 => ⟨S256, .i32⟩
  | 52 => ⟨S256, .i32⟩
  | 53 => ⟨S_, .i32⟩
  | 54 => ⟨S256, .i32⟩
  | 55 => ⟨S256, .i1⟩
  | 56 => ⟨S256, .i1⟩
  | 57 => ⟨S_, .i32⟩
  | 58 => ⟨S256, .i32⟩
  | 59 => ⟨S256, .i32⟩
  | 60 => ⟨S256, .i32⟩
  | 61 => ⟨S256x1, .i32⟩
  | 62 => ⟨S2048, .i32⟩
  | 63 => ⟨S_, .i32⟩
  | 64 => ⟨S_, .i32⟩
  | 65 => ⟨S2048, .i32⟩
  | 66 => ⟨S2048, .i32⟩
  | 67 => ⟨S2048, .i32⟩
  | 68 => ⟨S_, .i32⟩
  | 69 => ⟨S2048, .i32⟩
  | 70 => ⟨S2048, .i1⟩
  | 71 => ⟨S2048, .i32⟩
  | 72 => ⟨S2048, .i32⟩
  | 73 => ⟨S_, .i32⟩
  | 74 => ⟨S2048, .i32⟩
  | 75 => ⟨S2048, .i1⟩
  | 76 => ⟨S2048, .i1⟩
  | 77 => ⟨S_, .i32⟩
  | 78 => ⟨S2048, .i32⟩
  | 79 => ⟨S2048, .i32⟩
  | 80 => ⟨S2048, .i32⟩
  | 81 => ⟨S1x2048, .i32⟩
  | 82 => ⟨S256x2048, .i32⟩
  | 83 => ⟨S256x2048, .i32⟩
  | 84 => ⟨S256x2048, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S1x2048, .i32⟩
  | 92 => ⟨S1x2048, .i32⟩
  | 93 => ⟨S_, .i32⟩
  | 94 => ⟨S1x2048, .i32⟩
  | 95 => ⟨S1x2048, .i1⟩
  | 96 => ⟨S_, .i32⟩
  | 97 => ⟨S1x2048, .i32⟩
  | 98 => ⟨S1x2048, .i1⟩
  | 99 => ⟨S_, .i32⟩
  | 100 => ⟨S_, .i1⟩
  | 101 => ⟨S1x2048, .i1⟩
  | 102 => ⟨S1x2048, .i1⟩
  | 103 => ⟨S1x2048, .i1⟩
  | 104 => ⟨S1x2048, .i32⟩
  | 105 => ⟨S1x2048, .i32⟩
  | 106 => ⟨S1x2048, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S256x1, .i32⟩
  | 114 => ⟨S256x1, .i32⟩
  | 115 => ⟨S_, .i32⟩
  | 116 => ⟨S256x1, .i32⟩
  | 117 => ⟨S256x1, .i1⟩
  | 118 => ⟨S_, .i32⟩
  | 119 => ⟨S256x1, .i32⟩
  | 120 => ⟨S256x1, .i1⟩
  | 121 => ⟨S_, .i32⟩
  | 122 => ⟨S_, .i1⟩
  | 123 => ⟨S256x1, .i1⟩
  | 124 => ⟨S256x1, .i1⟩
  | 125 => ⟨S256x1, .i1⟩
  | 126 => ⟨S256x1, .i32⟩
  | 127 => ⟨S256x1, .i32⟩
  | _ => ⟨S2x256x512, .bf16⟩

abbrev hbmTy0_1 (i : Nat) : BufTy := match i % 128 with
  | 0 => ⟨S256x1, .i32⟩
  | 1 => ⟨S256x2048, .i32⟩
  | 2 => ⟨S256x2048, .i32⟩
  | 3 => ⟨S256x2048, .i1⟩
  | 4 => ⟨S256x2048, .i1⟩
  | 5 => ⟨S2x32x256x2048, .f32⟩
  | 6 => ⟨S_, .f32⟩
  | 7 => ⟨S2x32x256x2048, .f32⟩
  | 8 => ⟨S2x32x256x2048, .f32⟩
  | 9 => ⟨S1x1x256x2048, .i1⟩
  | 10 => ⟨S_, .f32⟩
  | 11 => ⟨S_, .f32⟩
  | 12 => ⟨S2x32x256x2048, .i1⟩
  | 13 => ⟨S2x32x256x2048, .f32⟩
  | 14 => ⟨S2x32x256x2048, .f32⟩
  | 15 => ⟨S_, .f32⟩
  | 16 => ⟨S2x32x256, .f32⟩
  | 17 => ⟨S2x32x256x1, .f32⟩
  | 18 => ⟨S2x32x256x2048, .f32⟩
  | 19 => ⟨S2x32x256x2048, .f32⟩
  | 20 => ⟨S2x32x256x2048, .f32⟩
  | 21 => ⟨S_, .i1⟩
  | 22 => ⟨S256, .i1⟩
  | 23 => ⟨S1x1x256x1, .i1⟩
  | 24 => ⟨S_, .f32⟩
  | 25 => ⟨S2x32x256, .f32⟩
  | 26 => ⟨S2x32x256x1, .f32⟩
  | 27 => ⟨S_, .f32⟩
  | 28 => ⟨S_, .f32⟩
  | 29 => ⟨S2x32x256x1, .i1⟩
  | 30 => ⟨S2x32x256x1, .f32⟩
  | 31 => ⟨S2x32x256x1, .f32⟩
  | 32 => ⟨S2x32x256x2048, .f32⟩
  | 33 => ⟨S2x32x256x2048, .f32⟩
  | 34 => ⟨S1x1x256x1, .i1⟩
  | 35 => ⟨S_, .f32⟩
  | 36 => ⟨S_, .f32⟩
  | 37 => ⟨S2x32x256x2048, .i1⟩
  | 38 => ⟨S2x32x256x2048, .f32⟩
  | 39 => ⟨S2x32x256x2048, .f32⟩
  | 40 => ⟨S2x32x64x256, .f32⟩
  | 41 => ⟨S2x256x32x64, .f32⟩
  | 42 => ⟨S2x256x2048, .f32⟩
  | 43 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_cst_5 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_v7 : Ref sig .tc := ⟨.hbm, 51, rfl⟩
abbrev main_call4_v8 : Ref sig .tc := ⟨.hbm, 52, rfl⟩
abbrev main_call4_c : Ref sig .tc := ⟨.hbm, 53, rfl⟩
abbrev main_call4_v9 : Ref sig .tc := ⟨.hbm, 54, rfl⟩
abbrev main_call4_v10 : Ref sig .tc := ⟨.hbm, 55, rfl⟩
abbrev main_call4_v11 : Ref sig .tc := ⟨.hbm, 56, rfl⟩
abbrev main_call4_c_0 : Ref sig .tc := ⟨.hbm, 57, rfl⟩
abbrev main_call4_v12 : Ref sig .tc := ⟨.hbm, 58, rfl⟩
abbrev main_call4_v13 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_7 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_v5 : Ref sig .tc := ⟨.hbm, 69, rfl⟩
abbrev main_call5_v6 : Ref sig .tc := ⟨.hbm, 70, rfl⟩
abbrev main_call5_v7 : Ref sig .tc := ⟨.hbm, 71, rfl⟩
abbrev main_call5_v8 : Ref sig .tc := ⟨.hbm, 72, rfl⟩
abbrev main_call5_c : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_c_0 : Ref sig .tc := ⟨.hbm, 77, rfl⟩
abbrev main_call5_v12 : Ref sig .tc := ⟨.hbm, 78, rfl⟩
abbrev main_call5_v13 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_c_8 : Ref sig .tc := ⟨.hbm, 85, rfl⟩
abbrev main_call6_v0 : Ref sig .tc := ⟨.hbm, 86, rfl⟩
abbrev main_call6_c : Ref sig .tc := ⟨.hbm, 87, rfl⟩
abbrev main_call6_v1 : Ref sig .tc := ⟨.hbm, 88, rfl⟩
abbrev main_call6_c_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_c_1 : Ref sig .tc := ⟨.hbm, 93, rfl⟩
abbrev main_call6_v5 : Ref sig .tc := ⟨.hbm, 94, rfl⟩
abbrev main_call6_v6 : Ref sig .tc := ⟨.hbm, 95, rfl⟩
abbrev main_call6_c_2 : Ref sig .tc := ⟨.hbm, 96, rfl⟩
abbrev main_call6_v7 : Ref sig .tc := ⟨.hbm, 97, rfl⟩
abbrev main_call6_v8 : Ref sig .tc := ⟨.hbm, 98, rfl⟩
abbrev main_call6_c_3 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_v12 : Ref sig .tc := ⟨.hbm, 103, rfl⟩
abbrev main_call6_v13 : Ref sig .tc := ⟨.hbm, 104, rfl⟩
abbrev main_call6_v14 : Ref sig .tc := ⟨.hbm, 105, rfl⟩
abbrev main_v28 : Ref sig .tc := ⟨.hbm, 106, rfl⟩
abbrev main_c_9 : Ref sig .tc := ⟨.hbm, 107, rfl⟩
abbrev main_call7_v0 : Ref sig .tc := ⟨.hbm, 108, rfl⟩
abbrev main_call7_c : Ref sig .tc := ⟨.hbm, 109, rfl⟩
abbrev main_call7_v1 : Ref sig .tc := ⟨.hbm, 110, rfl⟩
abbrev main_call7_c_0 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_c_1 : Ref sig .tc := ⟨.hbm, 115, rfl⟩
abbrev main_call7_v5 : Ref sig .tc := ⟨.hbm, 116, rfl⟩
abbrev main_call7_v6 : Ref sig .tc := ⟨.hbm, 117, rfl⟩
abbrev main_call7_c_2 : Ref sig .tc := ⟨.hbm, 118, rfl⟩
abbrev main_call7_v7 : Ref sig .tc := ⟨.hbm, 119, rfl⟩
abbrev main_call7_v8 : Ref sig .tc := ⟨.hbm, 120, rfl⟩
abbrev main_call7_c_3 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_v12 : Ref sig .tc := ⟨.hbm, 125, rfl⟩
abbrev main_call7_v13 : Ref sig .tc := ⟨.hbm, 126, rfl⟩
abbrev main_call7_v14 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_cst_10 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_cst_11 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_v38 : Ref sig .tc := ⟨.hbm, 142, rfl⟩
abbrev main_cst_12 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_c_13 : Ref sig .tc := ⟨.hbm, 149, rfl⟩
abbrev main_v44 : Ref sig .tc := ⟨.hbm, 150, rfl⟩
abbrev main_v45 : Ref sig .tc := ⟨.hbm, 151, rfl⟩
abbrev main_cst_14 : Ref sig .tc := ⟨.hbm, 152, rfl⟩
abbrev main_v46 : Ref sig .tc := ⟨.hbm, 153, rfl⟩
abbrev main_v47 : Ref sig .tc := ⟨.hbm, 154, rfl⟩
abbrev main_cst_15 : Ref sig .tc := ⟨.hbm, 155, rfl⟩
abbrev main_call9_v0 : Ref sig .tc := ⟨.hbm, 156, rfl⟩
abbrev main_call9_v1 : Ref sig .tc := ⟨.hbm, 157, rfl⟩
abbrev main_call9_v2 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_cst_16 : Ref sig .tc := ⟨.hbm, 163, rfl⟩
abbrev main_call10_v0 : Ref sig .tc := ⟨.hbm, 164, rfl⟩
abbrev main_call10_v1 : Ref sig .tc := ⟨.hbm, 165, rfl⟩
abbrev main_call10_v2 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩

abbrev nD : Nat := 1
abbrev τ : Topo := Topo.v7x

variable {F : FTy → Type} [FloatOps F]
-- ==== Proof.Cells.lean ====
/-
The cells of the kernel's protocol: the eight devices in a ring order, the kernel's semaphores by name, and the
regions of the six scratch buffers that change hands.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Devices -/

/-- The device `k` places after `c`. -/
def nb (c : Dev nD) (k : ℕ) : Dev nD := ⟨(c.val + k) % 8, Nat.mod_lt _ (by decide)⟩

theorem nb_ne (c : Dev nD) (k : ℕ) (h1 : 1 ≤ k) (h2 : k < 8) : nb c k ≠ c := by
  intro h
  have := congrArg Fin.val h
  have hc := c.isLt
  simp only [nb] at this
  have : (c.val + k) % 8 = c.val := this
  have hc : c.val < 8 := hc
  omega

/-! ## The kernel's semaphores by name -/

/-- The kernel's own semaphores: the sends and the landings of the key/value exchange (peer, row block), of the
    reduction (peer), of the gather (peer), and the one local copy's. -/
abbrev Cx : Type := (Fin 8 × Fin 4) ⊕ (Fin 8 × Fin 4) ⊕ Fin 8 ⊕ Fin 8 ⊕ Fin 8 ⊕ Fin 8 ⊕ Unit
/-- Those and the barrier. -/
abbrev CX : Type := Unit ⊕ Cx

instance decCx : DecidableEq Cx := Classical.decEq _
instance decCX : DecidableEq CX := Classical.decEq _

abbrev xKvs (d : Fin 8) (r : Fin 4) : Cx := .inl (d, r)
abbrev xKvr (d : Fin 8) (r : Fin 4) : Cx := .inr (.inl (d, r))
abbrev xRss (e : Fin 8) : Cx := .inr (.inr (.inl e))
abbrev xRsr (e : Fin 8) : Cx := .inr (.inr (.inr (.inl e)))
abbrev xAgs (e : Fin 8) : Cx := .inr (.inr (.inr (.inr (.inl e))))
abbrev xAgr (e : Fin 8) : Cx := .inr (.inr (.inr (.inr (.inr (.inl e)))))
abbrev xLoc : Cx := .inr (.inr (.inr (.inr (.inr (.inr ())))))

/-- A semaphore's place in the table of DMA semaphores. -/
def snum : Cx → ℕ
  | .inl (d, r) => 6 + (4 * d.val + r.val)
  | .inr (.inl (d, r)) => 38 + (4 * d.val + r.val)
  | .inr (.inr (.inl e)) => 70 + e.val
  | .inr (.inr (.inr (.inl e))) => 78 + e.val
  | .inr (.inr (.inr (.inr (.inl e)))) => 86 + e.val
  | .inr (.inr (.inr (.inr (.inr (.inl e))))) => 94 + e.val
  | .inr (.inr (.inr (.inr (.inr (.inr _))))) => 102

theorem snum_lt : ∀ x : Cx, snum x < 103 := by decide +kernel
theorem snum_inj : ∀ x y : Cx, snum x = snum y → x = y := by
  rintro (⟨d, r⟩ | ⟨d, r⟩ | e | e | e | e | u) (⟨d', r'⟩ | ⟨d', r'⟩ | e' | e' | e' | e' | u') h <;> simp only [snum] at h
  all_goals first
    | omega
    | (have h1 : d = d' := Fin.ext (by omega)
       have h2 : r = r' := Fin.ext (by omega)
       rw [h1, h2])
    | (have h1 : e = e' := Fin.ext (by omega)
       rw [h1])
    | rfl

/-- The runtime's barrier semaphore. -/
abbrev barS : Sem sig := (SemArray.scalar (sig.barrier 0 rfl) : Sems sig S_).sem

def dsem (x : Cx) : DmaSem sig := (⟨snum x, snum_lt x⟩ : Fin 103)
abbrev osem (x : Cx) : SemLoc sig := .dma (dsem x)
abbrev csem : CX → SemLoc sig
  | .inl _ => .reg barS
  | .inr x => osem x

theorem dsem_inj {x y : Cx} (h : dsem x = dsem y) : x = y := snum_inj x y (congrArg Fin.val h)
theorem csem_inj {x y : CX} (h : csem x = csem y) : x = y := by
  rcases x with x | x <;> rcases y with y | y
  · rfl
  · cases h
  · cases h
  · have h' : osem x = osem y := h
    rw [SemLoc.dma.injEq] at h'
    rw [dsem_inj h']

open Classical in
/-- The name of a semaphore, if it has one. -/
def dec (s : SemLoc sig) : Option CX := if h : ∃ x, csem x = s then some h.choose else none

theorem dec_csem (x : CX) : dec (csem x) = some x := by
  unfold dec
  have h : ∃ y, csem y = csem x := ⟨x, rfl⟩
  rw [dif_pos h]
  exact congrArg some (csem_inj h.choose_spec)

theorem dec_osem (x : Cx) : dec (.dma (dsem x)) = some (.inr x) := dec_csem (.inr x)
theorem dec_bar : dec (.reg barS) = some (.inl ()) := dec_csem (.inl ())

/-- A DMA semaphore below the kernel's own has no name. -/
theorem dec_none (s : DmaSem sig) (h : s.val < 6) : dec (.dma s) = none := by
  unfold dec
  rw [dif_neg]
  rintro ⟨x, hx⟩
  rcases x with x | x
  · cases hx
  · have h' : osem x = .dma s := hx
    rw [SemLoc.dma.injEq] at h'
    have := congrArg Fin.val h'
    have h6 : ∀ x : Cx, 6 ≤ snum x := by decide +kernel
    have := h6 x
    simp only [dsem] at *
    omega

abbrev cell (c : Dev nD) (x : Cx) : GSem nD τ sig := ((c : Thread nD τ), osem x)
abbrev bar (c : Dev nD) : GSem nD τ sig := ((c : Thread nD τ), .reg barS)
abbrev kcell (ck : Dev nD × CX) : GSem nD τ sig := ((ck.1 : Thread nD τ), csem ck.2)

/-! The semaphores as the kernel's text names them: an array, sliced at a place, squeezed to one. -/

theorem sem_kvs (off : Fin S8x4.rank → ℕ) (inb) (d : Fin 8) (r : Fin 4) (h : off = ![d.val, r.val]) :
    ((cc0_scratch6.slice (Rect.unit (s := S8x4) off S1x1.size inb)).squeeze S_ squeezes_S1x1_S_).sem = dsem (xKvs d r) := by
  subst h; revert inb; revert d r; decide +kernel
theorem sem_kvr (off : Fin S8x4.rank → ℕ) (inb) (d : Fin 8) (r : Fin 4) (h : off = ![d.val, r.val]) :
    ((cc0_scratch7.slice (Rect.unit (s := S8x4) off S1x1.size inb)).squeeze S_ squeezes_S1x1_S_).sem = dsem (xKvr d r) := by
  subst h; revert inb; revert d r; decide +kernel
theorem sem_rss (off : Fin S8.rank → ℕ) (inb) (d : Fin 8) (h : off = ![d.val]) :
    ((cc0_scratch8.slice (Rect.unit (s := S8) off S1.size inb)).squeeze S_ squeezes_S1_S_).sem = dsem (xRss d) := by
  subst h; revert inb; revert d; decide +kernel
theorem sem_rsr (off : Fin S8.rank → ℕ) (inb) (d : Fin 8) (h : off = ![d.val]) :
    ((cc0_scratch9.slice (Rect.unit (s := S8) off S1.size inb)).squeeze S_ squeezes_S1_S_).sem = dsem (xRsr d) := by
  subst h; revert inb; revert d; decide +kernel
theorem sem_ags (off : Fin S8.rank → ℕ) (inb) (d : Fin 8) (h : off = ![d.val]) :
    ((cc0_scratch10.slice (Rect.unit (s := S8) off S1.size inb)).squeeze S_ squeezes_S1_S_).sem = dsem (xAgs d) := by
  subst h; revert inb; revert d; decide +kernel
theorem sem_agr (off : Fin S8.rank → ℕ) (inb) (d : Fin 8) (h : off = ![d.val]) :
    ((cc0_scratch11.slice (Rect.unit (s := S8) off S1.size inb)).squeeze S_ squeezes_S1_S_).sem = dsem (xAgr d) := by
  subst h; revert inb; revert d; decide +kernel

/-! ## The regions that change hands -/

/-- Heads `4e … 4e+3`, rows `64r … 64r+63` of the staged codes. -/
def kvstS (e : Fin 8) (r : Fin 4) : Finset S2x2x32x256x64.Idx := Finset.univ.filter fun i => (i 2).val / 4 = e.val ∧ (i 3).val / 64 = r.val
/-- Slot `s`, rows `64r … 64r+63` of the gathered codes. -/
def kvgS (s : Fin 8) (r : Fin 4) : Finset S2x2x4x8x256x64.Idx := Finset.univ.filter fun i => (i 3).val = s.val ∧ (i 4).val / 64 = r.val
/-- Rows `32e … 32e+31` of a partial result (or of the gathered one). -/
def rowS (e : Fin 8) : Finset S2x256x512.Idx := Finset.univ.filter fun i => (i 1).val / 32 = e.val
/-- Slot `s` of the landed partial results. -/
def rsbS (s : Fin 8) : Finset S8x2x32x512.Idx := Finset.univ.filter fun i => (i 0).val = s.val

end Cert.Attn

end
-- ==== Proof.Contents.lean ====
/-
The contents the protocol speaks about: what each scratch buffer holds on each device once it is filled, as a
function of the devices' input blocks.
-/
module

public import proofs.«01_k».proof.Proof.Cells
public import Idealize.ShloMosaic.Lib.ValueIdxCore
public import Idealize.ShloMosaic.Lib.ValueIdxRank6

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- One device's input blocks, as the kernel's body finds them. -/
structure Ins (F : FTy → Type) where
  x : Vec F S2x256x512 .bf16
  wq : Vec F S512x256 .bf16
  k : Vec F S2x256x32x64 .bf16
  v : Vec F S2x256x32x64 .bf16
  wo : Vec F S256x512 .bf16

variable (I : Dev nD → Ins F)

/-- The device's place along the ring, as the word the body computes. -/
abbrev myW (c : Dev nD) : BitVec 32 := Scalar.remsi (Scalar.divsi (Dev.word c) 1#32) 8#32

/-- The staged codes: keys, then values. -/
def KVST (c : Dev nD) : Vec F S2x2x32x256x64 .i8 := fun i =>
  if (i 1).val = 0 then k0_pay1 (I c).k (ix5 (i 0) (0 : Fin 1) (i 2) (i 3) (i 4))
  else k0_pay2 (I c).v (ix5 (i 0) (0 : Fin 1) (i 2) (i 3) (i 4))

theorem head_lt (c : Dev nD) (h : Fin 4) : 4 * c.val + h.val < 32 := by
  have hc : c.val < 8 := c.isLt
  have := h.isLt
  omega

/-- The gathered codes: in slot `s`, device `s`'s codes of this device's four heads. -/
def KVG (c : Dev nD) : Vec F S2x2x4x8x256x64 .i8 := fun i =>
  KVST I (i 3) (ix5 (i 0) (i 1) (⟨4 * c.val + (i 2).val, head_lt c (i 2)⟩ : Fin 32) (i 4) (i 5))

theorem row_lt (r : Fin 4) (a : Fin 64) : 64 * r.val + a.val < 256 := by omega

/-- Rows `64r … 64r+63` of the gathered keys (`t = 0`) or values (`t = 1`). -/
def KVR (c : Dev nD) (t : Fin 2) (r : Fin 4) : Vec F S2x1x4x8x64x64 .i8 := fun j =>
  KVG I c (ix6 (j 0) t (j 2) (j 3) (⟨64 * r.val + (j 4).val, row_lt r (j 4)⟩ : Fin 256) (j 5))

/-- The projected queries and the output weights. -/
abbrev QQ (c : Dev nD) : FVec F S8x256x64 .bf16 := k0_pay3 (I c).x (I c).wq
abbrev WO (c : Dev nD) : FVec F S256x512 .bf16 := k0_pay4 (I c).wo

/-- One query block's partial result, and the same rounded. -/
def PQ (c : Dev nD) : Fin 4 → FVec F S2x64x512 .f32
  | 0 => k0_pay8 (WO I c) (k0_pay5 (KVR I c 1 0)) (k0_pay6 (QQ I c) (KVR I c 0 0))
  | 1 => k0_pay14 (WO I c) (k0_pay10 (KVR I c 1 1)) (k0_pay11 (QQ I c) (KVR I c 0 1)) (k0_pay12 (QQ I c) (KVR I c 0 1))
  | 2 => k0_pay20 (WO I c) (k0_pay16 (KVR I c 1 2)) (k0_pay17 (QQ I c) (KVR I c 0 2)) (k0_pay18 (QQ I c) (KVR I c 0 2))
  | 3 => k0_pay25 (WO I c) (k0_pay22 (KVR I c 1 3)) (k0_pay23 (QQ I c) (KVR I c 0 3))
def PB (c : Dev nD) : Fin 4 → FVec F S2x64x512 .bf16
  | 0 => k0_pay9 (WO I c) (k0_pay5 (KVR I c 1 0)) (k0_pay6 (QQ I c) (KVR I c 0 0))
  | 1 => k0_pay15 (WO I c) (k0_pay10 (KVR I c 1 1)) (k0_pay11 (QQ I c) (KVR I c 0 1)) (k0_pay12 (QQ I c) (KVR I c 0 1))
  | 2 => k0_pay21 (WO I c) (k0_pay16 (KVR I c 1 2)) (k0_pay17 (QQ I c) (KVR I c 0 2)) (k0_pay18 (QQ I c) (KVR I c 0 2))
  | 3 => k0_pay26 (WO I c) (k0_pay22 (KVR I c 1 3)) (k0_pay23 (QQ I c) (KVR I c 0 3))

theorem blk_lt (i : Fin 256) : i.val / 64 < 4 := by omega
theorem blk_mod (i : Fin 256) : i.val % 64 < 64 := by omega

def PACC (c : Dev nD) : Vec F S2x256x512 .f32 := fun i =>
  PQ I c ⟨(i 1).val / 64, blk_lt (i 1)⟩ (ix3 (i 0) (⟨(i 1).val % 64, blk_mod (i 1)⟩ : Fin 64) (i 2))
def PBF (c : Dev nD) : Vec F S2x256x512 .bf16 := fun i =>
  PB I c ⟨(i 1).val / 64, blk_lt (i 1)⟩ (ix3 (i 0) (⟨(i 1).val % 64, blk_mod (i 1)⟩ : Fin 64) (i 2))

theorem chunk_lt (c : Dev nD) (a : Fin 32) : 32 * c.val + a.val < 256 := by
  have hc : c.val < 8 := c.isLt
  omega

/-- The partial results landed on device `c`: in slot `s`, device `s`'s rows `32c … 32c+31`. -/
def RSB (c : Dev nD) : Vec F S8x2x32x512 .bf16 := fun i =>
  PBF I (i 0) (ix3 (i 1) (⟨32 * c.val + (i 2).val, chunk_lt c (i 2)⟩ : Fin 256) (i 3))
/-- The device's own rows of its partial result. -/
def OWNP (c : Dev nD) : Vec F S2x32x512 .f32 := fun j =>
  PACC I c (ix3 (j 0) (⟨32 * c.val + (j 1).val, chunk_lt c (j 1)⟩ : Fin 256) (j 2))

/-- The finished rows of device `c`, and the same rounded for the gather. -/
def RED (c : Dev nD) : FVec F S2x32x512 .f32 := k0_pay27 (myW c) (RSB I c) (OWNP I c)
def REDB (c : Dev nD) : FVec F S2x32x512 .bf16 := k0_pay29 (k0_pay28 (myW c) (RSB I c) (OWNP I c))

theorem dev_lt (i : Fin 256) : i.val / 32 < 8 := by omega
theorem dev_mod (i : Fin 256) : i.val % 32 < 32 := by omega
/-- The device that finishes row `i`. -/
def rowDev (i : Fin 256) : Dev nD := ⟨i.val / 32, dev_lt i⟩

/-- The gathered result, the same on every device. -/
def AGG : Vec F S2x256x512 .bf16 := fun i =>
  REDB I (rowDev (i 1)) (ix3 (i 0) (⟨(i 1).val % 32, dev_mod (i 1)⟩ : Fin 32) (i 2))

/-- The result on device `c`: its own rows unrounded, the others as gathered. -/
def OUT (c : Dev nD) : Vec F S2x256x512 .f32 := fun i =>
  if (i 1).val / 32 = c.val then RED I c (ix3 (i 0) (⟨(i 1).val % 32, dev_mod (i 1)⟩ : Fin 32) (i 2))
  else k0_pay30 (REDB I (rowDev (i 1))) (ix3 (i 0) (⟨(i 1).val % 32, dev_mod (i 1)⟩ : Fin 32) (i 2))

end Cert.Attn

end
-- ==== Proof.Views.lean ====
/-
The views the kernel's transfers name, as regions of their buffers, and what each transfer leaves there.
-/
module

public import proofs.«01_k».proof.Proof.Contents
public import Idealize.ShloMosaic.Lib.Pipeline.ValueKit.Geometry

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## More regions -/

def kvstH (e : Fin 8) : Finset S2x2x32x256x64.Idx := Finset.univ.filter fun i => (i 2).val / 4 = e.val
def kvgSlot (s : Fin 8) : Finset S2x2x4x8x256x64.Idx := Finset.univ.filter fun i => (i 3).val = s.val
def kvgRow (r : Fin 4) : Finset S2x2x4x8x256x64.Idx := Finset.univ.filter fun i => (i 4).val / 64 = r.val
def rowB (r : Fin 4) : Finset S2x256x512.Idx := Finset.univ.filter fun i => (i 1).val / 64 = r.val

theorem mem_kvstH {e : Fin 8} {i} : i ∈ kvstH e ↔ (i 2).val / 4 = e.val := by unfold kvstH; rw [Finset.mem_filter, and_iff_right (Finset.mem_univ _)]
theorem mem_kvstS {e : Fin 8} {r : Fin 4} {i} : i ∈ kvstS e r ↔ (i 2).val / 4 = e.val ∧ (i 3).val / 64 = r.val := by unfold kvstS; rw [Finset.mem_filter, and_iff_right (Finset.mem_univ _)]
theorem mem_kvgS {e : Fin 8} {r : Fin 4} {i} : i ∈ kvgS e r ↔ (i 3).val = e.val ∧ (i 4).val / 64 = r.val := by unfold kvgS; rw [Finset.mem_filter, and_iff_right (Finset.mem_univ _)]
theorem mem_kvgSlot {s : Fin 8} {i} : i ∈ kvgSlot s ↔ (i 3).val = s.val := by unfold kvgSlot; rw [Finset.mem_filter, and_iff_right (Finset.mem_univ _)]
theorem mem_kvgRow {r : Fin 4} {i} : i ∈ kvgRow r ↔ (i 4).val / 64 = r.val := by unfold kvgRow; rw [Finset.mem_filter, and_iff_right (Finset.mem_univ _)]
theorem mem_rowB {r : Fin 4} {i} : i ∈ rowB r ↔ (i 1).val / 64 = r.val := by unfold rowB; rw [Finset.mem_filter, and_iff_right (Finset.mem_univ _)]
theorem mem_rowS {e : Fin 8} {i} : i ∈ rowS e ↔ (i 1).val / 32 = e.val := by unfold rowS; rw [Finset.mem_filter, and_iff_right (Finset.mem_univ _)]
theorem mem_rsbS {s : Fin 8} {i} : i ∈ rsbS s ↔ (i 0).val = s.val := by unfold rsbS; rw [Finset.mem_filter, and_iff_right (Finset.mem_univ _)]

/-! ## Rectangles as regions -/

theorem rect_kvst (off : Fin S2x2x32x256x64.rank → ℕ) (inb : ∀ a, off a + S2x2x4x64x64.size a ≤ S2x2x32x256x64.size a) (e : Fin 8) (r : Fin 4) (h : off = ![0, 0, 4 * e.val, 64 * r.val, 0]) :
    (Rect.unit (s := S2x2x32x256x64) off S2x2x4x64x64.size inb).set = kvstS e r := by
  subst h
  ext i
  rw [Rect.mem_set_unit, mem_kvstS, ValueKit.forall_fin_iff_conj]
  have h0 : (i 0).val < 2 := (i 0).isLt; have h1 : (i 1).val < 2 := (i 1).isLt; have h2 : (i 2).val < 32 := (i 2).isLt; have h3 : (i 3).val < 256 := (i 3).isLt; have h4 : (i 4).val < 64 := (i 4).isLt
  simp [ValueKit.finConj]
  omega

theorem rect_kvstH (off : Fin S2x2x32x256x64.rank → ℕ) (inb : ∀ a, off a + S2x2x4x256x64.size a ≤ S2x2x32x256x64.size a) (e : Fin 8) (h : off = ![0, 0, 4 * e.val, 0, 0]) :
    (Rect.unit (s := S2x2x32x256x64) off S2x2x4x256x64.size inb).set = kvstH e := by
  subst h
  ext i
  rw [Rect.mem_set_unit, mem_kvstH, ValueKit.forall_fin_iff_conj]
  have h0 : (i 0).val < 2 := (i 0).isLt; have h1 : (i 1).val < 2 := (i 1).isLt; have h2 : (i 2).val < 32 := (i 2).isLt; have h3 : (i 3).val < 256 := (i 3).isLt; have h4 : (i 4).val < 64 := (i 4).isLt
  simp [ValueKit.finConj]
  omega

theorem rect_kvg (off : Fin S2x2x4x8x256x64.rank → ℕ) (inb : ∀ a, off a + S2x2x4x1x64x64.size a ≤ S2x2x4x8x256x64.size a) (s : Fin 8) (r : Fin 4) (h : off = ![0, 0, 0, s.val, 64 * r.val, 0]) :
    (Rect.unit (s := S2x2x4x8x256x64) off S2x2x4x1x64x64.size inb).set = kvgS s r := by
  subst h
  ext i
  rw [Rect.mem_set_unit, mem_kvgS, ValueKit.forall_fin_iff_conj]
  have h0 : (i 0).val < 2 := (i 0).isLt; have h1 : (i 1).val < 2 := (i 1).isLt; have h2 : (i 2).val < 4 := (i 2).isLt; have h3 : (i 3).val < 8 := (i 3).isLt; have h4 : (i 4).val < 256 := (i 4).isLt; have h5 : (i 5).val < 64 := (i 5).isLt
  simp [ValueKit.finConj]
  omega

theorem rect_kvgSlot (off : Fin S2x2x4x8x256x64.rank → ℕ) (inb : ∀ a, off a + S2x2x4x1x256x64.size a ≤ S2x2x4x8x256x64.size a) (s : Fin 8) (h : off = ![0, 0, 0, s.val, 0, 0]) :
    (Rect.unit (s := S2x2x4x8x256x64) off S2x2x4x1x256x64.size inb).set = kvgSlot s := by
  subst h
  ext i
  rw [Rect.mem_set_unit, mem_kvgSlot, ValueKit.forall_fin_iff_conj]
  have h0 : (i 0).val < 2 := (i 0).isLt; have h1 : (i 1).val < 2 := (i 1).isLt; have h2 : (i 2).val < 4 := (i 2).isLt; have h3 : (i 3).val < 8 := (i 3).isLt; have h4 : (i 4).val < 256 := (i 4).isLt; have h5 : (i 5).val < 64 := (i 5).isLt
  simp [ValueKit.finConj]
  omega

theorem rect_row (off : Fin S2x256x512.rank → ℕ) (inb : ∀ a, off a + S2x32x512.size a ≤ S2x256x512.size a) (e : Fin 8) (h : off = ![0, 32 * e.val, 0]) :
    (Rect.unit (s := S2x256x512) off S2x32x512.size inb).set = rowS e := by
  subst h
  ext i
  rw [Rect.mem_set_unit, mem_rowS, ValueKit.forall_fin_iff_conj]
  have h0 : (i 0).val < 2 := (i 0).isLt; have h1 : (i 1).val < 256 := (i 1).isLt; have h2 : (i 2).val < 512 := (i 2).isLt
  simp [ValueKit.finConj]
  omega

theorem rect_rowB (off : Fin S2x256x512.rank → ℕ) (inb : ∀ a, off a + S2x64x512.size a ≤ S2x256x512.size a) (r : Fin 4) (h : off = ![0, 64 * r.val, 0]) :
    (Rect.unit (s := S2x256x512) off S2x64x512.size inb).set = rowB r := by
  subst h
  ext i
  rw [Rect.mem_set_unit, mem_rowB, ValueKit.forall_fin_iff_conj]
  have h0 : (i 0).val < 2 := (i 0).isLt; have h1 : (i 1).val < 256 := (i 1).isLt; have h2 : (i 2).val < 512 := (i 2).isLt
  simp [ValueKit.finConj]
  omega

theorem rect_rsb (off : Fin S8x2x32x512.rank → ℕ) (inb : ∀ a, off a + S1x2x32x512.size a ≤ S8x2x32x512.size a) (s : Fin 8) (h : off = ![s.val, 0, 0, 0]) :
    (Rect.unit (s := S8x2x32x512) off S1x2x32x512.size inb).set = rsbS s := by
  subst h
  ext i
  rw [Rect.mem_set_unit, mem_rsbS, ValueKit.forall_fin_iff_conj]
  have h0 : (i 0).val < 8 := (i 0).isLt; have h1 : (i 1).val < 2 := (i 1).isLt; have h2 : (i 2).val < 32 := (i 2).isLt; have h3 : (i 3).val < 512 := (i 3).isLt
  simp [ValueKit.finConj]
  omega

/-! ## The views of the transfers -/

abbrev kvstM (off : Fin S2x2x32x256x64.rank → ℕ) (inb : ∀ a, off a + S2x2x4x64x64.size a ≤ S2x2x32x256x64.size a) : Memref sig .tc .vmem S2x2x4x64x64 .i8 :=
  (Memref.whole cc0_scratch0).slice (Rect.unit (s := S2x2x32x256x64) off S2x2x4x64x64.size inb) (fun _ => rfl)
abbrev kvstHM (off : Fin S2x2x32x256x64.rank → ℕ) (inb : ∀ a, off a + S2x2x4x256x64.size a ≤ S2x2x32x256x64.size a) : Memref sig .tc .vmem S2x2x4x256x64 .i8 :=
  (Memref.whole cc0_scratch0).slice (Rect.unit (s := S2x2x32x256x64) off S2x2x4x256x64.size inb) (fun _ => rfl)
abbrev kvgM (off : Fin S2x2x4x8x256x64.rank → ℕ) (inb : ∀ a, off a + S2x2x4x1x64x64.size a ≤ S2x2x4x8x256x64.size a) : Memref sig .tc .vmem S2x2x4x64x64 .i8 :=
  ((Memref.whole cc0_scratch1).slice (Rect.unit (s := S2x2x4x8x256x64) off S2x2x4x1x64x64.size inb) (fun _ => rfl)).squeeze S2x2x4x64x64 squeezes_S2x2x4x1x64x64_S2x2x4x64x64
abbrev kvgSlotM (off : Fin S2x2x4x8x256x64.rank → ℕ) (inb : ∀ a, off a + S2x2x4x1x256x64.size a ≤ S2x2x4x8x256x64.size a) : Memref sig .tc .vmem S2x2x4x256x64 .i8 :=
  ((Memref.whole cc0_scratch1).slice (Rect.unit (s := S2x2x4x8x256x64) off S2x2x4x1x256x64.size inb) (fun _ => rfl)).squeeze S2x2x4x256x64 squeezes_S2x2x4x1x256x64_S2x2x4x256x64
abbrev pbfM (off : Fin S2x256x512.rank → ℕ) (inb : ∀ a, off a + S2x32x512.size a ≤ S2x256x512.size a) : Memref sig .tc .vmem S2x32x512 .bf16 :=
  (Memref.whole cc0_scratch3).slice (Rect.unit (s := S2x256x512) off S2x32x512.size inb) (fun _ => rfl)
abbrev aggM (off : Fin S2x256x512.rank → ℕ) (inb : ∀ a, off a + S2x32x512.size a ≤ S2x256x512.size a) : Memref sig .tc .vmem S2x32x512 .bf16 :=
  (Memref.whole cc0_scratch5).slice (Rect.unit (s := S2x256x512) off S2x32x512.size inb) (fun _ => rfl)
abbrev rsbM (off : Fin S8x2x32x512.rank → ℕ) (inb : ∀ a, off a + S1x2x32x512.size a ≤ S8x2x32x512.size a) : Memref sig .tc .vmem S2x32x512 .bf16 :=
  ((Memref.whole cc0_scratch4).slice (Rect.unit (s := S8x2x32x512) off S1x2x32x512.size inb) (fun _ => rfl)).squeeze S2x32x512 squeezes_S1x2x32x512_S2x32x512

variable {off : Fin 5 → ℕ} {off₆ : Fin 6 → ℕ} {off₃ : Fin 3 → ℕ} {off₄ : Fin 4 → ℕ}

theorem set_kvst (inb) (e : Fin 8) (r : Fin 4) (h : off = ![0, 0, 4 * e.val, 64 * r.val, 0]) : (kvstM off inb).view.set = kvstS e r :=
  (View.set_slice_whole _ _).trans (rect_kvst off inb e r h)
theorem set_kvstH (inb) (e : Fin 8) (h : off = ![0, 0, 4 * e.val, 0, 0]) : (kvstHM off inb).view.set = kvstH e :=
  (View.set_slice_whole _ _).trans (rect_kvstH off inb e h)
theorem set_kvg (inb) (s : Fin 8) (r : Fin 4) (h : off₆ = ![0, 0, 0, s.val, 64 * r.val, 0]) : (kvgM off₆ inb).view.set = kvgS s r :=
  (Memref.set_view_squeeze _ _).trans ((View.set_slice_whole _ _).trans (rect_kvg off₆ inb s r h))
theorem set_kvgSlot (inb) (s : Fin 8) (h : off₆ = ![0, 0, 0, s.val, 0, 0]) : (kvgSlotM off₆ inb).view.set = kvgSlot s :=
  (Memref.set_view_squeeze _ _).trans ((View.set_slice_whole _ _).trans (rect_kvgSlot off₆ inb s h))
theorem set_pbf (inb) (e : Fin 8) (h : off₃ = ![0, 32 * e.val, 0]) : (pbfM off₃ inb).view.set = rowS e :=
  (View.set_slice_whole _ _).trans (rect_row off₃ inb e h)
theorem set_agg (inb) (e : Fin 8) (h : off₃ = ![0, 32 * e.val, 0]) : (aggM off₃ inb).view.set = rowS e :=
  (View.set_slice_whole _ _).trans (rect_row off₃ inb e h)
theorem set_rsb (inb) (s : Fin 8) (h : off₄ = ![s.val, 0, 0, 0]) : (rsbM off₄ inb).view.set = rsbS s :=
  (Memref.set_view_squeeze _ _).trans ((View.set_slice_whole _ _).trans (rect_rsb off₄ inb s h))

/-! ## What a transfer leaves -/

theorem squeeze_kvg (h : S2x2x4x64x64.numel = S2x2x4x1x64x64.numel) (a : Fin 2) (b : Fin 2) (c : Fin 4) (d : Fin 64) (e : Fin 64) :
    Shape.reshapeEquiv h (ix5 a b c d e) = ix6 a b c (0 : Fin 1) d e :=
  Shape.reshapeEquiv_eq_of_rowMajor h (by
    rw [Shape.rowMajor_val_six, Shape.rowMajor_val_five]
    show ((((a.val * 2 + b.val) * 4 + c.val) * 1 + 0) * 64 + d.val) * 64 + e.val = (((a.val * 2 + b.val) * 4 + c.val) * 64 + d.val) * 64 + e.val
    omega)
theorem squeeze_kvgSlot (h : S2x2x4x256x64.numel = S2x2x4x1x256x64.numel) (a : Fin 2) (b : Fin 2) (c : Fin 4) (d : Fin 256) (e : Fin 64) :
    Shape.reshapeEquiv h (ix5 a b c d e) = ix6 a b c (0 : Fin 1) d e :=
  Shape.reshapeEquiv_eq_of_rowMajor h (by
    rw [Shape.rowMajor_val_six, Shape.rowMajor_val_five]
    show ((((a.val * 2 + b.val) * 4 + c.val) * 1 + 0) * 256 + d.val) * 64 + e.val = (((a.val * 2 + b.val) * 4 + c.val) * 256 + d.val) * 64 + e.val
    omega)
theorem squeeze_rsb (h : S2x32x512.numel = S1x2x32x512.numel) (a : Fin 2) (b : Fin 32) (c : Fin 512) :
    Shape.reshapeEquiv h (ix3 a b c) = ix4 (0 : Fin 1) a b c :=
  Shape.reshapeEquiv_eq_of_rowMajor h (by
    rw [Shape.rowMajor_val_four, Shape.rowMajor_val_three]
    show ((0 * 2 + a.val) * 32 + b.val) * 512 + c.val = (a.val * 32 + b.val) * 512 + c.val
    omega)

omit [FloatOps F] in
/-- A whole-buffer write seen at one element of the view. -/
theorem land_of {sp : Space} {s : Shape} {e : EltTy} (vd : View sig .tc sp s e) (w : s.Idx → Elt F e)
    (fd : vd.ty.Contents (Elt F)) (g : vd.ty.Contents (Elt F)) (h : ∀ x, _root_.cast (congrArg (Elt F) vd.elt_eq.symm) (w x) = g (vd.emb x)) :
    ∀ i ∈ vd.set, vd.write (Elt F) fd w Finset.univ i = g i := by
  intro i hi
  obtain ⟨x, -, rfl⟩ := Finset.mem_map.1 hi
  rw [View.write_emb_of_mem _ _ (Finset.mem_univ x)]
  exact h x

variable (I : Dev nD → Ins F)

theorem land_kv (c s : Fin 8) (r : Fin 4) (inb) (inb') (hs : off = ![0, 0, 4 * c.val, 64 * r.val, 0]) (hd : off₆ = ![0, 0, 0, s.val, 64 * r.val, 0])
    (fd) : ∀ i ∈ kvgS s r, (kvgM off₆ inb').view.write (Elt F) fd ((kvstM off inb).view.read (Elt F) (KVST I s)) Finset.univ i = KVG I c i := by
  subst hs hd
  rw [← set_kvg inb' s r rfl]
  refine land_of (F := F) (kvgM _ inb').view _ fd (KVG I c) fun x => ?_
  obtain ⟨a, b, d, e, f, rfl⟩ : ∃ a b d e f, x = ix5 (n0 := 2) (n1 := 2) (n2 := 4) (n3 := 64) (n4 := 64) a b d e f := ⟨_, _, _, _, _, eq_ix5 x⟩
  show KVST I s ((Rect.unit (s := S2x2x32x256x64) _ S2x2x4x64x64.size inb).emb (ix5 a b d e f)) =
    KVG I c ((Rect.unit (s := S2x2x4x8x256x64) _ S2x2x4x1x64x64.size inb').emb (Shape.reshapeEquiv _ (ix5 a b d e f)))
  rw [squeeze_kvg]
  have h1 : (Rect.unit (s := S2x2x4x8x256x64) _ S2x2x4x1x64x64.size inb').emb (ix6 a b d (0 : Fin 1) e f) = ix6 a b d s (⟨64 * r.val + e.val, row_lt r e⟩ : Fin 256) f := by
    funext q; apply Fin.ext; rw [ValueKit.rect_emb_unit_val]
    fin_cases q <;> simp
  have h2 : (Rect.unit (s := S2x2x32x256x64) _ S2x2x4x64x64.size inb).emb (ix5 a b d e f) = ix5 a b (⟨4 * c.val + d.val, head_lt c d⟩ : Fin 32) (⟨64 * r.val + e.val, row_lt r e⟩ : Fin 256) f := by
    funext q; apply Fin.ext; rw [ValueKit.rect_emb_unit_val]
    fin_cases q <;> simp
  rw [h1, h2]
  rfl

theorem land_loc (c : Fin 8) (inb) (inb') (hs : off = ![0, 0, 4 * c.val, 0, 0]) (hd : off₆ = ![0, 0, 0, c.val, 0, 0])
    (fd) : ∀ i ∈ kvgSlot c, (kvgSlotM off₆ inb').view.write (Elt F) fd ((kvstHM off inb).view.read (Elt F) (KVST I c)) Finset.univ i = KVG I c i := by
  subst hs hd
  rw [← set_kvgSlot inb' c rfl]
  refine land_of (F := F) (kvgSlotM _ inb').view _ fd (KVG I c) fun x => ?_
  obtain ⟨a, b, d, e, f, rfl⟩ : ∃ a b d e f, x = ix5 (n0 := 2) (n1 := 2) (n2 := 4) (n3 := 256) (n4 := 64) a b d e f := ⟨_, _, _, _, _, eq_ix5 x⟩
  show KVST I c ((Rect.unit (s := S2x2x32x256x64) _ S2x2x4x256x64.size inb).emb (ix5 a b d e f)) =
    KVG I c ((Rect.unit (s := S2x2x4x8x256x64) _ S2x2x4x1x256x64.size inb').emb (Shape.reshapeEquiv _ (ix5 a b d e f)))
  rw [squeeze_kvgSlot]
  have h1 : (Rect.unit (s := S2x2x4x8x256x64) _ S2x2x4x1x256x64.size inb').emb (ix6 a b d (0 : Fin 1) e f) = ix6 a b d c e f := by
    funext q; apply Fin.ext; rw [ValueKit.rect_emb_unit_val]
    fin_cases q <;> simp
  have h2 : (Rect.unit (s := S2x2x32x256x64) _ S2x2x4x256x64.size inb).emb (ix5 a b d e f) = ix5 a b (⟨4 * c.val + d.val, head_lt c d⟩ : Fin 32) e f := by
    funext q; apply Fin.ext; rw [ValueKit.rect_emb_unit_val]
    fin_cases q <;> simp
  rw [h1, h2]
  rfl

/-- An element of rows `32e … 32e+31`, placed. -/
theorem emb_row (e : Fin 8) (inb) (a : Fin 2) (b : Fin 32) (d : Fin 512) :
    (Rect.unit (s := S2x256x512) ![0, 32 * e.val, 0] S2x32x512.size inb).emb (ix3 a b d) = ix3 a (⟨32 * e.val + b.val, chunk_lt e b⟩ : Fin 256) d := by
  funext q; apply Fin.ext; rw [ValueKit.rect_emb_unit_val]
  fin_cases q <;> simp

theorem land_rs (c s : Fin 8) (inb) (inb') (hs : off₃ = ![0, 32 * c.val, 0]) (hd : off₄ = ![s.val, 0, 0, 0])
    (fd) : ∀ i ∈ rsbS s, (rsbM off₄ inb').view.write (Elt F) fd ((pbfM off₃ inb).view.read (Elt F) (PBF I s)) Finset.univ i = RSB I c i := by
  subst hs hd
  rw [← set_rsb inb' s rfl]
  refine land_of (F := F) (rsbM _ inb').view _ fd (RSB I c) fun x => ?_
  obtain ⟨a, b, d, rfl⟩ : ∃ a b d, x = ix3 (n0 := 2) (n1 := 32) (n2 := 512) a b d := ⟨_, _, _, eq_ix3 x⟩
  show PBF I s ((Rect.unit (s := S2x256x512) _ S2x32x512.size inb).emb (ix3 a b d)) =
    RSB I c ((Rect.unit (s := S8x2x32x512) _ S1x2x32x512.size inb').emb (Shape.reshapeEquiv _ (ix3 a b d)))
  rw [squeeze_rsb, emb_row]
  have h1 : (Rect.unit (s := S8x2x32x512) _ S1x2x32x512.size inb').emb (ix4 (0 : Fin 1) a b d) = ix4 s a b d := by
    funext q; apply Fin.ext; rw [ValueKit.rect_emb_unit_val]
    fin_cases q <;> simp
  rw [h1]
  rfl

theorem land_ag (s : Fin 8) (inb) (inb') (hs : off₃ = ![0, 32 * s.val, 0])
    (fd) : ∀ i ∈ rowS s, (aggM off₃ inb').view.write (Elt F) fd ((aggM off₃ inb).view.read (Elt F) (AGG I)) Finset.univ i = AGG I i := by
  subst hs
  rw [← set_agg inb' s rfl]
  exact land_of (F := F) (aggM _ inb').view _ fd (AGG I) fun x => rfl

end Cert.Attn

end
-- ==== Proof.Sched.lean ====
/-
The schedule: for each semaphore of each device, who pays it, how much, and what each payment hands over.

A device's barrier is paid one unit by each of the seven others; device `d`'s unit hands device `c` the three places of
`d`'s memory that `c` writes: slot `c` of its gathered codes, slot `c` of its landed partial results, rows `32c … 32c+31`
of its gathered result. Every other semaphore is paid once, by one copy: a send cell gives back what the copy read, a
landing cell gives the region written, at its final contents. The cells a device keeps for itself among its send and
landing arrays are never paid.
-/
module

public import proofs.«01_k».proof.Proof.Views
public import Idealize.ShloMosaic.Lib.Rounds

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type} [FloatOps F]

/-! ## The resource algebra: the pipeline library's copy and the protocol's (duties named by the paying device) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Regions held -/

def pKvst (c : Dev nD) (S : Finset S2x2x32x256x64.Idx) (f : Vec F S2x2x32x256x64 .i8) : sProp 𝕄 := ((c : Thread nD τ).loc cc0_scratch0) ↦[S]{fullShare} f
def pKvg (c : Dev nD) (S : Finset S2x2x4x8x256x64.Idx) (f : Vec F S2x2x4x8x256x64 .i8) : sProp 𝕄 := ((c : Thread nD τ).loc cc0_scratch1) ↦[S]{fullShare} f
def pPbf (c : Dev nD) (S : Finset S2x256x512.Idx) (f : Vec F S2x256x512 .bf16) : sProp 𝕄 := ((c : Thread nD τ).loc cc0_scratch3) ↦[S]{fullShare} f
def pRsb (c : Dev nD) (S : Finset S8x2x32x512.Idx) (f : Vec F S8x2x32x512 .bf16) : sProp 𝕄 := ((c : Thread nD τ).loc cc0_scratch4) ↦[S]{fullShare} f
def pAgg (c : Dev nD) (S : Finset S2x256x512.Idx) (q : PosShare TreeShare) (f : Vec F S2x256x512 .bf16) : sProp 𝕄 := ((c : Thread nD τ).loc cc0_scratch5) ↦[S]{q} f

omit [FloatOps F] in
instance pKvst_storable (c : Dev nD) (S) (f) : BI.Storable (upEmb : UEmb _ 𝕄) (pKvst (F := F) c S f) := by unfold pKvst; infer_instance
omit [FloatOps F] in
instance pKvg_storable (c : Dev nD) (S) (f) : BI.Storable (upEmb : UEmb _ 𝕄) (pKvg (F := F) c S f) := by unfold pKvg; infer_instance
omit [FloatOps F] in
instance pPbf_storable (c : Dev nD) (S) (f) : BI.Storable (upEmb : UEmb _ 𝕄) (pPbf (F := F) c S f) := by unfold pPbf; infer_instance
omit [FloatOps F] in
instance pRsb_storable (c : Dev nD) (S) (f) : BI.Storable (upEmb : UEmb _ 𝕄) (pRsb (F := F) c S f) := by unfold pRsb; infer_instance
omit [FloatOps F] in
instance pAgg_storable (c : Dev nD) (S) (q) (f) : BI.Storable (upEmb : UEmb _ 𝕄) (pAgg (F := F) c S q f) := by unfold pAgg; infer_instance

/-! ## The share of its own rows that each of the seven gather copies reads -/

/-- What is left of the whole share after `n` copies took theirs. -/
def rest : ℕ → PosShare TreeShare
  | 0 => fullShare
  | n + 1 => (rest n).right
/-- The `k`-th copy's share, `k = 1 … 7`; the last takes all that is left. -/
def shr (k : ℕ) : PosShare TreeShare := if k = 7 then rest 6 else (rest (k - 1)).left

/-- How many places `e` is after `c`. -/
def dist (c e : Fin 8) : ℕ := (e.val + 8 - c.val) % 8

theorem dist_nb (c : Dev nD) (k : ℕ) (h : k < 8) : dist c (nb c k) = k := by
  have hc : c.val < 8 := c.isLt
  show ((c.val + k) % 8 + 8 - c.val) % 8 = k
  omega

/-! ## Amounts -/

def nKv : ℕ := (kvgM ![0, 0, 0, 0, 0, 0] (by decide)).view.dmaCredit
def nLoc : ℕ := (kvgSlotM ![0, 0, 0, 0, 0, 0] (by decide)).view.dmaCredit
def nRs : ℕ := (rsbM ![0, 0, 0, 0] (by decide)).view.dmaCredit
def nAg : ℕ := (aggM ![0, 0, 0] (by decide)).view.dmaCredit

theorem nKv_pos : 0 < nKv := View.dmaCredit_pos _ (by decide)
theorem nLoc_pos : 0 < nLoc := View.dmaCredit_pos _ (by decide)
theorem nRs_pos : 0 < nRs := View.dmaCredit_pos _ (by decide)
theorem nAg_pos : 0 < nAg := View.dmaCredit_pos _ (by decide)

def amtX : CX → ℕ
  | .inl _ => 1
  | .inr (.inl _) => nKv
  | .inr (.inr (.inl _)) => nKv
  | .inr (.inr (.inr (.inl _))) => nRs
  | .inr (.inr (.inr (.inr (.inl _)))) => nRs
  | .inr (.inr (.inr (.inr (.inr (.inl _))))) => nAg
  | .inr (.inr (.inr (.inr (.inr (.inr (.inl _)))))) => nAg
  | .inr (.inr (.inr (.inr (.inr (.inr (.inr _)))))) => nLoc

theorem amtX_pos (x : CX) : 0 < amtX x := by
  rcases x with u | p | p | e | e | e | e | u
  · exact Nat.one_pos
  · exact nKv_pos
  · exact nKv_pos
  · exact nRs_pos
  · exact nRs_pos
  · exact nAg_pos
  · exact nAg_pos
  · exact nLoc_pos

/-! ## Duties and payloads -/

def one (c e : Fin 8) : Finset (Fin 8) := if e = c then ∅ else {0}

def dutX (c : Fin 8) : CX → Finset (Fin 8)
  | .inl _ => Finset.univ.erase c
  | .inr (.inl (e, _)) => one c e
  | .inr (.inr (.inl (e, _))) => one c e
  | .inr (.inr (.inr (.inl e))) => one c e
  | .inr (.inr (.inr (.inr (.inl e)))) => one c e
  | .inr (.inr (.inr (.inr (.inr (.inl e))))) => one c e
  | .inr (.inr (.inr (.inr (.inr (.inr (.inl e)))))) => one c e
  | .inr (.inr (.inr (.inr (.inr (.inr (.inr _)))))) => {0}

variable (I : Dev nD → Ins F)

/-- What device `d` hands device `c` with its unit: the places of its memory that `c` writes. -/
def barPay (c d : Dev nD) : sProp 𝕄 :=
  iprop((∃ f, pKvg d (kvgSlot c) f) ∗ (∃ f, pRsb d (rsbS c) f) ∗ (∃ f, pAgg d (rowS c) fullShare f))

def payX (c : Dev nD) (d : Fin 8) : CX → sProp 𝕄
  | .inl _ => barPay c d
  | .inr (.inl (e, r)) => pKvst c (kvstS e r) (KVST I c)
  | .inr (.inr (.inl (s, r))) => pKvg c (kvgS s r) (KVG I c)
  | .inr (.inr (.inr (.inl e))) => pPbf c (rowS e) (PBF I c)
  | .inr (.inr (.inr (.inr (.inl s)))) => pRsb c (rsbS s) (RSB I c)
  | .inr (.inr (.inr (.inr (.inr (.inl e))))) => pAgg c (rowS c) (shr (dist c e)) (AGG I)
  | .inr (.inr (.inr (.inr (.inr (.inr (.inl s)))))) => pAgg c (rowS s) fullShare (AGG I)
  | .inr (.inr (.inr (.inr (.inr (.inr (.inr _)))))) => iprop(pKvg c (kvgSlot c) (KVG I c) ∗ pKvst c (kvstH c) (KVST I c))

instance barPay_storable (c d : Dev nD) : BI.Storable (upEmb : UEmb _ 𝕄) (barPay (F := F) c d) := by unfold barPay; infer_instance
instance payX_storable (c : Dev nD) (d : Fin 8) (x : CX) : BI.Storable (upEmb : UEmb _ 𝕄) (payX I c d x) := by
  rcases x with u | p | p | e | e | e | e | u <;> unfold payX <;> infer_instance

/-- The schedule: one round, each cell's duties by its name. -/
def Rd : Rounds.Schedule (GSem nD τ sig) (Fin 8) 𝕄 where
  duties g r := if r = 0 ∧ g.1.2 = .tc then (match dec g.2 with | some x => dutX g.1.1 x | none => ∅) else ∅
  unitless _ := False
  amount g _ _ := match dec g.2 with | some x => amtX x | none => 1
  payload g _ d := match dec g.2 with | some x => payX I g.1.1 d x | none => iprop(emp)
  amount_pos g _ _ _ := by
    cases dec g.2 with
    | none => exact Nat.one_pos
    | some x => exact amtX_pos x

instance Rd_storable (g : GSem nD τ sig) (r : ℕ) (d : Fin 8) : BI.Storable (upEmb : UEmb _ 𝕄) ((Rd I).payload g r d) := by
  show BI.Storable upEmb (match dec g.2 with | some x => payX I g.1.1 d x | none => iprop(emp))
  cases dec g.2 with
  | none => infer_instance
  | some x => exact payX_storable I g.1.1 d x

theorem duties_kcell (c : Dev nD) (x : CX) : (Rd I).duties (kcell (c, x)) 0 = dutX c x := by
  dsimp only [Rd]; rw [if_pos ⟨rfl, rfl⟩]
  show (match dec (csem x) with | some x => dutX c x | none => ∅) = _
  rw [dec_csem]
theorem duties_later (g : GSem nD τ sig) : ∀ r, 1 ≤ r → (Rd I).duties g r = ∅ :=
  fun r hr => by dsimp only [Rd]; exact if_neg fun h => by omega
theorem amount_kcell (c : Dev nD) (x : CX) (r : ℕ) (d : Fin 8) : (Rd I).amount (kcell (c, x)) r d = amtX x := by
  show (match dec (csem x) with | some x => amtX x | none => 1) = _
  rw [dec_csem]
theorem payload_kcell (c : Dev nD) (x : CX) (r : ℕ) (d : Fin 8) : (Rd I).payload (kcell (c, x)) r d = payX I c d x := by
  show (match dec (csem x) with | some x => payX I c d x | none => iprop(emp)) = _
  rw [dec_csem]

theorem expect_one (c : Dev nD) (x : CX) (h : dutX c x = {0}) : (Rd I).expect (kcell (c, x)) 0 = amtX x := by
  unfold Schedule.expect Schedule.amountOf
  rw [duties_kcell, h, Finset.sum_singleton, amount_kcell]
theorem rest_one (c : Dev nD) (x : CX) (h : dutX c x = {0}) :
    bigSep ((Rd I).duties (kcell (c, x)) 0 \ ∅) (fun d => (Rd I).payload (kcell (c, x)) 0 d) = payX I c 0 x := by
  rw [Finset.sdiff_empty, duties_kcell, h, bigSep_singleton, payload_kcell]
theorem expect_bar (c : Dev nD) : (Rd I).expect (kcell (c, .inl ())) 0 = 7 := by
  unfold Schedule.expect Schedule.amountOf
  rw [duties_kcell, Finset.sum_congr rfl fun d _ => amount_kcell I c (.inl ()) 0 d]
  show (∑ x ∈ Finset.univ.erase c, 1) = 7
  rw [Finset.sum_const, Finset.card_erase_of_mem (Finset.mem_univ _)]
  rfl
theorem rest_bar (c : Dev nD) :
    bigSep ((Rd I).duties (kcell (c, .inl ())) 0 \ ∅) (fun d => (Rd I).payload (kcell (c, .inl ())) 0 d) = bigSep (Finset.univ.erase c) (fun d => barPay c d) := by
  rw [Finset.sdiff_empty, duties_kcell]
  exact bigSep_congr fun d _ => payload_kcell I c (.inl ()) 0 d

/-! ## Levels -/

def L (g : GSem nD τ sig) : Finset Unit := if g.1.2 = .tc then {()} else ∅
def lvX : CX → ℕ
  | .inl _ => 1
  | .inr (.inr (.inl _)) => 2
  | .inr (.inr (.inr (.inr (.inl _)))) => 3
  | .inr (.inr (.inr (.inr (.inr (.inr (.inl _)))))) => 4
  | _ => 0
/-- The barrier first, then the landings of the three exchanges in their order; sends and staging at the bottom. -/
def lv (g : GSem nD τ sig) (_ : Unit) : ℕ := match dec g.2 with | some x => lvX x | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (x : CX) (u : Unit) : lv (kcell (c, x)) u = lvX x := by
  show (match dec (csem x) with | some x => lvX x | none => 0) = _
  rw [dec_csem]
theorem lv_none (c : Dev nD) (q : DmaSem sig) (h : q.val < 6) (u : Unit) : lv ((c : Thread nD τ), .dma q) u = 0 := by
  show (match dec (.dma q) with | some x => lvX x | none => 0) = _
  rw [dec_none q h]

/-- Everything owed sits on cells above level `n`. -/
def Above (n : ℕ) (O : CellTallies nD τ sig Unit) : Prop := ∀ (g : GSem nD τ sig) (u : Unit), 0 < O g u → g.1.2 = .tc ∧ n < lv g u

theorem above_zero (n : ℕ) : Above n 0 := fun g u h => absurd h (Nat.lt_irrefl 0)
theorem above_add {n : ℕ} {O P : CellTallies nD τ sig Unit} (hO : Above n O) (hP : Above n P) : Above n (O + P) := by
  intro g u h
  rw [Pi.add_apply, Finsupp.add_apply] at h
  rcases Nat.eq_zero_or_pos (O g u) with h0 | h0
  · rw [h0, Nat.zero_add] at h; exact hP g u h
  · exact hO g u h0
theorem above_sum {n : ℕ} {ι : Type} (s : Finset ι) (O : ι → CellTallies nD τ sig Unit) (h : ∀ i ∈ s, Above n (O i)) : Above n (∑ i ∈ s, O i) := by
  classical
  induction s using Finset.induction_on with
  | empty => rw [Finset.sum_empty]; exact above_zero n
  | insert a s ha ih =>
    rw [Finset.sum_insert ha]
    exact above_add (h a (Finset.mem_insert_self _ _)) (ih fun i hi => h i (Finset.mem_insert_of_mem hi))
theorem above_tally {n : ℕ} (c : Dev nD) (x : CX) (k : ℕ) (h : n < lvX x) : Above n (tallyAt (kcell (c, x)) () k) := by
  intro g u hg
  rw [tallyAt_apply] at hg
  by_cases hh : g = kcell (c, x) ∧ u = ()
  · rw [hh.1]; exact ⟨rfl, by rw [lv_kcell]; exact h⟩
  · rw [if_neg hh] at hg; exact absurd hg (Nat.lt_irrefl 0)
theorem above_mono {n m : ℕ} (hnm : m ≤ n) {O : CellTallies nD τ sig Unit} (h : Above n O) : Above m O :=
  fun g u hg => ⟨(h g u hg).1, lt_of_le_of_lt hnm (h g u hg).2⟩

omit [FloatOps F] in
theorem mayWait_of_above (c : Dev nD) (sm : SemLoc sig) (n : ℕ) (hs : lv ((c : Thread nD τ), sm) () ≤ n) (O : CellTallies nD τ sig Unit) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

/-! ## What a device owes, in the order it pays -/

def dv (e : ℕ) : Fin 8 := ⟨e % 8, Nat.mod_lt _ (by decide)⟩
def rr (t : ℕ) : Fin 4 := ⟨t / 7 % 4, Nat.mod_lt _ (by decide)⟩
/-- The peer of the `t`-th of the 28 key/value transfers. -/
def pk (c : Dev nD) (t : ℕ) : Dev nD := nb c (t % 7 + 1)

def OBar (c : Dev nD) (i : ℕ) : CellTallies nD τ sig Unit := ∑ k ∈ Finset.Ico i 8, tallyAt (bar (nb c k)) () 1
def OKv (c : Dev nD) (t : ℕ) : CellTallies nD τ sig Unit := ∑ t ∈ Finset.Ico t 28, tallyAt (cell (pk c t) (xKvr c (rr t))) () nKv
def ORs (c : Dev nD) (e : ℕ) : CellTallies nD τ sig Unit := ∑ e ∈ Finset.Ico e 8, if dv e = c then 0 else tallyAt (cell (dv e) (xRsr c)) () nRs
def OAg (c : Dev nD) (k : ℕ) : CellTallies nD τ sig Unit := ∑ k ∈ Finset.Ico k 8, tallyAt (cell (nb c k) (xAgr c)) () nAg
def O₀ (c : Dev nD) : CellTallies nD τ sig Unit := OBar c 1 + (OKv c 0 + (ORs c 0 + OAg c 1))

theorem above_OBar (c : Dev nD) (i : ℕ) : Above 0 (OBar c i) := above_sum _ _ fun k _ => above_tally (nb c k) (.inl ()) 1 (by decide)
theorem above_OKv (c : Dev nD) (i : ℕ) : Above 1 (OKv c i) := above_sum _ _ fun t _ => above_tally (pk c t) (.inr (xKvr c (rr t))) _ (by show 1 < 2; decide)
theorem above_ORs (c : Dev nD) (i : ℕ) : Above 2 (ORs c i) := above_sum _ _ fun e _ => by
  split
  · exact above_zero 2
  · exact above_tally (dv e) (.inr (xRsr c)) _ (by show 2 < 3; decide)
theorem above_OAg (c : Dev nD) (i : ℕ) : Above 3 (OAg c i) := above_sum _ _ fun k _ => above_tally (nb c k) (.inr (xAgr c)) _ (by show 3 < 4; decide)

theorem sum_bot {a b : ℕ} (h : a < b) (f : ℕ → CellTallies nD τ sig Unit) : ∑ k ∈ Finset.Ico a b, f k = (∑ k ∈ Finset.Ico (a + 1) b, f k) + f a := by
  have e : Finset.Ico a b = insert a (Finset.Ico (a + 1) b) := by
    ext k; rw [Finset.mem_insert, Finset.mem_Ico, Finset.mem_Ico]; omega
  rw [e, Finset.sum_insert (by rw [Finset.mem_Ico]; omega), add_comm]
theorem OBar_succ (c : Dev nD) (i : ℕ) (h : i < 8) : OBar c i = OBar c (i + 1) + tallyAt (bar (nb c i)) () 1 := by
  unfold OBar; exact sum_bot h _
theorem OKv_succ (c : Dev nD) (i : ℕ) (h : i < 28) : OKv c i = OKv c (i + 1) + tallyAt (cell (pk c i) (xKvr c (rr i))) () nKv := by
  unfold OKv; exact sum_bot h _
theorem ORs_succ (c : Dev nD) (i : ℕ) (h : i < 8) : ORs c i = ORs c (i + 1) + if dv i = c then 0 else tallyAt (cell (dv i) (xRsr c)) () nRs := by
  unfold ORs; exact sum_bot h _
theorem OAg_succ (c : Dev nD) (i : ℕ) (h : i < 8) : OAg c i = OAg c (i + 1) + tallyAt (cell (nb c i) (xAgr c)) () nAg := by
  unfold OAg; exact sum_bot h _
theorem OBar_done (c : Dev nD) : OBar c 8 = 0 := by unfold OBar; rw [Finset.Ico_self, Finset.sum_empty]
theorem OKv_done (c : Dev nD) : OKv c 28 = 0 := by unfold OKv; rw [Finset.Ico_self, Finset.sum_empty]
theorem ORs_done (c : Dev nD) : ORs c 8 = 0 := by unfold ORs; rw [Finset.Ico_self, Finset.sum_empty]
theorem OAg_done (c : Dev nD) : OAg c 8 = 0 := by unfold OAg; rw [Finset.Ico_self, Finset.sum_empty]

end Cert.Attn

end
-- ==== Proof.Steps.lean ====
/-
The protocol's steps: each effect of the body that another device sees, as one rule over the phase it belongs to.
-/
module

public import proofs.«01_k».proof.Proof.Sched
public import Idealize.SL.BI.BigOpNat

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Rounds

variable {F : FTy → Type} [FloatOps F]

local notation "𝕄" => MT nD τ sig Unit (Elt F) ℕ UU ℕ

abbrev 𝒱₀ : Variants := Variants.none

/-- The run of a piece of the body on device `c`. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem W_ret (c : Dev nD) {α : Type} {a : α} {Q : α → sProp 𝕄} : Q a ⊢ W c (.ret a) Q := by
  unfold W; rw [wp_ret]
  iintro H; imodintro; iexact H

variable (I : Dev nD → Ins F) (K : Dev nD × CX → ℕ)

/-- What every device knows: the cells' invariants, that each cell has reached round 0, and the levels. -/
def recs : sProp 𝕄 :=
  iprop((bigSep Finset.univ fun ck : Dev nD × CX => cellInv ER (Rd I) (K ck) (kcell ck))
    ∗ (bigSep Finset.univ fun ck : Dev nD × CX => reached ER (kcell ck) 0) ∗ levAts L lv)

instance recs_persistent : BI.Persistent (recs I K) := by unfold recs; infer_instance

theorem inv_all (ck : Dev nD × CX) :
    (bigSep Finset.univ fun ck : Dev nD × CX => (cellInv ER (Rd I) (K ck) (kcell ck) : sProp 𝕄)) ⊢ cellInv ER (Rd I) (K ck) (kcell ck) :=
  bigSep_elim (Finset.mem_univ ck)
omit [FloatOps F] in
theorem reached_all (ck : Dev nD × CX) :
    (bigSep Finset.univ fun ck : Dev nD × CX => (reached ER (kcell ck) 0 : sProp 𝕄)) ⊢ reached ER (kcell ck) 0 :=
  bigSep_elim (Finset.mem_univ ck)
theorem inv_at (ck : Dev nD × CX) : recs I K ⊢ cellInv ER (Rd I) (K ck) (kcell ck) := by
  unfold recs; iintro ⟨H, -, -⟩; iapply (inv_all I K ck); iexact H
theorem reached_at (ck : Dev nD × CX) : recs I K ⊢ reached ER (kcell ck) 0 := by
  unfold recs; iintro ⟨-, H, -⟩; iapply (reached_all ck); iexact H
theorem lev_at : recs I K ⊢ levAts L lv := by
  unfold recs; iintro ⟨-, -, H⟩; iexact H

def owesE (c : Dev nD) (O : CellTallies nD τ sig Unit) : sProp 𝕄 := iprop(∃ W, owes (c : Thread nD τ) O W)

theorem mem_one (c e : Fin 8) (h : e ≠ c) : (0 : Fin 8) ∈ one c e := by unfold one; rw [if_neg h]; exact Finset.mem_singleton_self _

/-! ## Signals at the barrier -/

/-- The device's turn at the barrier before its `k`-th signal. -/
def SG (c : Dev nD) (k : ℕ) : sProp 𝕄 :=
  iprop(owesE c (OBar c k + (OKv c 0 + (ORs c 0 + OAg c 1)))
    ∗ bigSep (Finset.Ico k 8) fun k => iprop(dutyTok ER (bar (nb c k)) 0 c ∗ barPay (nb c k) c))

theorem step_sig (c n : Dev nD) (k : ℕ) (hn : n = nb c k) (h1 : 1 ≤ k) (h8 : k < 8) (a : ℤ) (ha : a = 1)
    {α : Type} {Q : α → sProp 𝕄} {kt : PUnit → Prog (TpuEff nD τ sig (Elt F) Λ₀ .tc) α} :
    iprop(recs I K ∗ SG c k) ⊢ iprop((SG c (k + 1) -∗ W c (kt ⟨⟩) Q) -∗ W c (.op (.semSignal (n : Thread nD τ) barS a) kt) Q) := by
  subst hn ha
  unfold SG owesE
  rw [bigSep_Ico_succ_bot h8]
  iintro ⟨#HR, ⟨%W, HO⟩, ⟨Htok, Hpay⟩, Hrest⟩ Hk
  have hO : OBar c k + (OKv c 0 + (ORs c 0 + OAg c 1)) = (OBar c (k + 1) + (OKv c 0 + (ORs c 0 + OAg c 1))) + tallyAt (bar (nb c k)) () 1 := by
    rw [OBar_succ c k h8]; exact add_right_comm _ _ _
  have ha : (Rd I).amount (bar (nb c k)) 0 c = 1 := amount_kcell I (nb c k) (.inl ()) 0 c
  have hp : (Rd I).payload (bar (nb c k)) 0 c = barPay (nb c k) c := payload_kcell I (nb c k) (.inl ()) 0 c
  iapply (Rounds.wp_signal 𝒱₀ ER (Rd I) (c : Thread nD τ) none (dst := (nb c k : Thread nD τ)) (κ := K (nb c k, .inl ()))
      (d := c) (by rw [duties_kcell I (nb c k) (.inl ())]; exact Finset.mem_erase.mpr ⟨(nb_ne c k h1 h8).symm, Finset.mem_univ _⟩)
      ha () (OBar c (k + 1) + (OKv c 0 + (ORs c 0 + OAg c 1))) (W := W) hO) $$ [HO Htok Hpay]
  · isplitr; · iapply (inv_at I K (nb c k, .inl ())); iexact HR
    isplitl [HO]; · iexact HO
    isplitl [Htok]; · iexact Htok
    isplitl [Hpay]; · rw [hp]; iexact Hpay
    iapply (reached_at I K (nb c k, .inl ())); iexact HR
  iintro HO
  iapply Hk
  isplitl [HO]; · iexists W; iexact HO
  iexact Hrest

/-! ## Sends -/

theorem send_gen (c n : Dev nD) {sp sp' : Space} {s : Shape} {e : EltTy} {src : Memref sig .tc sp s e} {dst : Memref sig .tc sp' s e}
    {hsc : dst.view.ref.isScScratch = false} {x y : Cx} {ss sr : DmaSem sig} (hss : ss = dsem x) (hsr : sr = dsem y)
    {hsrc : src.view.WordExact} {hdst : dst.view.WordExact} {hsem : DmaTarget.Typed sp (.dma sr) (.remote (n : Thread nD τ) dst (.dma ss) hsc)}
    (hx : 0 ∈ dutX c (.inr x)) (hy : 0 ∈ dutX n (.inr y)) (N : ℕ) (hN : dst.view.dmaCredit = N)
    (ax : amtX (.inr x) = N) (ay : amtX (.inr y) = N) {q : PosShare TreeShare} {fs : Buf (Elt F) (src.view.loc (c : Thread nD τ))} {fd : Buf (Elt F) (dst.view.loc (n : Thread nD τ))}
    {O₀ O : CellTallies nD τ sig Unit} (hO : O₀ = O + tallyAt (cell n y) () N)
    (hp₁ : (src.view.loc (c : Thread nD τ) ↦[src.view.set]{q} fs : sProp 𝕄) ⊢ payX I c 0 (.inr x))
    (hp₂ : (dst.view.loc (n : Thread nD τ) ↦[dst.view.set]{fullShare} (dst.view.write (Elt F) fd (src.view.read (Elt F) fs) Finset.univ) : sProp 𝕄) ⊢ payX I n 0 (.inr y))
    {α : Type} {Q : α → sProp 𝕄} {kt : PUnit → Prog (TpuEff nD τ sig (Elt F) Λ₀ .tc) α} :
    iprop(recs I K ∗ owesE c O₀ ∗ dutyTok ER (cell c x) 0 0 ∗ dutyTok ER (cell n y) 0 0
        ∗ (src.view.loc (c : Thread nD τ) ↦[src.view.set]{q} fs) ∗ (dst.view.loc (n : Thread nD τ) ↦[dst.view.set]{fullShare} fd))
      ⊢ iprop(((cred (tallyAt (cell c x) () N) ∗ owesE c O) -∗ W c (kt ⟨⟩) Q)
        -∗ W c (.op (.enqueueDma src (.remote (n : Thread nD τ) dst (.dma ss) hsc) (.dma sr) hsrc hdst hsem) kt) Q) := by
  subst hss hsr
  unfold owesE
  iintro ⟨#HR, ⟨%W, HO⟩, Ht₁, Ht₂, Hs, Hd⟩ Hk
  have a₁ : (Rd I).amount (cell c x) 0 0 = N := (amount_kcell I c (.inr x) 0 0).trans ax
  have a₂ : (Rd I).amount (cell n y) 0 0 = N := (amount_kcell I n (.inr y) 0 0).trans ay
  have p₁ : (Rd I).payload (cell c x) 0 0 = payX I c 0 (.inr x) := payload_kcell I c (.inr x) 0 0
  have p₂ : (Rd I).payload (cell n y) 0 0 = payX I n 0 (.inr y) := payload_kcell I n (.inr y) 0 0
  have d₁ : 0 ∈ (Rd I).duties (cell c x) 0 := by rw [duties_kcell I c (.inr x)]; exact hx
  have d₂ : 0 ∈ (Rd I).duties (cell n y) 0 := by rw [duties_kcell I n (.inr y)]; exact hy
  rw [← p₁] at hp₁; rw [← p₂] at hp₂
  iapply (Rounds.wp_send_pointsTo 𝒱₀ ER (Rd I) (c : Thread nD τ) none (κ₁ := K (c, .inr x)) (κ₂ := K (n, .inr y)) (r₁ := 0) (r₂ := 0) (d₁ := 0) (d₂ := 0)
      (fs := fs) (fd := fd) (q := q) (sS := osem x) (sem := osem y) d₁ d₂ () () N hN a₁ a₂ O hO (W := W) hp₁ hp₂) $$ [HO Ht₁ Ht₂ Hs Hd]
  · isplitr; · iapply (inv_at I K (c, .inr x)); iexact HR
    isplitr; · iapply (inv_at I K (n, .inr y)); iexact HR
    isplitl [Hs]; · iexact Hs
    isplitl [Hd]; · iexact Hd
    isplitl [HO]; · iexact HO
    isplitl [Ht₁]; · iexact Ht₁
    isplitr; · iapply (reached_at I K (c, .inr x)); iexact HR
    isplitl [Ht₂]; · iexact Ht₂
    iapply (reached_at I K (n, .inr y)); iexact HR
  iintro ⟨Hc, HO⟩
  iapply Hk
  isplitl [Hc]; · iexact Hc
  iexists W; iexact HO

/-! ## Waits -/

/-- Before the wait on cell `x`: its credit tokens, and the device at the start of its only round (a cell that is never paid
    has no tokens). -/
def wTok (c : Dev nD) (x : Cx) : sProp 𝕄 :=
  if dutX c (.inr x) = {0} then iprop(cred (tallyAt (cell c x) () (amtX (.inr x))) ∗ atPos ER (cell c x) 0 ∅ 0) else atPos ER (cell c x) 0 ∅ 0
/-- After it: the round is over and what the cell's payment handed over is here. -/
def wGot (c : Dev nD) (x : Cx) : sProp 𝕄 :=
  if dutX c (.inr x) = {0} then iprop(atPos ER (cell c x) 1 ∅ 0 ∗ payX I c 0 (.inr x)) else atPos ER (cell c x) 0 ∅ 0

theorem wait_gen (c : Dev nD) {x : Cx} {sm : DmaSem sig} (hsm : sm = dsem x) {sp sp' : Space} {s s' : Shape} {e e' : EltTy}
    {src : Memref sig .tc sp' s' e'} {dst : Memref sig .tc sp s e} {hsrc : src.view.WordExact} {hdst : dst.view.WordExact}
    (hd : dutX c (.inr x) = {0}) (hN : dst.view.dmaCredit = amtX (.inr x)) {O : CellTallies nD τ sig Unit} (n : ℕ) (hl : lvX (.inr x) ≤ n) (hO : Above n O)
    {α : Type} {Q : α → sProp 𝕄} {kt : PUnit → Prog (TpuEff nD τ sig (Elt F) Λ₀ .tc) α} :
    iprop(recs I K ∗ owesE c O ∗ wTok c x)
      ⊢ iprop(((owesE c O ∗ wGot I c x) -∗ W c (kt ⟨⟩) Q)
        -∗ W c (.op (.waitDma2 sm src dst hsrc hdst) kt) Q) := by
  subst hsm
  unfold owesE wTok wGot
  rw [if_pos hd, if_pos hd]
  iintro ⟨#HR, ⟨%W, HO⟩, Hc, Hat⟩ Hk
  have he : 0 + dst.view.dmaCredit = (Rd I).expect (cell c x) 0 := by
    rw [Nat.zero_add, hN]; exact (expect_one I c (.inr x) hd).symm
  have hr : bigSep ((Rd I).duties (cell c x) 0 \ ∅) (fun d => (Rd I).payload (cell c x) 0 d) = payX I c 0 (.inr x) := rest_one I c (.inr x) hd
  iapply (Rounds.wp_wait_rest_token 𝒱₀ ER (Rd I) (c : Thread nD τ) none (κ := K (c, .inr x)) (sm := osem x)
      (wpE_waitDma2_eq 𝒱₀ (c : Thread nD τ) none Set.univ) (Set.mem_univ _) () (O := O) (W := W) (R := 0) (m := 0) (T := ∅) he) $$ [HO Hc Hat]
  · isplitr; · iapply (inv_at I K (c, .inr x)); iexact HR
    isplitl [Hc]; · rw [hN]; iexact Hc
    isplitl [HO]; · iexact HO
    isplitr
    · iapply (mayWait_of_above (F := F) c (osem x) n (le_of_eq_of_le (lv_kcell c (.inr x) ()) hl) O hO)
      iapply (lev_at I K); iexact HR
    iexact Hat
  rw [hr]
  iintro ⟨HO, Hat, -, Hpay⟩
  iapply Hk
  isplitl [HO]; · iexists _; iexact HO
  isplitl [Hat]; · iexact Hat
  iexact Hpay

/-- A run of waits in order, `u` the next: tokens of those to come, what those past handed over. -/
def WT (c : Dev nD) (x : ℕ → Cx) (b u e : ℕ) : sProp 𝕄 :=
  iprop((bigSep (Finset.Ico u e) fun u => wTok c (x u)) ∗ bigSep (Finset.Ico b u) fun u => wGot I c (x u))

theorem step_wait (c : Dev nD) (x : ℕ → Cx) (b u e₀ : ℕ) (hb : b ≤ u) (he : u < e₀) {sm : DmaSem sig} (hsm : sm = dsem (x u)) {sp sp' : Space} {s s' : Shape} {e e' : EltTy}
    {src : Memref sig .tc sp' s' e'} {dst : Memref sig .tc sp s e} {hsrc : src.view.WordExact} {hdst : dst.view.WordExact}
    (hd : dutX c (.inr (x u)) = {0}) (hN : dst.view.dmaCredit = amtX (.inr (x u))) {O : CellTallies nD τ sig Unit} (n : ℕ) (hl : lvX (.inr (x u)) ≤ n) (hO : Above n O)
    {α : Type} {Q : α → sProp 𝕄} {kt : PUnit → Prog (TpuEff nD τ sig (Elt F) Λ₀ .tc) α} :
    iprop(recs I K ∗ owesE c O ∗ WT I c x b u e₀)
      ⊢ iprop(((owesE c O ∗ WT I c x b (u + 1) e₀) -∗ W c (kt ⟨⟩) Q)
        -∗ W c (.op (.waitDma2 sm src dst hsrc hdst) kt) Q) := by
  unfold WT
  rw [bigSep_Ico_succ_bot he, bigSep_Ico_succ_top hb]
  iintro ⟨#HR, HO, ⟨Ht, Hr⟩, Hg⟩ Hk
  iapply (wait_gen I K c hsm hd hN n hl hO) $$ [HO Ht]
  · isplitr; · iexact HR
    isplitl [HO]; · iexact HO
    iexact Ht
  iintro ⟨HO, Hn⟩
  iapply Hk
  isplitl [HO]; · iexact HO
  isplitl [Hr]; · iexact Hr
  isplitl [Hn]; · iexact Hn
  iexact Hg

/-- A cell that is never paid is passed over. -/
theorem skip_wait (c : Dev nD) (x : ℕ → Cx) (b u e₀ : ℕ) (hb : b ≤ u) (he : u < e₀) (hd : dutX c (.inr (x u)) = ∅) :
    WT I c x b u e₀ ⊢ WT I c x b (u + 1) e₀ := by
  unfold WT
  rw [bigSep_Ico_succ_bot he, bigSep_Ico_succ_top hb]
  have h : ¬ dutX c (.inr (x u)) = {0} := by rw [hd]; exact fun h => absurd h (Finset.singleton_ne_empty _).symm
  have e : wTok (F := F) c (x u) = wGot I c (x u) := by unfold wTok wGot; rw [if_neg h, if_neg h]
  rw [e]
  iintro ⟨⟨Ht, Hr⟩, Hg⟩
  isplitl [Hr]; · iexact Hr
  isplitl [Ht]; · iexact Ht
  iexact Hg

/-- The wait at the barrier: every peer's three places are handed over. -/
theorem step_bar (c : Dev nD) (a : ℤ) (ha : a = 7) {O : CellTallies nD τ sig Unit} (hO : Above 1 O)
    {α : Type} {Q : α → sProp 𝕄} {kt : PUnit → Prog (TpuEff nD τ sig (Elt F) Λ₀ .tc) α} :
    iprop(recs I K ∗ owesE c O ∗ cred (tallyAt (bar c) () 7) ∗ atPos ER (bar c) 0 ∅ 0)
      ⊢ iprop(((owesE c O ∗ atPos ER (bar c) 1 ∅ 0 ∗ bigSep (Finset.univ.erase c) (fun d => barPay (F := F) c d)) -∗ W c (kt ⟨⟩) Q)
        -∗ W c (.op (.semWait barS a) kt) Q) := by
  subst ha
  unfold owesE
  iintro ⟨#HR, ⟨%W, HO⟩, Hc, Hat⟩ Hk
  have he : 0 + 7 = (Rd I).expect (bar c) 0 := (expect_bar I c).symm
  have hr : bigSep ((Rd I).duties (bar c) 0 \ ∅) (fun d => (Rd I).payload (bar c) 0 d) = bigSep (Finset.univ.erase c) (fun d => barPay c d) := rest_bar I c
  iapply (Rounds.wp_wait_rest_token 𝒱₀ ER (Rd I) (c : Thread nD τ) none (κ := K (c, .inl ())) (sm := .reg barS) (k' := 7)
      (wpE_semWait_eq 𝒱₀ (c : Thread nD τ) none Set.univ) (Set.mem_univ _) () (O := O) (W := W) (R := 0) (m := 0) (T := ∅) he) $$ [HO Hc Hat]
  · isplitr; · iapply (inv_at I K (c, .inl ())); iexact HR
    isplitl [Hc]; · iexact Hc
    isplitl [HO]; · iexact HO
    isplitr
    · iapply (mayWait_of_above (F := F) c (.reg barS) 1 (le_of_eq (lv_kcell c (.inl ()) ())) O hO)
      iapply (lev_at I K); iexact HR
    iexact Hat
  rw [hr]
  iintro ⟨HO, Hat, -, Hpay⟩
  iapply Hk
  isplitl [HO]; · iexists _; iexact HO
  isplitl [Hat]; · iexact Hat
  iexact Hpay

/-! ## The three exchanges' sends, in program order -/

theorem pk_ne (c : Dev nD) (t : ℕ) : pk c t ≠ c := nb_ne c _ (by omega) (by omega)

/-- What the `t`-th key/value send needs, and what it leaves to wait for. -/
def kvTok (c : Dev nD) (t : ℕ) : sProp 𝕄 :=
  iprop(dutyTok ER (cell c (xKvs (pk c t) (rr t))) 0 0 ∗ dutyTok ER (cell (pk c t) (xKvr c (rr t))) 0 0
    ∗ pKvst c (kvstS (pk c t) (rr t)) (KVST I c) ∗ ∃ f, pKvg (pk c t) (kvgS c (rr t)) f)
def kvCred (c : Dev nD) (t : ℕ) : sProp 𝕄 := cred (tallyAt (cell c (xKvs (pk c t) (rr t))) () nKv)
def KVS (c : Dev nD) (t : ℕ) : sProp 𝕄 :=
  iprop((bigSep (Finset.Ico t 28) fun t => kvTok I c t) ∗ bigSep (Finset.Ico 0 t) fun t => kvCred (F := F) c t)

theorem step_kv (c n : Dev nD) (t : ℕ) (ht : t < 28) (hn : n = pk c t) {off : Fin 5 → ℕ} {off₆ : Fin 6 → ℕ} {inb} {inb'}
    (hs : off = ![0, 0, 4 * (pk c t).val, 64 * (rr t).val, 0]) (hd : off₆ = ![0, 0, 0, c.val, 64 * (rr t).val, 0])
    {ss sr : DmaSem sig} (hss : ss = dsem (xKvs (pk c t) (rr t))) (hsr : sr = dsem (xKvr c (rr t)))
    {hsc : (kvgM off₆ inb').view.ref.isScScratch = false} {hsrc : (kvstM off inb).view.WordExact} {hdst : (kvgM off₆ inb').view.WordExact}
    {hsem : DmaTarget.Typed .vmem (.dma sr) (.remote (n : Thread nD τ) (kvgM off₆ inb') (.dma ss) hsc)} (O : CellTallies nD τ sig Unit)
    {α : Type} {Q : α → sProp 𝕄} {kt : PUnit → Prog (TpuEff nD τ sig (Elt F) Λ₀ .tc) α} :
    iprop(recs I K ∗ owesE c (OKv c t + O) ∗ KVS I c t)
      ⊢ iprop(((owesE c (OKv c (t + 1) + O) ∗ KVS I c (t + 1)) -∗ W c (kt ⟨⟩) Q)
        -∗ W c (.op (.enqueueDma (kvstM off inb) (.remote (n : Thread nD τ) (kvgM off₆ inb') (.dma ss) hsc) (.dma sr) hsrc hdst hsem) kt) Q) := by
  subst hn
  unfold KVS
  rw [bigSep_Ico_succ_bot ht, bigSep_Ico_succ_top (Nat.zero_le t)]
  iintro ⟨#HR, HO, ⟨Ht, Hr⟩, Hg⟩ Hk
  unfold kvTok
  icases Ht with ⟨Ht₁, Ht₂, Hs, ⟨%fd, Hd⟩⟩
  have es := set_kvst (off := off) inb (pk c t) (rr t) hs
  have ed := set_kvg (off₆ := off₆) inb' c (rr t) hd
  have hs' : pKvst c (kvstS (pk c t) (rr t)) (KVST I c) = ((kvstM off inb).view.loc (c : Thread nD τ) ↦[(kvstM off inb).view.set]{fullShare} KVST I c : sProp 𝕄) := by rw [es]; rfl
  have hd' : pKvg (pk c t) (kvgS c (rr t)) fd = ((kvgM off₆ inb').view.loc (pk c t : Thread nD τ) ↦[(kvgM off₆ inb').view.set]{fullShare} fd : sProp 𝕄) := by rw [ed]; rfl
  iapply (send_gen (F := F) I K c (pk c t) (x := xKvs (pk c t) (rr t)) (y := xKvr c (rr t)) hss hsr (mem_one c _ (pk_ne c t)) (mem_one _ c (pk_ne c t).symm) nKv rfl rfl rfl
    (src := kvstM off inb) (dst := kvgM off₆ inb') (q := fullShare) (fs := KVST I c) (fd := fd)
    (O₀ := OKv c t + O) (O := OKv c (t + 1) + O) (by rw [OKv_succ c t ht]; exact add_right_comm _ _ _)
    (by rw [es]; exact BIBase.Entails.rfl)
    (by
      rw [ed]
      refine BIBase.Entails.of_eq (pointsTo_congr ?_)
      exact land_kv I (pk c t) c (rr t) inb inb' hs hd fd)) $$ [HO Ht₁ Ht₂ Hs Hd]
  · isplitr; · iexact HR
    isplitl [HO]; · iexact HO
    isplitl [Ht₁]; · iexact Ht₁
    isplitl [Ht₂]; · iexact Ht₂
    isplitl [Hs]; · iapply (BIBase.Entails.of_eq hs'); iexact Hs
    iapply (BIBase.Entails.of_eq hd'); iexact Hd
  iintro ⟨Hc, HO⟩
  iapply Hk
  unfold kvCred
  isplitl [HO]; · iexact HO
  isplitl [Hr]; · iexact Hr
  isplitl [Hc]; · iexact Hc
  iexact Hg

/-- What the send of rows `32e … 32e+31` to device `e` needs (nothing on device `e` itself), and what it leaves. -/
def rsTok (c : Dev nD) (e : ℕ) : sProp 𝕄 :=
  if dv e = c then iprop(emp) else
  iprop(dutyTok ER (cell c (xRss (dv e))) 0 0 ∗ dutyTok ER (cell (dv e) (xRsr c)) 0 0 ∗ ∃ f, pRsb (dv e) (rsbS c) f)
def rsCred (c : Dev nD) (e : ℕ) : sProp 𝕄 :=
  if dv e = c then pPbf c (rowS (dv e)) (PBF I c) else cred (tallyAt (cell c (xRss (dv e))) () nRs)
def RSS (c : Dev nD) (e : ℕ) : sProp 𝕄 :=
  iprop((bigSep (Finset.Ico e 8) fun e => rsTok (F := F) c e) ∗ bigSep (Finset.Ico 0 e) fun e => rsCred I c e)

theorem step_rs (c n : Dev nD) (e : ℕ) (he : e < 8) (hec : dv e ≠ c) (hn : n = dv e) {off₃ : Fin 3 → ℕ} {off₄ : Fin 4 → ℕ} {inb} {inb'}
    (hs : off₃ = ![0, 32 * (dv e).val, 0]) (hd : off₄ = ![c.val, 0, 0, 0])
    {ss sr : DmaSem sig} (hss : ss = dsem (xRss (dv e))) (hsr : sr = dsem (xRsr c))
    {hsc : (rsbM off₄ inb').view.ref.isScScratch = false} {hsrc : (pbfM off₃ inb).view.WordExact} {hdst : (rsbM off₄ inb').view.WordExact}
    {hsem : DmaTarget.Typed .vmem (.dma sr) (.remote (n : Thread nD τ) (rsbM off₄ inb') (.dma ss) hsc)} (O : CellTallies nD τ sig Unit)
    {α : Type} {Q : α → sProp 𝕄} {kt : PUnit → Prog (TpuEff nD τ sig (Elt F) Λ₀ .tc) α} :
    iprop(recs I K ∗ owesE c (ORs c e + O) ∗ RSS I c e ∗ pPbf c (rowS (dv e)) (PBF I c))
      ⊢ iprop(((owesE c (ORs c (e + 1) + O) ∗ RSS I c (e + 1)) -∗ W c (kt ⟨⟩) Q)
        -∗ W c (.op (.enqueueDma (pbfM off₃ inb) (.remote (n : Thread nD τ) (rsbM off₄ inb') (.dma ss) hsc) (.dma sr) hsrc hdst hsem) kt) Q) := by
  subst hn
  unfold RSS
  rw [bigSep_Ico_succ_bot he, bigSep_Ico_succ_top (Nat.zero_le e)]
  have eT : rsTok (F := F) c e = iprop(dutyTok ER (cell c (xRss (dv e))) 0 0 ∗ dutyTok ER (cell (dv e) (xRsr c)) 0 0 ∗ ∃ f, pRsb (dv e) (rsbS c) f) := if_neg hec
  have eC : rsCred I c e = cred (tallyAt (cell c (xRss (dv e))) () nRs) := if_neg hec
  rw [eT, eC]
  iintro ⟨#HR, HO, ⟨⟨Ht, Hr⟩, Hg⟩, Hs⟩ Hk
  icases Ht with ⟨Ht₁, Ht₂, ⟨%fd, Hd⟩⟩
  have es := set_pbf (off₃ := off₃) inb (dv e) hs
  have ed := set_rsb (off₄ := off₄) inb' c hd
  have hs' : pPbf c (rowS (dv e)) (PBF I c) = ((pbfM off₃ inb).view.loc (c : Thread nD τ) ↦[(pbfM off₃ inb).view.set]{fullShare} PBF I c : sProp 𝕄) := by rw [es]; rfl
  have hd' : pRsb (dv e) (rsbS c) fd = ((rsbM off₄ inb').view.loc (dv e : Thread nD τ) ↦[(rsbM off₄ inb').view.set]{fullShare} fd : sProp 𝕄) := by rw [ed]; rfl
  iapply (send_gen (F := F) I K c (dv e) (x := xRss (dv e)) (y := xRsr c) hss hsr (mem_one c _ hec) (mem_one _ c (Ne.symm hec)) nRs rfl rfl rfl
    (src := pbfM off₃ inb) (dst := rsbM off₄ inb') (q := fullShare) (fs := PBF I c) (fd := fd)
    (O₀ := ORs c e + O) (O := ORs c (e + 1) + O) (by rw [ORs_succ c e he, if_neg hec]; exact add_right_comm _ _ _)
    (by rw [es]; exact BIBase.Entails.rfl)
    (by
      rw [ed]
      refine BIBase.Entails.of_eq (pointsTo_congr ?_)
      exact land_rs I (dv e) c inb inb' hs hd fd)) $$ [HO Ht₁ Ht₂ Hs Hd]
  · isplitr; · iexact HR
    isplitl [HO]; · iexact HO
    isplitl [Ht₁]; · iexact Ht₁
    isplitl [Ht₂]; · iexact Ht₂
    isplitl [Hs]; · iapply (BIBase.Entails.of_eq hs'); iexact Hs
    iapply (BIBase.Entails.of_eq hd'); iexact Hd
  iintro ⟨Hc, HO⟩
  iapply Hk
  isplitl [HO]; · iexact HO
  isplitl [Hr]; · iexact Hr
  isplitl [Hc]; · iexact Hc
  iexact Hg

/-- The device's own rows are not sent. -/
theorem skip_rs (c : Dev nD) (e : ℕ) (he : e < 8) (hec : dv e = c) (O : CellTallies nD τ sig Unit) :
    iprop(owesE c (ORs c e + O) ∗ RSS I c e ∗ pPbf c (rowS (dv e)) (PBF I c)) ⊢ iprop(owesE c (ORs c (e + 1) + O) ∗ RSS I c (e + 1)) := by
  unfold RSS
  rw [bigSep_Ico_succ_bot he, bigSep_Ico_succ_top (Nat.zero_le e), ORs_succ c e he, if_pos hec, add_zero]
  iintro ⟨HO, ⟨⟨Ht, Hr⟩, Hg⟩, Hs⟩
  have eC : rsCred I c e = pPbf c (rowS (dv e)) (PBF I c) := if_pos hec
  rw [eC]
  isplitl [HO]; · iexact HO
  isplitl [Hr]; · iexact Hr
  isplitl [Hs]; · iexact Hs
  iexact Hg

/-- What the `k`-th gather send needs, and what it leaves. -/
def agTok (c : Dev nD) (k : ℕ) : sProp 𝕄 :=
  iprop(dutyTok ER (cell c (xAgs (nb c k))) 0 0 ∗ dutyTok ER (cell (nb c k) (xAgr c)) 0 0
    ∗ pAgg c (rowS c) (shr k) (AGG I) ∗ ∃ f, pAgg (nb c k) (rowS c) fullShare f)
def agCred (c : Dev nD) (k : ℕ) : sProp 𝕄 := cred (tallyAt (cell c (xAgs (nb c k))) () nAg)
def AGS (c : Dev nD) (k : ℕ) : sProp 𝕄 :=
  iprop((bigSep (Finset.Ico k 8) fun k => agTok I c k) ∗ bigSep (Finset.Ico 1 k) fun k => agCred (F := F) c k)

theorem step_ag (c n : Dev nD) (k : ℕ) (h1 : 1 ≤ k) (h8 : k < 8) (hn : n = nb c k) {off₃ : Fin 3 → ℕ} {inb} {inb'}
    (hs : off₃ = ![0, 32 * c.val, 0]) {ss sr : DmaSem sig} (hss : ss = dsem (xAgs (nb c k))) (hsr : sr = dsem (xAgr c))
    {hsc : (aggM off₃ inb').view.ref.isScScratch = false} {hsrc : (aggM off₃ inb).view.WordExact} {hdst : (aggM off₃ inb').view.WordExact}
    {hsem : DmaTarget.Typed .vmem (.dma sr) (.remote (n : Thread nD τ) (aggM off₃ inb') (.dma ss) hsc)}
    {α : Type} {Q : α → sProp 𝕄} {kt : PUnit → Prog (TpuEff nD τ sig (Elt F) Λ₀ .tc) α} :
    iprop(recs I K ∗ owesE c (OAg c k) ∗ AGS I c k)
      ⊢ iprop(((owesE c (OAg c (k + 1)) ∗ AGS I c (k + 1)) -∗ W c (kt ⟨⟩) Q)
        -∗ W c (.op (.enqueueDma (aggM off₃ inb) (.remote (n : Thread nD τ) (aggM off₃ inb') (.dma ss) hsc) (.dma sr) hsrc hdst hsem) kt) Q) := by
  subst hn
  unfold AGS
  rw [bigSep_Ico_succ_bot h8, bigSep_Ico_succ_top h1]
  iintro ⟨#HR, HO, ⟨Ht, Hr⟩, Hg⟩ Hk
  unfold agTok
  icases Ht with ⟨Ht₁, Ht₂, Hs, ⟨%fd, Hd⟩⟩
  have es := set_agg (off₃ := off₃) inb c hs
  have hs' : pAgg c (rowS c) (shr k) (AGG I) = ((aggM off₃ inb).view.loc (c : Thread nD τ) ↦[(aggM off₃ inb).view.set]{shr k} AGG I : sProp 𝕄) := by rw [es]; rfl
  have hd' : pAgg (nb c k) (rowS c) fullShare fd = ((aggM off₃ inb').view.loc (nb c k : Thread nD τ) ↦[(aggM off₃ inb').view.set]{fullShare} fd : sProp 𝕄) := by rw [es]; rfl
  have hne := nb_ne c k h1 h8
  have hpx : payX I c 0 (.inr (xAgs (nb c k))) = pAgg c (rowS c) (shr k) (AGG I) := by
    show pAgg c (rowS c) (shr (dist c (nb c k))) (AGG I) = _
    rw [dist_nb c k h8]
  iapply (send_gen (F := F) I K c (nb c k) (x := xAgs (nb c k)) (y := xAgr c) hss hsr (mem_one c _ hne) (mem_one _ c hne.symm) nAg rfl rfl rfl
    (src := aggM off₃ inb) (dst := aggM off₃ inb') (q := shr k) (fs := AGG I) (fd := fd)
    (O₀ := OAg c k) (O := OAg c (k + 1)) (OAg_succ c k h8)
    (by rw [es, hpx]; exact BIBase.Entails.rfl)
    (by
      rw [es]
      refine BIBase.Entails.of_eq (pointsTo_congr ?_)
      exact land_ag I c inb inb' hs fd)) $$ [HO Ht₁ Ht₂ Hs Hd]
  · isplitr; · iexact HR
    isplitl [HO]; · iexact HO
    isplitl [Ht₁]; · iexact Ht₁
    isplitl [Ht₂]; · iexact Ht₂
    isplitl [Hs]; · iapply (BIBase.Entails.of_eq hs'); iexact Hs
    iapply (BIBase.Entails.of_eq hd'); iexact Hd
  iintro ⟨Hc, HO⟩
  iapply Hk
  unfold agCred
  isplitl [HO]; · iexact HO
  isplitl [Hr]; · iexact Hr
  isplitl [Hc]; · iexact Hc
  iexact Hg

/-! ## The local copy -/

theorem step_loc (c : Dev nD) {off : Fin 5 → ℕ} {off₆ : Fin 6 → ℕ} {inb} {inb'} (hs : off = ![0, 0, 4 * c.val, 0, 0]) (hd : off₆ = ![0, 0, 0, c.val, 0, 0])
    {sr : DmaSem sig} (hsr : sr = dsem xLoc) {hsrc : (kvstHM off inb).view.WordExact} {hdst : (kvgSlotM off₆ inb').view.WordExact}
    {hsem : DmaTarget.Typed (nD := nD) .vmem (.dma sr) (DmaTarget.here (p := (Proc.tc : Proc τ)) (kvgSlotM off₆ inb'))}
    {α : Type} {Q : α → sProp 𝕄} {kt : PUnit → Prog (TpuEff nD τ sig (Elt F) Λ₀ .tc) α} :
    iprop(recs I K ∗ dutyTok ER (cell c xLoc) 0 0 ∗ pKvst c (kvstH c) (KVST I c) ∗ (∃ f, pKvg c (kvgSlot c) f))
      ⊢ iprop((cred (tallyAt (cell c xLoc) () nLoc) -∗ W c (kt ⟨⟩) Q)
        -∗ W c (.op (.enqueueDma (kvstHM off inb) (DmaTarget.here (p := (Proc.tc : Proc τ)) (kvgSlotM off₆ inb')) (.dma sr) hsrc hdst hsem) kt) Q) := by
  subst hsr
  iintro ⟨#HR, Ht, Hs, ⟨%fd, Hd⟩⟩ Hk
  have es := set_kvstH (off := off) inb c hs
  have ed := set_kvgSlot (off₆ := off₆) inb' c hd
  have hs' : pKvst c (kvstH c) (KVST I c) = ((kvstHM off inb).view.loc (c : Thread nD τ) ↦[(kvstHM off inb).view.set]{fullShare} KVST I c : sProp 𝕄) := by rw [es]; rfl
  have hd' : pKvg c (kvgSlot c) fd = ((kvgSlotM off₆ inb').view.loc (c : Thread nD τ) ↦[(kvgSlotM off₆ inb').view.set]{fullShare} fd : sProp 𝕄) := by rw [ed]; rfl
  have a₁ : (Rd I).amount (cell c xLoc) 0 0 = nLoc := amount_kcell I c (.inr xLoc) 0 0
  have p₁ : (Rd I).payload (cell c xLoc) 0 0 = iprop(pKvg c (kvgSlot c) (KVG I c) ∗ pKvst c (kvstH c) (KVST I c)) := payload_kcell I c (.inr xLoc) 0 0
  have d₁ : 0 ∈ (Rd I).duties (cell c xLoc) 0 := by rw [duties_kcell I c (.inr xLoc)]; exact Finset.mem_singleton_self _
  iapply (Rounds.wp_copy_pointsTo 𝒱₀ ER (Rd I) (c : Thread nD τ) none (κ := K (c, .inr xLoc)) (r := 0) (d := 0) (fs := KVST I c) (fd := fd) (q := fullShare)
      (src := kvstHM off inb) (dst := kvgSlotM off₆ inb') (sem := osem xLoc) d₁ () nLoc rfl a₁
      (by
        rw [p₁, es, ed]
        refine sep_mono ?_ BIBase.Entails.rfl
        refine BIBase.Entails.of_eq (pointsTo_congr ?_)
        exact land_loc I c inb inb' hs hd fd)) $$ [Ht Hs Hd]
  · isplitr; · iapply (inv_at I K (c, .inr xLoc)); iexact HR
    isplitl [Hs]; · iapply (BIBase.Entails.of_eq hs'); iexact Hs
    isplitl [Hd]; · iapply (BIBase.Entails.of_eq hd'); iexact Hd
    isplitl [Ht]; · iexact Ht
    iapply (reached_at I K (c, .inr xLoc)); iexact HR
  iexact Hk

end Cert.Attn

end
-- ==== Proof.Offs.lean ====
/-
The devices and places the kernel's text names, as functions of the device.
-/
module

public import proofs.«01_k».proof.Proof.Steps

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## Peers -/

theorem dv1 (c : Dev nD) : (⟨k0_dev1 c, k0_dev1_lt c⟩ : Dev nD) = nb c 1 := by revert c; decide +kernel
theorem dv2 (c : Dev nD) : (⟨k0_dev2 c, k0_dev2_lt c⟩ : Dev nD) = nb c 2 := by revert c; decide +kernel
theorem dv3 (c : Dev nD) : (⟨k0_dev3 c, k0_dev3_lt c⟩ : Dev nD) = nb c 3 := by revert c; decide +kernel
theorem dv4 (c : Dev nD) : (⟨k0_dev4 c, k0_dev4_lt c⟩ : Dev nD) = nb c 4 := by revert c; decide +kernel
theorem dv5 (c : Dev nD) : (⟨k0_dev5 c, k0_dev5_lt c⟩ : Dev nD) = nb c 5 := by revert c; decide +kernel
theorem dv6 (c : Dev nD) : (⟨k0_dev6 c, k0_dev6_lt c⟩ : Dev nD) = nb c 6 := by revert c; decide +kernel
theorem dv7 (c : Dev nD) : (⟨k0_dev7 c, k0_dev7_lt c⟩ : Dev nD) = nb c 7 := by revert c; decide +kernel
theorem dv8 (c : Dev nD) : (⟨k0_dev8 c, k0_dev8_lt c⟩ : Dev nD) = pk c 0 := by revert c; decide +kernel
theorem dv9 (c : Dev nD) : (⟨k0_dev9 c, k0_dev9_lt c⟩ : Dev nD) = pk c 1 := by revert c; decide +kernel
theorem dv10 (c : Dev nD) : (⟨k0_dev10 c, k0_dev10_lt c⟩ : Dev nD) = pk c 2 := by revert c; decide +kernel
theorem dv11 (c : Dev nD) : (⟨k0_dev11 c, k0_dev11_lt c⟩ : Dev nD) = pk c 3 := by revert c; decide +kernel
theorem dv12 (c : Dev nD) : (⟨k0_dev12 c, k0_dev12_lt c⟩ : Dev nD) = pk c 4 := by revert c; decide +kernel
theorem dv13 (c : Dev nD) : (⟨k0_dev13 c, k0_dev13_lt c⟩ : Dev nD) = pk c 5 := by revert c; decide +kernel
theorem dv14 (c : Dev nD) : (⟨k0_dev14 c, k0_dev14_lt c⟩ : Dev nD) = pk c 6 := by revert c; decide +kernel
theorem dv15 (c : Dev nD) : (⟨k0_dev15 c, k0_dev15_lt c⟩ : Dev nD) = pk c 7 := by revert c; decide +kernel
theorem dv16 (c : Dev nD) : (⟨k0_dev16 c, k0_dev16_lt c⟩ : Dev nD) = pk c 8 := by revert c; decide +kernel
theorem dv17 (c : Dev nD) : (⟨k0_dev17 c, k0_dev17_lt c⟩ : Dev nD) = pk c 9 := by revert c; decide +kernel
theorem dv18 (c : Dev nD) : (⟨k0_dev18 c, k0_dev18_lt c⟩ : Dev nD) = pk c 10 := by revert c; decide +kernel
theorem dv19 (c : Dev nD) : (⟨k0_dev19 c, k0_dev19_lt c⟩ : Dev nD) = pk c 11 := by revert c; decide +kernel
theorem dv20 (c : Dev nD) : (⟨k0_dev20 c, k0_dev20_lt c⟩ : Dev nD) = pk c 12 := by revert c; decide +kernel
theorem dv21 (c : Dev nD) : (⟨k0_dev21 c, k0_dev21_lt c⟩ : Dev nD) = pk c 13 := by revert c; decide +kernel
theorem dv22 (c : Dev nD) : (⟨k0_dev22 c, k0_dev22_lt c⟩ : Dev nD) = pk c 14 := by revert c; decide +kernel
theorem dv23 (c : Dev nD) : (⟨k0_dev23 c, k0_dev23_lt c⟩ : Dev nD) = pk c 15 := by revert c; decide +kernel
theorem dv24 (c : Dev nD) : (⟨k0_dev24 c, k0_dev24_lt c⟩ : Dev nD) = pk c 16 := by revert c; decide +kernel
theorem dv25 (c : Dev nD) : (⟨k0_dev25 c, k0_dev25_lt c⟩ : Dev nD) = pk c 17 := by revert c; decide +kernel
theorem dv26 (c : Dev nD) : (⟨k0_dev26 c, k0_dev26_lt c⟩ : Dev nD) = pk c 18 := by revert c; decide +kernel
theorem dv27 (c : Dev nD) : (⟨k0_dev27 c, k0_dev27_lt c⟩ : Dev nD) = pk c 19 := by revert c; decide +kernel
theorem dv28 (c : Dev nD) : (⟨k0_dev28 c, k0_dev28_lt c⟩ : Dev nD) = pk c 20 := by revert c; decide +kernel
theorem dv29 (c : Dev nD) : (⟨k0_dev29 c, k0_dev29_lt c⟩ : Dev nD) = pk c 21 := by revert c; decide +kernel
theorem dv30 (c : Dev nD) : (⟨k0_dev30 c, k0_dev30_lt c⟩ : Dev nD) = pk c 22 := by revert c; decide +kernel
theorem dv31 (c : Dev nD) : (⟨k0_dev31 c, k0_dev31_lt c⟩ : Dev nD) = pk c 23 := by revert c; decide +kernel
theorem dv32 (c : Dev nD) : (⟨k0_dev32 c, k0_dev32_lt c⟩ : Dev nD) = pk c 24 := by revert c; decide +kernel
theorem dv33 (c : Dev nD) : (⟨k0_dev33 c, k0_dev33_lt c⟩ : Dev nD) = pk c 25 := by revert c; decide +kernel
theorem dv34 (c : Dev nD) : (⟨k0_dev34 c, k0_dev34_lt c⟩ : Dev nD) = pk c 26 := by revert c; decide +kernel
theorem dv35 (c : Dev nD) : (⟨k0_dev35 c, k0_dev35_lt c⟩ : Dev nD) = pk c 27 := by revert c; decide +kernel
theorem dv44 (c : Dev nD) : (⟨k0_dev44 c, k0_dev44_lt c⟩ : Dev nD) = nb c 1 := by revert c; decide +kernel
theorem dv45 (c : Dev nD) : (⟨k0_dev45 c, k0_dev45_lt c⟩ : Dev nD) = nb c 2 := by revert c; decide +kernel
theorem dv46 (c : Dev nD) : (⟨k0_dev46 c, k0_dev46_lt c⟩ : Dev nD) = nb c 3 := by revert c; decide +kernel
theorem dv47 (c : Dev nD) : (⟨k0_dev47 c, k0_dev47_lt c⟩ : Dev nD) = nb c 4 := by revert c; decide +kernel
theorem dv48 (c : Dev nD) : (⟨k0_dev48 c, k0_dev48_lt c⟩ : Dev nD) = nb c 5 := by revert c; decide +kernel
theorem dv49 (c : Dev nD) : (⟨k0_dev49 c, k0_dev49_lt c⟩ : Dev nD) = nb c 6 := by revert c; decide +kernel
theorem dv50 (c : Dev nD) : (⟨k0_dev50 c, k0_dev50_lt c⟩ : Dev nD) = nb c 7 := by revert c; decide +kernel
theorem dv36 (c : Dev nD) (h : k0_cond1 c = 1#1) : (⟨k0_dev36, k0_dev36_lt c h⟩ : Dev nD) = dv 0 := by revert c; decide +kernel
theorem dv37 (c : Dev nD) (h : k0_cond2 c = 1#1) : (⟨k0_dev37, k0_dev37_lt c h⟩ : Dev nD) = dv 1 := by revert c; decide +kernel
theorem dv38 (c : Dev nD) (h : k0_cond3 c = 1#1) : (⟨k0_dev38, k0_dev38_lt c h⟩ : Dev nD) = dv 2 := by revert c; decide +kernel
theorem dv39 (c : Dev nD) (h : k0_cond4 c = 1#1) : (⟨k0_dev39, k0_dev39_lt c h⟩ : Dev nD) = dv 3 := by revert c; decide +kernel
theorem dv40 (c : Dev nD) (h : k0_cond5 c = 1#1) : (⟨k0_dev40, k0_dev40_lt c h⟩ : Dev nD) = dv 4 := by revert c; decide +kernel
theorem dv41 (c : Dev nD) (h : k0_cond6 c = 1#1) : (⟨k0_dev41, k0_dev41_lt c h⟩ : Dev nD) = dv 5 := by revert c; decide +kernel
theorem dv42 (c : Dev nD) (h : k0_cond7 c = 1#1) : (⟨k0_dev42, k0_dev42_lt c h⟩ : Dev nD) = dv 6 := by revert c; decide +kernel
theorem dv43 (c : Dev nD) (h : k0_cond8 c = 1#1) : (⟨k0_dev43, k0_dev43_lt c h⟩ : Dev nD) = dv 7 := by revert c; decide +kernel

/-! ## Which rows are the device's own -/

theorem cd1 (c : Dev nD) : k0_cond1 c = 1#1 ↔ dv 0 ≠ c := by revert c; decide +kernel
theorem cd9 (c : Dev nD) : k0_cond9 c = 1#1 ↔ dv 0 ≠ c := by revert c; decide +kernel
theorem cd2 (c : Dev nD) : k0_cond2 c = 1#1 ↔ dv 1 ≠ c := by revert c; decide +kernel
theorem cd10 (c : Dev nD) : k0_cond10 c = 1#1 ↔ dv 1 ≠ c := by revert c; decide +kernel
theorem cd3 (c : Dev nD) : k0_cond3 c = 1#1 ↔ dv 2 ≠ c := by revert c; decide +kernel
theorem cd11 (c : Dev nD) : k0_cond11 c = 1#1 ↔ dv 2 ≠ c := by revert c; decide +kernel
theorem cd4 (c : Dev nD) : k0_cond4 c = 1#1 ↔ dv 3 ≠ c := by revert c; decide +kernel
theorem cd12 (c : Dev nD) : k0_cond12 c = 1#1 ↔ dv 3 ≠ c := by revert c; decide +kernel
theorem cd5 (c : Dev nD) : k0_cond5 c = 1#1 ↔ dv 4 ≠ c := by revert c; decide +kernel
theorem cd13 (c : Dev nD) : k0_cond13 c = 1#1 ↔ dv 4 ≠ c := by revert c; decide +kernel
theorem cd6 (c : Dev nD) : k0_cond6 c = 1#1 ↔ dv 5 ≠ c := by revert c; decide +kernel
theorem cd14 (c : Dev nD) : k0_cond14 c = 1#1 ↔ dv 5 ≠ c := by revert c; decide +kernel
theorem cd7 (c : Dev nD) : k0_cond7 c = 1#1 ↔ dv 6 ≠ c := by revert c; decide +kernel
theorem cd15 (c : Dev nD) : k0_cond15 c = 1#1 ↔ dv 6 ≠ c := by revert c; decide +kernel
theorem cd8 (c : Dev nD) : k0_cond8 c = 1#1 ↔ dv 7 ≠ c := by revert c; decide +kernel
theorem cd16 (c : Dev nD) : k0_cond16 c = 1#1 ↔ dv 7 ≠ c := by revert c; decide +kernel

/-! ## Places, by peer -/

theorem of3 (c : Dev nD) (k : ℕ) (h1 : 1 ≤ k) (h : k < 8) : k0_off3 c (BitVec.ofNat 32 k) = ![(nb c k).val, (0 : Fin 4).val] :=
  (by decide +kernel : ∀ (c : Dev nD) (k : Fin 8), 1 ≤ k.val → k0_off3 c (BitVec.ofNat 32 k.val) = ![(nb c k.val).val, (0 : Fin 4).val]) c ⟨k, h⟩ h1
theorem of6 (c : Dev nD) (k : ℕ) (h1 : 1 ≤ k) (h : k < 8) : k0_off6 c (BitVec.ofNat 32 k) = ![0, 0, 4 * (nb c k).val, 64 * (0 : Fin 4).val, 0] :=
  (by decide +kernel : ∀ (c : Dev nD) (k : Fin 8), 1 ≤ k.val → k0_off6 c (BitVec.ofNat 32 k.val) = ![0, 0, 4 * (nb c k.val).val, 64 * (0 : Fin 4).val, 0]) c ⟨k, h⟩ h1
theorem of19 (c : Dev nD) (k : ℕ) (h1 : 1 ≤ k) (h : k < 8) : k0_off19 c (BitVec.ofNat 32 k) = ![0, 0, 0, (nb c k).val, 64 * (0 : Fin 4).val, 0] :=
  (by decide +kernel : ∀ (c : Dev nD) (k : Fin 8), 1 ≤ k.val → k0_off19 c (BitVec.ofNat 32 k.val) = ![0, 0, 0, (nb c k.val).val, 64 * (0 : Fin 4).val, 0]) c ⟨k, h⟩ h1
theorem of7 (c : Dev nD) (k : ℕ) (h1 : 1 ≤ k) (h : k < 8) : k0_off7 c (BitVec.ofNat 32 k) = ![(nb c k).val, (1 : Fin 4).val] :=
  (by decide +kernel : ∀ (c : Dev nD) (k : Fin 8), 1 ≤ k.val → k0_off7 c (BitVec.ofNat 32 k.val) = ![(nb c k.val).val, (1 : Fin 4).val]) c ⟨k, h⟩ h1
theorem of10 (c : Dev nD) (k : ℕ) (h1 : 1 ≤ k) (h : k < 8) : k0_off10 c (BitVec.ofNat 32 k) = ![0, 0, 4 * (nb c k).val, 64 * (1 : Fin 4).val, 0] :=
  (by decide +kernel : ∀ (c : Dev nD) (k : Fin 8), 1 ≤ k.val → k0_off10 c (BitVec.ofNat 32 k.val) = ![0, 0, 4 * (nb c k.val).val, 64 * (1 : Fin 4).val, 0]) c ⟨k, h⟩ h1
theorem of24 (c : Dev nD) (k : ℕ) (h1 : 1 ≤ k) (h : k < 8) : k0_off24 c (BitVec.ofNat 32 k) = ![0, 0, 0, (nb c k).val, 64 * (1 : Fin 4).val, 0] :=
  (by decide +kernel : ∀ (c : Dev nD) (k : Fin 8), 1 ≤ k.val → k0_off24 c (BitVec.ofNat 32 k.val) = ![0, 0, 0, (nb c k.val).val, 64 * (1 : Fin 4).val, 0]) c ⟨k, h⟩ h1
theorem of11 (c : Dev nD) (k : ℕ) (h1 : 1 ≤ k) (h : k < 8) : k0_off11 c (BitVec.ofNat 32 k) = ![(nb c k).val, (2 : Fin 4).val] :=
  (by decide +kernel : ∀ (c : Dev nD) (k : Fin 8), 1 ≤ k.val → k0_off11 c (BitVec.ofNat 32 k.val) = ![(nb c k.val).val, (2 : Fin 4).val]) c ⟨k, h⟩ h1
theorem of14 (c : Dev nD) (k : ℕ) (h1 : 1 ≤ k) (h : k < 8) : k0_off14 c (BitVec.ofNat 32 k) = ![0, 0, 4 * (nb c k).val, 64 * (2 : Fin 4).val, 0] :=
  (by decide +kernel : ∀ (c : Dev nD) (k : Fin 8), 1 ≤ k.val → k0_off14 c (BitVec.ofNat 32 k.val) = ![0, 0, 4 * (nb c k.val).val, 64 * (2 : Fin 4).val, 0]) c ⟨k, h⟩ h1
theorem of29 (c : Dev nD) (k : ℕ) (h1 : 1 ≤ k) (h : k < 8) : k0_off29 c (BitVec.ofNat 32 k) = ![0, 0, 0, (nb c k).val, 64 * (2 : Fin 4).val, 0] :=
  (by decide +kernel : ∀ (c : Dev nD) (k : Fin 8), 1 ≤ k.val → k0_off29 c (BitVec.ofNat 32 k.val) = ![0, 0, 0, (nb c k.val).val, 64 * (2 : Fin 4).val, 0]) c ⟨k, h⟩ h1
theorem of15 (c : Dev nD) (k : ℕ) (h1 : 1 ≤ k) (h : k < 8) : k0_off15 c (BitVec.ofNat 32 k) = ![(nb c k).val, (3 : Fin 4).val] :=
  (by decide +kernel : ∀ (c : Dev nD) (k : Fin 8), 1 ≤ k.val → k0_off15 c (BitVec.ofNat 32 k.val) = ![(nb c k.val).val, (3 : Fin 4).val]) c ⟨k, h⟩ h1
theorem of18 (c : Dev nD) (k : ℕ) (h1 : 1 ≤ k) (h : k < 8) : k0_off18 c (BitVec.ofNat 32 k) = ![0, 0, 4 * (nb c k).val, 64 * (3 : Fin 4).val, 0] :=
  (by decide +kernel : ∀ (c : Dev nD) (k : Fin 8), 1 ≤ k.val → k0_off18 c (BitVec.ofNat 32 k.val) = ![0, 0, 4 * (nb c k.val).val, 64 * (3 : Fin 4).val, 0]) c ⟨k, h⟩ h1
theorem of34 (c : Dev nD) (k : ℕ) (h1 : 1 ≤ k) (h : k < 8) : k0_off34 c (BitVec.ofNat 32 k) = ![0, 0, 0, (nb c k).val, 64 * (3 : Fin 4).val, 0] :=
  (by decide +kernel : ∀ (c : Dev nD) (k : Fin 8), 1 ≤ k.val → k0_off34 c (BitVec.ofNat 32 k.val) = ![0, 0, 0, (nb c k.val).val, 64 * (3 : Fin 4).val, 0]) c ⟨k, h⟩ h1
theorem of39 (c : Dev nD) (k : ℕ) (h1 : 1 ≤ k) (h : k < 8) : k0_off39 c (BitVec.ofNat 32 k) = ![(nb c k).val] :=
  (by decide +kernel : ∀ (c : Dev nD) (k : Fin 8), 1 ≤ k.val → k0_off39 c (BitVec.ofNat 32 k.val) = ![(nb c k.val).val]) c ⟨k, h⟩ h1
theorem of40 (c : Dev nD) (k : ℕ) (h1 : 1 ≤ k) (h : k < 8) : k0_off40 c (BitVec.ofNat 32 k) = ![(nb c k).val, 0, 0, 0] :=
  (by decide +kernel : ∀ (c : Dev nD) (k : Fin 8), 1 ≤ k.val → k0_off40 c (BitVec.ofNat 32 k.val) = ![(nb c k.val).val, 0, 0, 0]) c ⟨k, h⟩ h1
theorem of44 (c : Dev nD) (k : ℕ) (h1 : 1 ≤ k) (h : k < 8) : k0_off44 c (BitVec.ofNat 32 k) = ![0, 32 * (nb c k).val, 0] :=
  (by decide +kernel : ∀ (c : Dev nD) (k : Fin 8), 1 ≤ k.val → k0_off44 c (BitVec.ofNat 32 k.val) = ![0, 32 * (nb c k.val).val, 0]) c ⟨k, h⟩ h1
theorem of45 (c : Dev nD) (k : ℕ) (h1 : 1 ≤ k) (h : k < 8) : k0_off45 c (BitVec.ofNat 32 k) = ![0, 32 * (nb c k).val, 0] :=
  (by decide +kernel : ∀ (c : Dev nD) (k : Fin 8), 1 ≤ k.val → k0_off45 c (BitVec.ofNat 32 k.val) = ![0, 32 * (nb c k.val).val, 0]) c ⟨k, h⟩ h1

/-! ## Places of the device itself -/

theorem of1 (c : Dev nD) : k0_off1 c = ![0, 0, 0, c.val, 0, 0] := by revert c; decide +kernel
theorem of2 (c : Dev nD) : k0_off2 c = ![0, 0, 4 * c.val, 0, 0] := by revert c; decide +kernel
theorem of4 (c : Dev nD) : k0_off4 c = ![c.val, (0 : Fin 4).val] := by revert c; decide +kernel
theorem of5 (c : Dev nD) : k0_off5 c = ![0, 0, 0, c.val, 64 * (0 : Fin 4).val, 0] := by revert c; decide +kernel
theorem of8 (c : Dev nD) : k0_off8 c = ![c.val, (1 : Fin 4).val] := by revert c; decide +kernel
theorem of9 (c : Dev nD) : k0_off9 c = ![0, 0, 0, c.val, 64 * (1 : Fin 4).val, 0] := by revert c; decide +kernel
theorem of12 (c : Dev nD) : k0_off12 c = ![c.val, (2 : Fin 4).val] := by revert c; decide +kernel
theorem of13 (c : Dev nD) : k0_off13 c = ![0, 0, 0, c.val, 64 * (2 : Fin 4).val, 0] := by revert c; decide +kernel
theorem of16 (c : Dev nD) : k0_off16 c = ![c.val, (3 : Fin 4).val] := by revert c; decide +kernel
theorem of17 (c : Dev nD) : k0_off17 c = ![0, 0, 0, c.val, 64 * (3 : Fin 4).val, 0] := by revert c; decide +kernel
theorem of20 (c : Dev nD) : k0_off20 c = ![c.val] := by revert c; decide +kernel
theorem of21 (c : Dev nD) : k0_off21 c = ![c.val, 0, 0, 0] := by revert c; decide +kernel
theorem of22 (c : Dev nD) : k0_off22 c = ![c.val] := by revert c; decide +kernel
theorem of23 (c : Dev nD) : k0_off23 c = ![c.val, 0, 0, 0] := by revert c; decide +kernel
theorem of25 (c : Dev nD) : k0_off25 c = ![c.val] := by revert c; decide +kernel
theorem of26 (c : Dev nD) : k0_off26 c = ![c.val, 0, 0, 0] := by revert c; decide +kernel
theorem of27 (c : Dev nD) : k0_off27 c = ![c.val] := by revert c; decide +kernel
theorem of28 (c : Dev nD) : k0_off28 c = ![c.val, 0, 0, 0] := by revert c; decide +kernel
theorem of30 (c : Dev nD) : k0_off30 c = ![c.val] := by revert c; decide +kernel
theorem of31 (c : Dev nD) : k0_off31 c = ![c.val, 0, 0, 0] := by revert c; decide +kernel
theorem of32 (c : Dev nD) : k0_off32 c = ![c.val] := by revert c; decide +kernel
theorem of33 (c : Dev nD) : k0_off33 c = ![c.val, 0, 0, 0] := by revert c; decide +kernel
theorem of35 (c : Dev nD) : k0_off35 c = ![c.val] := by revert c; decide +kernel
theorem of36 (c : Dev nD) : k0_off36 c = ![c.val, 0, 0, 0] := by revert c; decide +kernel
theorem of37 (c : Dev nD) : k0_off37 c = ![c.val] := by revert c; decide +kernel
theorem of38 (c : Dev nD) : k0_off38 c = ![c.val, 0, 0, 0] := by revert c; decide +kernel
theorem of41 (c : Dev nD) : k0_off41 c = ![0, 32 * c.val, 0] := by revert c; decide +kernel
theorem of42 (c : Dev nD) : k0_off42 c = ![c.val] := by revert c; decide +kernel
theorem of43 (c : Dev nD) : k0_off43 c = ![0, 32 * c.val, 0] := by revert c; decide +kernel
theorem of46 (c : Dev nD) : k0_off46 c = ![c.val, 0, 0, 0] := by revert c; decide +kernel
theorem of47 (c : Dev nD) : k0_off47 c = ![c.val, 0, 0, 0] := by revert c; decide +kernel
theorem of48 (c : Dev nD) : k0_off48 c = ![c.val, 0, 0, 0] := by revert c; decide +kernel
theorem of49 (c : Dev nD) : k0_off49 c = ![c.val, 0, 0, 0] := by revert c; decide +kernel
theorem of50 (c : Dev nD) : k0_off50 c = ![c.val, 0, 0, 0] := by revert c; decide +kernel
theorem of51 (c : Dev nD) : k0_off51 c = ![c.val, 0, 0, 0] := by revert c; decide +kernel
theorem of52 (c : Dev nD) : k0_off52 c = ![c.val, 0, 0, 0] := by revert c; decide +kernel
theorem of53 (c : Dev nD) : k0_off53 c = ![c.val, 0, 0, 0] := by revert c; decide +kernel

theorem sem_loc (inb) : ((cc0_scratch12.slice (Rect.unit (s := S1) ![0] S1.size inb)).squeeze S_ squeezes_S1_S_).sem = dsem xLoc := by
  revert inb; decide +kernel

end Cert.Attn

end
-- ==== Proof.Local.lean ====
/-
The steps a device takes on its own memory: loads and stores, and how far each buffer is filled.
-/
module

public import proofs.«01_k».proof.Proof.Offs

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Rounds

variable {F : FTy → Type} [FloatOps F]

local notation "𝕄" => MT nD τ sig Unit (Elt F) ℕ UU ℕ

/-! ## Loads and stores through a rectangle of a buffer of which a region is held -/

theorem step_ld (c : Dev nD) {cs : CoreSpace} {s : Shape} {e : EltTy} (m : Memref sig .tc cs s e) (r : Rect s)
    {S : Finset m.view.ty.Idx} (hS : (m.view.slice r).set ⊆ S) {q : PosShare TreeShare} {f : m.view.ty.Contents (Elt F)}
    {hl : m.view.LoadsAt r.toLoadRect}
    {α : Type} {Q : α → sProp 𝕄} {kt : (r.shape.Idx → Elt F e) → Prog (TpuEff nD τ sig (Elt F) Λ₀ .tc) α} :
    ((m.view.loc (c : Thread nD τ)) ↦[S]{q} f : sProp 𝕄)
      ⊢ iprop((((m.view.loc (c : Thread nD τ)) ↦[S]{q} f) -∗ W c (kt ((m.view.slice r).read (Elt F) f)) Q)
        -∗ W c (.op (.load m r.toLoadRect hl) kt) Q) :=
  wp_load 𝒱₀ (c : Thread nD τ) none Set.univ (m := m) (r := r.toLoadRect) (S := S) (q := q) (f := f)
    (by
      refine le_trans (le_of_eq ?_) hS
      rw [View.set_slice]; rfl)

theorem step_st (c : Dev nD) {cs : CoreSpace} {s : Shape} {e : EltTy} (m : Memref sig .tc cs s e) (r : Rect s)
    {S : Finset m.view.ty.Idx} (hS : (m.view.slice r).set ⊆ S) {f : m.view.ty.Contents (Elt F)} {w : r.shape.Idx → Elt F e}
    {hx : (m.access r).Stores Finset.univ} {hm}
    {α : Type} {Q : α → sProp 𝕄} {kt : PUnit → Prog (TpuEff nD τ sig (Elt F) Λ₀ .tc) α} :
    ((m.view.loc (c : Thread nD τ)) ↦[S]{fullShare} f : sProp 𝕄)
      ⊢ iprop((∀ f' : m.view.ty.Contents (Elt F), ⌜(∀ x, f' ((m.view.slice r).emb x) = _root_.cast (congrArg (Elt F) (m.view.slice r).elt_eq.symm) (w x))
            ∧ ∀ i, i ∉ (m.view.slice r).set → f' i = f i⌝
          -∗ ((m.view.loc (c : Thread nD τ)) ↦[S]{fullShare} f') -∗ W c (kt ⟨⟩) Q)
        -∗ W c (.op (.store m r w Finset.univ hx hm) kt) Q) := by
  iintro H Hk
  iapply (wp_store 𝒱₀ (c : Thread nD τ) none Set.univ (m := m) (r := r) (S := S) (f := f) (Mk := Finset.univ) hS) $$ H
  iintro H
  iapply Hk $$ %_ [] H
  ipureintro
  refine ⟨fun x => ?_, fun i hi => ?_⟩
  · exact View.write_emb_of_mem (v := m.view.slice r) _ _ (Finset.mem_univ x)
  · exact View.write_of_not_mem (v := m.view.slice r) _ _ _ hi

/-- The same for a whole buffer `i` of a space, a rectangle of it read. -/
theorem wb_ld (c : Dev nD) {cs : CoreSpace} (i : Fin (sig.nNear (Proc.tc : Proc τ).kind cs)) (hn : sig.names (Proc.tc : Proc τ).kind cs i = true) (r : Rect (Ref.mk (sig := sig) (κ := (Proc.tc : Proc τ).kind) cs i hn).ty.shape) {S : Finset (Ref.mk (sig := sig) (κ := (Proc.tc : Proc τ).kind) (cs : Space) i hn).ty.Idx} (hS : r.set ⊆ S) {q : PosShare TreeShare} {f : (Ref.mk (sig := sig) (κ := (Proc.tc : Proc τ).kind) (cs : Space) i hn).ty.Contents (Elt F)}
    {hl : (Memref.whole (Ref.mk (sig := sig) (κ := (Proc.tc : Proc τ).kind) (cs : Space) i hn)).view.LoadsAt r.toLoadRect}
    {α : Type} {Q : α → sProp 𝕄} {kt : (r.shape.Idx → Elt F (Ref.mk (sig := sig) (κ := (Proc.tc : Proc τ).kind) (cs : Space) i hn).ty.elt) → Prog (TpuEff nD τ sig (Elt F) Λ₀ .tc) α} :
    (((c : Thread nD τ).loc (Ref.mk (sig := sig) (κ := (Proc.tc : Proc τ).kind) (cs : Space) i hn)) ↦[S]{q} f : sProp 𝕄)
      ⊢ iprop(((((c : Thread nD τ).loc (Ref.mk (sig := sig) (κ := (Proc.tc : Proc τ).kind) (cs : Space) i hn)) ↦[S]{q} f) -∗ W c (kt fun x => f (r.emb x)) Q)
        -∗ W c (.op (.load (Memref.whole (Ref.mk (sig := sig) (κ := (Proc.tc : Proc τ).kind) (cs : Space) i hn)) r.toLoadRect hl) kt) Q) :=
  step_ld c (Memref.whole (Ref.mk (sig := sig) (κ := (Proc.tc : Proc τ).kind) (cs : Space) i hn)) r (S := S) (by rw [show (((Memref.whole (Ref.mk (sig := sig) (κ := (Proc.tc : Proc τ).kind) (cs : Space) i hn)).view.slice r).set) = r.set from View.set_slice_whole (Ref.mk (sig := sig) (κ := (Proc.tc : Proc τ).kind) (cs : Space) i hn) r]; exact hS)

/-- The same, with what is read given a name. -/
theorem wb_ldv (c : Dev nD) {cs : CoreSpace} (i : Fin (sig.nNear (Proc.tc : Proc τ).kind cs)) (hn : sig.names (Proc.tc : Proc τ).kind cs i = true) (r : Rect (Ref.mk (sig := sig) (κ := (Proc.tc : Proc τ).kind) cs i hn).ty.shape) {S : Finset (Ref.mk (sig := sig) (κ := (Proc.tc : Proc τ).kind) (cs : Space) i hn).ty.Idx} (hS : r.set ⊆ S) {q : PosShare TreeShare} {f : (Ref.mk (sig := sig) (κ := (Proc.tc : Proc τ).kind) (cs : Space) i hn).ty.Contents (Elt F)}
    {hl : (Memref.whole (Ref.mk (sig := sig) (κ := (Proc.tc : Proc τ).kind) (cs : Space) i hn)).view.LoadsAt r.toLoadRect}
    {v : r.shape.Idx → Elt F (Ref.mk (sig := sig) (κ := (Proc.tc : Proc τ).kind) (cs : Space) i hn).ty.elt} (hv : ∀ x, f (r.emb x) = v x)
    {α : Type} {Q : α → sProp 𝕄} {kt : (r.shape.Idx → Elt F (Ref.mk (sig := sig) (κ := (Proc.tc : Proc τ).kind) (cs : Space) i hn).ty.elt) → Prog (TpuEff nD τ sig (Elt F) Λ₀ .tc) α} :
    (((c : Thread nD τ).loc (Ref.mk (sig := sig) (κ := (Proc.tc : Proc τ).kind) (cs : Space) i hn)) ↦[S]{q} f : sProp 𝕄)
      ⊢ iprop(((((c : Thread nD τ).loc (Ref.mk (sig := sig) (κ := (Proc.tc : Proc τ).kind) (cs : Space) i hn)) ↦[S]{q} f) -∗ W c (kt v) Q)
        -∗ W c (.op (.load (Memref.whole (Ref.mk (sig := sig) (κ := (Proc.tc : Proc τ).kind) (cs : Space) i hn)) r.toLoadRect hl) kt) Q) := by
  obtain rfl : (fun x => f (r.emb x)) = v := funext hv
  exact wb_ld c i hn r hS

theorem wb_st (c : Dev nD) {cs : CoreSpace} (i : Fin (sig.nNear (Proc.tc : Proc τ).kind cs)) (hn : sig.names (Proc.tc : Proc τ).kind cs i = true) (r : Rect (Ref.mk (sig := sig) (κ := (Proc.tc : Proc τ).kind) cs i hn).ty.shape) {S : Finset (Ref.mk (sig := sig) (κ := (Proc.tc : Proc τ).kind) (cs : Space) i hn).ty.Idx} (hS : r.set ⊆ S) {f : (Ref.mk (sig := sig) (κ := (Proc.tc : Proc τ).kind) (cs : Space) i hn).ty.Contents (Elt F)} {w : r.shape.Idx → Elt F (Ref.mk (sig := sig) (κ := (Proc.tc : Proc τ).kind) (cs : Space) i hn).ty.elt}
    {hx : ((Memref.whole (Ref.mk (sig := sig) (κ := (Proc.tc : Proc τ).kind) (cs : Space) i hn)).access r).Stores Finset.univ} {hm}
    {α : Type} {Q : α → sProp 𝕄} {kt : PUnit → Prog (TpuEff nD τ sig (Elt F) Λ₀ .tc) α} :
    (((c : Thread nD τ).loc (Ref.mk (sig := sig) (κ := (Proc.tc : Proc τ).kind) (cs : Space) i hn)) ↦[S]{fullShare} f : sProp 𝕄)
      ⊢ iprop((∀ f' : (Ref.mk (sig := sig) (κ := (Proc.tc : Proc τ).kind) (cs : Space) i hn).ty.Contents (Elt F), ⌜(∀ x, f' (r.emb x) = w x) ∧ ∀ j, j ∉ r.set → f' j = f j⌝
          -∗ (((c : Thread nD τ).loc (Ref.mk (sig := sig) (κ := (Proc.tc : Proc τ).kind) (cs : Space) i hn)) ↦[S]{fullShare} f') -∗ W c (kt ⟨⟩) Q)
        -∗ W c (.op (.store (Memref.whole (Ref.mk (sig := sig) (κ := (Proc.tc : Proc τ).kind) (cs : Space) i hn)) r w Finset.univ hx hm) kt) Q) := by
  have h := step_st c (Memref.whole (Ref.mk (sig := sig) (κ := (Proc.tc : Proc τ).kind) (cs : Space) i hn)) r (S := S) (by rw [show (((Memref.whole (Ref.mk (sig := sig) (κ := (Proc.tc : Proc τ).kind) (cs : Space) i hn)).view.slice r).set) = r.set from View.set_slice_whole (Ref.mk (sig := sig) (κ := (Proc.tc : Proc τ).kind) (cs : Space) i hn) r]; exact hS) (f := f) (w := w) (hx := hx) (hm := hm) (Q := Q) (kt := kt)
  rw [show (((Memref.whole (Ref.mk (sig := sig) (κ := (Proc.tc : Proc τ).kind) (cs : Space) i hn)).view.slice r).set) = r.set from View.set_slice_whole (Ref.mk (sig := sig) (κ := (Proc.tc : Proc τ).kind) (cs : Space) i hn) r] at h
  exact h

variable (I : Dev nD → Ins F)

/-- All of a buffer. -/
def pW (c : Dev nD) (b : Ref sig .tc) (f : b.ty.Contents (Elt F)) : sProp 𝕄 := ((c : Thread nD τ).loc b) ↦[Finset.univ]{fullShare} f

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

/-- A rectangle that starts at the origin and is as large as the shape places every index on itself. -/
theorem emb_zero {s : Shape} {off : Fin s.rank → ℕ} (h : off = fun _ => 0) (inb) (x : s.Idx) : (Rect.unit (s := s) off s.size inb).emb x = x := by
  subst h
  funext a
  apply Fin.ext
  rw [ValueKit.rect_emb_unit_val]
  exact Nat.zero_add _

section
variable (c : Dev nD)

/-! ## The inputs, read whole -/

theorem ld_stg0 {f : Vec F S2x256x512 .bf16} {inb} {hl} {α : Type} {Q : α → sProp 𝕄} {kt : Vec F S2x256x512 .bf16 → Prog (TpuEff nD τ sig (Elt F) Λ₀ .tc) α} :
    pW c cc0_stg0_0 f ⊢ iprop((pW c cc0_stg0_0 f -∗ W c (kt f) Q)
      -∗ W c (.op (.load (Memref.whole cc0_stg0_0) (Rect.unit (s := S2x256x512) ![0, 0, 0] S2x256x512.size inb).toLoadRect hl) kt) Q) := by
  exact wb_ldv c (cs := .vmem) cc0_stg0_0.idx cc0_stg0_0.names (Rect.unit (s := S2x256x512) ![0, 0, 0] S2x256x512.size inb) (Finset.subset_univ _) (q := fullShare) (f := f) (v := f) (fun x => congrArg f (emb_zero zero3 inb x)) (hl := hl) (Q := Q) (kt := kt)

theorem ld_stg1 {f : Vec F S512x256 .bf16} {inb} {hl} {α : Type} {Q : α → sProp 𝕄} {kt : Vec F S512x256 .bf16 → Prog (TpuEff nD τ sig (Elt F) Λ₀ .tc) α} :
    pW c cc0_stg1_0 f ⊢ iprop((pW c cc0_stg1_0 f -∗ W c (kt f) Q)
      -∗ W c (.op (.load (Memref.whole cc0_stg1_0) (Rect.unit (s := S512x256) ![0, 0] S512x256.size inb).toLoadRect hl) kt) Q) := by
  exact wb_ldv c (cs := .vmem) cc0_stg1_0.idx cc0_stg1_0.names (Rect.unit (s := S512x256) ![0, 0] S512x256.size inb) (Finset.subset_univ _) (q := fullShare) (f := f) (v := f) (fun x => congrArg f (emb_zero zero2 inb x)) (hl := hl) (Q := Q) (kt := kt)

theorem ld_stg2 {f : Vec F S2x256x32x64 .bf16} {inb} {hl} {α : Type} {Q : α → sProp 𝕄} {kt : Vec F S2x256x32x64 .bf16 → Prog (TpuEff nD τ sig (Elt F) Λ₀ .tc) α} :
    pW c cc0_stg2_0 f ⊢ iprop((pW c cc0_stg2_0 f -∗ W c (kt f) Q)
      -∗ W c (.op (.load (Memref.whole cc0_stg2_0) (Rect.unit (s := S2x256x32x64) ![0, 0, 0, 0] S2x256x32x64.size inb).toLoadRect hl) kt) Q) := by
  exact wb_ldv c (cs := .vmem) cc0_stg2_0.idx cc0_stg2_0.names (Rect.unit (s := S2x256x32x64) ![0, 0, 0, 0] S2x256x32x64.size inb) (Finset.subset_univ _) (q := fullShare) (f := f) (v := f) (fun x => congrArg f (emb_zero zero4 inb x)) (hl := hl) (Q := Q) (kt := kt)

theorem ld_stg3 {f : Vec F S2x256x32x64 .bf16} {inb} {hl} {α : Type} {Q : α → sProp 𝕄} {kt : Vec F S2x256x32x64 .bf16 → Prog (TpuEff nD τ sig (Elt F) Λ₀ .tc) α} :
    pW c cc0_stg3_0 f ⊢ iprop((pW c cc0_stg3_0 f -∗ W c (kt f) Q)
      -∗ W c (.op (.load (Memref.whole cc0_stg3_0) (Rect.unit (s := S2x256x32x64) ![0, 0, 0, 0] S2x256x32x64.size inb).toLoadRect hl) kt) Q) := by
  exact wb_ldv c (cs := .vmem) cc0_stg3_0.idx cc0_stg3_0.names (Rect.unit (s := S2x256x32x64) ![0, 0, 0, 0] S2x256x32x64.size inb) (Finset.subset_univ _) (q := fullShare) (f := f) (v := f) (fun x => congrArg f (emb_zero zero4 inb x)) (hl := hl) (Q := Q) (kt := kt)

theorem ld_stg4 {f : Vec F S256x512 .bf16} {inb} {hl} {α : Type} {Q : α → sProp 𝕄} {kt : Vec F S256x512 .bf16 → Prog (TpuEff nD τ sig (Elt F) Λ₀ .tc) α} :
    pW c cc0_stg4_0 f ⊢ iprop((pW c cc0_stg4_0 f -∗ W c (kt f) Q)
      -∗ W c (.op (.load (Memref.whole cc0_stg4_0) (Rect.unit (s := S256x512) ![0, 0] S256x512.size inb).toLoadRect hl) kt) Q) := by
  exact wb_ldv c (cs := .vmem) cc0_stg4_0.idx cc0_stg4_0.names (Rect.unit (s := S256x512) ![0, 0] S256x512.size inb) (Finset.subset_univ _) (q := fullShare) (f := f) (v := f) (fun x => congrArg f (emb_zero zero2 inb x)) (hl := hl) (Q := Q) (kt := kt)

/-! ## The staged codes -/

theorem rect_t (t : ℕ) (inb) (i : S2x2x32x256x64.Idx) :
    i ∈ (Rect.unit (s := S2x2x32x256x64) ![0, t, 0, 0, 0] S2x1x32x256x64.size inb).set ↔ (i 1).val = t := by
  rw [Rect.mem_set_unit, ValueKit.forall_fin_iff_conj]
  have h0 : (i 0).val < 2 := (i 0).isLt; have h1 : (i 1).val < 2 := (i 1).isLt; have h2 : (i 2).val < 32 := (i 2).isLt; have h3 : (i 3).val < 256 := (i 3).isLt; have h4 : (i 4).val < 64 := (i 4).isLt
  simp [ValueKit.finConj]
  omega
theorem emb_t (t : Fin 2) (inb) (a : Fin 2) (b : Fin 1) (d : Fin 32) (e : Fin 256) (f : Fin 64) :
    (Rect.unit (s := S2x2x32x256x64) ![0, t.val, 0, 0, 0] S2x1x32x256x64.size inb).emb (ix5 a b d e f) = ix5 a t d e f := by
  funext q; apply Fin.ext; rw [ValueKit.rect_emb_unit_val]
  fin_cases q <;> simp

theorem fill_k {f' : Vec F S2x2x32x256x64 .i8} {inb}
    (h : ∀ x : S2x1x32x256x64.Idx, f' ((Rect.unit (s := S2x2x32x256x64) ![0, 0, 0, 0, 0] S2x1x32x256x64.size inb).emb x) = k0_pay1 (I c).k x) :
    ∀ i, (i 1).val = 0 → f' i = KVST I c i := by
  intro i hi
  have h' := h (ix5 (i 0) (0 : Fin 1) (i 2) (i 3) (i 4))
  have e : (Rect.unit (s := S2x2x32x256x64) ![0, 0, 0, 0, 0] S2x1x32x256x64.size inb).emb (ix5 (i 0) (0 : Fin 1) (i 2) (i 3) (i 4)) = i :=
    (emb_t (0 : Fin 2) inb _ _ _ _ _).trans (by
      have : (0 : Fin 2) = i 1 := Fin.ext hi.symm
      rw [this]; exact (eq_ix5 i).symm)
  rw [e] at h'
  rw [h']
  unfold KVST
  rw [if_pos hi]

theorem fill_v {f f' : Vec F S2x2x32x256x64 .i8} {inb} (hf : ∀ i, (i 1).val = 0 → f i = KVST I c i)
    (h : ∀ x : S2x1x32x256x64.Idx, f' ((Rect.unit (s := S2x2x32x256x64) ![0, 1, 0, 0, 0] S2x1x32x256x64.size inb).emb x) = k0_pay2 (I c).v x)
    (h2 : ∀ i, i ∉ (Rect.unit (s := S2x2x32x256x64) ![0, 1, 0, 0, 0] S2x1x32x256x64.size inb).set → f' i = f i) : f' = KVST I c := by
  funext i
  by_cases hi : (i 1).val = 0
  · rw [h2 i (by rw [rect_t, hi]; decide)]
    exact hf i hi
  · have h' := h (ix5 (i 0) (0 : Fin 1) (i 2) (i 3) (i 4))
    have h1 : (i 1).val < 2 := (i 1).isLt
    have e : (Rect.unit (s := S2x2x32x256x64) ![0, 1, 0, 0, 0] S2x1x32x256x64.size inb).emb (ix5 (i 0) (0 : Fin 1) (i 2) (i 3) (i 4)) = i :=
      (emb_t (1 : Fin 2) inb _ _ _ _ _).trans (by
        have : (1 : Fin 2) = i 1 := Fin.ext (by show 1 = (i 1).val; omega)
        rw [this]; exact (eq_ix5 i).symm)
    rw [e] at h'
    rw [h']
    unfold KVST
    rw [if_neg hi]

/-- The keys' half filled. -/
def KV0 : sProp 𝕄 := iprop(∃ f : Vec F S2x2x32x256x64 .i8, ⌜∀ i, (i 1).val = 0 → f i = KVST I c i⌝ ∗ pW c cc0_scratch0 f)

theorem st_k {inb} {hl} {inb'} {hx} {hm} {α : Type} {Q : α → sProp 𝕄} {kt : PUnit → Prog (TpuEff nD τ sig (Elt F) Λ₀ .tc) α} :
    iprop(∃ f, pW c cc0_scratch0 f) ⊢ iprop((KV0 I c -∗ W c (kt ⟨⟩) Q)
      -∗ W c (.op (.load (Memref.whole cc0_scratch0) (Rect.unit (s := S2x2x32x256x64) ![0, 0, 0, 0, 0] S2x1x32x256x64.size inb).toLoadRect hl) fun _ =>
        .op (.store (Memref.whole cc0_scratch0) (Rect.unit (s := S2x2x32x256x64) ![0, 0, 0, 0, 0] S2x1x32x256x64.size inb') (k0_pay1 (I c).k) Finset.univ hx hm) kt) Q) := by
  unfold KV0 pW
  iintro ⟨%f, H⟩ Hk
  iapply (wb_ld c (cs := .vmem) cc0_scratch0.idx cc0_scratch0.names (Rect.unit (s := S2x2x32x256x64) ![0, 0, 0, 0, 0] S2x1x32x256x64.size inb) (S := Finset.univ) (Finset.subset_univ _) (q := fullShare) (f := f)) $$ H
  iintro H
  iapply (wb_st c (cs := .vmem) cc0_scratch0.idx cc0_scratch0.names (Rect.unit (s := S2x2x32x256x64) ![0, 0, 0, 0, 0] S2x1x32x256x64.size inb') (S := Finset.univ) (Finset.subset_univ _) (f := f) (w := k0_pay1 (I c).k)) $$ H
  iintro %f' %hf H
  iapply Hk
  iexists f'
  isplitr
  · ipureintro
    exact fill_k I c hf.1
  iexact H

theorem st_v {inb} {hl} {inb'} {hx} {hm} {α : Type} {Q : α → sProp 𝕄} {kt : PUnit → Prog (TpuEff nD τ sig (Elt F) Λ₀ .tc) α} :
    KV0 I c ⊢ iprop((pW c cc0_scratch0 (KVST I c) -∗ W c (kt ⟨⟩) Q)
      -∗ W c (.op (.load (Memref.whole cc0_scratch0) (Rect.unit (s := S2x2x32x256x64) ![0, 1, 0, 0, 0] S2x1x32x256x64.size inb).toLoadRect hl) fun _ =>
        .op (.store (Memref.whole cc0_scratch0) (Rect.unit (s := S2x2x32x256x64) ![0, 1, 0, 0, 0] S2x1x32x256x64.size inb') (k0_pay2 (I c).v) Finset.univ hx hm) kt) Q) := by
  unfold KV0 pW
  iintro ⟨%f, %hf₀, H⟩ Hk
  iapply (wb_ld c (cs := .vmem) cc0_scratch0.idx cc0_scratch0.names (Rect.unit (s := S2x2x32x256x64) ![0, 1, 0, 0, 0] S2x1x32x256x64.size inb) (S := Finset.univ) (Finset.subset_univ _) (q := fullShare) (f := f)) $$ H
  iintro H
  iapply (wb_st c (cs := .vmem) cc0_scratch0.idx cc0_scratch0.names (Rect.unit (s := S2x2x32x256x64) ![0, 1, 0, 0, 0] S2x1x32x256x64.size inb') (S := Finset.univ) (Finset.subset_univ _) (f := f) (w := k0_pay2 (I c).v)) $$ H
  iintro %f' %hf H
  have hff : f' = KVST I c := fill_v I c hf₀ hf.1 hf.2
  subst hff
  iapply Hk
  iexact H

/-! ## The gathered codes -/

theorem sub_row (t : Fin 2) (r : Fin 4) (inb) :
    (Rect.unit (s := S2x2x4x8x256x64) ![0, t.val, 0, 0, 64 * r.val, 0] S2x1x4x8x64x64.size inb).set ⊆ kvgRow r := by
  intro (i : S2x2x4x8x256x64.Idx) hi
  rw [Rect.mem_set_unit, ValueKit.forall_fin_iff_conj] at hi
  rw [mem_kvgRow]
  have h4 : (i 4).val < 256 := (i 4).isLt
  simp [ValueKit.finConj] at hi
  omega

theorem ld_kv (t : Fin 2) (r : Fin 4) {off : Fin 6 → ℕ} (ho : off = ![0, t.val, 0, 0, 64 * r.val, 0]) {inb} {hl} {α : Type} {Q : α → sProp 𝕄} {kt : Vec F S2x1x4x8x64x64 .i8 → Prog (TpuEff nD τ sig (Elt F) Λ₀ .tc) α} :
    pKvg c (kvgRow r) (KVG I c) ⊢ iprop((pKvg c (kvgRow r) (KVG I c) -∗ W c (kt (KVR I c t r)) Q)
      -∗ W c (.op (.load (Memref.whole cc0_scratch1) (Rect.unit (s := S2x2x4x8x256x64) off S2x1x4x8x64x64.size inb).toLoadRect hl) kt) Q) := by
  subst ho
  refine wb_ldv c (cs := .vmem) cc0_scratch1.idx cc0_scratch1.names (Rect.unit (s := S2x2x4x8x256x64) ![0, t.val, 0, 0, 64 * r.val, 0] S2x1x4x8x64x64.size inb) (S := kvgRow r) (sub_row t r inb) (q := fullShare) (f := KVG I c) (v := KVR I c t r) (fun x => ?_) (hl := hl) (Q := Q) (kt := kt)
  obtain ⟨a, b, d, e, f, g, rfl⟩ : ∃ a b d e f g, x = ix6 (n0 := 2) (n1 := 1) (n2 := 4) (n3 := 8) (n4 := 64) (n5 := 64) a b d e f g := ⟨_, _, _, _, _, _, eq_ix6 x⟩
  have h2 : (Rect.unit (s := S2x2x4x8x256x64) ![0, t.val, 0, 0, 64 * r.val, 0] S2x1x4x8x64x64.size inb).emb (ix6 a b d e f g) = ix6 a t d e (⟨64 * r.val + f.val, row_lt r f⟩ : Fin 256) g := by
    funext q; apply Fin.ext; rw [ValueKit.rect_emb_unit_val]
    fin_cases q <;> simp
  rw [h2]
  rfl

/-! ## The partial results -/

/-- An element of rows `64r … 64r+63`, placed. -/
theorem emb_blk (r : Fin 4) (inb) (a : Fin 2) (b : Fin 64) (d : Fin 512) :
    (Rect.unit (s := S2x256x512) ![0, 64 * r.val, 0] S2x64x512.size inb).emb (ix3 a b d) = ix3 a (⟨64 * r.val + b.val, row_lt r b⟩ : Fin 256) d := by
  funext q; apply Fin.ext; rw [ValueKit.rect_emb_unit_val]
  fin_cases q <;> simp

theorem blk_back (r : Fin 4) (i : S2x256x512.Idx) (hi : (i 1).val / 64 = r.val) :
    ix3 (i 0) (⟨64 * r.val + (⟨(i 1).val % 64, blk_mod (i 1)⟩ : Fin 64).val, row_lt r _⟩ : Fin 256) (i 2) = i := by
  have : (⟨64 * r.val + (⟨(i 1).val % 64, blk_mod (i 1)⟩ : Fin 64).val, row_lt r _⟩ : Fin 256) = i 1 := Fin.ext (by show 64 * r.val + (i 1).val % 64 = (i 1).val; omega)
  rw [this]
  exact (eq_ix3 i).symm

theorem row_back (e : Fin 8) (i : S2x256x512.Idx) (hi : (i 1).val / 32 = e.val) :
    ix3 (i 0) (⟨32 * e.val + (⟨(i 1).val % 32, dev_mod (i 1)⟩ : Fin 32).val, chunk_lt e _⟩ : Fin 256) (i 2) = i := by
  have : (⟨32 * e.val + (⟨(i 1).val % 32, dev_mod (i 1)⟩ : Fin 32).val, chunk_lt e _⟩ : Fin 256) = i 1 := Fin.ext (by show 32 * e.val + (i 1).val % 32 = (i 1).val; omega)
  rw [this]
  exact (eq_ix3 i).symm

omit [FloatOps F] in
/-- Rows filled block by block: what a block's rows hold afterwards. -/
theorem fill_blk {E : EltTy} (r : Fin 4) {inb} {f' : Vec F S2x256x512 E} {w : Vec F S2x64x512 E}
    (h : ∀ x, f' ((Rect.unit (s := S2x256x512) ![0, 64 * r.val, 0] S2x64x512.size inb).emb x) = w x)
    (i : S2x256x512.Idx) (hi : (i 1).val / 64 = r.val) : f' i = w (ix3 (i 0) (⟨(i 1).val % 64, blk_mod (i 1)⟩ : Fin 64) (i 2)) := by
  have e₁ := (emb_blk r inb (i 0) (⟨(i 1).val % 64, blk_mod (i 1)⟩ : Fin 64) (i 2)).trans (blk_back r i hi)
  exact (congrArg f' e₁).symm.trans (h (ix3 (i 0) (⟨(i 1).val % 64, blk_mod (i 1)⟩ : Fin 64) (i 2)))

omit [FloatOps F] in
theorem fill_row {E : EltTy} (e : Fin 8) {inb} {f' : Vec F S2x256x512 E} {w : Vec F S2x32x512 E}
    (h : ∀ x, f' ((Rect.unit (s := S2x256x512) ![0, 32 * e.val, 0] S2x32x512.size inb).emb x) = w x)
    (i : S2x256x512.Idx) (hi : (i 1).val / 32 = e.val) : f' i = w (ix3 (i 0) (⟨(i 1).val % 32, dev_mod (i 1)⟩ : Fin 32) (i 2)) := by
  have e₁ := (emb_row e inb (i 0) (⟨(i 1).val % 32, dev_mod (i 1)⟩ : Fin 32) (i 2)).trans (row_back e i hi)
  exact (congrArg f' e₁).symm.trans (h (ix3 (i 0) (⟨(i 1).val % 32, dev_mod (i 1)⟩ : Fin 32) (i 2)))

/-- The first `q` query blocks of the partial result filled. -/
def PAs (q : ℕ) : sProp 𝕄 := iprop(∃ f : Vec F S2x256x512 .f32, ⌜∀ i, (i 1).val / 64 < q → f i = PACC I c i⌝ ∗ pW c cc0_scratch2 f)

theorem st_pacc (r : Fin 4) {off off' : Fin 3 → ℕ} (ho : off = ![0, 64 * r.val, 0]) (ho' : off' = ![0, 64 * r.val, 0]) {w : Vec F S2x64x512 .f32} (hw : w = PQ I c r) {inb} {hl} {inb'} {hx} {hm} {α : Type} {Q : α → sProp 𝕄} {kt : PUnit → Prog (TpuEff nD τ sig (Elt F) Λ₀ .tc) α} :
    PAs I c r.val ⊢ iprop((PAs I c (r.val + 1) -∗ W c (kt ⟨⟩) Q)
      -∗ W c (.op (.load (Memref.whole cc0_scratch2) (Rect.unit (s := S2x256x512) off S2x64x512.size inb).toLoadRect hl) fun _ =>
        .op (.store (Memref.whole cc0_scratch2) (Rect.unit (s := S2x256x512) off' S2x64x512.size inb') w Finset.univ hx hm) kt) Q) := by
  subst ho ho' hw
  unfold PAs pW
  iintro ⟨%f, %hf₀, H⟩ Hk
  iapply (wb_ld c (cs := .vmem) cc0_scratch2.idx cc0_scratch2.names (Rect.unit (s := S2x256x512) ![0, 64 * r.val, 0] S2x64x512.size inb) (S := Finset.univ) (Finset.subset_univ _) (q := fullShare) (f := f)) $$ H
  iintro H
  iapply (wb_st c (cs := .vmem) cc0_scratch2.idx cc0_scratch2.names (Rect.unit (s := S2x256x512) ![0, 64 * r.val, 0] S2x64x512.size inb') (S := Finset.univ) (Finset.subset_univ _) (f := f) (w := PQ I c r)) $$ H
  iintro %f' %hf H
  have hff : ∀ i : S2x256x512.Idx, (i 1).val / 64 < r.val + 1 → f' i = PACC I c i := by
    intro i hi
    by_cases h : (i 1).val / 64 = r.val
    · rw [fill_blk r hf.1 i h]
      unfold PACC
      have : (⟨(i 1).val / 64, blk_lt (i 1)⟩ : Fin 4) = r := Fin.ext h
      rw [this]
    · rw [hf.2 i (by rw [rect_rowB _ _ r rfl, mem_rowB]; exact h)]
      exact hf₀ i (by omega)
  iapply Hk
  iexists f'
  isplitr
  · ipureintro
    exact hff
  iexact H

theorem pacc_done : PAs I c 4 ⊢ pW c cc0_scratch2 (PACC I c) := by
  unfold PAs
  iintro ⟨%f, %hf, H⟩
  have hff : f = PACC I c := funext fun i => hf i (blk_lt (i 1))
  subst hff
  iexact H

theorem ld_own {off : Fin 3 → ℕ} (ho : off = ![0, 32 * c.val, 0]) {inb} {hl} {α : Type} {Q : α → sProp 𝕄} {kt : Vec F S2x32x512 .f32 → Prog (TpuEff nD τ sig (Elt F) Λ₀ .tc) α} :
    pW c cc0_scratch2 (PACC I c) ⊢ iprop((pW c cc0_scratch2 (PACC I c) -∗ W c (kt (OWNP I c)) Q)
      -∗ W c (.op (.load (Memref.whole cc0_scratch2) (Rect.unit (s := S2x256x512) off S2x32x512.size inb).toLoadRect hl) kt) Q) := by
  subst ho
  refine wb_ldv c (cs := .vmem) cc0_scratch2.idx cc0_scratch2.names (Rect.unit (s := S2x256x512) ![0, 32 * c.val, 0] S2x32x512.size inb) (S := Finset.univ) (Finset.subset_univ _) (q := fullShare) (f := PACC I c) (v := OWNP I c) (fun x => ?_) (hl := hl) (Q := Q) (kt := kt)
  obtain ⟨a, b, d, rfl⟩ : ∃ a b d, x = ix3 (n0 := 2) (n1 := 32) (n2 := 512) a b d := ⟨_, _, _, eq_ix3 x⟩
  rw [emb_row]
  rfl

theorem pbf_same (r : Fin 4) (f : Vec F S2x256x512 .bf16) (h : ∀ i ∈ rowB r, f i = PBF I c i) : (((c : Thread nD τ).loc cc0_scratch3) ↦[rowB r]{fullShare} f : sProp 𝕄) ⊢ pPbf c (rowB r) (PBF I c) := by
  unfold pPbf
  exact BIBase.Entails.of_eq (pointsTo_congr h)

theorem pbf_cut (r : Fin 4) : pPbf c (rowB r) (PBF I c) ⊢ iprop(pPbf c (rowS (dv (2 * r.val))) (PBF I c) ∗ pPbf c (rowS (dv (2 * r.val + 1))) (PBF I c)) := by
  unfold pPbf
  have hs : rowB r = rowS (dv (2 * r.val)) ∪ rowS (dv (2 * r.val + 1)) := by
    ext i
    rw [Finset.mem_union, mem_rowB, mem_rowS, mem_rowS]
    show _ ↔ (i 1).val / 32 = (2 * r.val) % 8 ∨ (i 1).val / 32 = (2 * r.val + 1) % 8
    have h1 : (i 1).val < 256 := (i 1).isLt
    have h2 := r.isLt
    omega
  have hd : Disjoint (rowS (dv (2 * r.val))) (rowS (dv (2 * r.val + 1))) := by
    rw [Finset.disjoint_left]
    intro i hi hj
    rw [mem_rowS] at hi hj
    have : (2 * r.val) % 8 = (2 * r.val + 1) % 8 := hi.symm.trans hj
    omega
  rw [hs]
  exact (pointsTo_union hd).1

/-- One query block's rows of the rounded partial result: filled, then cut into the two pieces two devices are owed. -/
theorem st_pbf (r : Fin 4) {off off' : Fin 3 → ℕ} (ho : off = ![0, 64 * r.val, 0]) (ho' : off' = ![0, 64 * r.val, 0]) {w : Vec F S2x64x512 .bf16} (hw : w = PB I c r) {inb} {hl} {inb'} {hx} {hm} {α : Type} {Q : α → sProp 𝕄} {kt : PUnit → Prog (TpuEff nD τ sig (Elt F) Λ₀ .tc) α} :
    iprop(∃ f, pPbf c (rowB r) f) ⊢ iprop((iprop(pPbf c (rowS (dv (2 * r.val))) (PBF I c) ∗ pPbf c (rowS (dv (2 * r.val + 1))) (PBF I c)) -∗ W c (kt ⟨⟩) Q)
      -∗ W c (.op (.load (Memref.whole cc0_scratch3) (Rect.unit (s := S2x256x512) off S2x64x512.size inb).toLoadRect hl) fun _ =>
        .op (.store (Memref.whole cc0_scratch3) (Rect.unit (s := S2x256x512) off' S2x64x512.size inb') w Finset.univ hx hm) kt) Q) := by
  subst ho ho' hw
  unfold pPbf
  iintro ⟨%f, H⟩ Hk
  iapply (wb_ld c (cs := .vmem) cc0_scratch3.idx cc0_scratch3.names (Rect.unit (s := S2x256x512) ![0, 64 * r.val, 0] S2x64x512.size inb) (S := rowB r) (le_of_eq (rect_rowB _ _ r rfl)) (q := fullShare) (f := f)) $$ H
  iintro H
  iapply (wb_st c (cs := .vmem) cc0_scratch3.idx cc0_scratch3.names (Rect.unit (s := S2x256x512) ![0, 64 * r.val, 0] S2x64x512.size inb') (S := rowB r) (le_of_eq (rect_rowB _ _ r rfl)) (f := f) (w := PB I c r)) $$ H
  iintro %f' %hf H
  have hff : ∀ i ∈ rowB r, f' i = PBF I c i := by
    intro i hi
    have h := mem_rowB.1 hi
    rw [fill_blk r hf.1 i h]
    unfold PBF
    have : (⟨(i 1).val / 64, blk_lt (i 1)⟩ : Fin 4) = r := Fin.ext h
    rw [this]
  iapply Hk
  iapply (pbf_cut I c r)
  iapply (pbf_same I c r f' hff)
  iexact H

/-! ## The partial results that landed -/

/-- The landed partial results: every slot but the device's own. -/
def RSBs : sProp 𝕄 := iprop(∃ g : Vec F S8x2x32x512 .bf16, ⌜∀ i, i 0 ≠ (c : Fin 8) → g i = RSB I c i⌝ ∗ pW c cc0_scratch4 g)

/-- The place of the device's own slot among the eight. -/
def ownMask : IVec S8x2x32x512 1 :=
  broadcastTo S8x2x32x512 (shapeCast S8x1x1x1 (cmpi .eq (iota .tc S8x1x1x1 32 [0] iota_S8x1x1x1_d0_w32) (broadcast S8x1x1x1 (myW c))) shapeCasts_S8x1x1x1_S8x1x1x1) broadcasts_S8x1x1x1_S8x2x32x512

theorem mask_word : ∀ c a : Fin 8, IntOp.cmpi .eq (BitVec.ofNat 32 (0 * 8 + a.val)) (myW c) = if a = c then 1#1 else 0#1 := by decide +kernel

/-- The slot an index lies in. -/
def slotOf (i : S8x2x32x512.Idx) : Fin 8 := i 0

theorem ownMask_apply (i : S8x2x32x512.Idx) : ownMask c i = if slotOf i = c then 1#1 else 0#1 := by
  unfold ownMask
  rw [shapeCast_self]
  exact mask_word c (i 0)

theorem sum_own (g : Vec F S8x2x32x512 .bf16) (hg : ∀ i, i 0 ≠ (c : Fin 8) → g i = RSB I c i) (own : Vec F S2x32x512 .f32) :
    k0_pay27 (myW c) g own = k0_pay27 (myW c) (RSB I c) own := by
  have e : ∀ Z : Vec F S8x2x32x512 .bf16, select (ownMask c) Z g = select (ownMask c) Z (RSB I c) := fun Z => by
    funext i
    show Scalar.select (ownMask c i) (Z i) (g i) = Scalar.select (ownMask c i) (Z i) (RSB I c i)
    rw [ownMask_apply]
    by_cases h : slotOf i = c
    · rw [if_pos h]; rfl
    · rw [hg i h]
  exact congrArg (fun s : FVec F S8x2x32x512 .bf16 => addf own (multiReduction .add [0] S2x32x512 (extf .f32 s bitsLt_bf16_f32) 0x00000000#32 reduces_S8x2x32x512_S2x32x512 (.inl rfl) rfl)) (e _)

theorem ld_rsb {inb} {hl} {α : Type} {Q : α → sProp 𝕄} {kt : Vec F S8x2x32x512 .bf16 → Prog (TpuEff nD τ sig (Elt F) Λ₀ .tc) α} :
    RSBs I c ⊢ iprop((∀ g : Vec F S8x2x32x512 .bf16, ⌜k0_pay27 (myW c) g (OWNP I c) = RED I c⌝ -∗ RSBs I c -∗ W c (kt g) Q)
      -∗ W c (.op (.load (Memref.whole cc0_scratch4) (Rect.unit (s := S8x2x32x512) ![0, 0, 0, 0] S8x2x32x512.size inb).toLoadRect hl) kt) Q) := by
  unfold RSBs pW
  iintro ⟨%g, %hg, H⟩ Hk
  iapply (wb_ldv c (cs := .vmem) cc0_scratch4.idx cc0_scratch4.names (Rect.unit (s := S8x2x32x512) ![0, 0, 0, 0] S8x2x32x512.size inb) (S := Finset.univ) (Finset.subset_univ _) (q := fullShare) (f := g) (v := g) (fun x => congrArg g (emb_zero zero4 inb x))) $$ H
  iintro H
  iapply Hk $$ %_ []
  · ipureintro
    exact sum_own I c g hg _
  iexists g
  isplitr
  · ipureintro
    exact hg
  iexact H

/-! ## The finished rows -/

theorem st_agg {off off' : Fin 3 → ℕ} (ho : off = ![0, 32 * c.val, 0]) (ho' : off' = ![0, 32 * c.val, 0]) {w : Vec F S2x32x512 .bf16} (hw : w = REDB I c) {inb} {hl} {inb'} {hx} {hm} {α : Type} {Q : α → sProp 𝕄} {kt : PUnit → Prog (TpuEff nD τ sig (Elt F) Λ₀ .tc) α} :
    iprop(∃ f, pAgg c (rowS c) fullShare f) ⊢ iprop((pAgg c (rowS c) fullShare (AGG I) -∗ W c (kt ⟨⟩) Q)
      -∗ W c (.op (.load (Memref.whole cc0_scratch5) (Rect.unit (s := S2x256x512) off S2x32x512.size inb).toLoadRect hl) fun _ =>
        .op (.store (Memref.whole cc0_scratch5) (Rect.unit (s := S2x256x512) off' S2x32x512.size inb') w Finset.univ hx hm) kt) Q) := by
  subst ho ho' hw
  unfold pAgg
  iintro ⟨%f, H⟩ Hk
  iapply (wb_ld c (cs := .vmem) cc0_scratch5.idx cc0_scratch5.names (Rect.unit (s := S2x256x512) ![0, 32 * c.val, 0] S2x32x512.size inb) (S := rowS c) (le_of_eq (rect_row _ _ c rfl)) (q := fullShare) (f := f)) $$ H
  iintro H
  iapply (wb_st c (cs := .vmem) cc0_scratch5.idx cc0_scratch5.names (Rect.unit (s := S2x256x512) ![0, 32 * c.val, 0] S2x32x512.size inb') (S := rowS c) (le_of_eq (rect_row _ _ c rfl)) (f := f) (w := REDB I c)) $$ H
  iintro %f' %hf H
  have hff : ∀ i ∈ rowS c, f' i = AGG I i := by
    intro i hi
    have h := mem_rowS.1 hi
    rw [fill_row c hf.1 i h]
    unfold AGG
    have : rowDev (i 1) = c := Fin.ext h
    rw [this]
  iapply Hk
  iapply (BIBase.Entails.of_eq (pointsTo_congr hff))
  iexact H

theorem ld_agg (e : Dev nD) {off : Fin 3 → ℕ} (ho : off = ![0, 32 * e.val, 0]) {inb} {hl} {α : Type} {Q : α → sProp 𝕄} {kt : Vec F S2x32x512 .bf16 → Prog (TpuEff nD τ sig (Elt F) Λ₀ .tc) α} :
    pAgg c (rowS e) fullShare (AGG I) ⊢ iprop((pAgg c (rowS e) fullShare (AGG I) -∗ W c (kt (REDB I e)) Q)
      -∗ W c (.op (.load (Memref.whole cc0_scratch5) (Rect.unit (s := S2x256x512) off S2x32x512.size inb).toLoadRect hl) kt) Q) := by
  subst ho
  refine wb_ldv c (cs := .vmem) cc0_scratch5.idx cc0_scratch5.names (Rect.unit (s := S2x256x512) ![0, 32 * e.val, 0] S2x32x512.size inb) (S := rowS e) (le_of_eq (rect_row _ _ e rfl)) (q := fullShare) (f := AGG I) (v := REDB I e) (fun x => ?_) (hl := hl) (Q := Q) (kt := kt)
  obtain ⟨a, b, d, rfl⟩ : ∃ a b d, x = ix3 (n0 := 2) (n1 := 32) (n2 := 512) a b d := ⟨_, _, _, eq_ix3 x⟩
  rw [emb_row]
  unfold AGG
  have hb := b.isLt
  have h1 : rowDev (⟨32 * e.val + b.val, chunk_lt e b⟩ : Fin 256) = e := Fin.ext (by show (32 * e.val + b.val) / 32 = e.val; omega)
  have h2 : (⟨(⟨32 * e.val + b.val, chunk_lt e b⟩ : Fin 256).val % 32, dev_mod _⟩ : Fin 32) = b := Fin.ext (by show (32 * e.val + b.val) % 32 = b.val; omega)
  show REDB I (rowDev (⟨32 * e.val + b.val, chunk_lt e b⟩ : Fin 256)) (ix3 a (⟨(⟨32 * e.val + b.val, chunk_lt e b⟩ : Fin 256).val % 32, dev_mod _⟩ : Fin 32) d) = _
  rw [h1, h2]

/-! ## The result -/

/-- The result filled at the rows of the devices fewer than `k` places on. -/
def OUTs (k : ℕ) : sProp 𝕄 := iprop(∃ f : Vec F S2x256x512 .f32, ⌜∀ i : S2x256x512.Idx, dist c (rowDev (i 1)) < k → f i = OUT I c i⌝ ∗ pW c cc0_stg5_0 f)

theorem OUTs_zero : iprop(∃ f, pW c cc0_stg5_0 f) ⊢ OUTs I c 0 := by
  unfold OUTs
  iintro ⟨%f, H⟩
  iexists f
  isplitr
  · ipureintro
    exact fun i hi => absurd hi (Nat.not_lt_zero _)
  iexact H

theorem dist_eq (c e : Fin 8) (k : ℕ) (hk : k < 8) (h : dist c e = k) : e = nb c k := by
  have hc := c.isLt
  have he := e.isLt
  unfold dist at h
  apply Fin.ext
  show e.val = (c.val + k) % 8
  omega

theorem dist_lt (c e : Fin 8) : dist c e < 8 := Nat.mod_lt _ (by decide)

theorem OUTs_done : OUTs I c 8 ⊢ pW c cc0_stg5_0 (OUT I c) := by
  unfold OUTs
  iintro ⟨%f, %hf, H⟩
  have hff : f = OUT I c := funext fun i => hf i (dist_lt c _)
  subst hff
  iexact H

theorem st_out (k : ℕ) (hk : k < 8) {off off' : Fin 3 → ℕ} (ho : off = ![0, 32 * (nb c k).val, 0]) (ho' : off' = ![0, 32 * (nb c k).val, 0]) {w : Vec F S2x32x512 .f32}
    (hw : ∀ i : S2x256x512.Idx, rowDev (i 1) = nb c k → w (ix3 (i 0) (⟨(i 1).val % 32, dev_mod (i 1)⟩ : Fin 32) (i 2)) = OUT I c i)
    {inb} {hl} {inb'} {hx} {hm} {α : Type} {Q : α → sProp 𝕄} {kt : PUnit → Prog (TpuEff nD τ sig (Elt F) Λ₀ .tc) α} :
    OUTs I c k ⊢ iprop((OUTs I c (k + 1) -∗ W c (kt ⟨⟩) Q)
      -∗ W c (.op (.load (Memref.whole cc0_stg5_0) (Rect.unit (s := S2x256x512) off S2x32x512.size inb).toLoadRect hl) fun _ =>
        .op (.store (Memref.whole cc0_stg5_0) (Rect.unit (s := S2x256x512) off' S2x32x512.size inb') w Finset.univ hx hm) kt) Q) := by
  subst ho ho'
  unfold OUTs pW
  iintro ⟨%f, %hf₀, H⟩ Hk
  iapply (wb_ld c (cs := .vmem) cc0_stg5_0.idx cc0_stg5_0.names (Rect.unit (s := S2x256x512) ![0, 32 * (nb c k).val, 0] S2x32x512.size inb) (S := Finset.univ) (Finset.subset_univ _) (q := fullShare) (f := f)) $$ H
  iintro H
  iapply (wb_st c (cs := .vmem) cc0_stg5_0.idx cc0_stg5_0.names (Rect.unit (s := S2x256x512) ![0, 32 * (nb c k).val, 0] S2x32x512.size inb') (S := Finset.univ) (Finset.subset_univ _) (f := f) (w := w)) $$ H
  iintro %f' %hf H
  have hff : ∀ i : S2x256x512.Idx, dist c (rowDev (i 1)) < k + 1 → f' i = OUT I c i := by
    intro i hi
    by_cases h : rowDev (i 1) = nb c k
    · rw [fill_row (nb c k) hf.1 i (congrArg Fin.val h)]
      exact hw i h
    · rw [hf.2 i (by
        rw [rect_row _ _ (nb c k) rfl, mem_rowS]
        exact fun h' => h (Fin.ext h'))]
      refine hf₀ i ?_
      rcases Nat.lt_succ_iff_lt_or_eq.1 hi with h' | h'
      · exact h'
      · exact absurd (dist_eq c _ k hk h') h
  iapply Hk
  iexists f'
  isplitr
  · ipureintro
    exact hff
  iexact H

theorem out_own (i : S2x256x512.Idx) (h : rowDev (i 1) = nb c 0) : RED I c (ix3 (i 0) (⟨(i 1).val % 32, dev_mod (i 1)⟩ : Fin 32) (i 2)) = OUT I c i := by
  unfold OUT
  have hc : c.val < 8 := c.isLt
  have h' : (i 1).val / 32 = (c.val + 0) % 8 := congrArg Fin.val h
  rw [if_pos (by omega)]

theorem out_other (k : ℕ) (h1 : 1 ≤ k) (h8 : k < 8) (i : S2x256x512.Idx) (h : rowDev (i 1) = nb c k) :
    k0_pay30 (REDB I (nb c k)) (ix3 (i 0) (⟨(i 1).val % 32, dev_mod (i 1)⟩ : Fin 32) (i 2)) = OUT I c i := by
  unfold OUT
  have hc : c.val < 8 := c.isLt
  have h' : (i 1).val / 32 = (c.val + k) % 8 := congrArg Fin.val h
  rw [if_neg (by omega), h]

/-! ## A step that is taken only on some devices -/

theorem W_dite {p : Prop} [Decidable p] {R S : sProp 𝕄} {α : Type} {Q : α → sProp 𝕄} {A : p → Prog (TpuEff nD τ sig (Elt F) Λ₀ .tc) PUnit} {B : ¬ p → Prog (TpuEff nD τ sig (Elt F) Λ₀ .tc) PUnit}
    {kt : PUnit → Prog (TpuEff nD τ sig (Elt F) Λ₀ .tc) α}
    (hA : ∀ h : p, R ⊢ iprop((S -∗ W c (kt ⟨⟩) Q) -∗ W c (A h >>= kt) Q)) (hB : ∀ h : ¬ p, R ⊢ iprop((S -∗ W c (kt ⟨⟩) Q) -∗ W c (B h >>= kt) Q)) :
    R ⊢ iprop((S -∗ W c (kt ⟨⟩) Q) -∗ W c ((if h : p then A h else B h) >>= kt) Q) := by
  by_cases h : p
  · rw [dif_pos h]; exact hA h
  · rw [dif_neg h]; exact hB h

end

end Cert.Attn

end
-- ==== Proof.Cond.lean ====
/-
The steps that depend on the device, and the step from one piece of the body to the next.
-/
module

public import proofs.«01_k».proof.Proof.Local

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Rounds

variable {F : FTy → Type} [FloatOps F]

local notation "𝕄" => MT nD τ sig Unit (Elt F) ℕ UU ℕ
variable (I : Dev nD → Ins F) (K : Dev nD × CX → ℕ)

theorem W_seq (c : Dev nD) {α β : Type} {p : Prog (TpuEff nD τ sig (Elt F) Λ₀ .tc) α} {k : α → Prog (TpuEff nD τ sig (Elt F) Λ₀ .tc) β} {Q : β → sProp 𝕄} :
    W c p (fun r => W c (k r) Q) ⊢ W c (p >>= k) Q := by
  unfold W; rw [wp_bind]

theorem dut_one (c e : Fin 8) (h : e ≠ c) : one c e = {0} := if_neg h
theorem dut_none (c e : Fin 8) (h : e = c) : one c e = ∅ := if_pos h
theorem nb_ne' (c : Dev nD) (k : ℕ) (h1 : 1 ≤ k) (h2 : k < 8) : one c (nb c k) = {0} := dut_one c _ (nb_ne c k h1 h2)

/-- A send of the reduction, made only to another device. -/
theorem cond_rs (c : Dev nD) (e : ℕ) (he : e < 8) {p : Prop} [Decidable p] (hp : p ↔ dv e ≠ c) {n : p → Dev nD} (hn : ∀ h, n h = dv e)
    {off₃ : Fin 3 → ℕ} {off₄ : p → Fin 4 → ℕ} {inb} {inb' : ∀ h : p, _} (hs : off₃ = ![0, 32 * (dv e).val, 0]) (hd : ∀ h, off₄ h = ![c.val, 0, 0, 0])
    {ss sr : p → DmaSem sig} (hss : ∀ h, ss h = dsem (xRss (dv e))) (hsr : ∀ h, sr h = dsem (xRsr c))
    {hsc : ∀ h : p, (rsbM (off₄ h) (inb' h)).view.ref.isScScratch = false} {hsrc : p → (pbfM off₃ inb).view.WordExact} {hdst : ∀ h : p, (rsbM (off₄ h) (inb' h)).view.WordExact}
    {hsem : ∀ h : p, DmaTarget.Typed .vmem (.dma (sr h)) (.remote (n h : Thread nD τ) (rsbM (off₄ h) (inb' h)) (.dma (ss h)) (hsc h))} (O : CellTallies nD τ sig Unit)
    {α : Type} {Q : α → sProp 𝕄} {kt : PUnit → Prog (TpuEff nD τ sig (Elt F) Λ₀ .tc) α} :
    iprop(recs I K ∗ owesE c (ORs c e + O) ∗ RSS I c e ∗ pPbf c (rowS (dv e)) (PBF I c))
      ⊢ iprop(((owesE c (ORs c (e + 1) + O) ∗ RSS I c (e + 1)) -∗ W c (kt ⟨⟩) Q)
        -∗ W c (if h : p then .op (.enqueueDma (pbfM off₃ inb) (.remote (n h : Thread nD τ) (rsbM (off₄ h) (inb' h)) (.dma (ss h)) (hsc h)) (.dma (sr h)) (hsrc h) (hdst h) (hsem h)) kt else kt ⟨⟩) Q) := by
  by_cases h : p
  · rw [dif_pos h]
    exact step_rs I K c (n h) e he (hp.1 h) (hn h) hs (hd h) (hss h) (hsr h) O
  · rw [dif_neg h]
    have hec : dv e = c := not_not.1 fun h' => h (hp.2 h')
    iintro ⟨#HR, H⟩ Hk
    iapply Hk
    iapply (skip_rs I c e he hec O)
    iexact H

/-- The wait for that send. -/
theorem cond_rw (c : Dev nD) (e : ℕ) (he : e < 8) {p : Prop} [Decidable p] (hp : p ↔ dv e ≠ c)
    {sm : p → DmaSem sig} (hsm : ∀ h, sm h = dsem (xRss (dv e))) {sp sp' : Space} {s s' : Shape} {e₁ e₂ : EltTy}
    {src : p → Memref sig .tc sp' s' e₂} {dst : p → Memref sig .tc sp s e₁} {hsrc : ∀ h : p, (src h).view.WordExact} {hdst : ∀ h : p, (dst h).view.WordExact}
    (hN : ∀ h, (dst h).view.dmaCredit = nRs) {O : CellTallies nD τ sig Unit}
    {α : Type} {Q : α → sProp 𝕄} {kt : PUnit → Prog (TpuEff nD τ sig (Elt F) Λ₀ .tc) α} (hO : Above 0 O) :
    iprop(recs I K ∗ owesE c O ∗ WT I c (fun e => xRss (dv e)) 0 e 8)
      ⊢ iprop(((owesE c O ∗ WT I c (fun e => xRss (dv e)) 0 (e + 1) 8) -∗ W c (kt ⟨⟩) Q)
        -∗ W c (if h : p then .op (.waitDma2 (sm h) (src h) (dst h) (hsrc h) (hdst h)) kt else kt ⟨⟩) Q) := by
  by_cases h : p
  · rw [dif_pos h]
    exact step_wait I K c (fun e => xRss (dv e)) 0 e 8 (Nat.zero_le e) he (hsm h) (dut_one c _ (hp.1 h)) (hN h) 0 (by show 0 ≤ 0; exact le_refl _) hO
  · rw [dif_neg h]
    have hec : dv e = c := not_not.1 fun h' => h (hp.2 h')
    iintro ⟨#HR, HO, H⟩ Hk
    iapply Hk
    isplitl [HO]; · iexact HO
    iapply (skip_wait I c (fun e => xRss (dv e)) 0 e 8 (Nat.zero_le e) he (dut_none c _ hec))
    iexact H

/-- The landed rows of the `k`-th peer, read while what landed is kept with the waits. -/
theorem ld_got (c : Dev nD) (k : ℕ) (h1 : 1 ≤ k) (h8 : k < 8) {off : Fin 3 → ℕ} (ho : off = ![0, 32 * (nb c k).val, 0]) {inb} {hl} {α : Type} {Q : α → sProp 𝕄} {kt : Vec F S2x32x512 .bf16 → Prog (TpuEff nD τ sig (Elt F) Λ₀ .tc) α} :
    WT I c (fun k => xAgr (nb c k)) 1 (k + 1) 8 ⊢ iprop((WT I c (fun k => xAgr (nb c k)) 1 (k + 1) 8 -∗ W c (kt (REDB I (nb c k))) Q)
      -∗ W c (.op (.load (Memref.whole cc0_scratch5) (Rect.unit (s := S2x256x512) off S2x32x512.size inb).toLoadRect hl) kt) Q) := by
  unfold WT
  rw [bigSep_Ico_succ_top h1]
  have e : wGot I c (xAgr (nb c k)) = iprop(atPos ER (cell c (xAgr (nb c k))) 1 ∅ 0 ∗ pAgg c (rowS (nb c k)) fullShare (AGG I)) := if_pos (nb_ne' c k h1 h8)
  rw [e]
  iintro ⟨Ht, ⟨⟨Hat, Hp⟩, Hg⟩⟩ Hk
  iapply (ld_agg I c (nb c k) ho) $$ Hp
  iintro Hp
  iapply Hk
  isplitl [Ht]; · iexact Ht
  isplitl [Hat Hp]
  · isplitl [Hat]; · iexact Hat
    iexact Hp
  iexact Hg

end Cert.Attn

end
-- ==== Proof.Join.lean ====
/-
Cutting a buffer into the regions the copies move, and joining what landed.
-/
module

public import proofs.«01_k».proof.Proof.Cond
public import Idealize.SL.ProofMode.BigOp

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Rounds

variable {F : FTy → Type} [FloatOps F]

local notation "𝕄" => MT nD τ sig Unit (Elt F) ℕ UU ℕ

/-! ## The peers in order -/

theorem peers_univ : ∀ c : Fin 8, (Finset.univ : Finset (Fin 8)) = insert c ((Finset.Ico 1 8).image (nb c)) := by decide +kernel
theorem peers_erase : ∀ c : Fin 8, (Finset.univ : Finset (Fin 8)).erase c = (Finset.Ico 1 8).image (nb c) := by decide +kernel
theorem peers_notMem : ∀ c : Fin 8, c ∉ (Finset.Ico 1 8).image (nb c) := by decide +kernel
theorem nb_inj (c : Fin 8) : Set.InjOn (nb c) (Finset.Ico 1 8 : Finset ℕ) := by
  intro a ha b hb h
  have h1 := Finset.mem_Ico.1 (Finset.mem_coe.1 ha)
  have h2 := Finset.mem_Ico.1 (Finset.mem_coe.1 hb)
  rw [← dist_nb c a h1.2, ← dist_nb c b h2.2, h]

section
variable {M : Type} [URA M]

theorem sep_peers (c : Fin 8) (Φ : Fin 8 → sProp M) : bigSep Finset.univ Φ = iprop(Φ c ∗ bigSep (Finset.Ico 1 8) fun k => Φ (nb c k)) := by
  rw [peers_univ c, bigSep_insert (peers_notMem c), bigSep_image_of_injOn (nb_inj c)]
  rfl
theorem sep_others (c : Fin 8) (Φ : Fin 8 → sProp M) : bigSep (Finset.univ.erase c) Φ = bigSep (Finset.Ico 1 8) fun k => Φ (nb c k) := by
  rw [peers_erase c, bigSep_image_of_injOn (nb_inj c)]

theorem blk_image : ∀ r : Fin 4, Finset.Ico (7 * r.val) (7 * r.val + 7) = (Finset.Ico 1 8).image (fun k => 7 * r.val + k - 1) := by decide +kernel
theorem sep_blk (c : Fin 8) (r : Fin 4) (Φ : Fin 8 → Fin 4 → sProp M) :
    bigSep (Finset.Ico (7 * r.val) (7 * r.val + 7)) (fun u => Φ (pk c u) (rr u)) = bigSep (Finset.Ico 1 8) fun k => Φ (nb c k) r := by
  rw [blk_image r, bigSep_image_of_injOn]
  · refine bigSep_congr fun k hk => ?_
    have h := Finset.mem_Ico.1 hk
    have hr := r.isLt
    have e1 : pk c (7 * r.val + k - 1) = nb c k := by
      unfold pk
      have : (7 * r.val + k - 1) % 7 + 1 = k := by omega
      rw [this]
    have e2 : rr (7 * r.val + k - 1) = r := Fin.ext (by show (7 * r.val + k - 1) / 7 % 4 = r.val; omega)
    rw [e1, e2]
  · intro a ha b hb hab
    have h1 := Finset.mem_Ico.1 (Finset.mem_coe.1 ha)
    have h2 := Finset.mem_Ico.1 (Finset.mem_coe.1 hb)
    have : 7 * r.val + a - 1 = 7 * r.val + b - 1 := hab
    omega

theorem sep_four (Φ : Fin 4 → sProp M) : bigSep Finset.univ Φ = iprop(Φ 0 ∗ (Φ 1 ∗ (Φ 2 ∗ Φ 3))) := by
  have : (Finset.univ : Finset (Fin 4)) = insert 0 (insert 1 (insert 2 {3})) := by decide
  rw [this, bigSep_insert (by decide), bigSep_insert (by decide), bigSep_insert (by decide), bigSep_singleton]
  rfl

/-- The 28 transfers in order are the seven peers of each of the four row blocks. -/
theorem sep_all (c : Fin 8) (Φ : Fin 8 → Fin 4 → sProp M) :
    bigSep (Finset.Ico 0 28) (fun u => Φ (pk c u) (rr u)) = bigSep Finset.univ fun r => bigSep (Finset.Ico 1 8) fun k => Φ (nb c k) r := by
  have h := fun r => sep_blk c r Φ
  rw [sep_four, ← h 0, ← h 1, ← h 2, ← h 3]
  show bigSep (Finset.Ico 0 28) _ = iprop(bigSep (Finset.Ico 0 7) _ ∗ (bigSep (Finset.Ico 7 14) _ ∗ (bigSep (Finset.Ico 14 21) _ ∗ bigSep (Finset.Ico 21 28) _)))
  have e : Finset.Ico 0 28 = Finset.Ico 0 7 ∪ (Finset.Ico 7 14 ∪ (Finset.Ico 14 21 ∪ Finset.Ico 21 28)) := by decide +kernel
  rw [e, bigSep_union (by decide +kernel), bigSep_union (by decide +kernel), bigSep_union (by decide +kernel)]
  rfl

theorem sep_mono {ι : Type} {s : Finset ι} {Φ Ψ : ι → sProp M} (h : ∀ k ∈ s, Φ k ⊢ Ψ k) : bigSep s Φ ⊢ bigSep s Ψ := bigSep_mono h
theorem sep_mono₂ {ι : Type} {s : Finset ι} {Φ Ψ Θ : ι → sProp M} (h : ∀ k ∈ s, iprop(Φ k ∗ Ψ k) ⊢ Θ k) : iprop(bigSep s Φ ∗ bigSep s Ψ) ⊢ bigSep s Θ := by
  rw [← bigSep_sep']
  exact bigSep_mono h

/-- The peers by name, in the order of the reduction's sends. -/
theorem sep_dv (Φ : Fin 8 → sProp M) : bigSep Finset.univ Φ = bigSep (Finset.Ico 0 8) fun e => Φ (dv e) := by
  have h : (Finset.univ : Finset (Fin 8)) = (Finset.Ico 0 8).image dv := by decide +kernel
  rw [h, bigSep_image_of_injOn]
  intro a ha b hb hab
  have h1 := Finset.mem_Ico.1 (Finset.mem_coe.1 ha)
  have h2 := Finset.mem_Ico.1 (Finset.mem_coe.1 hb)
  have : a % 8 = b % 8 := congrArg Fin.val hab
  omega

end

variable (I : Dev nD → Ins F)

/-! ## Runs of waits, at their start and their end -/

theorem wt_done (c : Dev nD) (x : ℕ → Cx) (b e : ℕ) (hd : ∀ u ∈ Finset.Ico b e, dutX c (.inr (x u)) = {0}) :
    WT I c x b e e ⊢ iprop((bigSep (Finset.Ico b e) fun u => (atPos ER (cell c (x u)) 1 ∅ 0 : sProp 𝕄)) ∗ bigSep (Finset.Ico b e) fun u => payX I c 0 (.inr (x u))) := by
  unfold WT
  rw [← bigSep_sep']
  have h : bigSep (Finset.Ico b e) (fun u => wGot I c (x u)) = bigSep (Finset.Ico b e) fun u => iprop((atPos ER (cell c (x u)) 1 ∅ 0 : sProp 𝕄) ∗ payX I c 0 (.inr (x u))) :=
    bigSep_congr fun u hu => if_pos (hd u hu)
  rw [h]
  iintro ⟨-, H⟩
  iexact H

theorem wt_start (c : Dev nD) (x : ℕ → Cx) (b e : ℕ) (hd : ∀ u ∈ Finset.Ico b e, dutX c (.inr (x u)) = {0}) :
    iprop((bigSep (Finset.Ico b e) fun u => cred (tallyAt (cell c (x u)) () (amtX (.inr (x u))))) ∗ bigSep (Finset.Ico b e) fun u => (atPos ER (cell c (x u)) 0 ∅ 0 : sProp 𝕄)) ⊢ WT I c x b b e := by
  unfold WT
  rw [← bigSep_sep', Finset.Ico_self, bigSep_empty]
  have h : bigSep (Finset.Ico b e) (fun u => wTok (F := F) c (x u)) = bigSep (Finset.Ico b e) fun u => iprop(cred (tallyAt (cell c (x u)) () (amtX (.inr (x u)))) ∗ (atPos ER (cell c (x u)) 0 ∅ 0 : sProp 𝕄)) :=
    bigSep_congr fun u hu => if_pos (hd u hu)
  rw [h]
  iintro H
  isplitl [H]; · iexact H
  iempintro

/-! ## The gathered codes -/

theorem kvg_slots (r : Fin 4) : (Finset.univ : Finset (Fin 8)).biUnion (fun s => kvgS s r) = kvgRow r := by
  ext i
  rw [Finset.mem_biUnion, mem_kvgRow]
  constructor
  · rintro ⟨s, -, h⟩; exact (mem_kvgS.1 h).2
  · intro h; exact ⟨i 3, Finset.mem_univ _, mem_kvgS.2 ⟨rfl, h⟩⟩
theorem kvg_slots_disj (r : Fin 4) (s s' : Fin 8) (h : s ≠ s') : Disjoint (kvgS s r) (kvgS s' r) := by
  rw [Finset.disjoint_left]
  intro i hi hj
  exact h (Fin.ext ((mem_kvgS.1 hi).1.symm.trans (mem_kvgS.1 hj).1))

theorem kvgRow_eq (c : Dev nD) (r : Fin 4) (f) : pKvg (F := F) c (kvgRow r) f = iprop(pKvg c (kvgS c r) f ∗ bigSep (Finset.Ico 1 8) fun k => pKvg c (kvgS (nb c k) r) f) := by
  rw [← sep_peers c (fun s => pKvg c (kvgS s r) f), ← kvg_slots r]
  unfold pKvg
  exact pointsTo_biUnion _ _ fun s _ s' _ h => kvg_slots_disj r s s' h

theorem row_join (c : Dev nD) (r : Fin 4) (b e : ℕ) (hb : b = 7 * r.val) (he : e = 7 * r.val + 7) :
    iprop(WT I c (fun u => xKvr (pk c u) (rr u)) b e e ∗ pKvg c (kvgS c r) (KVG I c))
      ⊢ iprop(pKvg c (kvgRow r) (KVG I c) ∗ bigSep (Finset.Ico b e) fun u => (atPos ER (cell c (xKvr (pk c u) (rr u))) 1 ∅ 0 : sProp 𝕄)) := by
  subst hb he
  rw [kvgRow_eq, ← sep_blk c r (fun s r => pKvg c (kvgS s r) (KVG I c))]
  iintro ⟨H, Hs⟩
  ihave HJ := (wt_done I c (fun u => xKvr (pk c u) (rr u)) _ _ (fun u _ => dut_one c _ (pk_ne c u))) $$ H
  icases HJ with ⟨Hat, Hp⟩
  isplitl [Hs Hp]
  · isplitl [Hs]; · iexact Hs
    iexact Hp
  iexact Hat

/-! ## The landed partial results -/

theorem rsb_slots : (Finset.univ : Finset (Fin 8)).biUnion rsbS = Finset.univ := by
  ext i
  rw [Finset.mem_biUnion]
  exact ⟨fun _ => Finset.mem_univ _, fun _ => ⟨i 0, Finset.mem_univ _, mem_rsbS.2 rfl⟩⟩
theorem rsb_slots_disj (s s' : Fin 8) (h : s ≠ s') : Disjoint (rsbS s) (rsbS s') := by
  rw [Finset.disjoint_left]
  intro i hi hj
  exact h (Fin.ext ((mem_rsbS.1 hi).symm.trans (mem_rsbS.1 hj)))

theorem rsb_eq (c : Dev nD) (f) : pW (F := F) c cc0_scratch4 f = iprop(pRsb c (rsbS c) f ∗ bigSep (Finset.Ico 1 8) fun k => pRsb c (rsbS (nb c k)) f) := by
  rw [← sep_peers c (fun s => pRsb c (rsbS s) f)]
  unfold pRsb pW
  rw [← rsb_slots]
  exact pointsTo_biUnion _ _ fun s _ s' _ h => rsb_slots_disj s s' h

theorem rsb_join (c : Dev nD) :
    iprop(WT I c (fun k => xRsr (nb c k)) 1 8 8 ∗ ∃ f, pRsb (F := F) c (rsbS c) f)
      ⊢ iprop(RSBs I c ∗ bigSep (Finset.Ico 1 8) fun k => (atPos ER (cell c (xRsr (nb c k))) 1 ∅ 0 : sProp 𝕄)) := by
  iintro ⟨H, %f, Hs⟩
  ihave HJ := (wt_done I c (fun k => xRsr (nb c k)) _ _ (fun u hu => nb_ne' c u (Finset.mem_Ico.1 hu).1 (Finset.mem_Ico.1 hu).2)) $$ H
  icases HJ with ⟨Hat, Hp⟩
  isplitr [Hat]
  · unfold RSBs
    iexists (fun i => if slotOf i = c then f i else RSB I c i : Vec F S8x2x32x512 .bf16)
    isplitr
    · ipureintro
      intro i hi
      exact if_neg hi
    have e1 : pRsb (F := F) c (rsbS c) (fun i => if slotOf i = c then f i else RSB I c i) = pRsb c (rsbS c) f := by
      unfold pRsb
      exact pointsTo_congr fun i hi => if_pos (Fin.ext (mem_rsbS.1 hi))
    have e2 : (bigSep (Finset.Ico 1 8) fun k => pRsb (F := F) c (rsbS (nb c k)) (fun i => if slotOf i = c then f i else RSB I c i)) = bigSep (Finset.Ico 1 8) fun k => pRsb c (rsbS (nb c k)) (RSB I c) := by
      refine bigSep_congr fun k hk => ?_
      unfold pRsb
      refine pointsTo_congr fun i hi => if_neg fun h => ?_
      have h1 := Finset.mem_Ico.1 hk
      exact nb_ne c k h1.1 h1.2 ((Fin.ext (mem_rsbS.1 hi) : slotOf i = nb c k).symm.trans h)
    iapply (BIBase.Entails.of_eq ((rsb_eq c _).trans (by rw [e1, e2])).symm)
    isplitl [Hs]; · iexact Hs
    iexact Hp
  iexact Hat

theorem pay28_of (c : Dev nD) (g : Vec F S8x2x32x512 .bf16) (h : k0_pay27 (myW c) g (OWNP I c) = RED I c) :
    k0_pay28 (myW c) g (OWNP I c) = k0_pay28 (myW c) (RSB I c) (OWNP I c) := by
  unfold RED at h
  exact congrArg (fun v : FVec F S2x32x512 .f32 => (truncf .bf16 v bitsLt_bf16_f32 : FVec F S2x32x512 .bf16)) h

/-! ## The device's own finished rows, cut into the shares of the gather's copies -/

theorem of41' (c : Dev nD) : k0_off41 c = ![0, 32 * (nb c 0).val, 0] := by revert c; decide +kernel

theorem agg_share (c : Dev nD) (f) : pAgg (F := F) c (rowS c) fullShare f ⊣⊢ bigSep (Finset.Ico 1 8) fun k => pAgg c (rowS c) (shr k) f := by
  have h : ∀ n, pAgg (F := F) c (rowS c) (rest n) f ⊣⊢ iprop(pAgg c (rowS c) (rest n).left f ∗ pAgg c (rowS c) (rest (n + 1)) f) := fun n => by
    unfold pAgg
    exact pointsTo_share (PosShare.mem_left_op_right (rest n))
  have e : ∀ k, 1 ≤ k → k < 7 → (rest (k - 1)).left = shr k := fun k h1 h7 => by unfold shr; rw [if_neg (by omega)]
  have e7 : rest 6 = shr 7 := rfl
  rw [bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide)]
  rw [Finset.Ico_self, bigSep_empty, ← e 1 (by decide) (by decide), ← e 2 (by decide) (by decide), ← e 3 (by decide) (by decide), ← e 4 (by decide) (by decide), ← e 5 (by decide) (by decide), ← e 6 (by decide) (by decide)]
  show pAgg c (rowS c) (rest 0) f ⊣⊢ iprop(pAgg c (rowS c) (rest 0).left f ∗ pAgg c (rowS c) (rest 1).left f ∗ pAgg c (rowS c) (rest 2).left f ∗ pAgg c (rowS c) (rest 3).left f ∗ pAgg c (rowS c) (rest 4).left f ∗ pAgg c (rowS c) (rest 5).left f ∗ pAgg c (rowS c) (rest 6) f ∗ emp)
  constructor
  · iintro H
    ihave H := (h 0).1 $$ H; icases H with ⟨H0, H⟩
    ihave H := (h 1).1 $$ H; icases H with ⟨H1, H⟩
    ihave H := (h 2).1 $$ H; icases H with ⟨H2, H⟩
    ihave H := (h 3).1 $$ H; icases H with ⟨H3, H⟩
    ihave H := (h 4).1 $$ H; icases H with ⟨H4, H⟩
    ihave H := (h 5).1 $$ H; icases H with ⟨H5, H⟩
    isplitl [H0]; · iexact H0
    isplitl [H1]; · iexact H1
    isplitl [H2]; · iexact H2
    isplitl [H3]; · iexact H3
    isplitl [H4]; · iexact H4
    isplitl [H5]; · iexact H5
    isplitl [H]; · iexact H
    iempintro
  · iintro ⟨H0, H1, H2, H3, H4, H5, H, -⟩
    iapply (h 0).2
    isplitl [H0]; · iexact H0
    iapply (h 1).2
    isplitl [H1]; · iexact H1
    iapply (h 2).2
    isplitl [H2]; · iexact H2
    iapply (h 3).2
    isplitl [H3]; · iexact H3
    iapply (h 4).2
    isplitl [H4]; · iexact H4
    iapply (h 5).2
    isplitl [H5]; · iexact H5
    iexact H

/-- What the gather's sends need besides the rows they send. -/
def AGT (c : Dev nD) : sProp 𝕄 := bigSep (Finset.Ico 1 8) fun k => iprop((dutyTok ER (cell c (xAgs (nb c k))) 0 0 ∗ dutyTok ER (cell (nb c k) (xAgr c)) 0 0) ∗ ∃ f, pAgg (F := F) (nb c k) (rowS c) fullShare f)

theorem ags_start (c : Dev nD) : iprop(AGT (F := F) c ∗ pAgg c (rowS c) fullShare (AGG I)) ⊢ AGS I c 1 := by
  have hk : ∀ k, iprop(((dutyTok ER (cell c (xAgs (nb c k))) 0 0 ∗ dutyTok ER (cell (nb c k) (xAgr c)) 0 0) ∗ ∃ f, pAgg (F := F) (nb c k) (rowS c) fullShare f) ∗ pAgg c (rowS c) (shr k) (AGG I)) ⊢ agTok I c k := fun k => by
    unfold agTok
    iintro ⟨⟨⟨H1, H2⟩, H3⟩, H4⟩
    isplitl [H1]; · iexact H1
    isplitl [H2]; · iexact H2
    isplitl [H4]; · iexact H4
    iexact H3
  have hm := sep_mono₂ (s := Finset.Ico 1 8) fun k _ => hk k
  unfold AGT AGS
  rw [Finset.Ico_self, bigSep_empty]
  iintro ⟨Ht, H⟩
  isplitl [Ht H]
  · ihave H := (agg_share c (AGG I)).1 $$ H
    iapply hm
    isplitl [Ht]; · iexact Ht
    iexact H
  iempintro

end Cert.Attn

end
-- ==== Proof.Phase.lean ====
/-
What a device holds before its run and after it, cut along the exchange's regions and put together again.
-/
module

public import proofs.«01_k».proof.Proof.Join

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

open Idealize.ShloMosaic.Rounds

local notation "𝕄" => MT nD τ sig Unit (Elt F) ℕ UU ℕ

theorem sep_swap {M : Type} [URA M] (s : Finset ℕ) (Φ : ℕ → Fin 4 → sProp M) :
    (bigSep s fun k => bigSep Finset.univ fun r => Φ k r) = bigSep Finset.univ fun r => bigSep s fun k => Φ k r := by
  rw [sep_four, bigSep_congr (fun k _ => sep_four (Φ k)), bigSep_sep', bigSep_sep', bigSep_sep']

theorem sep_mono₃ {M : Type} [URA M] {ι : Type} {s : Finset ι} {Φ Ψ Χ Θ : ι → sProp M} (h : ∀ k ∈ s, iprop(Φ k ∗ (Ψ k ∗ Χ k)) ⊢ Θ k) : iprop(bigSep s Φ ∗ bigSep s Ψ ∗ bigSep s Χ) ⊢ bigSep s Θ := by
  rw [← bigSep_sep', ← bigSep_sep']
  exact bigSep_mono h

/-! ## A buffer cut into regions -/

omit [FloatOps F] in
theorem cut {ι : Type} [Fintype ι] [DecidableEq ι] (c : Dev nD) (b : Ref sig .tc) (S : Finset b.ty.Idx) (T : ι → Finset b.ty.Idx)
    (hT : ∀ i, i ∈ S ↔ ∃ t, i ∈ T t) (hd : ∀ i t t', i ∈ T t → i ∈ T t' → t = t') (f : b.ty.Contents (Elt F)) :
    (((c : Thread nD τ).loc b) ↦[S]{fullShare} f : sProp 𝕄) = bigSep Finset.univ fun t => (((c : Thread nD τ).loc b) ↦[T t]{fullShare} f : sProp 𝕄) := by
  have h : S = (Finset.univ : Finset ι).biUnion T := by
    ext i
    rw [Finset.mem_biUnion, hT i]
    exact ⟨fun ⟨t, ht⟩ => ⟨t, Finset.mem_univ _, ht⟩, fun ⟨t, _, ht⟩ => ⟨t, ht⟩⟩
  rw [h]
  exact pointsTo_biUnion _ _ fun t _ t' _ hne => Finset.disjoint_left.2 fun i hi hi' => hne (hd i t t' hi hi')

omit [FloatOps F] in
theorem kvst_heads (c : Dev nD) (f) : pW (F := F) c cc0_scratch0 f = bigSep Finset.univ fun e => pKvst c (kvstH e) f := by
  unfold pW pKvst
  refine cut (ι := Fin 8) c cc0_scratch0 Finset.univ kvstH (fun i => ?_) (fun i t t' h h' => Fin.ext ((mem_kvstH.1 h).symm.trans (mem_kvstH.1 h'))) f
  have h2 : (i 2).val < 32 := (i 2).isLt
  exact ⟨fun _ => ⟨⟨(i 2).val / 4, by omega⟩, mem_kvstH.2 rfl⟩, fun _ => Finset.mem_univ _⟩
omit [FloatOps F] in
theorem kvst_rows (c : Dev nD) (e : Fin 8) (f) : pKvst (F := F) c (kvstH e) f = bigSep Finset.univ fun r => pKvst c (kvstS e r) f := by
  unfold pKvst
  refine cut (ι := Fin 4) c cc0_scratch0 (kvstH e) (kvstS e) (fun i => ?_) (fun i t t' h h' => Fin.ext ((mem_kvstS.1 h).2.symm.trans (mem_kvstS.1 h').2)) f
  have h3 : (i 3).val < 256 := (i 3).isLt
  exact ⟨fun h => ⟨⟨(i 3).val / 64, by omega⟩, mem_kvstS.2 ⟨mem_kvstH.1 h, rfl⟩⟩, fun ⟨t, ht⟩ => mem_kvstH.2 (mem_kvstS.1 ht).1⟩
/-- The staged codes: the device's own heads, and a piece for each of the 28 transfers. -/
theorem kvst_eq (c : Dev nD) (f) : pW (F := F) c cc0_scratch0 f = iprop(pKvst c (kvstH c) f ∗ bigSep (Finset.Ico 0 28) fun t => pKvst c (kvstS (pk c t) (rr t)) f) := by
  rw [kvst_heads, sep_peers c, sep_all c (fun e r => pKvst c (kvstS e r) f)]
  rw [bigSep_congr fun k _ => kvst_rows c (nb c k) f, sep_swap]

omit [FloatOps F] in
theorem kvg_cut (c : Dev nD) (f) : pW (F := F) c cc0_scratch1 f = bigSep Finset.univ fun s => pKvg c (kvgSlot s) f := by
  unfold pW pKvg
  refine cut (ι := Fin 8) c cc0_scratch1 Finset.univ kvgSlot (fun i => ?_) (fun i t t' h h' => Fin.ext ((mem_kvgSlot.1 h).symm.trans (mem_kvgSlot.1 h'))) f
  exact ⟨fun _ => ⟨i 3, mem_kvgSlot.2 rfl⟩, fun _ => Finset.mem_univ _⟩
theorem kvg_eq (c : Dev nD) (f) : pW (F := F) c cc0_scratch1 f = iprop(pKvg c (kvgSlot c) f ∗ bigSep (Finset.Ico 1 8) fun k => pKvg c (kvgSlot (nb c k)) f) := by
  rw [kvg_cut, sep_peers c]
theorem kvgSlot_eq (c : Dev nD) (s : Fin 8) (f) : pKvg (F := F) c (kvgSlot s) f = bigSep Finset.univ fun r => pKvg c (kvgS s r) f := by
  unfold pKvg
  refine cut (ι := Fin 4) c cc0_scratch1 (kvgSlot s) (kvgS s) (fun i => ?_) (fun i t t' h h' => Fin.ext ((mem_kvgS.1 h).2.symm.trans (mem_kvgS.1 h').2)) f
  have h4 : (i 4).val < 256 := (i 4).isLt
  exact ⟨fun h => ⟨⟨(i 4).val / 64, by omega⟩, mem_kvgS.2 ⟨mem_kvgSlot.1 h, rfl⟩⟩, fun ⟨t, ht⟩ => mem_kvgSlot.2 (mem_kvgS.1 ht).1⟩
theorem kvg_rows (c : Dev nD) (f) : pW (F := F) c cc0_scratch1 f = iprop(pKvg c (kvgRow 0) f ∗ (pKvg c (kvgRow 1) f ∗ (pKvg c (kvgRow 2) f ∗ pKvg c (kvgRow 3) f))) := by
  rw [← sep_four (fun r => pKvg c (kvgRow r) f)]
  unfold pW pKvg
  refine cut (ι := Fin 4) c cc0_scratch1 Finset.univ kvgRow (fun i => ?_) (fun i t t' h h' => Fin.ext ((mem_kvgRow.1 h).symm.trans (mem_kvgRow.1 h'))) f
  have h4 : (i 4).val < 256 := (i 4).isLt
  exact ⟨fun _ => ⟨⟨(i 4).val / 64, by omega⟩, mem_kvgRow.2 rfl⟩, fun _ => Finset.mem_univ _⟩

theorem pbf_blocks (c : Dev nD) (f) : pW (F := F) c cc0_scratch3 f = iprop(pPbf c (rowB 0) f ∗ (pPbf c (rowB 1) f ∗ (pPbf c (rowB 2) f ∗ pPbf c (rowB 3) f))) := by
  rw [← sep_four (fun r => pPbf c (rowB r) f)]
  unfold pW pPbf
  refine cut (ι := Fin 4) c cc0_scratch3 Finset.univ rowB (fun i => ?_) (fun i t t' h h' => Fin.ext ((mem_rowB.1 h).symm.trans (mem_rowB.1 h'))) f
  have h1 : (i 1).val < 256 := (i 1).isLt
  exact ⟨fun _ => ⟨⟨(i 1).val / 64, by omega⟩, mem_rowB.2 rfl⟩, fun _ => Finset.mem_univ _⟩
theorem pbf_rows (c : Dev nD) (f) : pW (F := F) c cc0_scratch3 f = bigSep (Finset.Ico 0 8) fun e => pPbf c (rowS (dv e)) f := by
  rw [← sep_dv (fun e => pPbf c (rowS e) f)]
  unfold pW pPbf
  refine cut (ι := Fin 8) c cc0_scratch3 Finset.univ rowS (fun i => ?_) (fun i t t' h h' => Fin.ext ((mem_rowS.1 h).symm.trans (mem_rowS.1 h'))) f
  have h1 : (i 1).val < 256 := (i 1).isLt
  exact ⟨fun _ => ⟨⟨(i 1).val / 32, by omega⟩, mem_rowS.2 rfl⟩, fun _ => Finset.mem_univ _⟩
theorem agg_eq (c : Dev nD) (f) : pW (F := F) c cc0_scratch5 f = iprop(pAgg c (rowS c) fullShare f ∗ bigSep (Finset.Ico 1 8) fun k => pAgg c (rowS (nb c k)) fullShare f) := by
  rw [← sep_peers c (fun e => pAgg c (rowS e) fullShare f)]
  unfold pW pAgg
  refine cut (ι := Fin 8) c cc0_scratch5 Finset.univ rowS (fun i => ?_) (fun i t t' h h' => Fin.ext ((mem_rowS.1 h).symm.trans (mem_rowS.1 h'))) f
  have h1 : (i 1).val < 256 := (i 1).isLt
  exact ⟨fun _ => ⟨⟨(i 1).val / 32, by omega⟩, mem_rowS.2 rfl⟩, fun _ => Finset.mem_univ _⟩

/-! ## The tokens a device pays with, in program order -/

def tokBar (c : Dev nD) : sProp 𝕄 := bigSep (Finset.Ico 1 8) fun k => dutyTok ER (bar (nb c k)) 0 c
def tokKv (c : Dev nD) : sProp 𝕄 := bigSep (Finset.Ico 0 28) fun t => iprop(dutyTok ER (cell c (xKvs (pk c t) (rr t))) 0 (0 : Fin 8) ∗ dutyTok ER (cell (pk c t) (xKvr c (rr t))) 0 (0 : Fin 8))
def tokRs (c : Dev nD) : sProp 𝕄 := bigSep (Finset.Ico 1 8) fun k => iprop(dutyTok ER (cell c (xRss (nb c k))) 0 (0 : Fin 8) ∗ dutyTok ER (cell (nb c k) (xRsr c)) 0 (0 : Fin 8))
def tokAg (c : Dev nD) : sProp 𝕄 := bigSep (Finset.Ico 1 8) fun k => iprop(dutyTok ER (cell c (xAgs (nb c k))) 0 (0 : Fin 8) ∗ dutyTok ER (cell (nb c k) (xAgr c)) 0 (0 : Fin 8))
def payToks (c : Dev nD) : sProp 𝕄 := iprop(tokBar (F := F) c ∗ tokKv (F := F) c ∗ tokRs (F := F) c ∗ tokAg (F := F) c ∗ dutyTok ER (cell c xLoc) 0 (0 : Fin 8))

/-! ## At the barrier -/

/-- What the device's signals hand over: its memory that the others write. -/
theorem sg_start (c : Dev nD) :
    iprop(owesE (F := F) c (O₀ c) ∗ tokBar (F := F) c ∗ (∃ f, bigSep (Finset.Ico 1 8) fun k => pKvg (F := F) c (kvgSlot (nb c k)) f)
      ∗ (∃ f, bigSep (Finset.Ico 1 8) fun k => pRsb (F := F) c (rsbS (nb c k)) f) ∗ (∃ f, bigSep (Finset.Ico 1 8) fun k => pAgg (F := F) c (rowS (nb c k)) fullShare f)) ⊢ SG (F := F) c 1 := by
  unfold SG O₀ tokBar
  iintro ⟨HO, Ht, ⟨%f, H1⟩, ⟨%g, H2⟩, ⟨%h, H3⟩⟩
  isplitl [HO]; · iexact HO
  have hm : ∀ k ∈ Finset.Ico 1 8, iprop((dutyTok ER (bar (nb c k)) 0 c : sProp 𝕄) ∗ (pKvg (F := F) c (kvgSlot (nb c k)) f ∗ (pRsb c (rsbS (nb c k)) g ∗ pAgg c (rowS (nb c k)) fullShare h)))
      ⊢ iprop(dutyTok ER (bar (nb c k)) 0 c ∗ barPay (nb c k) c) := fun k _ => by
    unfold barPay
    iintro ⟨Ht, H1, H2, H3⟩
    isplitl [Ht]; · iexact Ht
    isplitl [H1]; · iexists f; iexact H1
    isplitl [H2]; · iexists g; iexact H2
    iexists h; iexact H3
  iapply (sep_mono hm)
  rw [bigSep_sep', bigSep_sep', bigSep_sep']
  isplitl [Ht]; · iexact Ht
  isplitl [H1]; · iexact H1
  isplitl [H2]; · iexact H2
  iexact H3

/-- What it gets at the barrier: the others' memory that it writes. -/
theorem bar_got (c : Dev nD) :
    bigSep (Finset.univ.erase c) (fun d => barPay (F := F) c d)
      ⊢ iprop((bigSep (Finset.Ico 0 28) fun t => iprop(∃ f, pKvg (F := F) (pk c t) (kvgS c (rr t)) f)) ∗ (bigSep (Finset.Ico 1 8) fun k => iprop(∃ f, pRsb (F := F) (nb c k) (rsbS c) f))
        ∗ bigSep (Finset.Ico 1 8) fun k => iprop(∃ f, pAgg (F := F) (nb c k) (rowS c) fullShare f)) := by
  rw [sep_others c]
  unfold barPay
  rw [bigSep_sep', bigSep_sep', sep_all c (fun e r => iprop(∃ f, pKvg (F := F) e (kvgS c r) f)), ← sep_swap]
  have hm : ∀ k ∈ Finset.Ico 1 8, iprop(∃ f, pKvg (F := F) (nb c k) (kvgSlot c) f) ⊢ bigSep Finset.univ fun r => iprop(∃ f, pKvg (F := F) (nb c k) (kvgS c r) f) := fun k _ => by
    iintro ⟨%f, H⟩
    have h2 : ∀ r ∈ (Finset.univ : Finset (Fin 4)), pKvg (F := F) (nb c k) (kvgS c r) f ⊢ iprop(∃ f, pKvg (F := F) (nb c k) (kvgS c r) f) := fun r _ => by
      iintro H; iexists f; iexact H
    iapply (sep_mono h2)
    iapply (BIBase.Entails.of_eq (kvgSlot_eq (nb c k) c f))
    iexact H
  iintro ⟨H1, H2, H3⟩
  isplitl [H1]; · iapply (sep_mono hm); iexact H1
  isplitl [H2]; · iexact H2
  iexact H3

variable (I : Dev nD → Ins F)

theorem kvs_start (c : Dev nD) :
    iprop(tokKv (F := F) c ∗ (bigSep (Finset.Ico 0 28) fun t => pKvst c (kvstS (pk c t) (rr t)) (KVST I c)) ∗ bigSep (Finset.Ico 0 28) fun t => iprop(∃ f, pKvg (F := F) (pk c t) (kvgS c (rr t)) f)) ⊢ KVS I c 0 := by
  unfold tokKv KVS
  rw [Finset.Ico_self, bigSep_empty]
  have hm : ∀ t ∈ Finset.Ico 0 28, iprop(((dutyTok ER (cell c (xKvs (pk c t) (rr t))) 0 (0 : Fin 8) : sProp 𝕄) ∗ dutyTok ER (cell (pk c t) (xKvr c (rr t))) 0 (0 : Fin 8))
      ∗ (pKvst c (kvstS (pk c t) (rr t)) (KVST I c) ∗ ∃ f, pKvg (F := F) (pk c t) (kvgS c (rr t)) f)) ⊢ kvTok I c t := fun t _ => by
    unfold kvTok
    iintro ⟨⟨H1, H2⟩, H3, H4⟩
    isplitl [H1]; · iexact H1
    isplitl [H2]; · iexact H2
    isplitl [H3]; · iexact H3
    iexact H4
  iintro ⟨H1, H2, H3⟩
  isplitl [H1 H2 H3]
  · iapply (sep_mono₃ hm)
    isplitl [H1]; · iexact H1
    isplitl [H2]; · iexact H2
    iexact H3
  iempintro

theorem rss_start (c : Dev nD) : iprop(tokRs (F := F) c ∗ bigSep (Finset.Ico 1 8) fun k => iprop(∃ f, pRsb (F := F) (nb c k) (rsbS c) f)) ⊢ RSS I c 0 := by
  unfold tokRs RSS rsTok
  rw [Finset.Ico_self, bigSep_empty]
  rw [← sep_dv (fun e => if e = c then (iprop(emp) : sProp 𝕄) else iprop(dutyTok ER (cell c (xRss e)) 0 (0 : Fin 8) ∗ dutyTok ER (cell e (xRsr c)) 0 (0 : Fin 8) ∗ ∃ f, pRsb (F := F) e (rsbS c) f)),
    sep_peers c, if_pos rfl]
  have hm : ∀ k ∈ Finset.Ico 1 8, iprop(((dutyTok ER (cell c (xRss (nb c k))) 0 (0 : Fin 8) : sProp 𝕄) ∗ dutyTok ER (cell (nb c k) (xRsr c)) 0 (0 : Fin 8)) ∗ ∃ f, pRsb (F := F) (nb c k) (rsbS c) f)
      ⊢ (if nb c k = c then (iprop(emp) : sProp 𝕄) else iprop(dutyTok ER (cell c (xRss (nb c k))) 0 (0 : Fin 8) ∗ dutyTok ER (cell (nb c k) (xRsr c)) 0 (0 : Fin 8) ∗ ∃ f, pRsb (F := F) (nb c k) (rsbS c) f)) := fun k hk => by
    rw [if_neg (nb_ne c k (Finset.mem_Ico.1 hk).1 (Finset.mem_Ico.1 hk).2)]
    iintro ⟨⟨H1, H2⟩, H3⟩
    isplitl [H1]; · iexact H1
    isplitl [H2]; · iexact H2
    iexact H3
  iintro ⟨H1, H2⟩
  isplitl [H1 H2]
  · isplitr; · iempintro
    iapply (sep_mono₂ hm)
    isplitl [H1]; · iexact H1
    iexact H2
  iempintro

theorem agt_start (c : Dev nD) : iprop(tokAg (F := F) c ∗ bigSep (Finset.Ico 1 8) fun k => iprop(∃ f, pAgg (F := F) (nb c k) (rowS c) fullShare f)) ⊢ AGT (F := F) c := by
  unfold tokAg AGT
  rw [← bigSep_sep']

theorem pas_start (c : Dev nD) : iprop(∃ f, pW (F := F) c cc0_scratch2 f) ⊢ PAs I c 0 := by
  unfold PAs
  iintro ⟨%f, H⟩
  iexists f
  isplitr
  · ipureintro; intro i h; exact absurd h (Nat.not_lt_zero _)
  iexact H

/-! ## After the local copy -/

theorem loc_got (c : Dev nD) : wGot I c xLoc ⊢ iprop((atPos ER (cell c xLoc) 1 ∅ 0 : sProp 𝕄) ∗ (pKvg c (kvgS c 0) (KVG I c) ∗ (pKvg c (kvgS c 1) (KVG I c) ∗ (pKvg c (kvgS c 2) (KVG I c) ∗ pKvg c (kvgS c 3) (KVG I c)))) ∗ pKvst c (kvstH c) (KVST I c)) := by
  rw [← sep_four (fun r => pKvg c (kvgS c r) (KVG I c)), ← kvgSlot_eq c c]
  have e : wGot I c xLoc = iprop((atPos ER (cell c xLoc) 1 ∅ 0 : sProp 𝕄) ∗ (pKvg c (kvgSlot c) (KVG I c) ∗ pKvst c (kvstH c) (KVST I c))) := if_pos rfl
  rw [e]

/-! ## The waits for the sends -/

theorem wkvs_start (c : Dev nD) : iprop(KVS I c 28 ∗ bigSep (Finset.Ico 0 28) fun u => (atPos ER (cell c (xKvs (pk c u) (rr u))) 0 ∅ 0 : sProp 𝕄)) ⊢ WT I c (fun u => xKvs (pk c u) (rr u)) 0 0 28 := by
  unfold KVS
  iintro ⟨⟨-, H⟩, Ha⟩
  iapply (wt_start I c (fun u => xKvs (pk c u) (rr u)) 0 28 (fun u _ => dut_one c _ (pk_ne c u)))
  isplitl [H]; · iexact H
  iexact Ha
theorem wags_start (c : Dev nD) : iprop(AGS I c 8 ∗ bigSep (Finset.Ico 1 8) fun k => (atPos ER (cell c (xAgs (nb c k))) 0 ∅ 0 : sProp 𝕄)) ⊢ WT I c (fun k => xAgs (nb c k)) 1 1 8 := by
  unfold AGS
  iintro ⟨⟨-, H⟩, Ha⟩
  iapply (wt_start I c (fun k => xAgs (nb c k)) 1 8 (fun u hu => nb_ne' c u (Finset.mem_Ico.1 hu).1 (Finset.mem_Ico.1 hu).2))
  isplitl [H]; · iexact H
  iexact Ha

/-- The reduction's sends done: their credits to wait for, and the device's own rows kept. -/
theorem wrss_start (c : Dev nD) : iprop(RSS I c 8 ∗ bigSep (Finset.Ico 0 8) fun e => (atPos ER (cell c (xRss (dv e))) 0 ∅ 0 : sProp 𝕄))
    ⊢ iprop(WT I c (fun e => xRss (dv e)) 0 0 8 ∗ pPbf c (rowS c) (PBF I c)) := by
  unfold RSS WT rsCred
  rw [Finset.Ico_self, bigSep_empty]
  rw [← sep_dv (fun e => if e = c then pPbf c (rowS e) (PBF I c) else (cred (tallyAt (cell c (xRss e)) () nRs) : sProp 𝕄)), sep_peers c, if_pos rfl]
  rw [← sep_dv (fun e => (atPos ER (cell c (xRss e)) 0 ∅ 0 : sProp 𝕄)), sep_peers c]
  rw [← sep_dv (fun e => wTok (F := F) c (xRss e)), sep_peers c]
  have e0 : wTok (F := F) c (xRss c) = (atPos ER (cell c (xRss c)) 0 ∅ 0 : sProp 𝕄) := if_neg (by
    show ¬ one c c = {0}
    unfold one; rw [if_pos rfl]; exact fun h => absurd h (Finset.singleton_ne_empty _).symm)
  rw [e0]
  have hm : ∀ k ∈ Finset.Ico 1 8, iprop((if nb c k = c then pPbf c (rowS (nb c k)) (PBF I c) else (cred (tallyAt (cell c (xRss (nb c k))) () nRs) : sProp 𝕄)) ∗ (atPos ER (cell c (xRss (nb c k))) 0 ∅ 0 : sProp 𝕄))
      ⊢ wTok (F := F) c (xRss (nb c k)) := fun k hk => by
    have h := Finset.mem_Ico.1 hk
    have e1 : wTok (F := F) c (xRss (nb c k)) = iprop((cred (tallyAt (cell c (xRss (nb c k))) () nRs) : sProp 𝕄) ∗ (atPos ER (cell c (xRss (nb c k))) 0 ∅ 0 : sProp 𝕄)) := if_pos (nb_ne' c k h.1 h.2)
    rw [if_neg (nb_ne c k h.1 h.2), e1]
  iintro ⟨⟨-, Hp, Hc⟩, Ha, Has⟩
  isplitr [Hp]
  · isplitl [Hc Ha Has]
    · isplitl [Ha]; · iexact Ha
      iapply (sep_mono₂ hm)
      isplitl [Hc]; · iexact Hc
      iexact Has
    iempintro
  iexact Hp

/-! ## The end of the waits -/

theorem kvs_done (c : Dev nD) : iprop(WT I c (fun u => xKvs (pk c u) (rr u)) 0 28 28 ∗ pKvst c (kvstH c) (KVST I c))
    ⊢ iprop(pW c cc0_scratch0 (KVST I c) ∗ bigSep (Finset.Ico 0 28) fun u => (atPos ER (cell c (xKvs (pk c u) (rr u))) 1 ∅ 0 : sProp 𝕄)) := by
  rw [kvst_eq]
  iintro ⟨H, Hs⟩
  ihave HJ := (wt_done I c (fun u => xKvs (pk c u) (rr u)) _ _ (fun u _ => dut_one c _ (pk_ne c u))) $$ H
  icases HJ with ⟨Hat, Hp⟩
  isplitr [Hat]
  · isplitl [Hs]; · iexact Hs
    iexact Hp
  iexact Hat

theorem agg_done (c : Dev nD) : iprop(WT I c (fun k => xAgs (nb c k)) 1 8 8 ∗ WT I c (fun k => xAgr (nb c k)) 1 8 8)
    ⊢ iprop(pW c cc0_scratch5 (AGG I) ∗ (bigSep (Finset.Ico 1 8) fun k => (atPos ER (cell c (xAgs (nb c k))) 1 ∅ 0 : sProp 𝕄)) ∗ bigSep (Finset.Ico 1 8) fun k => (atPos ER (cell c (xAgr (nb c k))) 1 ∅ 0 : sProp 𝕄)) := by
  rw [agg_eq]
  have hp : (bigSep (Finset.Ico 1 8) fun k => payX I c 0 (.inr (xAgs (nb c k)))) = bigSep (Finset.Ico 1 8) fun k => pAgg c (rowS c) (shr k) (AGG I) :=
    bigSep_congr fun k hk => by
      show pAgg c (rowS c) (shr (dist c (nb c k))) (AGG I) = _
      rw [dist_nb c k (Finset.mem_Ico.1 hk).2]
  iintro ⟨H, H'⟩
  ihave HJ := (wt_done I c (fun k => xAgs (nb c k)) _ _ (fun u hu => nb_ne' c u (Finset.mem_Ico.1 hu).1 (Finset.mem_Ico.1 hu).2)) $$ H
  icases HJ with ⟨Hat, Hp⟩
  ihave HJ' := (wt_done I c (fun k => xAgr (nb c k)) _ _ (fun u hu => nb_ne' c u (Finset.mem_Ico.1 hu).1 (Finset.mem_Ico.1 hu).2)) $$ H'
  icases HJ' with ⟨Hat', Hp'⟩
  isplitl [Hp Hp']
  · isplitl [Hp]
    · iapply (agg_share c (AGG I)).2
      iapply (BIBase.Entails.of_eq hp)
      iexact Hp
    iexact Hp'
  isplitl [Hat]; · iexact Hat
  iexact Hat'

/-! ## A device's cells at the end -/

/-- Where a cell stands after the run: past its round, unless it had none. -/
def endPos (c : Dev nD) (x : CX) : sProp 𝕄 := if dutX c x = ∅ then atPos ER (kcell (c, x)) 0 ∅ 0 else atPos ER (kcell (c, x)) 1 ∅ 0

theorem endPos_own (c : Dev nD) (x : Cx) (h : dutX c (.inr x) = {0}) : endPos (F := F) c (.inr x) = atPos ER (cell c x) 1 ∅ 0 :=
  if_neg (by rw [h]; exact Finset.singleton_ne_empty _)
theorem endPos_none (c : Dev nD) (x : Cx) (h : dutX c (.inr x) = ∅) : endPos (F := F) c (.inr x) = atPos ER (cell c x) 0 ∅ 0 := if_pos h
theorem endPos_bar (c : Dev nD) : endPos (F := F) c (.inl ()) = atPos ER (bar c) 1 ∅ 0 := if_neg (by
  show ¬ (Finset.univ.erase c = ∅)
  revert c; decide +kernel)

theorem rss_done (c : Dev nD) : iprop(WT I c (fun e => xRss (dv e)) 0 8 8 ∗ pPbf c (rowS c) (PBF I c))
    ⊢ iprop(pW c cc0_scratch3 (PBF I c) ∗ bigSep (Finset.Ico 0 8) fun e => endPos (F := F) c (.inr (xRss (dv e)))) := by
  unfold WT
  rw [pbf_rows, ← sep_dv (fun e => pPbf c (rowS e) (PBF I c)), ← sep_dv (fun e => endPos (F := F) c (.inr (xRss e))), ← sep_dv (fun e => wGot I c (xRss e)), sep_peers c, sep_peers c, sep_peers c]
  have hn : dutX c (.inr (xRss c)) = ∅ := if_pos rfl
  have e0 : wGot I c (xRss c) = (atPos ER (cell c (xRss c)) 0 ∅ 0 : sProp 𝕄) := if_neg (by rw [hn]; exact fun h => absurd h (Finset.singleton_ne_empty _).symm)
  rw [e0, endPos_none c _ hn]
  have hm : (bigSep (Finset.Ico 1 8) fun k => wGot I c (xRss (nb c k))) = iprop((bigSep (Finset.Ico 1 8) fun k => endPos (F := F) c (.inr (xRss (nb c k)))) ∗ bigSep (Finset.Ico 1 8) fun k => pPbf c (rowS (nb c k)) (PBF I c)) := by
    rw [← bigSep_sep']
    refine bigSep_congr fun k hk => ?_
    have h : dutX c (.inr (xRss (nb c k))) = {0} := nb_ne' c k (Finset.mem_Ico.1 hk).1 (Finset.mem_Ico.1 hk).2
    rw [endPos_own c _ h]
    exact if_pos h
  rw [hm]
  iintro ⟨⟨-, Ha, Has, Hps⟩, Hp⟩
  isplitl [Hp Hps]
  · isplitl [Hp]; · iexact Hp
    iexact Hps
  isplitl [Ha]; · iexact Ha
  iexact Has

/-- A device's cells, each family in the order the program uses it, its unused cells apart. -/
theorem cells_eq {M : Type} [URA M] (c : Dev nD) (Φ : CX → sProp M) :
    bigSep Finset.univ Φ = iprop(Φ (.inl ())
      ∗ ((bigSep Finset.univ fun r => Φ (.inr (xKvs c r))) ∗ bigSep (Finset.Ico 0 28) fun u => Φ (.inr (xKvs (pk c u) (rr u))))
      ∗ ((bigSep Finset.univ fun r => Φ (.inr (xKvr c r))) ∗ bigSep (Finset.Ico 0 28) fun u => Φ (.inr (xKvr (pk c u) (rr u))))
      ∗ (bigSep (Finset.Ico 0 8) fun e => Φ (.inr (xRss (dv e))))
      ∗ (Φ (.inr (xRsr c)) ∗ bigSep (Finset.Ico 1 8) fun k => Φ (.inr (xRsr (nb c k))))
      ∗ (Φ (.inr (xAgs c)) ∗ bigSep (Finset.Ico 1 8) fun k => Φ (.inr (xAgs (nb c k))))
      ∗ (Φ (.inr (xAgr c)) ∗ bigSep (Finset.Ico 1 8) fun k => Φ (.inr (xAgr (nb c k)))) ∗ Φ (.inr xLoc)) := by
  have h : ∀ Ψ : Fin 8 × Fin 4 → sProp M, bigSep Finset.univ Ψ = iprop((bigSep Finset.univ fun r => Ψ (c, r)) ∗ bigSep (Finset.Ico 0 28) fun u => Ψ (pk c u, rr u)) := fun Ψ => by
    rw [bigSep_univ_prod, sep_peers c, sep_all c (fun e r => Ψ (e, r)), sep_swap]
  have hu : ∀ Ψ : Unit → sProp M, bigSep Finset.univ Ψ = Ψ () := fun Ψ => by
    rw [show (Finset.univ : Finset Unit) = {()} from rfl, bigSep_singleton]
  rw [bigSep_univ_sum, bigSep_univ_sum, bigSep_univ_sum, bigSep_univ_sum, bigSep_univ_sum, bigSep_univ_sum, bigSep_univ_sum, hu, hu, h, h, sep_dv, sep_peers c, sep_peers c, sep_peers c]
  rfl

end Cert.Attn

end
-- ==== Proof.PartA.lean ====
/-
The barrier, the staged codes and the key/value sends.
-/
module

public import proofs.«01_k».proof.Proof.Cond

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Rounds

variable {F : FTy → Type} [FloatOps F]

local notation "𝕄" => MT nD τ sig Unit (Elt F) ℕ UU ℕ
variable (I : Dev nD → Ins F) (K : Dev nD × CX → ℕ)

theorem part1 (c : Dev nD)  {Q} : iprop(recs I K ∗ SG (F := F) c 1)
    ⊢ iprop((∀ a b e, (SG (F := F) c 3) -∗ Q ⟨c, myW c, SemArray.scalar (sig.barrier 0 rfl), a, b, e⟩) -∗ W c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 ) Q) := by
  rw [k0_part1_eq_skeleton]; unfold k0_part1_skel
  simp only [semSignalWord, Prog.lift, Prog.bind_op, Prog.bind_ret, Prog.pure_eq_ret, wp_deviceId]
  iintro ⟨#HR, HS⟩ Hk
  iapply (step_sig I K c _ 1 (dv1 c) (by decide) (by decide) _ rfl) $$ [HS]
  · isplitr; · iexact HR
    iexact HS
  iintro HS
  iapply (step_sig I K c _ 2 (dv2 c) (by decide) (by decide) _ rfl) $$ [HS]
  · isplitr; · iexact HR
    iexact HS
  iintro HS
  iapply W_ret
  iapply Hk
  iexact HS

theorem part2 (c : Dev nD) (v2 : BitVec 32) (v30 : BitVec 32) (c8_i32_18 : BitVec 32) (v31 : BitVec 1) {Q} : iprop(recs I K ∗ SG (F := F) c 3)
    ⊢ iprop((∀ r, (SG (F := F) c 5) -∗ Q r) -∗ W c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (SemArray.scalar (sig.barrier 0 rfl)) v30 c8_i32_18 v31) Q) := by
  rw [k0_part2_eq_skeleton]; unfold k0_part2_skel
  simp only [semSignalWord, Prog.lift, Prog.bind_op, Prog.bind_ret, Prog.pure_eq_ret]
  iintro ⟨#HR, HS⟩ Hk
  iapply (step_sig I K c _ 3 (dv3 c) (by decide) (by decide) _ rfl) $$ [HS]
  · isplitr; · iexact HR
    iexact HS
  iintro HS
  iapply (step_sig I K c _ 4 (dv4 c) (by decide) (by decide) _ rfl) $$ [HS]
  · isplitr; · iexact HR
    iexact HS
  iintro HS
  iapply W_ret
  iapply Hk
  iexact HS

theorem part3 (c : Dev nD) (v2 : BitVec 32) (v59 : BitVec 32) (v64 : BitVec 1) (v65 : BitVec 32) {Q} : iprop(recs I K ∗ SG (F := F) c 5 ∗ pW c cc0_stg2_0 (I c).k)
    ⊢ iprop(((SG (F := F) c 8 ∗ pW c cc0_stg2_0 (I c).k) -∗ Q (I c).k) -∗ W c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (SemArray.scalar (sig.barrier 0 rfl)) v59 v64 v65) Q) := by
  rw [k0_part3_eq_skeleton]; unfold k0_part3_skel
  simp only [semSignalWord, Prog.lift, Prog.bind_op, Prog.bind_ret, Prog.pure_eq_ret]
  iintro ⟨#HR, HS, H2⟩ Hk
  iapply (step_sig I K c _ 5 (dv5 c) (by decide) (by decide) _ rfl) $$ [HS]
  · isplitr; · iexact HR
    iexact HS
  iintro HS
  iapply (step_sig I K c _ 6 (dv6 c) (by decide) (by decide) _ rfl) $$ [HS]
  · isplitr; · iexact HR
    iexact HS
  iintro HS
  iapply (step_sig I K c _ 7 (dv7 c) (by decide) (by decide) _ rfl) $$ [HS]
  · isplitr; · iexact HR
    iexact HS
  iintro HS
  iapply (ld_stg2 c) $$ [H2]
  · iexact H2
  iintro H2
  iapply W_ret
  iapply Hk
  isplitl [HS]; · iexact HS
  iexact H2

theorem part4 (c : Dev nD) (v2 : BitVec 32) {Q} : iprop(recs I K ∗ (∃ f, pW c cc0_scratch0 f) ∗ pW c cc0_stg3_0 (I c).v)
    ⊢ iprop(((pW c cc0_scratch0 (KVST I c) ∗ pW c cc0_stg3_0 (I c).v) -∗ Q ⟨⟩) -∗ W c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2 (I c).k) Q) := by
  rw [k0_part4_eq_skeleton]; unfold k0_part4_skel
  simp only [Prog.lift, Prog.bind_op, Prog.bind_ret, Prog.pure_eq_ret]
  iintro ⟨#HR, HV, H3⟩ Hk
  iapply (st_k I c) $$ [HV]
  · iexact HV
  iintro HV
  iapply (ld_stg3 c) $$ [H3]
  · iexact H3
  iintro H3
  iapply (st_v I c) $$ [HV]
  · iexact HV
  iintro HV
  iapply W_ret
  iapply Hk
  isplitl [HV]; · iexact HV
  iexact H3

theorem part5 (c : Dev nD) (v2 : BitVec 32) {Q} : iprop(recs I K ∗ (dutyTok ER (cell c xLoc) 0 0 ∗ pKvst c (kvstH c) (KVST I c) ∗ (∃ f, pKvg c (kvgSlot c) f)) ∗ pW c cc0_stg0_0 (I c).x ∗ pW c cc0_stg1_0 (I c).wq ∗ pW c cc0_stg4_0 (I c).wo ∗ owesE c (OKv c 0 + (ORs c 0 + OAg c 1)) ∗ (cred (tallyAt (bar c) () 7) ∗ atPos ER (bar c) 0 ∅ 0))
    ⊢ iprop(((cred (tallyAt (cell c xLoc) () nLoc) ∗ pW c cc0_stg0_0 (I c).x ∗ pW c cc0_stg1_0 (I c).wq ∗ pW c cc0_stg4_0 (I c).wo ∗ owesE c (OKv c 0 + (ORs c 0 + OAg c 1)) ∗ (atPos ER (bar c) 1 ∅ 0 ∗ bigSep (Finset.univ.erase c) fun d => barPay (F := F) c d)) -∗ Q ⟨QQ I c, WO I c⟩) -∗ W c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (SemArray.scalar (sig.barrier 0 rfl))) Q) := by
  rw [k0_part5_eq_skeleton]; unfold k0_part5_skel
  simp only [semWaitWord, Prog.lift, Prog.bind_op, Prog.bind_ret, Prog.pure_eq_ret]
  iintro ⟨#HR, HL, H0, H1, H4, HO, HB⟩ Hk
  iapply (step_loc I K c (of2 c) (of1 c) (sem_loc _)) $$ [HL]
  · isplitr; · iexact HR
    iexact HL
  iintro HL
  iapply (ld_stg0 c) $$ [H0]
  · iexact H0
  iintro H0
  iapply (ld_stg1 c) $$ [H1]
  · iexact H1
  iintro H1
  iapply (ld_stg4 c) $$ [H4]
  · iexact H4
  iintro H4
  iapply (step_bar I K c _ rfl (above_add (above_OKv c 0) (above_add (above_mono (by decide) (above_ORs c 0)) (above_mono (by decide) (above_OAg c 1))))) $$ [HO HB]
  · isplitr; · iexact HR
    isplitl [HO]; · iexact HO
    iexact HB
  iintro ⟨HO, HB⟩
  iapply W_ret
  iapply Hk
  isplitl [HL]; · iexact HL
  isplitl [H0]; · iexact H0
  isplitl [H1]; · iexact H1
  isplitl [H4]; · iexact H4
  isplitl [HO]; · iexact HO
  iexact HB

theorem part6 (c : Dev nD) (v2 : BitVec 32) (O : CellTallies nD τ sig Unit) {Q} : iprop(recs I K ∗ owesE c (OKv c 0 + O) ∗ KVS I c 0)
    ⊢ iprop(((owesE c (OKv c 2 + O) ∗ KVS I c 2) -∗ Q ⟨⟩) -∗ W c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part6_eq_skeleton]; unfold k0_part6_skel
  simp only [Prog.lift, Prog.bind_op, Prog.bind_ret, Prog.pure_eq_ret]
  iintro ⟨#HR, HO, HK⟩ Hk
  iapply (step_kv I K c _ 0 (by decide) (dv8 c) (of6 c 1 (by decide) (by decide)) (of5 c) (sem_kvs _ _ _ _ (of3 c 1 (by decide) (by decide))) (sem_kvr _ _ _ _ (of4 c)) O) $$ [HO HK]
  · isplitr; · iexact HR
    isplitl [HO]; · iexact HO
    iexact HK
  iintro ⟨HO, HK⟩
  iapply (step_kv I K c _ 1 (by decide) (dv9 c) (of6 c 2 (by decide) (by decide)) (of5 c) (sem_kvs _ _ _ _ (of3 c 2 (by decide) (by decide))) (sem_kvr _ _ _ _ (of4 c)) O) $$ [HO HK]
  · isplitr; · iexact HR
    isplitl [HO]; · iexact HO
    iexact HK
  iintro ⟨HO, HK⟩
  iapply W_ret
  iapply Hk
  isplitl [HO]; · iexact HO
  iexact HK

theorem part7 (c : Dev nD) (v2 : BitVec 32) (O : CellTallies nD τ sig Unit) {Q} : iprop(recs I K ∗ owesE c (OKv c 2 + O) ∗ KVS I c 2)
    ⊢ iprop((∀ r, (owesE c (OKv c 3 + O) ∗ KVS I c 3) -∗ Q r) -∗ W c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part7_eq_skeleton]; unfold k0_part7_skel
  simp only [Prog.lift, Prog.bind_op, Prog.bind_ret, Prog.pure_eq_ret]
  iintro ⟨#HR, HO, HK⟩ Hk
  iapply (step_kv I K c _ 2 (by decide) (dv10 c) (of6 c 3 (by decide) (by decide)) (of5 c) (sem_kvs _ _ _ _ (of3 c 3 (by decide) (by decide))) (sem_kvr _ _ _ _ (of4 c)) O) $$ [HO HK]
  · isplitr; · iexact HR
    isplitl [HO]; · iexact HO
    iexact HK
  iintro ⟨HO, HK⟩
  iapply W_ret
  iapply Hk
  isplitl [HO]; · iexact HO
  iexact HK

theorem part8 (c : Dev nD) (v2 : BitVec 32) (v211 : BitVec 32) (v216 : BitVec 1) (v217 : BitVec 32) (O : CellTallies nD τ sig Unit) {Q} : iprop(recs I K ∗ owesE c (OKv c 3 + O) ∗ KVS I c 3)
    ⊢ iprop(((owesE c (OKv c 4 + O) ∗ KVS I c 4) -∗ Q ⟨⟩) -∗ W c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v211 v216 v217) Q) := by
  rw [k0_part8_eq_skeleton]; unfold k0_part8_skel
  simp only [Prog.lift, Prog.bind_op, Prog.bind_ret, Prog.pure_eq_ret]
  iintro ⟨#HR, HO, HK⟩ Hk
  iapply (step_kv I K c _ 3 (by decide) (dv11 c) (of6 c 4 (by decide) (by decide)) (of5 c) (sem_kvs _ _ _ _ (of3 c 4 (by decide) (by decide))) (sem_kvr _ _ _ _ (of4 c)) O) $$ [HO HK]
  · isplitr; · iexact HR
    isplitl [HO]; · iexact HO
    iexact HK
  iintro ⟨HO, HK⟩
  iapply W_ret
  iapply Hk
  isplitl [HO]; · iexact HO
  iexact HK

theorem part9 (c : Dev nD) (v2 : BitVec 32) (O : CellTallies nD τ sig Unit) {Q} : iprop(recs I K ∗ owesE c (OKv c 4 + O) ∗ KVS I c 4)
    ⊢ iprop((∀ r, (owesE c (OKv c 6 + O) ∗ KVS I c 6) -∗ Q r) -∗ W c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part9_eq_skeleton]; unfold k0_part9_skel
  simp only [Prog.lift, Prog.bind_op, Prog.bind_ret, Prog.pure_eq_ret]
  iintro ⟨#HR, HO, HK⟩ Hk
  iapply (step_kv I K c _ 4 (by decide) (dv12 c) (of6 c 5 (by decide) (by decide)) (of5 c) (sem_kvs _ _ _ _ (of3 c 5 (by decide) (by decide))) (sem_kvr _ _ _ _ (of4 c)) O) $$ [HO HK]
  · isplitr; · iexact HR
    isplitl [HO]; · iexact HO
    iexact HK
  iintro ⟨HO, HK⟩
  iapply (step_kv I K c _ 5 (by decide) (dv13 c) (of6 c 6 (by decide) (by decide)) (of5 c) (sem_kvs _ _ _ _ (of3 c 6 (by decide) (by decide))) (sem_kvr _ _ _ _ (of4 c)) O) $$ [HO HK]
  · isplitr; · iexact HR
    isplitl [HO]; · iexact HO
    iexact HK
  iintro ⟨HO, HK⟩
  iapply W_ret
  iapply Hk
  isplitl [HO]; · iexact HO
  iexact HK

theorem part10 (c : Dev nD) (v2 : BitVec 32) (v273 : BitVec 32) (v274 : BitVec 32) (O : CellTallies nD τ sig Unit) {Q} : iprop(recs I K ∗ owesE c (OKv c 6 + O) ∗ KVS I c 6)
    ⊢ iprop((∀ r, (owesE c (OKv c 7 + O) ∗ KVS I c 7) -∗ Q r) -∗ W c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v273 v274) Q) := by
  rw [k0_part10_eq_skeleton]; unfold k0_part10_skel
  simp only [Prog.lift, Prog.bind_op, Prog.bind_ret, Prog.pure_eq_ret]
  iintro ⟨#HR, HO, HK⟩ Hk
  iapply (step_kv I K c _ 6 (by decide) (dv14 c) (of6 c 7 (by decide) (by decide)) (of5 c) (sem_kvs _ _ _ _ (of3 c 7 (by decide) (by decide))) (sem_kvr _ _ _ _ (of4 c)) O) $$ [HO HK]
  · isplitr; · iexact HR
    isplitl [HO]; · iexact HO
    iexact HK
  iintro ⟨HO, HK⟩
  iapply W_ret
  iapply Hk
  isplitl [HO]; · iexact HO
  iexact HK

theorem part11 (c : Dev nD) (v2 : BitVec 32) (v304 : BitVec 32) (c0_i32_260 : BitVec 32) (O : CellTallies nD τ sig Unit) {Q} : iprop(recs I K ∗ owesE c (OKv c 7 + O) ∗ KVS I c 7)
    ⊢ iprop(((owesE c (OKv c 8 + O) ∗ KVS I c 8) -∗ Q ⟨⟩) -∗ W c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v304 c0_i32_260) Q) := by
  rw [k0_part11_eq_skeleton]; unfold k0_part11_skel
  simp only [Prog.lift, Prog.bind_op, Prog.bind_ret, Prog.pure_eq_ret]
  iintro ⟨#HR, HO, HK⟩ Hk
  iapply (step_kv I K c _ 7 (by decide) (dv15 c) (of10 c 1 (by decide) (by decide)) (of9 c) (sem_kvs _ _ _ _ (of7 c 1 (by decide) (by decide))) (sem_kvr _ _ _ _ (of8 c)) O) $$ [HO HK]
  · isplitr; · iexact HR
    isplitl [HO]; · iexact HO
    iexact HK
  iintro ⟨HO, HK⟩
  iapply W_ret
  iapply Hk
  isplitl [HO]; · iexact HO
  iexact HK

theorem part12 (c : Dev nD) (v2 : BitVec 32) (O : CellTallies nD τ sig Unit) {Q} : iprop(recs I K ∗ owesE c (OKv c 8 + O) ∗ KVS I c 8)
    ⊢ iprop((∀ r, (owesE c (OKv c 10 + O) ∗ KVS I c 10) -∗ Q r) -∗ W c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part12_eq_skeleton]; unfold k0_part12_skel
  simp only [Prog.lift, Prog.bind_op, Prog.bind_ret, Prog.pure_eq_ret]
  iintro ⟨#HR, HO, HK⟩ Hk
  iapply (step_kv I K c _ 8 (by decide) (dv16 c) (of10 c 2 (by decide) (by decide)) (of9 c) (sem_kvs _ _ _ _ (of7 c 2 (by decide) (by decide))) (sem_kvr _ _ _ _ (of8 c)) O) $$ [HO HK]
  · isplitr; · iexact HR
    isplitl [HO]; · iexact HO
    iexact HK
  iintro ⟨HO, HK⟩
  iapply (step_kv I K c _ 9 (by decide) (dv17 c) (of10 c 3 (by decide) (by decide)) (of9 c) (sem_kvs _ _ _ _ (of7 c 3 (by decide) (by decide))) (sem_kvr _ _ _ _ (of8 c)) O) $$ [HO HK]
  · isplitr; · iexact HR
    isplitl [HO]; · iexact HO
    iexact HK
  iintro ⟨HO, HK⟩
  iapply W_ret
  iapply Hk
  isplitl [HO]; · iexact HO
  iexact HK

theorem part13 (c : Dev nD) (v2 : BitVec 32) (v357 : BitVec 32) (v358 : BitVec 32) (v363 : BitVec 1) (O : CellTallies nD τ sig Unit) {Q} : iprop(recs I K ∗ owesE c (OKv c 10 + O) ∗ KVS I c 10)
    ⊢ iprop(((owesE c (OKv c 11 + O) ∗ KVS I c 11) -∗ Q ⟨⟩) -∗ W c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v357 v358 v363) Q) := by
  rw [k0_part13_eq_skeleton]; unfold k0_part13_skel
  simp only [Prog.lift, Prog.bind_op, Prog.bind_ret, Prog.pure_eq_ret]
  iintro ⟨#HR, HO, HK⟩ Hk
  iapply (step_kv I K c _ 10 (by decide) (dv18 c) (of10 c 4 (by decide) (by decide)) (of9 c) (sem_kvs _ _ _ _ (of7 c 4 (by decide) (by decide))) (sem_kvr _ _ _ _ (of8 c)) O) $$ [HO HK]
  · isplitr; · iexact HR
    isplitl [HO]; · iexact HO
    iexact HK
  iintro ⟨HO, HK⟩
  iapply W_ret
  iapply Hk
  isplitl [HO]; · iexact HO
  iexact HK

theorem part14 (c : Dev nD) (v2 : BitVec 32) (O : CellTallies nD τ sig Unit) {Q} : iprop(recs I K ∗ owesE c (OKv c 11 + O) ∗ KVS I c 11)
    ⊢ iprop((∀ r, (owesE c (OKv c 13 + O) ∗ KVS I c 13) -∗ Q r) -∗ W c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part14_eq_skeleton]; unfold k0_part14_skel
  simp only [Prog.lift, Prog.bind_op, Prog.bind_ret, Prog.pure_eq_ret]
  iintro ⟨#HR, HO, HK⟩ Hk
  iapply (step_kv I K c _ 11 (by decide) (dv19 c) (of10 c 5 (by decide) (by decide)) (of9 c) (sem_kvs _ _ _ _ (of7 c 5 (by decide) (by decide))) (sem_kvr _ _ _ _ (of8 c)) O) $$ [HO HK]
  · isplitr; · iexact HR
    isplitl [HO]; · iexact HO
    iexact HK
  iintro ⟨HO, HK⟩
  iapply (step_kv I K c _ 12 (by decide) (dv20 c) (of10 c 6 (by decide) (by decide)) (of9 c) (sem_kvs _ _ _ _ (of7 c 6 (by decide) (by decide))) (sem_kvr _ _ _ _ (of8 c)) O) $$ [HO HK]
  · isplitr; · iexact HR
    isplitl [HO]; · iexact HO
    iexact HK
  iintro ⟨HO, HK⟩
  iapply W_ret
  iapply Hk
  isplitl [HO]; · iexact HO
  iexact HK

theorem part15 (c : Dev nD) (v2 : BitVec 32) (v418 : BitVec 32) (v420 : BitVec 32) (O : CellTallies nD τ sig Unit) {Q} : iprop(recs I K ∗ owesE c (OKv c 13 + O) ∗ KVS I c 13)
    ⊢ iprop((∀ r, (owesE c (OKv c 14 + O) ∗ KVS I c 14) -∗ Q r) -∗ W c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v418 v420) Q) := by
  rw [k0_part15_eq_skeleton]; unfold k0_part15_skel
  simp only [Prog.lift, Prog.bind_op, Prog.bind_ret, Prog.pure_eq_ret]
  iintro ⟨#HR, HO, HK⟩ Hk
  iapply (step_kv I K c _ 13 (by decide) (dv21 c) (of10 c 7 (by decide) (by decide)) (of9 c) (sem_kvs _ _ _ _ (of7 c 7 (by decide) (by decide))) (sem_kvr _ _ _ _ (of8 c)) O) $$ [HO HK]
  · isplitr; · iexact HR
    isplitl [HO]; · iexact HO
    iexact HK
  iintro ⟨HO, HK⟩
  iapply W_ret
  iapply Hk
  isplitl [HO]; · iexact HO
  iexact HK

theorem part16 (c : Dev nD) (v2 : BitVec 32) (v451 : BitVec 32) (O : CellTallies nD τ sig Unit) {Q} : iprop(recs I K ∗ owesE c (OKv c 14 + O) ∗ KVS I c 14)
    ⊢ iprop(((owesE c (OKv c 15 + O) ∗ KVS I c 15) -∗ Q ⟨⟩) -∗ W c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v451) Q) := by
  rw [k0_part16_eq_skeleton]; unfold k0_part16_skel
  simp only [Prog.lift, Prog.bind_op, Prog.bind_ret, Prog.pure_eq_ret]
  iintro ⟨#HR, HO, HK⟩ Hk
  iapply (step_kv I K c _ 14 (by decide) (dv22 c) (of14 c 1 (by decide) (by decide)) (of13 c) (sem_kvs _ _ _ _ (of11 c 1 (by decide) (by decide))) (sem_kvr _ _ _ _ (of12 c)) O) $$ [HO HK]
  · isplitr; · iexact HR
    isplitl [HO]; · iexact HO
    iexact HK
  iintro ⟨HO, HK⟩
  iapply W_ret
  iapply Hk
  isplitl [HO]; · iexact HO
  iexact HK

theorem part17 (c : Dev nD) (v2 : BitVec 32) (O : CellTallies nD τ sig Unit) {Q} : iprop(recs I K ∗ owesE c (OKv c 15 + O) ∗ KVS I c 15)
    ⊢ iprop((∀ r, (owesE c (OKv c 17 + O) ∗ KVS I c 17) -∗ Q r) -∗ W c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part17_eq_skeleton]; unfold k0_part17_skel
  simp only [Prog.lift, Prog.bind_op, Prog.bind_ret, Prog.pure_eq_ret]
  iintro ⟨#HR, HO, HK⟩ Hk
  iapply (step_kv I K c _ 15 (by decide) (dv23 c) (of14 c 2 (by decide) (by decide)) (of13 c) (sem_kvs _ _ _ _ (of11 c 2 (by decide) (by decide))) (sem_kvr _ _ _ _ (of12 c)) O) $$ [HO HK]
  · isplitr; · iexact HR
    isplitl [HO]; · iexact HO
    iexact HK
  iintro ⟨HO, HK⟩
  iapply (step_kv I K c _ 16 (by decide) (dv24 c) (of14 c 3 (by decide) (by decide)) (of13 c) (sem_kvs _ _ _ _ (of11 c 3 (by decide) (by decide))) (sem_kvr _ _ _ _ (of12 c)) O) $$ [HO HK]
  · isplitr; · iexact HR
    isplitl [HO]; · iexact HO
    iexact HK
  iintro ⟨HO, HK⟩
  iapply W_ret
  iapply Hk
  isplitl [HO]; · iexact HO
  iexact HK

theorem part18 (c : Dev nD) (v2 : BitVec 32) (v504 : BitVec 32) (v505 : BitVec 32) (v506 : BitVec 1) (v509 : BitVec 1) (O : CellTallies nD τ sig Unit) {Q} : iprop(recs I K ∗ owesE c (OKv c 17 + O) ∗ KVS I c 17)
    ⊢ iprop(((owesE c (OKv c 18 + O) ∗ KVS I c 18) -∗ Q ⟨⟩) -∗ W c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v504 v505 v506 v509) Q) := by
  rw [k0_part18_eq_skeleton]; unfold k0_part18_skel
  simp only [Prog.lift, Prog.bind_op, Prog.bind_ret, Prog.pure_eq_ret]
  iintro ⟨#HR, HO, HK⟩ Hk
  iapply (step_kv I K c _ 17 (by decide) (dv25 c) (of14 c 4 (by decide) (by decide)) (of13 c) (sem_kvs _ _ _ _ (of11 c 4 (by decide) (by decide))) (sem_kvr _ _ _ _ (of12 c)) O) $$ [HO HK]
  · isplitr; · iexact HR
    isplitl [HO]; · iexact HO
    iexact HK
  iintro ⟨HO, HK⟩
  iapply W_ret
  iapply Hk
  isplitl [HO]; · iexact HO
  iexact HK

theorem part19 (c : Dev nD) (v2 : BitVec 32) (O : CellTallies nD τ sig Unit) {Q} : iprop(recs I K ∗ owesE c (OKv c 18 + O) ∗ KVS I c 18)
    ⊢ iprop((∀ r, (owesE c (OKv c 20 + O) ∗ KVS I c 20) -∗ Q r) -∗ W c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part19_eq_skeleton]; unfold k0_part19_skel
  simp only [Prog.lift, Prog.bind_op, Prog.bind_ret, Prog.pure_eq_ret]
  iintro ⟨#HR, HO, HK⟩ Hk
  iapply (step_kv I K c _ 18 (by decide) (dv26 c) (of14 c 5 (by decide) (by decide)) (of13 c) (sem_kvs _ _ _ _ (of11 c 5 (by decide) (by decide))) (sem_kvr _ _ _ _ (of12 c)) O) $$ [HO HK]
  · isplitr; · iexact HR
    isplitl [HO]; · iexact HO
    iexact HK
  iintro ⟨HO, HK⟩
  iapply (step_kv I K c _ 19 (by decide) (dv27 c) (of14 c 6 (by decide) (by decide)) (of13 c) (sem_kvs _ _ _ _ (of11 c 6 (by decide) (by decide))) (sem_kvr _ _ _ _ (of12 c)) O) $$ [HO HK]
  · isplitr; · iexact HR
    isplitl [HO]; · iexact HO
    iexact HK
  iintro ⟨HO, HK⟩
  iapply W_ret
  iapply Hk
  isplitl [HO]; · iexact HO
  iexact HK

theorem part20 (c : Dev nD) (v2 : BitVec 32) (v565 : BitVec 32) (c8_i32_521 : BitVec 32) (v566 : BitVec 1) (c1_i32_523 : BitVec 32) (O : CellTallies nD τ sig Unit) {Q} : iprop(recs I K ∗ owesE c (OKv c 20 + O) ∗ KVS I c 20)
    ⊢ iprop((∀ r, (owesE c (OKv c 21 + O) ∗ KVS I c 21) -∗ Q r) -∗ W c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v565 c8_i32_521 v566 c1_i32_523) Q) := by
  rw [k0_part20_eq_skeleton]; unfold k0_part20_skel
  simp only [Prog.lift, Prog.bind_op, Prog.bind_ret, Prog.pure_eq_ret]
  iintro ⟨#HR, HO, HK⟩ Hk
  iapply (step_kv I K c _ 20 (by decide) (dv28 c) (of14 c 7 (by decide) (by decide)) (of13 c) (sem_kvs _ _ _ _ (of11 c 7 (by decide) (by decide))) (sem_kvr _ _ _ _ (of12 c)) O) $$ [HO HK]
  · isplitr; · iexact HR
    isplitl [HO]; · iexact HO
    iexact HK
  iintro ⟨HO, HK⟩
  iapply W_ret
  iapply Hk
  isplitl [HO]; · iexact HO
  iexact HK

theorem part21 (c : Dev nD) (v2 : BitVec 32) (v596 : BitVec 32) (c1_i32_551 : BitVec 32) (O : CellTallies nD τ sig Unit) {Q} : iprop(recs I K ∗ owesE c (OKv c 21 + O) ∗ KVS I c 21)
    ⊢ iprop(((owesE c (OKv c 22 + O) ∗ KVS I c 22) -∗ Q ⟨⟩) -∗ W c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v596 c1_i32_551) Q) := by
  rw [k0_part21_eq_skeleton]; unfold k0_part21_skel
  simp only [Prog.lift, Prog.bind_op, Prog.bind_ret, Prog.pure_eq_ret]
  iintro ⟨#HR, HO, HK⟩ Hk
  iapply (step_kv I K c _ 21 (by decide) (dv29 c) (of18 c 1 (by decide) (by decide)) (of17 c) (sem_kvs _ _ _ _ (of15 c 1 (by decide) (by decide))) (sem_kvr _ _ _ _ (of16 c)) O) $$ [HO HK]
  · isplitr; · iexact HR
    isplitl [HO]; · iexact HO
    iexact HK
  iintro ⟨HO, HK⟩
  iapply W_ret
  iapply Hk
  isplitl [HO]; · iexact HO
  iexact HK

theorem part22 (c : Dev nD) (v2 : BitVec 32) (O : CellTallies nD τ sig Unit) {Q} : iprop(recs I K ∗ owesE c (OKv c 22 + O) ∗ KVS I c 22)
    ⊢ iprop((∀ r, (owesE c (OKv c 24 + O) ∗ KVS I c 24) -∗ Q r) -∗ W c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part22_eq_skeleton]; unfold k0_part22_skel
  simp only [Prog.lift, Prog.bind_op, Prog.bind_ret, Prog.pure_eq_ret]
  iintro ⟨#HR, HO, HK⟩ Hk
  iapply (step_kv I K c _ 22 (by decide) (dv30 c) (of18 c 2 (by decide) (by decide)) (of17 c) (sem_kvs _ _ _ _ (of15 c 2 (by decide) (by decide))) (sem_kvr _ _ _ _ (of16 c)) O) $$ [HO HK]
  · isplitr; · iexact HR
    isplitl [HO]; · iexact HO
    iexact HK
  iintro ⟨HO, HK⟩
  iapply (step_kv I K c _ 23 (by decide) (dv31 c) (of18 c 3 (by decide) (by decide)) (of17 c) (sem_kvs _ _ _ _ (of15 c 3 (by decide) (by decide))) (sem_kvr _ _ _ _ (of16 c)) O) $$ [HO HK]
  · isplitr; · iexact HR
    isplitl [HO]; · iexact HO
    iexact HK
  iintro ⟨HO, HK⟩
  iapply W_ret
  iapply Hk
  isplitl [HO]; · iexact HO
  iexact HK

theorem part23 (c : Dev nD) (v2 : BitVec 32) (v651 : BitVec 32) (v652 : BitVec 32) (v653 : BitVec 1) (v654 : BitVec 1) (v655 : BitVec 1) (O : CellTallies nD τ sig Unit) {Q} : iprop(recs I K ∗ owesE c (OKv c 24 + O) ∗ KVS I c 24)
    ⊢ iprop(((owesE c (OKv c 25 + O) ∗ KVS I c 25) -∗ Q ⟨⟩) -∗ W c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v651 v652 v653 v654 v655) Q) := by
  rw [k0_part23_eq_skeleton]; unfold k0_part23_skel
  simp only [Prog.lift, Prog.bind_op, Prog.bind_ret, Prog.pure_eq_ret]
  iintro ⟨#HR, HO, HK⟩ Hk
  iapply (step_kv I K c _ 24 (by decide) (dv32 c) (of18 c 4 (by decide) (by decide)) (of17 c) (sem_kvs _ _ _ _ (of15 c 4 (by decide) (by decide))) (sem_kvr _ _ _ _ (of16 c)) O) $$ [HO HK]
  · isplitr; · iexact HR
    isplitl [HO]; · iexact HO
    iexact HK
  iintro ⟨HO, HK⟩
  iapply W_ret
  iapply Hk
  isplitl [HO]; · iexact HO
  iexact HK

theorem part24 (c : Dev nD) (v2 : BitVec 32) (O : CellTallies nD τ sig Unit) {Q} : iprop(recs I K ∗ owesE c (OKv c 25 + O) ∗ KVS I c 25)
    ⊢ iprop((∀ r, (owesE c (OKv c 27 + O) ∗ KVS I c 27) -∗ Q r) -∗ W c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part24_eq_skeleton]; unfold k0_part24_skel
  simp only [Prog.lift, Prog.bind_op, Prog.bind_ret, Prog.pure_eq_ret]
  iintro ⟨#HR, HO, HK⟩ Hk
  iapply (step_kv I K c _ 25 (by decide) (dv33 c) (of18 c 5 (by decide) (by decide)) (of17 c) (sem_kvs _ _ _ _ (of15 c 5 (by decide) (by decide))) (sem_kvr _ _ _ _ (of16 c)) O) $$ [HO HK]
  · isplitr; · iexact HR
    isplitl [HO]; · iexact HO
    iexact HK
  iintro ⟨HO, HK⟩
  iapply (step_kv I K c _ 26 (by decide) (dv34 c) (of18 c 6 (by decide) (by decide)) (of17 c) (sem_kvs _ _ _ _ (of15 c 6 (by decide) (by decide))) (sem_kvr _ _ _ _ (of16 c)) O) $$ [HO HK]
  · isplitr; · iexact HR
    isplitl [HO]; · iexact HO
    iexact HK
  iintro ⟨HO, HK⟩
  iapply W_ret
  iapply Hk
  isplitl [HO]; · iexact HO
  iexact HK

theorem part25 (c : Dev nD) (v2 : BitVec 32) (v712 : BitVec 32) (c8_i32_667 : BitVec 32) (v713 : BitVec 1) (O : CellTallies nD τ sig Unit) (hO : Above 0 O) {Q} : iprop(recs I K ∗ owesE c (OKv c 27 + O) ∗ KVS I c 27 ∗ wTok (F := F) c xLoc)
    ⊢ iprop((∀ r, (owesE c (OKv c 28 + O) ∗ KVS I c 28 ∗ wGot I c xLoc) -∗ Q r) -∗ W c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v712 c8_i32_667 v713) Q) := by
  rw [k0_part25_eq_skeleton]; unfold k0_part25_skel
  simp only [Prog.lift, Prog.bind_op, Prog.bind_ret, Prog.pure_eq_ret]
  iintro ⟨#HR, HO, HK, HW⟩ Hk
  iapply (step_kv I K c _ 27 (by decide) (dv35 c) (of18 c 7 (by decide) (by decide)) (of17 c) (sem_kvs _ _ _ _ (of15 c 7 (by decide) (by decide))) (sem_kvr _ _ _ _ (of16 c)) O) $$ [HO HK]
  · isplitr; · iexact HR
    isplitl [HO]; · iexact HO
    iexact HK
  iintro ⟨HO, HK⟩
  iapply (wait_gen I K c (sem_loc _) rfl (by rfl) 0 (by decide) (above_add (above_mono (by decide) (above_OKv c 28)) hO)) $$ [HO HW]
  · isplitr; · iexact HR
    isplitl [HO]; · iexact HO
    iexact HW
  iintro ⟨HO, HW⟩
  iapply W_ret
  iapply Hk
  isplitl [HO]; · iexact HO
  isplitl [HK]; · iexact HK
  iexact HW

end Cert.Attn

end
-- ==== Proof.PartB.lean ====
/-
The four query blocks: the landings, the partial results, the reduction's sends.
-/
module

public import proofs.«01_k».proof.Proof.Join

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Rounds

variable {F : FTy → Type} [FloatOps F]

local notation "𝕄" => MT nD τ sig Unit (Elt F) ℕ UU ℕ
variable (I : Dev nD → Ins F) (K : Dev nD × CX → ℕ)

theorem part26 (c : Dev nD) (v2 : BitVec 32) (v738 : BitVec 32) (c8_i32_698 : BitVec 32) (v739 : BitVec 1) (c1_i32_700 : BitVec 32) {Q} : iprop(recs I K ∗ owesE c (ORs c 0 + OAg c 1) ∗ WT I c (fun u => xKvr (pk c u) (rr u)) 0 0 7)
    ⊢ iprop(((owesE c (ORs c 0 + OAg c 1) ∗ WT I c (fun u => xKvr (pk c u) (rr u)) 0 1 7) -∗ Q ⟨⟩) -∗ W c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v738 c8_i32_698 v739 c1_i32_700) Q) := by
  rw [k0_part26_eq_skeleton]; unfold k0_part26_skel
  simp only [Prog.lift, Prog.bind_op, Prog.bind_ret, Prog.pure_eq_ret]
  iintro ⟨#HR, HO, HWkvr⟩ Hk
  iapply (step_wait I K c (fun u => xKvr (pk c u) (rr u)) 0 0 7 (by decide) (by decide) (sem_kvr _ _ _ _ (of3 c 1 (by decide) (by decide))) (dut_one c _ (pk_ne c 0)) (by rfl) 2 (Nat.le_refl _) (above_add (above_ORs c 0) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part27 (c : Dev nD) (v2 : BitVec 32) {Q} : iprop(recs I K ∗ owesE c (ORs c 0 + OAg c 1) ∗ WT I c (fun u => xKvr (pk c u) (rr u)) 0 1 7)
    ⊢ iprop((∀ r, (owesE c (ORs c 0 + OAg c 1) ∗ WT I c (fun u => xKvr (pk c u) (rr u)) 0 3 7) -∗ Q r) -∗ W c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part27_eq_skeleton]; unfold k0_part27_skel
  simp only [Prog.lift, Prog.bind_op, Prog.bind_ret, Prog.pure_eq_ret]
  iintro ⟨#HR, HO, HWkvr⟩ Hk
  iapply (step_wait I K c (fun u => xKvr (pk c u) (rr u)) 0 1 7 (by decide) (by decide) (sem_kvr _ _ _ _ (of3 c 2 (by decide) (by decide))) (dut_one c _ (pk_ne c 1)) (by rfl) 2 (Nat.le_refl _) (above_add (above_ORs c 0) (above_mono (by decide) (above_OAg c 1)))) $$ [HO HWkvr]
  · isplitr; · iexact HR
    isplitl [HO]; · iexact HO
    iexact HWkvr
  iintro ⟨HO, HWkvr⟩
  iapply (step_wait I K c (fun u => xKvr (pk c u) (rr u)) 0 2 7 (by decide) (by decide) (sem_kvr _ _ _ _ (of3 c 3 (by decide) (by decide))) (dut_one c _ (pk_ne c 2)) (by rfl) 2 (Nat.le_refl _) (above_add (above_ORs c 0) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part28 (c : Dev nD) (v2 : BitVec 32) (v792 : BitVec 32) (c8_i32_761 : BitVec 32) (v793 : BitVec 1) (c1_i32_763 : BitVec 32) {Q} : iprop(recs I K ∗ owesE c (ORs c 0 + OAg c 1) ∗ WT I c (fun u => xKvr (pk c u) (rr u)) 0 3 7)
    ⊢ iprop(((owesE c (ORs c 0 + OAg c 1) ∗ WT I c (fun u => xKvr (pk c u) (rr u)) 0 4 7) -∗ Q ⟨⟩) -∗ W c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v792 c8_i32_761 v793 c1_i32_763) Q) := by
  rw [k0_part28_eq_skeleton]; unfold k0_part28_skel
  simp only [Prog.lift, Prog.bind_op, Prog.bind_ret, Prog.pure_eq_ret]
  iintro ⟨#HR, HO, HWkvr⟩ Hk
  iapply (step_wait I K c (fun u => xKvr (pk c u) (rr u)) 0 3 7 (by decide) (by decide) (sem_kvr _ _ _ _ (of3 c 4 (by decide) (by decide))) (dut_one c _ (pk_ne c 3)) (by rfl) 2 (Nat.le_refl _) (above_add (above_ORs c 0) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part29 (c : Dev nD) (v2 : BitVec 32) {Q} : iprop(recs I K ∗ owesE c (ORs c 0 + OAg c 1) ∗ WT I c (fun u => xKvr (pk c u) (rr u)) 0 4 7)
    ⊢ iprop((∀ r, (owesE c (ORs c 0 + OAg c 1) ∗ WT I c (fun u => xKvr (pk c u) (rr u)) 0 6 7) -∗ Q r) -∗ W c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part29_eq_skeleton]; unfold k0_part29_skel
  simp only [Prog.lift, Prog.bind_op, Prog.bind_ret, Prog.pure_eq_ret]
  iintro ⟨#HR, HO, HWkvr⟩ Hk
  iapply (step_wait I K c (fun u => xKvr (pk c u) (rr u)) 0 4 7 (by decide) (by decide) (sem_kvr _ _ _ _ (of3 c 5 (by decide) (by decide))) (dut_one c _ (pk_ne c 4)) (by rfl) 2 (Nat.le_refl _) (above_add (above_ORs c 0) (above_mono (by decide) (above_OAg c 1)))) $$ [HO HWkvr]
  · isplitr; · iexact HR
    isplitl [HO]; · iexact HO
    iexact HWkvr
  iintro ⟨HO, HWkvr⟩
  iapply (step_wait I K c (fun u => xKvr (pk c u) (rr u)) 0 5 7 (by decide) (by decide) (sem_kvr _ _ _ _ (of3 c 6 (by decide) (by decide))) (dut_one c _ (pk_ne c 5)) (by rfl) 2 (Nat.le_refl _) (above_add (above_ORs c 0) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part30 (c : Dev nD) (v846 : BitVec 32) (c8_i32_824 : BitVec 32) (v847 : BitVec 1) (c1_i32_826 : BitVec 32) {Q} : iprop(recs I K ∗ owesE c (ORs c 0 + OAg c 1) ∗ WT I c (fun u => xKvr (pk c u) (rr u)) 0 6 7 ∗ pKvg c (kvgS c 0) (KVG I c))
    ⊢ iprop(((owesE c (ORs c 0 + OAg c 1) ∗ (bigSep (Finset.Ico 0 7) fun u => (atPos ER (cell c (xKvr (pk c u) (rr u))) 1 ∅ 0 : sProp 𝕄)) ∗ pKvg c (kvgRow 0) (KVG I c)) -∗ Q ⟨(k0_pay5 (KVR I c 1 0)), (k0_pay6 (QQ I c) (KVR I c 0 0))⟩) -∗ W c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (QQ I c) v846 c8_i32_824 v847 c1_i32_826) Q) := by
  rw [k0_part30_eq_skeleton]; unfold k0_part30_skel
  simp only [Prog.lift, Prog.bind_op, Prog.bind_ret, Prog.pure_eq_ret]
  iintro ⟨#HR, HO, HWkvr, HG⟩ Hk
  iapply (step_wait I K c (fun u => xKvr (pk c u) (rr u)) 0 6 7 (by decide) (by decide) (sem_kvr _ _ _ _ (of3 c 7 (by decide) (by decide))) (dut_one c _ (pk_ne c 6)) (by rfl) 2 (Nat.le_refl _) (above_add (above_ORs c 0) (above_mono (by decide) (above_OAg c 1)))) $$ [HO HWkvr]
  · isplitr; · iexact HR
    isplitl [HO]; · iexact HO
    iexact HWkvr
  iintro ⟨HO, HWkvr⟩
  ihave HJ := (row_join I c 0 0 7 rfl rfl) $$ [HWkvr HG]
  · isplitl [HWkvr]; · iexact HWkvr
    iexact HG
  icases HJ with ⟨HG, HWkvr⟩
  iapply (ld_kv I c 0 0 (by rfl)) $$ [HG]
  · iexact HG
  iintro HG
  iapply (ld_kv I c 1 0 (by rfl)) $$ [HG]
  · iexact HG
  iintro HG
  iapply W_ret
  iapply Hk
  isplitl [HO]; · iexact HO
  isplitl [HWkvr]; · iexact HWkvr
  iexact HG

theorem part31 (c : Dev nD) (v2 : BitVec 32) {Q} : iprop(recs I K ∗ PAs I c 0 ∗ (∃ f, pPbf (F := F) c (rowB 0) f) ∗ owesE c (ORs c 0 + OAg c 1) ∗ RSS I c 0)
    ⊢ iprop((∀ r, (PAs I c 1 ∗ owesE c (ORs c 2 + OAg c 1) ∗ RSS I c 2) -∗ Q r) -∗ W c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (WO I c) (k0_pay5 (KVR I c 1 0)) (k0_pay6 (QQ I c) (KVR I c 0 0))) Q) := by
  rw [k0_part31_eq_skeleton]; unfold k0_part31_skel
  simp only [Prog.lift, Prog.bind_op, Prog.bind_ret, Prog.pure_eq_ret]
  iintro ⟨#HR, HC, HQ, HO, HR2⟩ Hk
  iapply (st_pacc I c 0 (by rfl) (by rfl) rfl) $$ [HC]
  · iexact HC
  iintro HC
  iapply (st_pbf I c 0 (by rfl) (by rfl) rfl) $$ [HQ]
  · iexact HQ
  iintro ⟨HP0, HP1⟩
  iapply (cond_rs I K c 0 (by decide) (cd1 c) (fun h => dv36 c h) (by rfl) (fun h => of21 c) (fun h => sem_rss _ _ (dv 0) (by rfl)) (fun h => sem_rsr _ _ _ (of20 c)) _) $$ [HO HR2 HP0]
  · isplitr; · iexact HR
    isplitl [HO]; · iexact HO
    isplitl [HR2]; · iexact HR2
    iexact HP0
  iintro ⟨HO, HR2⟩
  iapply (cond_rs I K c 1 (by decide) (cd2 c) (fun h => dv37 c h) (by rfl) (fun h => of23 c) (fun h => sem_rss _ _ (dv 1) (by rfl)) (fun h => sem_rsr _ _ _ (of22 c)) _) $$ [HO HR2 HP1]
  · isplitr; · iexact HR
    isplitl [HO]; · iexact HO
    isplitl [HR2]; · iexact HR2
    iexact HP1
  iintro ⟨HO, HR2⟩
  iapply W_ret
  iapply Hk
  isplitl [HC]; · iexact HC
  isplitl [HO]; · iexact HO
  iexact HR2

theorem part32 (c : Dev nD) (v2 : BitVec 32) (v909 : BitVec 32) (v910 : BitVec 32) (v911 : BitVec 1) {Q} : iprop(recs I K ∗ owesE c (ORs c 2 + OAg c 1) ∗ WT I c (fun u => xKvr (pk c u) (rr u)) 7 7 14)
    ⊢ iprop(((owesE c (ORs c 2 + OAg c 1) ∗ WT I c (fun u => xKvr (pk c u) (rr u)) 7 8 14) -∗ Q ⟨⟩) -∗ W c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v909 v910 v911) Q) := by
  rw [k0_part32_eq_skeleton]; unfold k0_part32_skel
  simp only [Prog.lift, Prog.bind_op, Prog.bind_ret, Prog.pure_eq_ret]
  iintro ⟨#HR, HO, HWkvr⟩ Hk
  iapply (step_wait I K c (fun u => xKvr (pk c u) (rr u)) 7 7 14 (by decide) (by decide) (sem_kvr _ _ _ _ (of7 c 1 (by decide) (by decide))) (dut_one c _ (pk_ne c 7)) (by rfl) 2 (Nat.le_refl _) (above_add (above_ORs c 2) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part33 (c : Dev nD) (v2 : BitVec 32) {Q} : iprop(recs I K ∗ owesE c (ORs c 2 + OAg c 1) ∗ WT I c (fun u => xKvr (pk c u) (rr u)) 7 8 14)
    ⊢ iprop((∀ r, (owesE c (ORs c 2 + OAg c 1) ∗ WT I c (fun u => xKvr (pk c u) (rr u)) 7 10 14) -∗ Q r) -∗ W c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part33_eq_skeleton]; unfold k0_part33_skel
  simp only [Prog.lift, Prog.bind_op, Prog.bind_ret, Prog.pure_eq_ret]
  iintro ⟨#HR, HO, HWkvr⟩ Hk
  iapply (step_wait I K c (fun u => xKvr (pk c u) (rr u)) 7 8 14 (by decide) (by decide) (sem_kvr _ _ _ _ (of7 c 2 (by decide) (by decide))) (dut_one c _ (pk_ne c 8)) (by rfl) 2 (Nat.le_refl _) (above_add (above_ORs c 2) (above_mono (by decide) (above_OAg c 1)))) $$ [HO HWkvr]
  · isplitr; · iexact HR
    isplitl [HO]; · iexact HO
    iexact HWkvr
  iintro ⟨HO, HWkvr⟩
  iapply (step_wait I K c (fun u => xKvr (pk c u) (rr u)) 7 9 14 (by decide) (by decide) (sem_kvr _ _ _ _ (of7 c 3 (by decide) (by decide))) (dut_one c _ (pk_ne c 9)) (by rfl) 2 (Nat.le_refl _) (above_add (above_ORs c 2) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part34 (c : Dev nD) (v2 : BitVec 32) (v963 : BitVec 32) (v964 : BitVec 32) (v965 : BitVec 1) {Q} : iprop(recs I K ∗ owesE c (ORs c 2 + OAg c 1) ∗ WT I c (fun u => xKvr (pk c u) (rr u)) 7 10 14)
    ⊢ iprop(((owesE c (ORs c 2 + OAg c 1) ∗ WT I c (fun u => xKvr (pk c u) (rr u)) 7 11 14) -∗ Q ⟨⟩) -∗ W c (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v963 v964 v965) Q) := by
  rw [k0_part34_eq_skeleton]; unfold k0_part34_skel
  simp only [Prog.lift, Prog.bind_op, Prog.bind_ret, Prog.pure_eq_ret]
  iintro ⟨#HR, HO, HWkvr⟩ Hk
  iapply (step_wait I K c (fun u => xKvr (pk c u) (rr u)) 7 10 14 (by decide) (by decide) (sem_kvr _ _ _ _ (of7 c 4 (by decide) (by decide))) (dut_one c _ (pk_ne c 10)) (by rfl) 2 (Nat.le_refl _) (above_add (above_ORs c 2) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part35 (c : Dev nD) (v2 : BitVec 32) {Q} : iprop(recs I K ∗ owesE c (ORs c 2 + OAg c 1) ∗ WT I c (fun u => xKvr (pk c u) (rr u)) 7 11 14)
    ⊢ iprop((∀ r, (owesE c (ORs c 2 + OAg c 1) ∗ WT I c (fun u => xKvr (pk c u) (rr u)) 7 13 14) -∗ Q r) -∗ W c (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part35_eq_skeleton]; unfold k0_part35_skel
  simp only [Prog.lift, Prog.bind_op, Prog.bind_ret, Prog.pure_eq_ret]
  iintro ⟨#HR, HO, HWkvr⟩ Hk
  iapply (step_wait I K c (fun u => xKvr (pk c u) (rr u)) 7 11 14 (by decide) (by decide) (sem_kvr _ _ _ _ (of7 c 5 (by decide) (by decide))) (dut_one c _ (pk_ne c 11)) (by rfl) 2 (Nat.le_refl _) (above_add (above_ORs c 2) (above_mono (by decide) (above_OAg c 1)))) $$ [HO HWkvr]
  · isplitr; · iexact HR
    isplitl [HO]; · iexact HO
    iexact HWkvr
  iintro ⟨HO, HWkvr⟩
  iapply (step_wait I K c (fun u => xKvr (pk c u) (rr u)) 7 12 14 (by decide) (by decide) (sem_kvr _ _ _ _ (of7 c 6 (by decide) (by decide))) (dut_one c _ (pk_ne c 12)) (by rfl) 2 (Nat.le_refl _) (above_add (above_ORs c 2) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part36 (c : Dev nD) (v1017 : BitVec 32) (v1018 : BitVec 32) (v1019 : BitVec 1) {Q} : iprop(recs I K ∗ owesE c (ORs c 2 + OAg c 1) ∗ WT I c (fun u => xKvr (pk c u) (rr u)) 7 13 14 ∗ pKvg c (kvgS c 1) (KVG I c))
    ⊢ iprop(((owesE c (ORs c 2 + OAg c 1) ∗ (bigSep (Finset.Ico 7 14) fun u => (atPos ER (cell c (xKvr (pk c u) (rr u))) 1 ∅ 0 : sProp 𝕄)) ∗ pKvg c (kvgRow 1) (KVG I c)) -∗ Q ⟨(k0_pay10 (KVR I c 1 1)), (k0_pay11 (QQ I c) (KVR I c 0 1)), (k0_pay12 (QQ I c) (KVR I c 0 1))⟩) -∗ W c (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (QQ I c) v1017 v1018 v1019) Q) := by
  rw [k0_part36_eq_skeleton]; unfold k0_part36_skel
  simp only [Prog.lift, Prog.bind_op, Prog.bind_ret, Prog.pure_eq_ret]
  iintro ⟨#HR, HO, HWkvr, HG⟩ Hk
  iapply (step_wait I K c (fun u => xKvr (pk c u) (rr u)) 7 13 14 (by decide) (by decide) (sem_kvr _ _ _ _ (of7 c 7 (by decide) (by decide))) (dut_one c _ (pk_ne c 13)) (by rfl) 2 (Nat.le_refl _) (above_add (above_ORs c 2) (above_mono (by decide) (above_OAg c 1)))) $$ [HO HWkvr]
  · isplitr; · iexact HR
    isplitl [HO]; · iexact HO
    iexact HWkvr
  iintro ⟨HO, HWkvr⟩
  ihave HJ := (row_join I c 1 7 14 rfl rfl) $$ [HWkvr HG]
  · isplitl [HWkvr]; · iexact HWkvr
    iexact HG
  icases HJ with ⟨HG, HWkvr⟩
  iapply (ld_kv I c 0 1 (by rfl)) $$ [HG]
  · iexact HG
  iintro HG
  iapply (ld_kv I c 1 1 (by rfl)) $$ [HG]
  · iexact HG
  iintro HG
  iapply W_ret
  iapply Hk
  isplitl [HO]; · iexact HO
  isplitl [HWkvr]; · iexact HWkvr
  iexact HG

theorem part37 (c : Dev nD) (v2 : BitVec 32) {Q} : iprop(recs I K ∗ PAs I c 1 ∗ (∃ f, pPbf (F := F) c (rowB 1) f) ∗ owesE c (ORs c 2 + OAg c 1) ∗ RSS I c 2)
    ⊢ iprop((∀ r, (PAs I c 2 ∗ owesE c (ORs c 4 + OAg c 1) ∗ RSS I c 4) -∗ Q r) -∗ W c (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (WO I c) (k0_pay10 (KVR I c 1 1)) (k0_pay11 (QQ I c) (KVR I c 0 1)) (k0_pay12 (QQ I c) (KVR I c 0 1))) Q) := by
  rw [k0_part37_eq_skeleton]; unfold k0_part37_skel
  simp only [Prog.lift, Prog.bind_op, Prog.bind_ret, Prog.pure_eq_ret]
  iintro ⟨#HR, HC, HQ, HO, HR2⟩ Hk
  iapply (st_pacc I c 1 (by rfl) (by rfl) rfl) $$ [HC]
  · iexact HC
  iintro HC
  iapply (st_pbf I c 1 (by rfl) (by rfl) rfl) $$ [HQ]
  · iexact HQ
  iintro ⟨HP0, HP1⟩
  iapply (cond_rs I K c 2 (by decide) (cd3 c) (fun h => dv38 c h) (by rfl) (fun h => of26 c) (fun h => sem_rss _ _ (dv 2) (by rfl)) (fun h => sem_rsr _ _ _ (of25 c)) _) $$ [HO HR2 HP0]
  · isplitr; · iexact HR
    isplitl [HO]; · iexact HO
    isplitl [HR2]; · iexact HR2
    iexact HP0
  iintro ⟨HO, HR2⟩
  iapply (cond_rs I K c 3 (by decide) (cd4 c) (fun h => dv39 c h) (by rfl) (fun h => of28 c) (fun h => sem_rss _ _ (dv 3) (by rfl)) (fun h => sem_rsr _ _ _ (of27 c)) _) $$ [HO HR2 HP1]
  · isplitr; · iexact HR
    isplitl [HO]; · iexact HO
    isplitl [HR2]; · iexact HR2
    iexact HP1
  iintro ⟨HO, HR2⟩
  iapply W_ret
  iapply Hk
  isplitl [HC]; · iexact HC
  isplitl [HO]; · iexact HO
  iexact HR2

theorem part38 (c : Dev nD) (v2 : BitVec 32) (v1078 : BitVec 32) (v1079 : BitVec 32) (v1080 : BitVec 1) (v1081 : BitVec 1) (v1082 : BitVec 1) {Q} : iprop(recs I K ∗ owesE c (ORs c 4 + OAg c 1) ∗ WT I c (fun u => xKvr (pk c u) (rr u)) 14 14 21)
    ⊢ iprop(((owesE c (ORs c 4 + OAg c 1) ∗ WT I c (fun u => xKvr (pk c u) (rr u)) 14 15 21) -∗ Q ⟨⟩) -∗ W c (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1078 v1079 v1080 v1081 v1082) Q) := by
  rw [k0_part38_eq_skeleton]; unfold k0_part38_skel
  simp only [Prog.lift, Prog.bind_op, Prog.bind_ret, Prog.pure_eq_ret]
  iintro ⟨#HR, HO, HWkvr⟩ Hk
  iapply (step_wait I K c (fun u => xKvr (pk c u) (rr u)) 14 14 21 (by decide) (by decide) (sem_kvr _ _ _ _ (of11 c 1 (by decide) (by decide))) (dut_one c _ (pk_ne c 14)) (by rfl) 2 (Nat.le_refl _) (above_add (above_ORs c 4) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part39 (c : Dev nD) (v2 : BitVec 32) {Q} : iprop(recs I K ∗ owesE c (ORs c 4 + OAg c 1) ∗ WT I c (fun u => xKvr (pk c u) (rr u)) 14 15 21)
    ⊢ iprop((∀ r, (owesE c (ORs c 4 + OAg c 1) ∗ WT I c (fun u => xKvr (pk c u) (rr u)) 14 17 21) -∗ Q r) -∗ W c (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part39_eq_skeleton]; unfold k0_part39_skel
  simp only [Prog.lift, Prog.bind_op, Prog.bind_ret, Prog.pure_eq_ret]
  iintro ⟨#HR, HO, HWkvr⟩ Hk
  iapply (step_wait I K c (fun u => xKvr (pk c u) (rr u)) 14 15 21 (by decide) (by decide) (sem_kvr _ _ _ _ (of11 c 2 (by decide) (by decide))) (dut_one c _ (pk_ne c 15)) (by rfl) 2 (Nat.le_refl _) (above_add (above_ORs c 4) (above_mono (by decide) (above_OAg c 1)))) $$ [HO HWkvr]
  · isplitr; · iexact HR
    isplitl [HO]; · iexact HO
    iexact HWkvr
  iintro ⟨HO, HWkvr⟩
  iapply (step_wait I K c (fun u => xKvr (pk c u) (rr u)) 14 16 21 (by decide) (by decide) (sem_kvr _ _ _ _ (of11 c 3 (by decide) (by decide))) (dut_one c _ (pk_ne c 16)) (by rfl) 2 (Nat.le_refl _) (above_add (above_ORs c 4) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part40 (c : Dev nD) (v2 : BitVec 32) (v1132 : BitVec 32) (v1133 : BitVec 32) (v1134 : BitVec 1) (v1135 : BitVec 1) (v1136 : BitVec 1) {Q} : iprop(recs I K ∗ owesE c (ORs c 4 + OAg c 1) ∗ WT I c (fun u => xKvr (pk c u) (rr u)) 14 17 21)
    ⊢ iprop(((owesE c (ORs c 4 + OAg c 1) ∗ WT I c (fun u => xKvr (pk c u) (rr u)) 14 18 21) -∗ Q ⟨⟩) -∗ W c (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1132 v1133 v1134 v1135 v1136) Q) := by
  rw [k0_part40_eq_skeleton]; unfold k0_part40_skel
  simp only [Prog.lift, Prog.bind_op, Prog.bind_ret, Prog.pure_eq_ret]
  iintro ⟨#HR, HO, HWkvr⟩ Hk
  iapply (step_wait I K c (fun u => xKvr (pk c u) (rr u)) 14 17 21 (by decide) (by decide) (sem_kvr _ _ _ _ (of11 c 4 (by decide) (by decide))) (dut_one c _ (pk_ne c 17)) (by rfl) 2 (Nat.le_refl _) (above_add (above_ORs c 4) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part41 (c : Dev nD) (v2 : BitVec 32) {Q} : iprop(recs I K ∗ owesE c (ORs c 4 + OAg c 1) ∗ WT I c (fun u => xKvr (pk c u) (rr u)) 14 18 21)
    ⊢ iprop((∀ r, (owesE c (ORs c 4 + OAg c 1) ∗ WT I c (fun u => xKvr (pk c u) (rr u)) 14 20 21) -∗ Q r) -∗ W c (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part41_eq_skeleton]; unfold k0_part41_skel
  simp only [Prog.lift, Prog.bind_op, Prog.bind_ret, Prog.pure_eq_ret]
  iintro ⟨#HR, HO, HWkvr⟩ Hk
  iapply (step_wait I K c (fun u => xKvr (pk c u) (rr u)) 14 18 21 (by decide) (by decide) (sem_kvr _ _ _ _ (of11 c 5 (by decide) (by decide))) (dut_one c _ (pk_ne c 18)) (by rfl) 2 (Nat.le_refl _) (above_add (above_ORs c 4) (above_mono (by decide) (above_OAg c 1)))) $$ [HO HWkvr]
  · isplitr; · iexact HR
    isplitl [HO]; · iexact HO
    iexact HWkvr
  iintro ⟨HO, HWkvr⟩
  iapply (step_wait I K c (fun u => xKvr (pk c u) (rr u)) 14 19 21 (by decide) (by decide) (sem_kvr _ _ _ _ (of11 c 6 (by decide) (by decide))) (dut_one c _ (pk_ne c 19)) (by rfl) 2 (Nat.le_refl _) (above_add (above_ORs c 4) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part42 (c : Dev nD) (v1186 : BitVec 32) (v1187 : BitVec 32) (v1188 : BitVec 1) (v1189 : BitVec 1) (v1190 : BitVec 1) {Q} : iprop(recs I K ∗ owesE c (ORs c 4 + OAg c 1) ∗ WT I c (fun u => xKvr (pk c u) (rr u)) 14 20 21 ∗ pKvg c (kvgS c 2) (KVG I c))
    ⊢ iprop(((owesE c (ORs c 4 + OAg c 1) ∗ (bigSep (Finset.Ico 14 21) fun u => (atPos ER (cell c (xKvr (pk c u) (rr u))) 1 ∅ 0 : sProp 𝕄)) ∗ pKvg c (kvgRow 2) (KVG I c)) -∗ Q ⟨(k0_pay16 (KVR I c 1 2)), (k0_pay17 (QQ I c) (KVR I c 0 2)), (k0_pay18 (QQ I c) (KVR I c 0 2))⟩) -∗ W c (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (QQ I c) v1186 v1187 v1188 v1189 v1190) Q) := by
  rw [k0_part42_eq_skeleton]; unfold k0_part42_skel
  simp only [Prog.lift, Prog.bind_op, Prog.bind_ret, Prog.pure_eq_ret]
  iintro ⟨#HR, HO, HWkvr, HG⟩ Hk
  iapply (step_wait I K c (fun u => xKvr (pk c u) (rr u)) 14 20 21 (by decide) (by decide) (sem_kvr _ _ _ _ (of11 c 7 (by decide) (by decide))) (dut_one c _ (pk_ne c 20)) (by rfl) 2 (Nat.le_refl _) (above_add (above_ORs c 4) (above_mono (by decide) (above_OAg c 1)))) $$ [HO HWkvr]
  · isplitr; · iexact HR
    isplitl [HO]; · iexact HO
    iexact HWkvr
  iintro ⟨HO, HWkvr⟩
  ihave HJ := (row_join I c 2 14 21 rfl rfl) $$ [HWkvr HG]
  · isplitl [HWkvr]; · iexact HWkvr
    iexact HG
  icases HJ with ⟨HG, HWkvr⟩
  iapply (ld_kv I c 0 2 (by rfl)) $$ [HG]
  · iexact HG
  iintro HG
  iapply (ld_kv I c 1 2 (by rfl)) $$ [HG]
  · iexact HG
  iintro HG
  iapply W_ret
  iapply Hk
  isplitl [HO]; · iexact HO
  isplitl [HWkvr]; · iexact HWkvr
  iexact HG

theorem part43 (c : Dev nD) (v2 : BitVec 32) {Q} : iprop(recs I K ∗ PAs I c 2 ∗ (∃ f, pPbf (F := F) c (rowB 2) f) ∗ owesE c (ORs c 4 + OAg c 1) ∗ RSS I c 4)
    ⊢ iprop((∀ r, (PAs I c 3 ∗ owesE c (ORs c 6 + OAg c 1) ∗ RSS I c 6) -∗ Q r) -∗ W c (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (WO I c) (k0_pay16 (KVR I c 1 2)) (k0_pay17 (QQ I c) (KVR I c 0 2)) (k0_pay18 (QQ I c) (KVR I c 0 2))) Q) := by
  rw [k0_part43_eq_skeleton]; unfold k0_part43_skel
  simp only [Prog.lift, Prog.bind_op, Prog.bind_ret, Prog.pure_eq_ret]
  iintro ⟨#HR, HC, HQ, HO, HR2⟩ Hk
  iapply (st_pacc I c 2 (by rfl) (by rfl) rfl) $$ [HC]
  · iexact HC
  iintro HC
  iapply (st_pbf I c 2 (by rfl) (by rfl) rfl) $$ [HQ]
  · iexact HQ
  iintro ⟨HP0, HP1⟩
  iapply (cond_rs I K c 4 (by decide) (cd5 c) (fun h => dv40 c h) (by rfl) (fun h => of31 c) (fun h => sem_rss _ _ (dv 4) (by rfl)) (fun h => sem_rsr _ _ _ (of30 c)) _) $$ [HO HR2 HP0]
  · isplitr; · iexact HR
    isplitl [HO]; · iexact HO
    isplitl [HR2]; · iexact HR2
    iexact HP0
  iintro ⟨HO, HR2⟩
  iapply (cond_rs I K c 5 (by decide) (cd6 c) (fun h => dv41 c h) (by rfl) (fun h => of33 c) (fun h => sem_rss _ _ (dv 5) (by rfl)) (fun h => sem_rsr _ _ _ (of32 c)) _) $$ [HO HR2 HP1]
  · isplitr; · iexact HR
    isplitl [HO]; · iexact HO
    isplitl [HR2]; · iexact HR2
    iexact HP1
  iintro ⟨HO, HR2⟩
  iapply W_ret
  iapply Hk
  isplitl [HC]; · iexact HC
  isplitl [HO]; · iexact HO
  iexact HR2

theorem part44 (c : Dev nD) (v2 : BitVec 32) (v1255 : BitVec 32) {Q} : iprop(recs I K ∗ owesE c (ORs c 6 + OAg c 1) ∗ WT I c (fun u => xKvr (pk c u) (rr u)) 21 21 28)
    ⊢ iprop(((owesE c (ORs c 6 + OAg c 1) ∗ WT I c (fun u => xKvr (pk c u) (rr u)) 21 22 28) -∗ Q ⟨⟩) -∗ W c (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1255) Q) := by
  rw [k0_part44_eq_skeleton]; unfold k0_part44_skel
  simp only [Prog.lift, Prog.bind_op, Prog.bind_ret, Prog.pure_eq_ret]
  iintro ⟨#HR, HO, HWkvr⟩ Hk
  iapply (step_wait I K c (fun u => xKvr (pk c u) (rr u)) 21 21 28 (by decide) (by decide) (sem_kvr _ _ _ _ (of15 c 1 (by decide) (by decide))) (dut_one c _ (pk_ne c 21)) (by rfl) 2 (Nat.le_refl _) (above_add (above_ORs c 6) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part45 (c : Dev nD) (v2 : BitVec 32) {Q} : iprop(recs I K ∗ owesE c (ORs c 6 + OAg c 1) ∗ WT I c (fun u => xKvr (pk c u) (rr u)) 21 22 28)
    ⊢ iprop((∀ r, (owesE c (ORs c 6 + OAg c 1) ∗ WT I c (fun u => xKvr (pk c u) (rr u)) 21 24 28) -∗ Q r) -∗ W c (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part45_eq_skeleton]; unfold k0_part45_skel
  simp only [Prog.lift, Prog.bind_op, Prog.bind_ret, Prog.pure_eq_ret]
  iintro ⟨#HR, HO, HWkvr⟩ Hk
  iapply (step_wait I K c (fun u => xKvr (pk c u) (rr u)) 21 22 28 (by decide) (by decide) (sem_kvr _ _ _ _ (of15 c 2 (by decide) (by decide))) (dut_one c _ (pk_ne c 22)) (by rfl) 2 (Nat.le_refl _) (above_add (above_ORs c 6) (above_mono (by decide) (above_OAg c 1)))) $$ [HO HWkvr]
  · isplitr; · iexact HR
    isplitl [HO]; · iexact HO
    iexact HWkvr
  iintro ⟨HO, HWkvr⟩
  iapply (step_wait I K c (fun u => xKvr (pk c u) (rr u)) 21 23 28 (by decide) (by decide) (sem_kvr _ _ _ _ (of15 c 3 (by decide) (by decide))) (dut_one c _ (pk_ne c 23)) (by rfl) 2 (Nat.le_refl _) (above_add (above_ORs c 6) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part46 (c : Dev nD) (v2 : BitVec 32) (v1309 : BitVec 32) {Q} : iprop(recs I K ∗ owesE c (ORs c 6 + OAg c 1) ∗ WT I c (fun u => xKvr (pk c u) (rr u)) 21 24 28)
    ⊢ iprop(((owesE c (ORs c 6 + OAg c 1) ∗ WT I c (fun u => xKvr (pk c u) (rr u)) 21 25 28) -∗ Q ⟨⟩) -∗ W c (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1309) Q) := by
  rw [k0_part46_eq_skeleton]; unfold k0_part46_skel
  simp only [Prog.lift, Prog.bind_op, Prog.bind_ret, Prog.pure_eq_ret]
  iintro ⟨#HR, HO, HWkvr⟩ Hk
  iapply (step_wait I K c (fun u => xKvr (pk c u) (rr u)) 21 24 28 (by decide) (by decide) (sem_kvr _ _ _ _ (of15 c 4 (by decide) (by decide))) (dut_one c _ (pk_ne c 24)) (by rfl) 2 (Nat.le_refl _) (above_add (above_ORs c 6) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part47 (c : Dev nD) (v2 : BitVec 32) {Q} : iprop(recs I K ∗ owesE c (ORs c 6 + OAg c 1) ∗ WT I c (fun u => xKvr (pk c u) (rr u)) 21 25 28)
    ⊢ iprop((∀ r, (owesE c (ORs c 6 + OAg c 1) ∗ WT I c (fun u => xKvr (pk c u) (rr u)) 21 27 28) -∗ Q r) -∗ W c (k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part47_eq_skeleton]; unfold k0_part47_skel
  simp only [Prog.lift, Prog.bind_op, Prog.bind_ret, Prog.pure_eq_ret]
  iintro ⟨#HR, HO, HWkvr⟩ Hk
  iapply (step_wait I K c (fun u => xKvr (pk c u) (rr u)) 21 25 28 (by decide) (by decide) (sem_kvr _ _ _ _ (of15 c 5 (by decide) (by decide))) (dut_one c _ (pk_ne c 25)) (by rfl) 2 (Nat.le_refl _) (above_add (above_ORs c 6) (above_mono (by decide) (above_OAg c 1)))) $$ [HO HWkvr]
  · isplitr; · iexact HR
    isplitl [HO]; · iexact HO
    iexact HWkvr
  iintro ⟨HO, HWkvr⟩
  iapply (step_wait I K c (fun u => xKvr (pk c u) (rr u)) 21 26 28 (by decide) (by decide) (sem_kvr _ _ _ _ (of15 c 6 (by decide) (by decide))) (dut_one c _ (pk_ne c 26)) (by rfl) 2 (Nat.le_refl _) (above_add (above_ORs c 6) (above_mono (by decide) (above_OAg c 1)))) $$ [HO HWkvr]
  · isplitr; · iexact HR
    isplitl [HO]; · iexact HO
    iexact HWkvr
  iintro ⟨HO, HWkvr⟩
  iapply W_ret
  iapply Hk
  isplitl [HO]; · iexact HO
  iexact HWkvr

theorem part48 (c : Dev nD) (v1363 : BitVec 32) {Q} : iprop(recs I K ∗ owesE c (ORs c 6 + OAg c 1) ∗ WT I c (fun u => xKvr (pk c u) (rr u)) 21 27 28 ∗ pKvg c (kvgS c 3) (KVG I c))
    ⊢ iprop(((owesE c (ORs c 6 + OAg c 1) ∗ (bigSep (Finset.Ico 21 28) fun u => (atPos ER (cell c (xKvr (pk c u) (rr u))) 1 ∅ 0 : sProp 𝕄)) ∗ pKvg c (kvgRow 3) (KVG I c)) -∗ Q ⟨(k0_pay22 (KVR I c 1 3)), (k0_pay23 (QQ I c) (KVR I c 0 3))⟩) -∗ W c (k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (QQ I c) v1363) Q) := by
  rw [k0_part48_eq_skeleton]; unfold k0_part48_skel
  simp only [Prog.lift, Prog.bind_op, Prog.bind_ret, Prog.pure_eq_ret]
  iintro ⟨#HR, HO, HWkvr, HG⟩ Hk
  iapply (step_wait I K c (fun u => xKvr (pk c u) (rr u)) 21 27 28 (by decide) (by decide) (sem_kvr _ _ _ _ (of15 c 7 (by decide) (by decide))) (dut_one c _ (pk_ne c 27)) (by rfl) 2 (Nat.le_refl _) (above_add (above_ORs c 6) (above_mono (by decide) (above_OAg c 1)))) $$ [HO HWkvr]
  · isplitr; · iexact HR
    isplitl [HO]; · iexact HO
    iexact HWkvr
  iintro ⟨HO, HWkvr⟩
  ihave HJ := (row_join I c 3 21 28 rfl rfl) $$ [HWkvr HG]
  · isplitl [HWkvr]; · iexact HWkvr
    iexact HG
  icases HJ with ⟨HG, HWkvr⟩
  iapply (ld_kv I c 0 3 (by rfl)) $$ [HG]
  · iexact HG
  iintro HG
  iapply (ld_kv I c 1 3 (by rfl)) $$ [HG]
  · iexact HG
  iintro HG
  iapply W_ret
  iapply Hk
  isplitl [HO]; · iexact HO
  isplitl [HWkvr]; · iexact HWkvr
  iexact HG

theorem part49 (c : Dev nD) (v2 : BitVec 32) {Q} : iprop(recs I K ∗ PAs I c 3 ∗ (∃ f, pPbf (F := F) c (rowB 3) f) ∗ owesE c (ORs c 6 + OAg c 1) ∗ RSS I c 6)
    ⊢ iprop(((PAs I c 4 ∗ owesE c (ORs c 8 + OAg c 1) ∗ RSS I c 8) -∗ Q ⟨⟩) -∗ W c (k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (WO I c) (k0_pay22 (KVR I c 1 3)) (k0_pay23 (QQ I c) (KVR I c 0 3))) Q) := by
  rw [k0_part49_eq_skeleton]; unfold k0_part49_skel
  simp only [Prog.lift, Prog.bind_op, Prog.bind_ret, Prog.pure_eq_ret]
  iintro ⟨#HR, HC, HQ, HO, HR2⟩ Hk
  iapply (st_pacc I c 3 (by rfl) (by rfl) rfl) $$ [HC]
  · iexact HC
  iintro HC
  iapply (st_pbf I c 3 (by rfl) (by rfl) rfl) $$ [HQ]
  · iexact HQ
  iintro ⟨HP0, HP1⟩
  iapply (cond_rs I K c 6 (by decide) (cd7 c) (fun h => dv42 c h) (by rfl) (fun h => of36 c) (fun h => sem_rss _ _ (dv 6) (by rfl)) (fun h => sem_rsr _ _ _ (of35 c)) _) $$ [HO HR2 HP0]
  · isplitr; · iexact HR
    isplitl [HO]; · iexact HO
    isplitl [HR2]; · iexact HR2
    iexact HP0
  iintro ⟨HO, HR2⟩
  iapply (cond_rs I K c 7 (by decide) (cd8 c) (fun h => dv43 c h) (by rfl) (fun h => of38 c) (fun h => sem_rss _ _ (dv 7) (by rfl)) (fun h => sem_rsr _ _ _ (of37 c)) _) $$ [HO HR2 HP1]
  · isplitr; · iexact HR
    isplitl [HO]; · iexact HO
    isplitl [HR2]; · iexact HR2
    iexact HP1
  iintro ⟨HO, HR2⟩
  iapply W_ret
  iapply Hk
  isplitl [HC]; · iexact HC
  isplitl [HO]; · iexact HO
  iexact HR2

end Cert.Attn

end
-- ==== Proof.PartC.lean ====
/-
The reduction's landings, the gather.
-/
module

public import proofs.«01_k».proof.Proof.Join

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Rounds

variable {F : FTy → Type} [FloatOps F]

local notation "𝕄" => MT nD τ sig Unit (Elt F) ℕ UU ℕ
variable (I : Dev nD → Ins F) (K : Dev nD × CX → ℕ)

theorem part50 (c : Dev nD) (v2 : BitVec 32) {Q} : iprop(recs I K ∗ owesE c (OAg c 1) ∗ WT I c (fun k => xRsr (nb c k)) 1 1 8)
    ⊢ iprop((∀ r, (owesE c (OAg c 1) ∗ WT I c (fun k => xRsr (nb c k)) 1 3 8) -∗ Q r) -∗ W c (k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part50_eq_skeleton]; unfold k0_part50_skel
  simp only [Prog.lift, Prog.bind_op, Prog.bind_ret, Prog.pure_eq_ret]
  iintro ⟨#HR, HO, HWrsr⟩ Hk
  iapply (step_wait I K c (fun k => xRsr (nb c k)) 1 1 8 (by decide) (by decide) (sem_rsr _ _ _ (of39 c 1 (by decide) (by decide))) (nb_ne' c 1 (by decide) (by decide)) (by rfl) 3 (Nat.le_refl _) (above_OAg c 1)) $$ [HO HWrsr]
  · isplitr; · iexact HR
    isplitl [HO]; · iexact HO
    iexact HWrsr
  iintro ⟨HO, HWrsr⟩
  iapply (step_wait I K c (fun k => xRsr (nb c k)) 1 2 8 (by decide) (by decide) (sem_rsr _ _ _ (of39 c 2 (by decide) (by decide))) (nb_ne' c 2 (by decide) (by decide)) (by rfl) 3 (Nat.le_refl _) (above_OAg c 1)) $$ [HO HWrsr]
  · isplitr; · iexact HR
    isplitl [HO]; · iexact HO
    iexact HWrsr
  iintro ⟨HO, HWrsr⟩
  iapply W_ret
  iapply Hk
  isplitl [HO]; · iexact HO
  iexact HWrsr

theorem part51 (c : Dev nD) (v2 : BitVec 32) (v1452 : BitVec 32) (v1453 : BitVec 32) (v1454 : BitVec 1) (v1455 : BitVec 1) (v1456 : BitVec 1) {Q} : iprop(recs I K ∗ owesE c (OAg c 1) ∗ WT I c (fun k => xRsr (nb c k)) 1 3 8)
    ⊢ iprop((∀ r, (owesE c (OAg c 1) ∗ WT I c (fun k => xRsr (nb c k)) 1 5 8) -∗ Q r) -∗ W c (k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1452 v1453 v1454 v1455 v1456) Q) := by
  rw [k0_part51_eq_skeleton]; unfold k0_part51_skel
  simp only [Prog.lift, Prog.bind_op, Prog.bind_ret, Prog.pure_eq_ret]
  iintro ⟨#HR, HO, HWrsr⟩ Hk
  iapply (step_wait I K c (fun k => xRsr (nb c k)) 1 3 8 (by decide) (by decide) (sem_rsr _ _ _ (of39 c 3 (by decide) (by decide))) (nb_ne' c 3 (by decide) (by decide)) (by rfl) 3 (Nat.le_refl _) (above_OAg c 1)) $$ [HO HWrsr]
  · isplitr; · iexact HR
    isplitl [HO]; · iexact HO
    iexact HWrsr
  iintro ⟨HO, HWrsr⟩
  iapply (step_wait I K c (fun k => xRsr (nb c k)) 1 4 8 (by decide) (by decide) (sem_rsr _ _ _ (of39 c 4 (by decide) (by decide))) (nb_ne' c 4 (by decide) (by decide)) (by rfl) 3 (Nat.le_refl _) (above_OAg c 1)) $$ [HO HWrsr]
  · isplitr; · iexact HR
    isplitl [HO]; · iexact HO
    iexact HWrsr
  iintro ⟨HO, HWrsr⟩
  iapply W_ret
  iapply Hk
  isplitl [HO]; · iexact HO
  iexact HWrsr

theorem part52 (c : Dev nD) (v2 : BitVec 32) (v1486 : BitVec 32) (c8_i32_1459 : BitVec 32) (v1487 : BitVec 1) (c1_i32_1461 : BitVec 32) {Q} : iprop(recs I K ∗ owesE c (OAg c 1) ∗ WT I c (fun k => xRsr (nb c k)) 1 5 8)
    ⊢ iprop(((owesE c (OAg c 1) ∗ WT I c (fun k => xRsr (nb c k)) 1 6 8) -∗ Q ⟨⟩) -∗ W c (k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1486 c8_i32_1459 v1487 c1_i32_1461) Q) := by
  rw [k0_part52_eq_skeleton]; unfold k0_part52_skel
  simp only [Prog.lift, Prog.bind_op, Prog.bind_ret, Prog.pure_eq_ret]
  iintro ⟨#HR, HO, HWrsr⟩ Hk
  iapply (step_wait I K c (fun k => xRsr (nb c k)) 1 5 8 (by decide) (by decide) (sem_rsr _ _ _ (of39 c 5 (by decide) (by decide))) (nb_ne' c 5 (by decide) (by decide)) (by rfl) 3 (Nat.le_refl _) (above_OAg c 1)) $$ [HO HWrsr]
  · isplitr; · iexact HR
    isplitl [HO]; · iexact HO
    iexact HWrsr
  iintro ⟨HO, HWrsr⟩
  iapply W_ret
  iapply Hk
  isplitl [HO]; · iexact HO
  iexact HWrsr

theorem part53 (c : Dev nD)  {Q} : iprop(recs I K ∗ owesE c (OAg c 1) ∗ WT I c (fun k => xRsr (nb c k)) 1 6 8 ∗ (∃ f, pRsb (F := F) c (rsbS c) f) ∗ pW c cc0_scratch2 (PACC I c))
    ⊢ iprop(((owesE c (OAg c 1) ∗ (bigSep (Finset.Ico 1 8) fun k => (atPos ER (cell c (xRsr (nb c k))) 1 ∅ 0 : sProp 𝕄)) ∗ RSBs I c ∗ pW c cc0_scratch2 (PACC I c)) -∗ Q ⟨RED I c, k0_pay28 (myW c) (RSB I c) (OWNP I c)⟩) -∗ W c (k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c (myW c)) Q) := by
  rw [k0_part53_eq_skeleton]; unfold k0_part53_skel
  simp only [Prog.lift, Prog.bind_op, Prog.bind_ret, Prog.pure_eq_ret]
  iintro ⟨#HR, HO, HWrsr, HG, HC⟩ Hk
  iapply (step_wait I K c (fun k => xRsr (nb c k)) 1 6 8 (by decide) (by decide) (sem_rsr _ _ _ (of39 c 6 (by decide) (by decide))) (nb_ne' c 6 (by decide) (by decide)) (by rfl) 3 (Nat.le_refl _) (above_OAg c 1)) $$ [HO HWrsr]
  · isplitr; · iexact HR
    isplitl [HO]; · iexact HO
    iexact HWrsr
  iintro ⟨HO, HWrsr⟩
  iapply (step_wait I K c (fun k => xRsr (nb c k)) 1 7 8 (by decide) (by decide) (sem_rsr _ _ _ (of39 c 7 (by decide) (by decide))) (nb_ne' c 7 (by decide) (by decide)) (by rfl) 3 (Nat.le_refl _) (above_OAg c 1)) $$ [HO HWrsr]
  · isplitr; · iexact HR
    isplitl [HO]; · iexact HO
    iexact HWrsr
  iintro ⟨HO, HWrsr⟩
  ihave HJ := (rsb_join I c) $$ [HWrsr HG]
  · isplitl [HWrsr]; · iexact HWrsr
    iexact HG
  icases HJ with ⟨HG, HWrsr⟩
  iapply (ld_rsb I c) $$ [HG]
  · iexact HG
  iintro %g %hg HG
  iapply (ld_own I c (of41 c)) $$ [HC]
  · iexact HC
  iintro HC
  iapply W_ret
  have e : (⟨k0_pay27 (myW c) g (OWNP I c), k0_pay28 (myW c) g (OWNP I c)⟩ : Σ' (v1553 : FVec F S2x32x512 .f32), FVec F S2x32x512 .bf16) = ⟨RED I c, k0_pay28 (myW c) (RSB I c) (OWNP I c)⟩ := by rw [hg, pay28_of I c g hg]
  rw [e]
  iapply Hk
  isplitl [HO]; · iexact HO
  isplitl [HWrsr]; · iexact HWrsr
  isplitl [HG]; · iexact HG
  iexact HC

theorem part54 (c : Dev nD) (v2 : BitVec 32) {Q} : iprop(recs I K ∗ AGT (F := F) c ∗ (∃ f, pAgg (F := F) c (rowS c) fullShare f) ∗ OUTs I c 0 ∗ owesE c (OAg c 1))
    ⊢ iprop((∀ r, (OUTs I c 1 ∗ owesE c (OAg c 2) ∗ AGS I c 2) -∗ Q r) -∗ W c (k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 (RED I c) (k0_pay28 (myW c) (RSB I c) (OWNP I c))) Q) := by
  rw [k0_part54_eq_skeleton]; unfold k0_part54_skel
  simp only [Prog.lift, Prog.bind_op, Prog.bind_ret, Prog.pure_eq_ret]
  iintro ⟨#HR, HT, HX, HY, HO⟩ Hk
  iapply (st_agg I c (of41 c) (of41 c) rfl) $$ [HX]
  · iexact HX
  iintro HX
  ihave HA := (ags_start I c) $$ [HT HX]
  · isplitl [HT]; · iexact HT
    iexact HX
  iapply (st_out I c 0 (by decide) (of41' c) (of41' c) (out_own I c)) $$ [HY]
  · iexact HY
  iintro HY
  iapply (step_ag I K c _ 1 (by decide) (by decide) (dv44 c) (of43 c) (sem_ags _ _ _ (of39 c 1 (by decide) (by decide))) (sem_agr _ _ _ (of42 c))) $$ [HO HA]
  · isplitr; · iexact HR
    isplitl [HO]; · iexact HO
    iexact HA
  iintro ⟨HO, HA⟩
  iapply W_ret
  iapply Hk
  isplitl [HY]; · iexact HY
  isplitl [HO]; · iexact HO
  iexact HA

theorem part55 (c : Dev nD) (v2 : BitVec 32) (v1584 : BitVec 32) (v1586 : BitVec 32) {Q} : iprop(recs I K ∗ owesE c (OAg c 2) ∗ AGS I c 2)
    ⊢ iprop(((owesE c (OAg c 3) ∗ AGS I c 3) -∗ Q ⟨⟩) -∗ W c (k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1584 v1586) Q) := by
  rw [k0_part55_eq_skeleton]; unfold k0_part55_skel
  simp only [Prog.lift, Prog.bind_op, Prog.bind_ret, Prog.pure_eq_ret]
  iintro ⟨#HR, HO, HA⟩ Hk
  iapply (step_ag I K c _ 2 (by decide) (by decide) (dv45 c) (of43 c) (sem_ags _ _ _ (of39 c 2 (by decide) (by decide))) (sem_agr _ _ _ (of42 c))) $$ [HO HA]
  · isplitr; · iexact HR
    isplitl [HO]; · iexact HO
    iexact HA
  iintro ⟨HO, HA⟩
  iapply W_ret
  iapply Hk
  isplitl [HO]; · iexact HO
  iexact HA

theorem part56 (c : Dev nD) (v2 : BitVec 32) {Q} : iprop(recs I K ∗ owesE c (OAg c 3) ∗ AGS I c 3)
    ⊢ iprop((∀ r, (owesE c (OAg c 5) ∗ AGS I c 5) -∗ Q r) -∗ W c (k0_part56 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part56_eq_skeleton]; unfold k0_part56_skel
  simp only [Prog.lift, Prog.bind_op, Prog.bind_ret, Prog.pure_eq_ret]
  iintro ⟨#HR, HO, HA⟩ Hk
  iapply (step_ag I K c _ 3 (by decide) (by decide) (dv46 c) (of43 c) (sem_ags _ _ _ (of39 c 3 (by decide) (by decide))) (sem_agr _ _ _ (of42 c))) $$ [HO HA]
  · isplitr; · iexact HR
    isplitl [HO]; · iexact HO
    iexact HA
  iintro ⟨HO, HA⟩
  iapply (step_ag I K c _ 4 (by decide) (by decide) (dv47 c) (of43 c) (sem_ags _ _ _ (of39 c 4 (by decide) (by decide))) (sem_agr _ _ _ (of42 c))) $$ [HO HA]
  · isplitr; · iexact HR
    isplitl [HO]; · iexact HO
    iexact HA
  iintro ⟨HO, HA⟩
  iapply W_ret
  iapply Hk
  isplitl [HO]; · iexact HO
  iexact HA

theorem part57 (c : Dev nD) (v2 : BitVec 32) (v1649 : BitVec 32) (v1650 : BitVec 32) (v1655 : BitVec 1) {Q} : iprop(recs I K ∗ owesE c (OAg c 5) ∗ AGS I c 5)
    ⊢ iprop((∀ r, (owesE c (OAg c 7) ∗ AGS I c 7) -∗ Q r) -∗ W c (k0_part57 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1649 v1650 v1655) Q) := by
  rw [k0_part57_eq_skeleton]; unfold k0_part57_skel
  simp only [Prog.lift, Prog.bind_op, Prog.bind_ret, Prog.pure_eq_ret]
  iintro ⟨#HR, HO, HA⟩ Hk
  iapply (step_ag I K c _ 5 (by decide) (by decide) (dv48 c) (of43 c) (sem_ags _ _ _ (of39 c 5 (by decide) (by decide))) (sem_agr _ _ _ (of42 c))) $$ [HO HA]
  · isplitr; · iexact HR
    isplitl [HO]; · iexact HO
    iexact HA
  iintro ⟨HO, HA⟩
  iapply (step_ag I K c _ 6 (by decide) (by decide) (dv49 c) (of43 c) (sem_ags _ _ _ (of39 c 6 (by decide) (by decide))) (sem_agr _ _ _ (of42 c))) $$ [HO HA]
  · isplitr; · iexact HR
    isplitl [HO]; · iexact HO
    iexact HA
  iintro ⟨HO, HA⟩
  iapply W_ret
  iapply Hk
  isplitl [HO]; · iexact HO
  iexact HA

theorem part58 (c : Dev nD) (v2 : BitVec 32) (v1689 : BitVec 32) {Q} : iprop(recs I K ∗ owesE c (OAg c 7) ∗ AGS I c 7)
    ⊢ iprop((∀ r, (owesE c (OAg c 8) ∗ AGS I c 8) -∗ Q r) -∗ W c (k0_part58 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1689) Q) := by
  rw [k0_part58_eq_skeleton]; unfold k0_part58_skel
  simp only [Prog.lift, Prog.bind_op, Prog.bind_ret, Prog.pure_eq_ret]
  iintro ⟨#HR, HO, HA⟩ Hk
  iapply (step_ag I K c _ 7 (by decide) (by decide) (dv50 c) (of43 c) (sem_ags _ _ _ (of39 c 7 (by decide) (by decide))) (sem_agr _ _ _ (of42 c))) $$ [HO HA]
  · isplitr; · iexact HR
    isplitl [HO]; · iexact HO
    iexact HA
  iintro ⟨HO, HA⟩
  iapply W_ret
  iapply Hk
  isplitl [HO]; · iexact HO
  iexact HA

theorem part59 (c : Dev nD) (v2 : BitVec 32) (v1720 : BitVec 32) {Q} : iprop(recs I K ∗ owesE c 0 ∗ WT I c (fun k => xAgr (nb c k)) 1 1 8 ∗ OUTs I c 1)
    ⊢ iprop((∀ r, (owesE c 0 ∗ WT I c (fun k => xAgr (nb c k)) 1 3 8 ∗ OUTs I c 2) -∗ Q r) -∗ W c (k0_part59 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1720) Q) := by
  rw [k0_part59_eq_skeleton]; unfold k0_part59_skel
  simp only [Prog.lift, Prog.bind_op, Prog.bind_ret, Prog.pure_eq_ret]
  iintro ⟨#HR, HO, HWagr, HY⟩ Hk
  iapply (step_wait I K c (fun k => xAgr (nb c k)) 1 1 8 (by decide) (by decide) (sem_agr _ _ _ (of39 c 1 (by decide) (by decide))) (nb_ne' c 1 (by decide) (by decide)) (by rfl) 4 (Nat.le_refl _) (above_zero _)) $$ [HO HWagr]
  · isplitr; · iexact HR
    isplitl [HO]; · iexact HO
    iexact HWagr
  iintro ⟨HO, HWagr⟩
  iapply (ld_got I c 1 (by decide) (by decide) (of45 c 1 (by decide) (by decide))) $$ [HWagr]
  · iexact HWagr
  iintro HWagr
  iapply (st_out I c 1 (by decide) (of45 c 1 (by decide) (by decide)) (of45 c 1 (by decide) (by decide)) (out_other I c 1 (by decide) (by decide))) $$ [HY]
  · iexact HY
  iintro HY
  iapply (step_wait I K c (fun k => xAgr (nb c k)) 1 2 8 (by decide) (by decide) (sem_agr _ _ _ (of39 c 2 (by decide) (by decide))) (nb_ne' c 2 (by decide) (by decide)) (by rfl) 4 (Nat.le_refl _) (above_zero _)) $$ [HO HWagr]
  · isplitr; · iexact HR
    isplitl [HO]; · iexact HO
    iexact HWagr
  iintro ⟨HO, HWagr⟩
  iapply W_ret
  iapply Hk
  isplitl [HO]; · iexact HO
  isplitl [HWagr]; · iexact HWagr
  iexact HY

theorem part60 (c : Dev nD) (v2 : BitVec 32) (v1745 : BitVec 32) (v1753 : BitVec 32) {Q} : iprop(recs I K ∗ WT I c (fun k => xAgr (nb c k)) 1 3 8 ∗ OUTs I c 2 ∗ owesE c 0)
    ⊢ iprop((∀ r, (WT I c (fun k => xAgr (nb c k)) 1 4 8 ∗ OUTs I c 4 ∗ owesE c 0) -∗ Q r) -∗ W c (k0_part60 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1745 v1753) Q) := by
  rw [k0_part60_eq_skeleton]; unfold k0_part60_skel
  simp only [Prog.lift, Prog.bind_op, Prog.bind_ret, Prog.pure_eq_ret]
  iintro ⟨#HR, HWagr, HY, HO⟩ Hk
  iapply (ld_got I c 2 (by decide) (by decide) (of45 c 2 (by decide) (by decide))) $$ [HWagr]
  · iexact HWagr
  iintro HWagr
  iapply (st_out I c 2 (by decide) (of45 c 2 (by decide) (by decide)) (of45 c 2 (by decide) (by decide)) (out_other I c 2 (by decide) (by decide))) $$ [HY]
  · iexact HY
  iintro HY
  iapply (step_wait I K c (fun k => xAgr (nb c k)) 1 3 8 (by decide) (by decide) (sem_agr _ _ _ (of39 c 3 (by decide) (by decide))) (nb_ne' c 3 (by decide) (by decide)) (by rfl) 4 (Nat.le_refl _) (above_zero _)) $$ [HO HWagr]
  · isplitr; · iexact HR
    isplitl [HO]; · iexact HO
    iexact HWagr
  iintro ⟨HO, HWagr⟩
  iapply (ld_got I c 3 (by decide) (by decide) (of45 c 3 (by decide) (by decide))) $$ [HWagr]
  · iexact HWagr
  iintro HWagr
  iapply (st_out I c 3 (by decide) (of45 c 3 (by decide) (by decide)) (of45 c 3 (by decide) (by decide)) (out_other I c 3 (by decide) (by decide))) $$ [HY]
  · iexact HY
  iintro HY
  iapply W_ret
  iapply Hk
  isplitl [HWagr]; · iexact HWagr
  isplitl [HY]; · iexact HY
  iexact HO

theorem part61 (c : Dev nD) (v2 : BitVec 32) (c4_i32_1685 : BitVec 32) {Q} : iprop(recs I K ∗ owesE c 0 ∗ WT I c (fun k => xAgr (nb c k)) 1 4 8 ∗ OUTs I c 4)
    ⊢ iprop((∀ r, (owesE c 0 ∗ WT I c (fun k => xAgr (nb c k)) 1 5 8 ∗ OUTs I c 5) -∗ Q r) -∗ W c (k0_part61 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 c4_i32_1685) Q) := by
  rw [k0_part61_eq_skeleton]; unfold k0_part61_skel
  simp only [Prog.lift, Prog.bind_op, Prog.bind_ret, Prog.pure_eq_ret]
  iintro ⟨#HR, HO, HWagr, HY⟩ Hk
  iapply (step_wait I K c (fun k => xAgr (nb c k)) 1 4 8 (by decide) (by decide) (sem_agr _ _ _ (of39 c 4 (by decide) (by decide))) (nb_ne' c 4 (by decide) (by decide)) (by rfl) 4 (Nat.le_refl _) (above_zero _)) $$ [HO HWagr]
  · isplitr; · iexact HR
    isplitl [HO]; · iexact HO
    iexact HWagr
  iintro ⟨HO, HWagr⟩
  iapply (ld_got I c 4 (by decide) (by decide) (of45 c 4 (by decide) (by decide))) $$ [HWagr]
  · iexact HWagr
  iintro HWagr
  iapply (st_out I c 4 (by decide) (of45 c 4 (by decide) (by decide)) (of45 c 4 (by decide) (by decide)) (out_other I c 4 (by decide) (by decide))) $$ [HY]
  · iexact HY
  iintro HY
  iapply W_ret
  iapply Hk
  isplitl [HO]; · iexact HO
  isplitl [HWagr]; · iexact HWagr
  iexact HY

theorem part62 (c : Dev nD) (v2 : BitVec 32) (v1812 : BitVec 32) (v1813 : BitVec 32) (v1814 : BitVec 1) (v1815 : BitVec 1) (c0_i32_1712 : BitVec 32) {Q} : iprop(recs I K ∗ owesE c 0 ∗ WT I c (fun k => xAgr (nb c k)) 1 5 8 ∗ OUTs I c 5)
    ⊢ iprop((∀ r, (owesE c 0 ∗ WT I c (fun k => xAgr (nb c k)) 1 6 8 ∗ OUTs I c 6) -∗ Q r) -∗ W c (k0_part62 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1812 v1813 v1814 v1815 c0_i32_1712) Q) := by
  rw [k0_part62_eq_skeleton]; unfold k0_part62_skel
  simp only [Prog.lift, Prog.bind_op, Prog.bind_ret, Prog.pure_eq_ret]
  iintro ⟨#HR, HO, HWagr, HY⟩ Hk
  iapply (step_wait I K c (fun k => xAgr (nb c k)) 1 5 8 (by decide) (by decide) (sem_agr _ _ _ (of39 c 5 (by decide) (by decide))) (nb_ne' c 5 (by decide) (by decide)) (by rfl) 4 (Nat.le_refl _) (above_zero _)) $$ [HO HWagr]
  · isplitr; · iexact HR
    isplitl [HO]; · iexact HO
    iexact HWagr
  iintro ⟨HO, HWagr⟩
  iapply (ld_got I c 5 (by decide) (by decide) (of45 c 5 (by decide) (by decide))) $$ [HWagr]
  · iexact HWagr
  iintro HWagr
  iapply (st_out I c 5 (by decide) (of45 c 5 (by decide) (by decide)) (of45 c 5 (by decide) (by decide)) (out_other I c 5 (by decide) (by decide))) $$ [HY]
  · iexact HY
  iintro HY
  iapply W_ret
  iapply Hk
  isplitl [HO]; · iexact HO
  isplitl [HWagr]; · iexact HWagr
  iexact HY

theorem part63 (c : Dev nD) (v2 : BitVec 32) (v1845 : BitVec 32) {Q} : iprop(recs I K ∗ owesE c 0 ∗ WT I c (fun k => xAgr (nb c k)) 1 6 8 ∗ OUTs I c 6)
    ⊢ iprop((∀ r, (owesE c 0 ∗ WT I c (fun k => xAgr (nb c k)) 1 8 8 ∗ OUTs I c 7) -∗ Q r) -∗ W c (k0_part63 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v1845) Q) := by
  rw [k0_part63_eq_skeleton]; unfold k0_part63_skel
  simp only [Prog.lift, Prog.bind_op, Prog.bind_ret, Prog.pure_eq_ret]
  iintro ⟨#HR, HO, HWagr, HY⟩ Hk
  iapply (step_wait I K c (fun k => xAgr (nb c k)) 1 6 8 (by decide) (by decide) (sem_agr _ _ _ (of39 c 6 (by decide) (by decide))) (nb_ne' c 6 (by decide) (by decide)) (by rfl) 4 (Nat.le_refl _) (above_zero _)) $$ [HO HWagr]
  · isplitr; · iexact HR
    isplitl [HO]; · iexact HO
    iexact HWagr
  iintro ⟨HO, HWagr⟩
  iapply (ld_got I c 6 (by decide) (by decide) (of45 c 6 (by decide) (by decide))) $$ [HWagr]
  · iexact HWagr
  iintro HWagr
  iapply (st_out I c 6 (by decide) (of45 c 6 (by decide) (by decide)) (of45 c 6 (by decide) (by decide)) (out_other I c 6 (by decide) (by decide))) $$ [HY]
  · iexact HY
  iintro HY
  iapply (step_wait I K c (fun k => xAgr (nb c k)) 1 7 8 (by decide) (by decide) (sem_agr _ _ _ (of39 c 7 (by decide) (by decide))) (nb_ne' c 7 (by decide) (by decide)) (by rfl) 4 (Nat.le_refl _) (above_zero _)) $$ [HO HWagr]
  · isplitr; · iexact HR
    isplitl [HO]; · iexact HO
    iexact HWagr
  iintro ⟨HO, HWagr⟩
  iapply W_ret
  iapply Hk
  isplitl [HO]; · iexact HO
  isplitl [HWagr]; · iexact HWagr
  iexact HY

end Cert.Attn

end
-- ==== Proof.PartD.lean ====
/-
The waits for the sends.
-/
module

public import proofs.«01_k».proof.Proof.Join

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

open Idealize.ShloMosaic.Rounds

variable {F : FTy → Type} [FloatOps F]

local notation "𝕄" => MT nD τ sig Unit (Elt F) ℕ UU ℕ
variable (I : Dev nD → Ins F) (K : Dev nD × CX → ℕ)

theorem part64 (c : Dev nD) (v1870 : BitVec 32) (v1878 : BitVec 32) {Q} : iprop(recs I K ∗ WT I c (fun k => xAgr (nb c k)) 1 8 8 ∗ OUTs I c 7 ∗ owesE c 0 ∗ WT I c (fun u => xKvs (pk c u) (rr u)) 0 0 28)
    ⊢ iprop(((WT I c (fun k => xAgr (nb c k)) 1 8 8 ∗ OUTs I c 8 ∗ owesE c 0 ∗ WT I c (fun u => xKvs (pk c u) (rr u)) 0 2 28) -∗ Q ⟨⟩) -∗ W c (k0_part64 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v1870 v1878) Q) := by
  rw [k0_part64_eq_skeleton]; unfold k0_part64_skel
  simp only [Prog.lift, Prog.bind_op, Prog.bind_ret, Prog.pure_eq_ret]
  iintro ⟨#HR, HWagr, HY, HO, HWkvs⟩ Hk
  iapply (ld_got I c 7 (by decide) (by decide) (of45 c 7 (by decide) (by decide))) $$ [HWagr]
  · iexact HWagr
  iintro HWagr
  iapply (st_out I c 7 (by decide) (of45 c 7 (by decide) (by decide)) (of45 c 7 (by decide) (by decide)) (out_other I c 7 (by decide) (by decide))) $$ [HY]
  · iexact HY
  iintro HY
  iapply (step_wait I K c (fun u => xKvs (pk c u) (rr u)) 0 0 28 (by decide) (by decide) (sem_kvs _ _ _ _ (of3 c 1 (by decide) (by decide))) (dut_one c _ (pk_ne c 0)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 1 28 (by decide) (by decide) (sem_kvs _ _ _ _ (of3 c 2 (by decide) (by decide))) (dut_one c _ (pk_ne c 1)) (by rfl) 0 (Nat.le_refl _) (above_zero _)) $$ [HO HWkvs]
  · isplitr; · iexact HR
    isplitl [HO]; · iexact HO
    iexact HWkvs
  iintro ⟨HO, HWkvs⟩
  iapply W_ret
  iapply Hk
  isplitl [HWagr]; · iexact HWagr
  isplitl [HY]; · iexact HY
  isplitl [HO]; · iexact HO
  iexact HWkvs

theorem part65 (c : Dev nD)  {Q} : iprop(recs I K ∗ owesE c 0 ∗ WT I c (fun u => xKvs (pk c u) (rr u)) 0 2 28)
    ⊢ iprop(((owesE c 0 ∗ WT I c (fun u => xKvs (pk c u) (rr u)) 0 6 28) -∗ Q ⟨⟩) -∗ W c (k0_part65 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  rw [k0_part65_eq_skeleton]; unfold k0_part65_skel
  simp only [Prog.lift, Prog.bind_op, Prog.bind_ret, Prog.pure_eq_ret]
  iintro ⟨#HR, HO, HWkvs⟩ Hk
  iapply (step_wait I K c (fun u => xKvs (pk c u) (rr u)) 0 2 28 (by decide) (by decide) (sem_kvs _ _ _ _ (of3 c 3 (by decide) (by decide))) (dut_one c _ (pk_ne c 2)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 3 28 (by decide) (by decide) (sem_kvs _ _ _ _ (of3 c 4 (by decide) (by decide))) (dut_one c _ (pk_ne c 3)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 4 28 (by decide) (by decide) (sem_kvs _ _ _ _ (of3 c 5 (by decide) (by decide))) (dut_one c _ (pk_ne c 4)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 5 28 (by decide) (by decide) (sem_kvs _ _ _ _ (of3 c 6 (by decide) (by decide))) (dut_one c _ (pk_ne c 5)) (by rfl) 0 (Nat.le_refl _) (above_zero _)) $$ [HO HWkvs]
  · isplitr; · iexact HR
    isplitl [HO]; · iexact HO
    iexact HWkvs
  iintro ⟨HO, HWkvs⟩
  iapply W_ret
  iapply Hk
  isplitl [HO]; · iexact HO
  iexact HWkvs

theorem part66 (c : Dev nD)  {Q} : iprop(recs I K ∗ owesE c 0 ∗ WT I c (fun u => xKvs (pk c u) (rr u)) 0 6 28)
    ⊢ iprop(((owesE c 0 ∗ WT I c (fun u => xKvs (pk c u) (rr u)) 0 9 28) -∗ Q ⟨⟩) -∗ W c (k0_part66 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  rw [k0_part66_eq_skeleton]; unfold k0_part66_skel
  simp only [Prog.lift, Prog.bind_op, Prog.bind_ret, Prog.pure_eq_ret]
  iintro ⟨#HR, HO, HWkvs⟩ Hk
  iapply (step_wait I K c (fun u => xKvs (pk c u) (rr u)) 0 6 28 (by decide) (by decide) (sem_kvs _ _ _ _ (of3 c 7 (by decide) (by decide))) (dut_one c _ (pk_ne c 6)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 7 28 (by decide) (by decide) (sem_kvs _ _ _ _ (of7 c 1 (by decide) (by decide))) (dut_one c _ (pk_ne c 7)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 8 28 (by decide) (by decide) (sem_kvs _ _ _ _ (of7 c 2 (by decide) (by decide))) (dut_one c _ (pk_ne c 8)) (by rfl) 0 (Nat.le_refl _) (above_zero _)) $$ [HO HWkvs]
  · isplitr; · iexact HR
    isplitl [HO]; · iexact HO
    iexact HWkvs
  iintro ⟨HO, HWkvs⟩
  iapply W_ret
  iapply Hk
  isplitl [HO]; · iexact HO
  iexact HWkvs

theorem part67 (c : Dev nD)  {Q} : iprop(recs I K ∗ owesE c 0 ∗ WT I c (fun u => xKvs (pk c u) (rr u)) 0 9 28)
    ⊢ iprop(((owesE c 0 ∗ WT I c (fun u => xKvs (pk c u) (rr u)) 0 12 28) -∗ Q ⟨⟩) -∗ W c (k0_part67 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  rw [k0_part67_eq_skeleton]; unfold k0_part67_skel
  simp only [Prog.lift, Prog.bind_op, Prog.bind_ret, Prog.pure_eq_ret]
  iintro ⟨#HR, HO, HWkvs⟩ Hk
  iapply (step_wait I K c (fun u => xKvs (pk c u) (rr u)) 0 9 28 (by decide) (by decide) (sem_kvs _ _ _ _ (of7 c 3 (by decide) (by decide))) (dut_one c _ (pk_ne c 9)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 10 28 (by decide) (by decide) (sem_kvs _ _ _ _ (of7 c 4 (by decide) (by decide))) (dut_one c _ (pk_ne c 10)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 11 28 (by decide) (by decide) (sem_kvs _ _ _ _ (of7 c 5 (by decide) (by decide))) (dut_one c _ (pk_ne c 11)) (by rfl) 0 (Nat.le_refl _) (above_zero _)) $$ [HO HWkvs]
  · isplitr; · iexact HR
    isplitl [HO]; · iexact HO
    iexact HWkvs
  iintro ⟨HO, HWkvs⟩
  iapply W_ret
  iapply Hk
  isplitl [HO]; · iexact HO
  iexact HWkvs

theorem part68 (c : Dev nD)  {Q} : iprop(recs I K ∗ owesE c 0 ∗ WT I c (fun u => xKvs (pk c u) (rr u)) 0 12 28)
    ⊢ iprop(((owesE c 0 ∗ WT I c (fun u => xKvs (pk c u) (rr u)) 0 16 28) -∗ Q ⟨⟩) -∗ W c (k0_part68 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  rw [k0_part68_eq_skeleton]; unfold k0_part68_skel
  simp only [Prog.lift, Prog.bind_op, Prog.bind_ret, Prog.pure_eq_ret]
  iintro ⟨#HR, HO, HWkvs⟩ Hk
  iapply (step_wait I K c (fun u => xKvs (pk c u) (rr u)) 0 12 28 (by decide) (by decide) (sem_kvs _ _ _ _ (of7 c 6 (by decide) (by decide))) (dut_one c _ (pk_ne c 12)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 13 28 (by decide) (by decide) (sem_kvs _ _ _ _ (of7 c 7 (by decide) (by decide))) (dut_one c _ (pk_ne c 13)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 14 28 (by decide) (by decide) (sem_kvs _ _ _ _ (of11 c 1 (by decide) (by decide))) (dut_one c _ (pk_ne c 14)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 15 28 (by decide) (by decide) (sem_kvs _ _ _ _ (of11 c 2 (by decide) (by decide))) (dut_one c _ (pk_ne c 15)) (by rfl) 0 (Nat.le_refl _) (above_zero _)) $$ [HO HWkvs]
  · isplitr; · iexact HR
    isplitl [HO]; · iexact HO
    iexact HWkvs
  iintro ⟨HO, HWkvs⟩
  iapply W_ret
  iapply Hk
  isplitl [HO]; · iexact HO
  iexact HWkvs

theorem part69 (c : Dev nD)  {Q} : iprop(recs I K ∗ owesE c 0 ∗ WT I c (fun u => xKvs (pk c u) (rr u)) 0 16 28)
    ⊢ iprop(((owesE c 0 ∗ WT I c (fun u => xKvs (pk c u) (rr u)) 0 19 28) -∗ Q ⟨⟩) -∗ W c (k0_part69 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  rw [k0_part69_eq_skeleton]; unfold k0_part69_skel
  simp only [Prog.lift, Prog.bind_op, Prog.bind_ret, Prog.pure_eq_ret]
  iintro ⟨#HR, HO, HWkvs⟩ Hk
  iapply (step_wait I K c (fun u => xKvs (pk c u) (rr u)) 0 16 28 (by decide) (by decide) (sem_kvs _ _ _ _ (of11 c 3 (by decide) (by decide))) (dut_one c _ (pk_ne c 16)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 17 28 (by decide) (by decide) (sem_kvs _ _ _ _ (of11 c 4 (by decide) (by decide))) (dut_one c _ (pk_ne c 17)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 18 28 (by decide) (by decide) (sem_kvs _ _ _ _ (of11 c 5 (by decide) (by decide))) (dut_one c _ (pk_ne c 18)) (by rfl) 0 (Nat.le_refl _) (above_zero _)) $$ [HO HWkvs]
  · isplitr; · iexact HR
    isplitl [HO]; · iexact HO
    iexact HWkvs
  iintro ⟨HO, HWkvs⟩
  iapply W_ret
  iapply Hk
  isplitl [HO]; · iexact HO
  iexact HWkvs

theorem part70 (c : Dev nD)  {Q} : iprop(recs I K ∗ owesE c 0 ∗ WT I c (fun u => xKvs (pk c u) (rr u)) 0 19 28)
    ⊢ iprop(((owesE c 0 ∗ WT I c (fun u => xKvs (pk c u) (rr u)) 0 22 28) -∗ Q ⟨⟩) -∗ W c (k0_part70 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  rw [k0_part70_eq_skeleton]; unfold k0_part70_skel
  simp only [Prog.lift, Prog.bind_op, Prog.bind_ret, Prog.pure_eq_ret]
  iintro ⟨#HR, HO, HWkvs⟩ Hk
  iapply (step_wait I K c (fun u => xKvs (pk c u) (rr u)) 0 19 28 (by decide) (by decide) (sem_kvs _ _ _ _ (of11 c 6 (by decide) (by decide))) (dut_one c _ (pk_ne c 19)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 20 28 (by decide) (by decide) (sem_kvs _ _ _ _ (of11 c 7 (by decide) (by decide))) (dut_one c _ (pk_ne c 20)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 21 28 (by decide) (by decide) (sem_kvs _ _ _ _ (of15 c 1 (by decide) (by decide))) (dut_one c _ (pk_ne c 21)) (by rfl) 0 (Nat.le_refl _) (above_zero _)) $$ [HO HWkvs]
  · isplitr; · iexact HR
    isplitl [HO]; · iexact HO
    iexact HWkvs
  iintro ⟨HO, HWkvs⟩
  iapply W_ret
  iapply Hk
  isplitl [HO]; · iexact HO
  iexact HWkvs

theorem part71 (c : Dev nD)  {Q} : iprop(recs I K ∗ owesE c 0 ∗ WT I c (fun u => xKvs (pk c u) (rr u)) 0 22 28)
    ⊢ iprop(((owesE c 0 ∗ WT I c (fun u => xKvs (pk c u) (rr u)) 0 26 28) -∗ Q ⟨⟩) -∗ W c (k0_part71 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  rw [k0_part71_eq_skeleton]; unfold k0_part71_skel
  simp only [Prog.lift, Prog.bind_op, Prog.bind_ret, Prog.pure_eq_ret]
  iintro ⟨#HR, HO, HWkvs⟩ Hk
  iapply (step_wait I K c (fun u => xKvs (pk c u) (rr u)) 0 22 28 (by decide) (by decide) (sem_kvs _ _ _ _ (of15 c 2 (by decide) (by decide))) (dut_one c _ (pk_ne c 22)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 23 28 (by decide) (by decide) (sem_kvs _ _ _ _ (of15 c 3 (by decide) (by decide))) (dut_one c _ (pk_ne c 23)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 24 28 (by decide) (by decide) (sem_kvs _ _ _ _ (of15 c 4 (by decide) (by decide))) (dut_one c _ (pk_ne c 24)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 25 28 (by decide) (by decide) (sem_kvs _ _ _ _ (of15 c 5 (by decide) (by decide))) (dut_one c _ (pk_ne c 25)) (by rfl) 0 (Nat.le_refl _) (above_zero _)) $$ [HO HWkvs]
  · isplitr; · iexact HR
    isplitl [HO]; · iexact HO
    iexact HWkvs
  iintro ⟨HO, HWkvs⟩
  iapply W_ret
  iapply Hk
  isplitl [HO]; · iexact HO
  iexact HWkvs

theorem part72 (c : Dev nD)  {Q} : iprop(recs I K ∗ owesE c 0 ∗ WT I c (fun u => xKvs (pk c u) (rr u)) 0 26 28 ∗ WT I c (fun k => xAgs (nb c k)) 1 1 8)
    ⊢ iprop(((owesE c 0 ∗ WT I c (fun u => xKvs (pk c u) (rr u)) 0 28 28 ∗ WT I c (fun k => xAgs (nb c k)) 1 3 8) -∗ Q ⟨⟩) -∗ W c (k0_part72 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c) Q) := by
  rw [k0_part72_eq_skeleton]; unfold k0_part72_skel
  simp only [Prog.lift, Prog.bind_op, Prog.bind_ret, Prog.pure_eq_ret]
  iintro ⟨#HR, HO, HWkvs, HWags⟩ Hk
  iapply (step_wait I K c (fun u => xKvs (pk c u) (rr u)) 0 26 28 (by decide) (by decide) (sem_kvs _ _ _ _ (of15 c 6 (by decide) (by decide))) (dut_one c _ (pk_ne c 26)) (by rfl) 0 (Nat.le_refl _) (above_zero _)) $$ [HO HWkvs]
  · isplitr; · iexact HR
    isplitl [HO]; · iexact HO
    iexact HWkvs
  iintro ⟨HO, HWkvs⟩
  iapply (step_wait I K c (fun u => xKvs (pk c u) (rr u)) 0 27 28 (by decide) (by decide) (sem_kvs _ _ _ _ (of15 c 7 (by decide) (by decide))) (dut_one c _ (pk_ne c 27)) (by rfl) 0 (Nat.le_refl _) (above_zero _)) $$ [HO HWkvs]
  · isplitr; · iexact HR
    isplitl [HO]; · iexact HO
    iexact HWkvs
  iintro ⟨HO, HWkvs⟩
  iapply (step_wait I K c (fun k => xAgs (nb c k)) 1 1 8 (by decide) (by decide) (sem_ags _ _ _ (of39 c 1 (by decide) (by decide))) (nb_ne' c 1 (by decide) (by decide)) (by rfl) 0 (Nat.le_refl _) (above_zero _)) $$ [HO HWags]
  · isplitr; · iexact HR
    isplitl [HO]; · iexact HO
    iexact HWags
  iintro ⟨HO, HWags⟩
  iapply (step_wait I K c (fun k => xAgs (nb c k)) 1 2 8 (by decide) (by decide) (sem_ags _ _ _ (of39 c 2 (by decide) (by decide))) (nb_ne' c 2 (by decide) (by decide)) (by rfl) 0 (Nat.le_refl _) (above_zero _)) $$ [HO HWags]
  · isplitr; · iexact HR
    isplitl [HO]; · iexact HO
    iexact HWags
  iintro ⟨HO, HWags⟩
  iapply W_ret
  iapply Hk
  isplitl [HO]; · iexact HO
  isplitl [HWkvs]; · iexact HWkvs
  iexact HWags

theorem part73 (c : Dev nD) (v2 : BitVec 32) {Q} : iprop(recs I K ∗ owesE c 0 ∗ WT I c (fun k => xAgs (nb c k)) 1 3 8 ∗ WT I c (fun e => xRss (dv e)) 0 0 8)
    ⊢ iprop((∀ r, (owesE c 0 ∗ WT I c (fun k => xAgs (nb c k)) 1 8 8 ∗ WT I c (fun e => xRss (dv e)) 0 2 8) -∗ Q r) -∗ W c (k0_part73 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2) Q) := by
  rw [k0_part73_eq_skeleton]; unfold k0_part73_skel
  simp only [Prog.lift, Prog.bind_op, Prog.bind_ret, Prog.pure_eq_ret]
  iintro ⟨#HR, HO, HWags, HWrsw⟩ Hk
  iapply (step_wait I K c (fun k => xAgs (nb c k)) 1 3 8 (by decide) (by decide) (sem_ags _ _ _ (of39 c 3 (by decide) (by decide))) (nb_ne' c 3 (by decide) (by decide)) (by rfl) 0 (Nat.le_refl _) (above_zero _)) $$ [HO HWags]
  · isplitr; · iexact HR
    isplitl [HO]; · iexact HO
    iexact HWags
  iintro ⟨HO, HWags⟩
  iapply (step_wait I K c (fun k => xAgs (nb c k)) 1 4 8 (by decide) (by decide) (sem_ags _ _ _ (of39 c 4 (by decide) (by decide))) (nb_ne' c 4 (by decide) (by decide)) (by rfl) 0 (Nat.le_refl _) (above_zero _)) $$ [HO HWags]
  · isplitr; · iexact HR
    isplitl [HO]; · iexact HO
    iexact HWags
  iintro ⟨HO, HWags⟩
  iapply (step_wait I K c (fun k => xAgs (nb c k)) 1 5 8 (by decide) (by decide) (sem_ags _ _ _ (of39 c 5 (by decide) (by decide))) (nb_ne' c 5 (by decide) (by decide)) (by rfl) 0 (Nat.le_refl _) (above_zero _)) $$ [HO HWags]
  · isplitr; · iexact HR
    isplitl [HO]; · iexact HO
    iexact HWags
  iintro ⟨HO, HWags⟩
  iapply (step_wait I K c (fun k => xAgs (nb c k)) 1 6 8 (by decide) (by decide) (sem_ags _ _ _ (of39 c 6 (by decide) (by decide))) (nb_ne' c 6 (by decide) (by decide)) (by rfl) 0 (Nat.le_refl _) (above_zero _)) $$ [HO HWags]
  · isplitr; · iexact HR
    isplitl [HO]; · iexact HO
    iexact HWags
  iintro ⟨HO, HWags⟩
  iapply (step_wait I K c (fun k => xAgs (nb c k)) 1 7 8 (by decide) (by decide) (sem_ags _ _ _ (of39 c 7 (by decide) (by decide))) (nb_ne' c 7 (by decide) (by decide)) (by rfl) 0 (Nat.le_refl _) (above_zero _)) $$ [HO HWags]
  · isplitr; · iexact HR
    isplitl [HO]; · iexact HO
    iexact HWags
  iintro ⟨HO, HWags⟩
  iapply (cond_rw I K c 0 (by decide) (cd9 c) (fun h => sem_rss _ _ (dv 0) (by rfl)) (fun h => by rfl) (above_zero _)) $$ [HO HWrsw]
  · isplitr; · iexact HR
    isplitl [HO]; · iexact HO
    iexact HWrsw
  iintro ⟨HO, HWrsw⟩
  iapply (cond_rw I K c 1 (by decide) (cd10 c) (fun h => sem_rss _ _ (dv 1) (by rfl)) (fun h => by rfl) (above_zero _)) $$ [HO HWrsw]
  · isplitr; · iexact HR
    isplitl [HO]; · iexact HO
    iexact HWrsw
  iintro ⟨HO, HWrsw⟩
  iapply W_ret
  iapply Hk
  isplitl [HO]; · iexact HO
  isplitl [HWags]; · iexact HWags
  iexact HWrsw

end Cert.Attn

end
-- ==== Proof.Body.lean ====
/-
A device's whole run: the parts in order, with what is held cut and joined between them.
-/
module

public import proofs.«01_k».proof.Proof.Phase
public import proofs.«01_k».proof.Proof.PartA
public import proofs.«01_k».proof.Proof.PartB
public import proofs.«01_k».proof.Proof.PartC
public import proofs.«01_k».proof.Proof.PartD

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

open Idealize.ShloMosaic.Rounds

local notation "𝕄" => MT nD τ sig Unit (Elt F) ℕ UU ℕ

theorem blocks {M : Type} [URA M] (Φ : ℕ → sProp M) :
    bigSep (Finset.Ico 0 28) Φ = iprop(bigSep (Finset.Ico 0 7) Φ ∗ (bigSep (Finset.Ico 7 14) Φ ∗ (bigSep (Finset.Ico 14 21) Φ ∗ bigSep (Finset.Ico 21 28) Φ))) := by
  have e : Finset.Ico 0 28 = Finset.Ico 0 7 ∪ (Finset.Ico 7 14 ∪ (Finset.Ico 14 21 ∪ Finset.Ico 21 28)) := by decide +kernel
  rw [e, bigSep_union (by decide +kernel), bigSep_union (by decide +kernel), bigSep_union (by decide +kernel)]
  rfl

variable (I : Dev nD → Ins F) (K : Dev nD × CX → ℕ)

/-- The credits of the landings and of the barrier that a device waits for. -/
def creds (c : Dev nD) : sProp 𝕄 :=
  iprop(cred (tallyAt (bar c) () 7) ∗ (bigSep (Finset.Ico 0 28) fun u => cred (tallyAt (cell c (xKvr (pk c u) (rr u))) () nKv))
    ∗ (bigSep (Finset.Ico 1 8) fun k => cred (tallyAt (cell c (xRsr (nb c k))) () nRs)) ∗ bigSep (Finset.Ico 1 8) fun k => cred (tallyAt (cell c (xAgr (nb c k))) () nAg))

/-- What a device starts from. -/
def before (c : Dev nD) : sProp 𝕄 :=
  iprop(payToks (F := F) c ∗ (bigSep Finset.univ fun x : CX => atPos ER (kcell (c, x)) 0 ∅ 0) ∗ creds (F := F) c ∗ owesE (F := F) c (O₀ c)
    ∗ ((∃ f, pW (F := F) c cc0_scratch0 f) ∗ (∃ f, pW (F := F) c cc0_scratch1 f) ∗ (∃ f, pW (F := F) c cc0_scratch2 f) ∗ (∃ f, pW (F := F) c cc0_scratch3 f) ∗ (∃ f, pW (F := F) c cc0_scratch4 f) ∗ ∃ f, pW (F := F) c cc0_scratch5 f)
    ∗ pW c cc0_stg0_0 (I c).x ∗ pW c cc0_stg1_0 (I c).wq ∗ pW c cc0_stg2_0 (I c).k ∗ pW c cc0_stg3_0 (I c).v ∗ pW c cc0_stg4_0 (I c).wo ∗ ∃ f, pW (F := F) c cc0_stg5_0 f)

/-- The cells that no transfer of the device uses. -/
def deads (c : Dev nD) : sProp 𝕄 :=
  iprop((bigSep Finset.univ fun r => (atPos ER (cell c (xKvs c r)) 0 ∅ 0 : sProp 𝕄)) ∗ (bigSep Finset.univ fun r => (atPos ER (cell c (xKvr c r)) 0 ∅ 0 : sProp 𝕄))
    ∗ atPos ER (cell c (xRsr c)) 0 ∅ 0 ∗ atPos ER (cell c (xAgs c)) 0 ∅ 0 ∗ atPos ER (cell c (xAgr c)) 0 ∅ 0)

/-- What it has kept before the last waits. -/
def kept (c : Dev nD) : sProp 𝕄 :=
  iprop(deads (F := F) c ∗ (bigSep (Finset.Ico 0 8) fun e => (atPos ER (cell c (xRss (dv e))) 0 ∅ 0 : sProp 𝕄)) ∗ (bigSep (Finset.Ico 0 28) fun u => (atPos ER (cell c (xKvs (pk c u) (rr u))) 0 ∅ 0 : sProp 𝕄))
    ∗ (bigSep (Finset.Ico 1 8) fun k => (atPos ER (cell c (xAgs (nb c k))) 0 ∅ 0 : sProp 𝕄))
    ∗ atPos ER (bar c) 1 ∅ 0 ∗ atPos ER (cell c xLoc) 1 ∅ 0 ∗ (bigSep (Finset.Ico 0 28) fun u => (atPos ER (cell c (xKvr (pk c u) (rr u))) 1 ∅ 0 : sProp 𝕄)) ∗ (bigSep (Finset.Ico 1 8) fun k => (atPos ER (cell c (xRsr (nb c k))) 1 ∅ 0 : sProp 𝕄))
    ∗ pKvst c (kvstH c) (KVST I c) ∗ pW c cc0_scratch1 (KVG I c) ∗ pW c cc0_scratch2 (PACC I c) ∗ RSBs I c
    ∗ pW c cc0_stg0_0 (I c).x ∗ pW c cc0_stg1_0 (I c).wq ∗ pW c cc0_stg2_0 (I c).k ∗ pW c cc0_stg3_0 (I c).v ∗ pW c cc0_stg4_0 (I c).wo
    ∗ KVS I c 28 ∗ RSS I c 8 ∗ AGS I c 8)

theorem sg_done (c : Dev nD) : SG (F := F) c 8 ⊢ owesE c (OKv c 0 + (ORs c 0 + OAg c 1)) := by
  unfold SG
  rw [OBar_done, zero_add]
  iintro ⟨H, -⟩
  iexact H

theorem kvr_start (c : Dev nD) : iprop((bigSep (Finset.Ico 0 28) fun u => (cred (tallyAt (cell c (xKvr (pk c u) (rr u))) () nKv) : sProp 𝕄)) ∗ bigSep (Finset.Ico 0 28) fun u => (atPos ER (cell c (xKvr (pk c u) (rr u))) 0 ∅ 0 : sProp 𝕄))
    ⊢ iprop(WT I c (fun u => xKvr (pk c u) (rr u)) 0 0 7 ∗ WT I c (fun u => xKvr (pk c u) (rr u)) 7 7 14 ∗ WT I c (fun u => xKvr (pk c u) (rr u)) 14 14 21 ∗ WT I c (fun u => xKvr (pk c u) (rr u)) 21 21 28) := by
  have h := fun b e => wt_start I c (fun u => xKvr (pk c u) (rr u)) b e (fun u _ => dut_one c _ (pk_ne c u))
  rw [blocks, blocks]
  iintro ⟨⟨C0, C1, C2, C3⟩, A0, A1, A2, A3⟩
  isplitl [C0 A0]
  · iapply (h 0 7); isplitl [C0]; · iexact C0
    iexact A0
  isplitl [C1 A1]
  · iapply (h 7 14); isplitl [C1]; · iexact C1
    iexact A1
  isplitl [C2 A2]
  · iapply (h 14 21); isplitl [C2]; · iexact C2
    iexact A2
  iapply (h 21 28); isplitl [C3]; · iexact C3
  iexact A3

theorem wloc_start (c : Dev nD) : iprop(cred (tallyAt (cell c xLoc) () nLoc) ∗ (atPos ER (cell c xLoc) 0 ∅ 0 : sProp 𝕄)) ⊢ wTok (F := F) c xLoc := by
  have e : wTok (F := F) c xLoc = iprop(cred (tallyAt (cell c xLoc) () nLoc) ∗ (atPos ER (cell c xLoc) 0 ∅ 0 : sProp 𝕄)) := if_pos rfl
  rw [e]

/-- The run up to the fourth landing of the gather. -/
theorem part74 (c : Dev nD) {Q} : iprop(recs I K ∗ before I c)
    ⊢ iprop((∀ a, (WT I c (fun k => xAgr (nb c k)) 1 4 8 ∗ OUTs I c 4 ∗ owesE c 0 ∗ kept I c) -∗ Q ⟨c, myW c, a⟩) -∗ W c (k0_part74 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  rw [k0_part74_eq_skeleton]; unfold k0_part74_skel
  simp only [Prog.pure_eq_ret]
  unfold before payToks creds
  iintro ⟨#HR, ⟨Tbar, Tkv, Trs, Tag, Tloc⟩, Hpos, ⟨Cbar, Ckvr, Crsr, Cagr⟩, HO, ⟨HV, ⟨%f1, HS1⟩, HC, ⟨%f3, HS3⟩, ⟨%f4, HS4⟩, ⟨%f5, HS5⟩⟩, H0, H1, H2, H3, H4, H5⟩ Hk
  ihave Hz := (BIBase.Entails.of_eq (cells_eq c (fun x => (atPos ER (kcell (c, x)) 0 ∅ 0 : sProp 𝕄)))) $$ Hpos
  icases Hz with ⟨PB, ⟨Dkvs, Pkvs⟩, ⟨Dkvr, Pkvr⟩, Prss, ⟨Drsr, Prsr⟩, ⟨Dags, Pags⟩, ⟨Dagr, Pagr⟩, Ploc⟩
  ihave Hz := (BIBase.Entails.of_eq (kvg_eq c f1)) $$ HS1
  icases Hz with ⟨HG0, HGp⟩
  ihave Hz := (BIBase.Entails.of_eq (rsb_eq c f4)) $$ HS4
  icases Hz with ⟨HRB, HRp⟩
  ihave Hz := (BIBase.Entails.of_eq (agg_eq c f5)) $$ HS5
  icases Hz with ⟨HX, HAp⟩
  ihave Hz := (BIBase.Entails.of_eq (pbf_blocks c f3)) $$ HS3
  icases Hz with ⟨HQ0, HQ1, HQ2, HQ3⟩
  ihave HS := (sg_start c) $$ [HO Tbar HGp HRp HAp]
  · isplitl [HO]; · iexact HO
    isplitl [Tbar]; · iexact Tbar
    isplitl [HGp]; · iexists f1; iexact HGp
    isplitl [HRp]; · iexists f4; iexact HRp
    iexists f5; iexact HAp
  iapply (W_seq c)
  iapply (part1 I K c) $$ [HS]
  · isplitr; · iexact HR
    iexact HS
  iintro %a %b %e HS
  iapply (W_seq c)
  iapply (part2 I K c _ _ _ _) $$ [HS]
  · isplitr; · iexact HR
    iexact HS
  iintro %r HS
  obtain ⟨x0, x1, x2⟩ := r
  iapply (W_seq c)
  iapply (part3 I K c _ _ _ _) $$ [HS H2]
  · isplitr; · iexact HR
    isplitl [HS]; · iexact HS
    iexact H2
  iintro ⟨HS, H2⟩
  ihave HO := (sg_done c) $$ HS
  iapply (W_seq c)
  iapply (part4 I K c _) $$ [HV H3]
  · isplitr; · iexact HR
    isplitl [HV]; · iexact HV
    iexact H3
  iintro ⟨HV, H3⟩
  ihave Hz := (BIBase.Entails.of_eq (kvst_eq c (KVST I c))) $$ HV
  icases Hz with ⟨HLk, Hkv⟩
  iapply (W_seq c)
  iapply (part5 I K c _) $$ [Tloc HLk HG0 H0 H1 H4 HO Cbar PB]
  · isplitr; · iexact HR
    isplitl [Tloc HLk HG0]
    · isplitl [Tloc]; · iexact Tloc
      isplitl [HLk]; · iexact HLk
      iexists f1; iexact HG0
    isplitl [H0]; · iexact H0
    isplitl [H1]; · iexact H1
    isplitl [H4]; · iexact H4
    isplitl [HO]; · iexact HO
    isplitl [Cbar]; · iexact Cbar
    iexact PB
  iintro ⟨CL, H0, H1, H4, HO, ⟨PB, Hbp⟩⟩
  ihave Hz := (bar_got c) $$ Hbp
  icases Hz with ⟨G1, G2, G3⟩
  ihave Hz := (kvs_start I c) $$ [Tkv Hkv G1]
  · isplitl [Tkv]; · iexact Tkv
    isplitl [Hkv]; · iexact Hkv
    iexact G1
  icases Hz with HK
  ihave Hz := (rss_start I c) $$ [Trs G2]
  · isplitl [Trs]; · iexact Trs
    iexact G2
  icases Hz with HR2
  ihave Hz := (agt_start c) $$ [Tag G3]
  · isplitl [Tag]; · iexact Tag
    iexact G3
  icases Hz with HT
  iapply (W_seq c)
  iapply (part6 I K c _ (ORs c 0 + OAg c 1)) $$ [HO HK]
  · isplitr; · iexact HR
    isplitl [HO]; · iexact HO
    iexact HK
  iintro ⟨HO, HK⟩
  iapply (W_seq c)
  iapply (part7 I K c _ (ORs c 0 + OAg c 1)) $$ [HO HK]
  · isplitr; · iexact HR
    isplitl [HO]; · iexact HO
    iexact HK
  iintro %r ⟨HO, HK⟩
  obtain ⟨x0, x1, x2⟩ := r
  iapply (W_seq c)
  iapply (part8 I K c _ _ _ _ (ORs c 0 + OAg c 1)) $$ [HO HK]
  · isplitr; · iexact HR
    isplitl [HO]; · iexact HO
    iexact HK
  iintro ⟨HO, HK⟩
  iapply (W_seq c)
  iapply (part9 I K c _ (ORs c 0 + OAg c 1)) $$ [HO HK]
  · isplitr; · iexact HR
    isplitl [HO]; · iexact HO
    iexact HK
  iintro %r ⟨HO, HK⟩
  obtain ⟨x0, x1⟩ := r
  iapply (W_seq c)
  iapply (part10 I K c _ _ _ (ORs c 0 + OAg c 1)) $$ [HO HK]
  · isplitr; · iexact HR
    isplitl [HO]; · iexact HO
    iexact HK
  iintro %r ⟨HO, HK⟩
  obtain ⟨x0, x1⟩ := r
  iapply (W_seq c)
  iapply (part11 I K c _ _ _ (ORs c 0 + OAg c 1)) $$ [HO HK]
  · isplitr; · iexact HR
    isplitl [HO]; · iexact HO
    iexact HK
  iintro ⟨HO, HK⟩
  iapply (W_seq c)
  iapply (part12 I K c _ (ORs c 0 + OAg c 1)) $$ [HO HK]
  · isplitr; · iexact HR
    isplitl [HO]; · iexact HO
    iexact HK
  iintro %r ⟨HO, HK⟩
  obtain ⟨x0, x1, x2⟩ := r
  iapply (W_seq c)
  iapply (part13 I K c _ _ _ _ (ORs c 0 + OAg c 1)) $$ [HO HK]
  · isplitr; · iexact HR
    isplitl [HO]; · iexact HO
    iexact HK
  iintro ⟨HO, HK⟩
  iapply (W_seq c)
  iapply (part14 I K c _ (ORs c 0 + OAg c 1)) $$ [HO HK]
  · isplitr; · iexact HR
    isplitl [HO]; · iexact HO
    iexact HK
  iintro %r ⟨HO, HK⟩
  obtain ⟨x0, x1⟩ := r
  iapply (W_seq c)
  iapply (part15 I K c _ _ _ (ORs c 0 + OAg c 1)) $$ [HO HK]
  · isplitr; · iexact HR
    isplitl [HO]; · iexact HO
    iexact HK
  iintro %r ⟨HO, HK⟩
  iapply (W_seq c)
  iapply (part16 I K c _ _ (ORs c 0 + OAg c 1)) $$ [HO HK]
  · isplitr; · iexact HR
    isplitl [HO]; · iexact HO
    iexact HK
  iintro ⟨HO, HK⟩
  iapply (W_seq c)
  iapply (part17 I K c _ (ORs c 0 + OAg c 1)) $$ [HO HK]
  · isplitr; · iexact HR
    isplitl [HO]; · iexact HO
    iexact HK
  iintro %r ⟨HO, HK⟩
  obtain ⟨x0, x1, x2, x3⟩ := r
  iapply (W_seq c)
  iapply (part18 I K c _ _ _ _ _ (ORs c 0 + OAg c 1)) $$ [HO HK]
  · isplitr; · iexact HR
    isplitl [HO]; · iexact HO
    iexact HK
  iintro ⟨HO, HK⟩
  iapply (W_seq c)
  iapply (part19 I K c _ (ORs c 0 + OAg c 1)) $$ [HO HK]
  · isplitr; · iexact HR
    isplitl [HO]; · iexact HO
    iexact HK
  iintro %r ⟨HO, HK⟩
  obtain ⟨x0, x1, x2, x3⟩ := r
  iapply (W_seq c)
  iapply (part20 I K c _ _ _ _ _ (ORs c 0 + OAg c 1)) $$ [HO HK]
  · isplitr; · iexact HR
    isplitl [HO]; · iexact HO
    iexact HK
  iintro %r ⟨HO, HK⟩
  obtain ⟨x0, x1⟩ := r
  iapply (W_seq c)
  iapply (part21 I K c _ _ _ (ORs c 0 + OAg c 1)) $$ [HO HK]
  · isplitr; · iexact HR
    isplitl [HO]; · iexact HO
    iexact HK
  iintro ⟨HO, HK⟩
  iapply (W_seq c)
  iapply (part22 I K c _ (ORs c 0 + OAg c 1)) $$ [HO HK]
  · isplitr; · iexact HR
    isplitl [HO]; · iexact HO
    iexact HK
  iintro %r ⟨HO, HK⟩
  obtain ⟨x0, x1, x2, x3, x4⟩ := r
  iapply (W_seq c)
  iapply (part23 I K c _ _ _ _ _ _ (ORs c 0 + OAg c 1)) $$ [HO HK]
  · isplitr; · iexact HR
    isplitl [HO]; · iexact HO
    iexact HK
  iintro ⟨HO, HK⟩
  iapply (W_seq c)
  iapply (part24 I K c _ (ORs c 0 + OAg c 1)) $$ [HO HK]
  · isplitr; · iexact HR
    isplitl [HO]; · iexact HO
    iexact HK
  iintro %r ⟨HO, HK⟩
  obtain ⟨x0, x1, x2⟩ := r
  ihave Hz := (wloc_start c) $$ [CL Ploc]
  · isplitl [CL]; · iexact CL
    iexact Ploc
  icases Hz with HW
  iapply (W_seq c)
  iapply (part25 I K c _ _ _ _ (ORs c 0 + OAg c 1) (above_add (above_mono (by decide) (above_ORs c 0)) (above_mono (by decide) (above_OAg c 1)))) $$ [HO HK HW]
  · isplitr; · iexact HR
    isplitl [HO]; · iexact HO
    isplitl [HK]; · iexact HK
    iexact HW
  iintro %r ⟨HO, HK, HW⟩
  obtain ⟨x0, x1, x2, x3⟩ := r
  ihave Hz := (BIBase.Entails.of_eq (congrArg (owesE (F := F) c) (show OKv c 28 + (ORs c 0 + OAg c 1) = ORs c 0 + OAg c 1 by rw [OKv_done, zero_add]))) $$ HO
  icases Hz with HO
  ihave Hz := (loc_got I c) $$ HW
  icases Hz with ⟨Ploc, ⟨HG0, HG1, HG2, HG3⟩, HLk⟩
  ihave Hz := (kvr_start I c) $$ [Ckvr Pkvr]
  · isplitl [Ckvr]; · iexact Ckvr
    iexact Pkvr
  icases Hz with ⟨K0, K1, K2, K3⟩
  iapply (W_seq c)
  iapply (part26 I K c _ _ _ _ _) $$ [HO K0]
  · isplitr; · iexact HR
    isplitl [HO]; · iexact HO
    iexact K0
  iintro ⟨HO, K0⟩
  iapply (W_seq c)
  iapply (part27 I K c _) $$ [HO K0]
  · isplitr; · iexact HR
    isplitl [HO]; · iexact HO
    iexact K0
  iintro %r ⟨HO, K0⟩
  obtain ⟨x0, x1, x2, x3⟩ := r
  iapply (W_seq c)
  iapply (part28 I K c _ _ _ _ _) $$ [HO K0]
  · isplitr; · iexact HR
    isplitl [HO]; · iexact HO
    iexact K0
  iintro ⟨HO, K0⟩
  iapply (W_seq c)
  iapply (part29 I K c _) $$ [HO K0]
  · isplitr; · iexact HR
    isplitl [HO]; · iexact HO
    iexact K0
  iintro %r ⟨HO, K0⟩
  obtain ⟨x0, x1, x2, x3⟩ := r
  iapply (W_seq c)
  iapply (part30 I K c _ _ _ _) $$ [HO K0 HG0]
  · isplitr; · iexact HR
    isplitl [HO]; · iexact HO
    isplitl [K0]; · iexact K0
    iexact HG0
  iintro ⟨HO, K0, HG0⟩
  ihave Hz := (pas_start I c) $$ HC
  icases Hz with HC
  iapply (W_seq c)
  iapply (part31 I K c _) $$ [HC HQ0 HO HR2]
  · isplitr; · iexact HR
    isplitl [HC]; · iexact HC
    isplitl [HQ0]; · iexists f3; iexact HQ0
    isplitl [HO]; · iexact HO
    iexact HR2
  iintro %r ⟨HC, HO, HR2⟩
  obtain ⟨x0, x1, x2⟩ := r
  iapply (W_seq c)
  iapply (part32 I K c _ _ _ _) $$ [HO K1]
  · isplitr; · iexact HR
    isplitl [HO]; · iexact HO
    iexact K1
  iintro ⟨HO, K1⟩
  iapply (W_seq c)
  iapply (part33 I K c _) $$ [HO K1]
  · isplitr; · iexact HR
    isplitl [HO]; · iexact HO
    iexact K1
  iintro %r ⟨HO, K1⟩
  obtain ⟨x0, x1, x2⟩ := r
  iapply (W_seq c)
  iapply (part34 I K c _ _ _ _) $$ [HO K1]
  · isplitr; · iexact HR
    isplitl [HO]; · iexact HO
    iexact K1
  iintro ⟨HO, K1⟩
  iapply (W_seq c)
  iapply (part35 I K c _) $$ [HO K1]
  · isplitr; · iexact HR
    isplitl [HO]; · iexact HO
    iexact K1
  iintro %r ⟨HO, K1⟩
  obtain ⟨x0, x1, x2⟩ := r
  iapply (W_seq c)
  iapply (part36 I K c _ _ _) $$ [HO K1 HG1]
  · isplitr; · iexact HR
    isplitl [HO]; · iexact HO
    isplitl [K1]; · iexact K1
    iexact HG1
  iintro ⟨HO, K1, HG1⟩
  iapply (W_seq c)
  iapply (part37 I K c _) $$ [HC HQ1 HO HR2]
  · isplitr; · iexact HR
    isplitl [HC]; · iexact HC
    isplitl [HQ1]; · iexists f3; iexact HQ1
    isplitl [HO]; · iexact HO
    iexact HR2
  iintro %r ⟨HC, HO, HR2⟩
  obtain ⟨x0, x1, x2, x3, x4⟩ := r
  iapply (W_seq c)
  iapply (part38 I K c _ _ _ _ _ _) $$ [HO K2]
  · isplitr; · iexact HR
    isplitl [HO]; · iexact HO
    iexact K2
  iintro ⟨HO, K2⟩
  iapply (W_seq c)
  iapply (part39 I K c _) $$ [HO K2]
  · isplitr; · iexact HR
    isplitl [HO]; · iexact HO
    iexact K2
  iintro %r ⟨HO, K2⟩
  obtain ⟨x0, x1, x2, x3, x4⟩ := r
  iapply (W_seq c)
  iapply (part40 I K c _ _ _ _ _ _) $$ [HO K2]
  · isplitr; · iexact HR
    isplitl [HO]; · iexact HO
    iexact K2
  iintro ⟨HO, K2⟩
  iapply (W_seq c)
  iapply (part41 I K c _) $$ [HO K2]
  · isplitr; · iexact HR
    isplitl [HO]; · iexact HO
    iexact K2
  iintro %r ⟨HO, K2⟩
  obtain ⟨x0, x1, x2, x3, x4⟩ := r
  iapply (W_seq c)
  iapply (part42 I K c _ _ _ _ _) $$ [HO K2 HG2]
  · isplitr; · iexact HR
    isplitl [HO]; · iexact HO
    isplitl [K2]; · iexact K2
    iexact HG2
  iintro ⟨HO, K2, HG2⟩
  iapply (W_seq c)
  iapply (part43 I K c _) $$ [HC HQ2 HO HR2]
  · isplitr; · iexact HR
    isplitl [HC]; · iexact HC
    isplitl [HQ2]; · iexists f3; iexact HQ2
    isplitl [HO]; · iexact HO
    iexact HR2
  iintro %r ⟨HC, HO, HR2⟩
  iapply (W_seq c)
  iapply (part44 I K c _ _) $$ [HO K3]
  · isplitr; · iexact HR
    isplitl [HO]; · iexact HO
    iexact K3
  iintro ⟨HO, K3⟩
  iapply (W_seq c)
  iapply (part45 I K c _) $$ [HO K3]
  · isplitr; · iexact HR
    isplitl [HO]; · iexact HO
    iexact K3
  iintro %r ⟨HO, K3⟩
  iapply (W_seq c)
  iapply (part46 I K c _ _) $$ [HO K3]
  · isplitr; · iexact HR
    isplitl [HO]; · iexact HO
    iexact K3
  iintro ⟨HO, K3⟩
  iapply (W_seq c)
  iapply (part47 I K c _) $$ [HO K3]
  · isplitr; · iexact HR
    isplitl [HO]; · iexact HO
    iexact K3
  iintro %r ⟨HO, K3⟩
  iapply (W_seq c)
  iapply (part48 I K c _) $$ [HO K3 HG3]
  · isplitr; · iexact HR
    isplitl [HO]; · iexact HO
    isplitl [K3]; · iexact K3
    iexact HG3
  iintro ⟨HO, K3, HG3⟩
  iapply (W_seq c)
  iapply (part49 I K c _) $$ [HC HQ3 HO HR2]
  · isplitr; · iexact HR
    isplitl [HC]; · iexact HC
    isplitl [HQ3]; · iexists f3; iexact HQ3
    isplitl [HO]; · iexact HO
    iexact HR2
  iintro ⟨HC, HO, HR2⟩
  ihave Hz := (BIBase.Entails.of_eq (congrArg (owesE (F := F) c) (show ORs c 8 + OAg c 1 = OAg c 1 by rw [ORs_done, zero_add]))) $$ HO
  icases Hz with HO
  ihave Hz := (pacc_done I c) $$ HC
  icases Hz with HC
  ihave Hz := (wt_start I c (fun k => xRsr (nb c k)) 1 8 (fun u hu => nb_ne' c u (Finset.mem_Ico.1 hu).1 (Finset.mem_Ico.1 hu).2)) $$ [Crsr Prsr]
  · isplitl [Crsr]; · iexact Crsr
    iexact Prsr
  icases Hz with HWrsr
  iapply (W_seq c)
  iapply (part50 I K c _) $$ [HO HWrsr]
  · isplitr; · iexact HR
    isplitl [HO]; · iexact HO
    iexact HWrsr
  iintro %r ⟨HO, HWrsr⟩
  obtain ⟨x0, x1, x2, x3, x4⟩ := r
  iapply (W_seq c)
  iapply (part51 I K c _ _ _ _ _ _) $$ [HO HWrsr]
  · isplitr; · iexact HR
    isplitl [HO]; · iexact HO
    iexact HWrsr
  iintro %r ⟨HO, HWrsr⟩
  obtain ⟨x0, x1, x2, x3⟩ := r
  iapply (W_seq c)
  iapply (part52 I K c _ _ _ _ _) $$ [HO HWrsr]
  · isplitr; · iexact HR
    isplitl [HO]; · iexact HO
    iexact HWrsr
  iintro ⟨HO, HWrsr⟩
  iapply (W_seq c)
  iapply (part53 I K c) $$ [HO HWrsr HRB HC]
  · isplitr; · iexact HR
    isplitl [HO]; · iexact HO
    isplitl [HWrsr]; · iexact HWrsr
    isplitl [HRB]; · iexists f4; iexact HRB
    iexact HC
  iintro ⟨HO, HWrsr, HRB, HC⟩
  ihave Hz := (OUTs_zero I c) $$ H5
  icases Hz with HY
  iapply (W_seq c)
  iapply (part54 I K c _) $$ [HT HX HY HO]
  · isplitr; · iexact HR
    isplitl [HT]; · iexact HT
    isplitl [HX]; · iexists f5; iexact HX
    isplitl [HY]; · iexact HY
    iexact HO
  iintro %r ⟨HY, HO, HA⟩
  obtain ⟨x0, x1⟩ := r
  iapply (W_seq c)
  iapply (part55 I K c _ _ _) $$ [HO HA]
  · isplitr; · iexact HR
    isplitl [HO]; · iexact HO
    iexact HA
  iintro ⟨HO, HA⟩
  iapply (W_seq c)
  iapply (part56 I K c _) $$ [HO HA]
  · isplitr; · iexact HR
    isplitl [HO]; · iexact HO
    iexact HA
  iintro %r ⟨HO, HA⟩
  obtain ⟨x0, x1, x2⟩ := r
  iapply (W_seq c)
  iapply (part57 I K c _ _ _ _) $$ [HO HA]
  · isplitr; · iexact HR
    isplitl [HO]; · iexact HO
    iexact HA
  iintro %r ⟨HO, HA⟩
  iapply (W_seq c)
  iapply (part58 I K c _ _) $$ [HO HA]
  · isplitr; · iexact HR
    isplitl [HO]; · iexact HO
    iexact HA
  iintro %r ⟨HO, HA⟩
  ihave Hz := (BIBase.Entails.of_eq (congrArg (owesE (F := F) c) (OAg_done c))) $$ HO
  icases Hz with HO
  ihave Hz := (wt_start I c (fun k => xAgr (nb c k)) 1 8 (fun u hu => nb_ne' c u (Finset.mem_Ico.1 hu).1 (Finset.mem_Ico.1 hu).2)) $$ [Cagr Pagr]
  · isplitl [Cagr]; · iexact Cagr
    iexact Pagr
  icases Hz with HWagr
  iapply (W_seq c)
  iapply (part59 I K c _ _) $$ [HO HWagr HY]
  · isplitr; · iexact HR
    isplitl [HO]; · iexact HO
    isplitl [HWagr]; · iexact HWagr
    iexact HY
  iintro %r ⟨HO, HWagr, HY⟩
  obtain ⟨x0, x1⟩ := r
  iapply (W_seq c)
  iapply (part60 I K c _ _ _) $$ [HWagr HY HO]
  · isplitr; · iexact HR
    isplitl [HWagr]; · iexact HWagr
    isplitl [HY]; · iexact HY
    iexact HO
  iintro %r ⟨HWagr, HY, HO⟩
  iapply W_ret
  iapply Hk
  isplitl [HWagr]; · iexact HWagr
  isplitl [HY]; · iexact HY
  isplitl [HO]; · iexact HO
  unfold kept deads
  isplitl [Dkvs Dkvr Drsr Dags Dagr]
  · isplitl [Dkvs]; · iexact Dkvs
    isplitl [Dkvr]; · iexact Dkvr
    isplitl [Drsr]; · iexact Drsr
    isplitl [Dags]; · iexact Dags
    iexact Dagr
  isplitl [Prss]; · iexact Prss
  isplitl [Pkvs]; · iexact Pkvs
  isplitl [Pags]; · iexact Pags
  isplitl [PB]; · iexact PB
  isplitl [Ploc]; · iexact Ploc
  isplitl [K0 K1 K2 K3]
  · iapply (BIBase.Entails.of_eq (blocks (fun u => (atPos ER (cell c (xKvr (pk c u) (rr u))) 1 ∅ 0 : sProp 𝕄))).symm)
    isplitl [K0]; · iexact K0
    isplitl [K1]; · iexact K1
    isplitl [K2]; · iexact K2
    iexact K3
  isplitl [HWrsr]; · iexact HWrsr
  isplitl [HLk]; · iexact HLk
  isplitl [HG0 HG1 HG2 HG3]
  · iapply (BIBase.Entails.of_eq (kvg_rows c (KVG I c)).symm)
    isplitl [HG0]; · iexact HG0
    isplitl [HG1]; · iexact HG1
    isplitl [HG2]; · iexact HG2
    iexact HG3
  isplitl [HC]; · iexact HC
  isplitl [HRB]; · iexact HRB
  isplitl [H0]; · iexact H0
  isplitl [H1]; · iexact H1
  isplitl [H2]; · iexact H2
  isplitl [H3]; · iexact H3
  isplitl [H4]; · iexact H4
  isplitl [HK]; · iexact HK
  isplitl [HR2]; · iexact HR2
  iexact HA

/-- What a device ends with. -/
def after (c : Dev nD) : sProp 𝕄 :=
  iprop((bigSep Finset.univ fun x : CX => semVal (kcell (c, x)) 0) ∗ owesE (F := F) c 0
    ∗ ((∃ f, pW (F := F) c cc0_scratch0 f) ∗ (∃ f, pW (F := F) c cc0_scratch1 f) ∗ (∃ f, pW (F := F) c cc0_scratch2 f) ∗ (∃ f, pW (F := F) c cc0_scratch3 f) ∗ (∃ f, pW (F := F) c cc0_scratch4 f) ∗ ∃ f, pW (F := F) c cc0_scratch5 f)
    ∗ pW c cc0_stg0_0 (I c).x ∗ pW c cc0_stg1_0 (I c).wq ∗ pW c cc0_stg2_0 (I c).k ∗ pW c cc0_stg3_0 (I c).v ∗ pW c cc0_stg4_0 (I c).wo ∗ pW c cc0_stg5_0 (OUT I c))

theorem end_cells (c : Dev nD) :
    iprop(deads (F := F) c ∗ (bigSep (Finset.Ico 0 8) fun e => endPos (F := F) c (.inr (xRss (dv e)))) ∗ (bigSep (Finset.Ico 0 28) fun u => (atPos ER (cell c (xKvs (pk c u) (rr u))) 1 ∅ 0 : sProp 𝕄))
      ∗ (bigSep (Finset.Ico 1 8) fun k => (atPos ER (cell c (xAgs (nb c k))) 1 ∅ 0 : sProp 𝕄)) ∗ (bigSep (Finset.Ico 1 8) fun k => (atPos ER (cell c (xAgr (nb c k))) 1 ∅ 0 : sProp 𝕄))
      ∗ atPos ER (bar c) 1 ∅ 0 ∗ atPos ER (cell c xLoc) 1 ∅ 0 ∗ (bigSep (Finset.Ico 0 28) fun u => (atPos ER (cell c (xKvr (pk c u) (rr u))) 1 ∅ 0 : sProp 𝕄)) ∗ (bigSep (Finset.Ico 1 8) fun k => (atPos ER (cell c (xRsr (nb c k))) 1 ∅ 0 : sProp 𝕄)))
      ⊢ bigSep Finset.univ fun x : CX => endPos (F := F) c x := by
  have hk : ∀ k ∈ Finset.Ico 1 8, one c (nb c k) = {0} := fun k hk => nb_ne' c k (Finset.mem_Ico.1 hk).1 (Finset.mem_Ico.1 hk).2
  have h0 : one c c = ∅ := if_pos rfl
  rw [cells_eq c, endPos_bar, endPos_own c xLoc rfl, endPos_none c (xRsr c) h0, endPos_none c (xAgs c) h0, endPos_none c (xAgr c) h0,
    bigSep_congr (s := (Finset.univ : Finset (Fin 4))) (fun r _ => endPos_none (F := F) c (xKvs c r) h0), bigSep_congr (s := (Finset.univ : Finset (Fin 4))) (fun r _ => endPos_none (F := F) c (xKvr c r) h0),
    bigSep_congr (s := Finset.Ico 0 28) (fun u _ => endPos_own (F := F) c (xKvs (pk c u) (rr u)) (dut_one c _ (pk_ne c u))), bigSep_congr (s := Finset.Ico 0 28) (fun u _ => endPos_own (F := F) c (xKvr (pk c u) (rr u)) (dut_one c _ (pk_ne c u))),
    bigSep_congr (s := Finset.Ico 1 8) (fun k h => endPos_own (F := F) c (xRsr (nb c k)) (hk k h)), bigSep_congr (s := Finset.Ico 1 8) (fun k h => endPos_own (F := F) c (xAgs (nb c k)) (hk k h)), bigSep_congr (s := Finset.Ico 1 8) (fun k h => endPos_own (F := F) c (xAgr (nb c k)) (hk k h))]
  unfold deads
  iintro ⟨⟨D1, D2, D3, D4, D5⟩, Hrss, Hkvs, Hags, Hagr, Hb, Hl, Hkvr, Hrsr⟩
  isplitl [Hb]; · iexact Hb
  isplitl [D1 Hkvs]
  · isplitl [D1]; · iexact D1
    iexact Hkvs
  isplitl [D2 Hkvr]
  · isplitl [D2]; · iexact D2
    iexact Hkvr
  isplitl [Hrss]; · iexact Hrss
  isplitl [D3 Hrsr]
  · isplitl [D3]; · iexact D3
    iexact Hrsr
  isplitl [D4 Hags]
  · isplitl [D4]; · iexact D4
    iexact Hags
  isplitl [D5 Hagr]
  · isplitl [D5]; · iexact D5
    iexact Hagr
  iexact Hl

theorem with_pers {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_cell (c : Dev nD) (x : CX) : iprop(recs I K ∗ endPos (F := F) c x) ⊢ iprop(|={Set.univ}=> semVal (kcell (c, x)) 0) := by
  unfold endPos
  by_cases h : dutX c x = ∅
  · rw [if_pos h]
    refine (sep_mono_left (inv_at I K (c, x))).trans ?_
    refine Rounds.cell_close ER (Rd I) (Set.mem_univ _) (fun h => h) (R := 0) fun r _ => ?_
    rcases Nat.eq_zero_or_pos r with hr | hr
    · rw [hr, duties_kcell, h]
    · exact duties_later I _ r hr
  · rw [if_neg h]
    exact (sep_mono_left (inv_at I K (c, x))).trans (Rounds.cell_close ER (Rd I) (Set.mem_univ _) (fun h => h) (R := 1) (duties_later I _))

theorem close_cells (c : Dev nD) : iprop(recs I K ∗ bigSep Finset.univ fun x : CX => endPos (F := F) c x) ⊢ iprop(|={Set.univ}=> bigSep Finset.univ fun x : CX => semVal (kcell (c, x)) 0) :=
  (with_pers fun x _ => close_cell I K c x).trans (bigSep_fupd _ _)

/-- The whole run of a device. -/
theorem body_run (c : Dev nD) {Q : PUnit → sProp 𝕄} : iprop(recs I K ∗ before I c)
    ⊢ iprop((after I c -∗ Q ⟨⟩) -∗ W c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) Q) := by
  rw [cc0_body_eq_skeleton]; unfold cc0_body_skel
  simp only [Prog.lift, Prog.bind_op, Prog.bind_ret, Prog.pure_eq_ret]
  iintro ⟨#HR, HB⟩ Hk
  iapply (W_seq c)
  iapply (part74 I K c) $$ [HB]
  · isplitr; · iexact HR
    iexact HB
  unfold kept
  iintro %a ⟨HWagr, HY, HO, HD, Prss, Pkvs, Pags, PB, Ploc, Pkvr, Prsr, HLk, HG, HC, HRB, H0, H1, H2, H3, H4, HK, HR2, HA⟩
  iapply (W_seq c)
  iapply (part61 I K c _ _) $$ [HO HWagr HY]
  · isplitr; · iexact HR
    isplitl [HO]; · iexact HO
    isplitl [HWagr]; · iexact HWagr
    iexact HY
  iintro %r ⟨HO, HWagr, HY⟩
  obtain ⟨x0, x1, x2, x3, x4⟩ := r
  iapply (W_seq c)
  iapply (part62 I K c _ _ _ _ _ _) $$ [HO HWagr HY]
  · isplitr; · iexact HR
    isplitl [HO]; · iexact HO
    isplitl [HWagr]; · iexact HWagr
    iexact HY
  iintro %r ⟨HO, HWagr, HY⟩
  iapply (W_seq c)
  iapply (part63 I K c _ _) $$ [HO HWagr HY]
  · isplitr; · iexact HR
    isplitl [HO]; · iexact HO
    isplitl [HWagr]; · iexact HWagr
    iexact HY
  iintro %r ⟨HO, HWagr, HY⟩
  obtain ⟨x0, x1⟩ := r
  ihave Hz := (wkvs_start I c) $$ [HK Pkvs]
  · isplitl [HK]; · iexact HK
    iexact Pkvs
  icases Hz with HWkvs
  iapply (W_seq c)
  iapply (part64 I K c _ _) $$ [HWagr HY HO HWkvs]
  · isplitr; · iexact HR
    isplitl [HWagr]; · iexact HWagr
    isplitl [HY]; · iexact HY
    isplitl [HO]; · iexact HO
    iexact HWkvs
  iintro ⟨HWagr, HY, HO, HWkvs⟩
  iapply (W_seq c)
  iapply (part65 I K c) $$ [HO HWkvs]
  · isplitr; · iexact HR
    isplitl [HO]; · iexact HO
    iexact HWkvs
  iintro ⟨HO, HWkvs⟩
  iapply (W_seq c)
  iapply (part66 I K c) $$ [HO HWkvs]
  · isplitr; · iexact HR
    isplitl [HO]; · iexact HO
    iexact HWkvs
  iintro ⟨HO, HWkvs⟩
  iapply (W_seq c)
  iapply (part67 I K c) $$ [HO HWkvs]
  · isplitr; · iexact HR
    isplitl [HO]; · iexact HO
    iexact HWkvs
  iintro ⟨HO, HWkvs⟩
  iapply (W_seq c)
  iapply (part68 I K c) $$ [HO HWkvs]
  · isplitr; · iexact HR
    isplitl [HO]; · iexact HO
    iexact HWkvs
  iintro ⟨HO, HWkvs⟩
  iapply (W_seq c)
  iapply (part69 I K c) $$ [HO HWkvs]
  · isplitr; · iexact HR
    isplitl [HO]; · iexact HO
    iexact HWkvs
  iintro ⟨HO, HWkvs⟩
  iapply (W_seq c)
  iapply (part70 I K c) $$ [HO HWkvs]
  · isplitr; · iexact HR
    isplitl [HO]; · iexact HO
    iexact HWkvs
  iintro ⟨HO, HWkvs⟩
  iapply (W_seq c)
  iapply (part71 I K c) $$ [HO HWkvs]
  · isplitr; · iexact HR
    isplitl [HO]; · iexact HO
    iexact HWkvs
  iintro ⟨HO, HWkvs⟩
  ihave Hz := (wags_start I c) $$ [HA Pags]
  · isplitl [HA]; · iexact HA
    iexact Pags
  icases Hz with HWags
  iapply (W_seq c)
  iapply (part72 I K c) $$ [HO HWkvs HWags]
  · isplitr; · iexact HR
    isplitl [HO]; · iexact HO
    isplitl [HWkvs]; · iexact HWkvs
    iexact HWags
  iintro ⟨HO, HWkvs, HWags⟩
  ihave Hz := (wrss_start I c) $$ [HR2 Prss]
  · isplitl [HR2]; · iexact HR2
    iexact Prss
  icases Hz with ⟨HWrsw, Hown⟩
  iapply (W_seq c)
  iapply (part73 I K c _) $$ [HO HWags HWrsw]
  · isplitr; · iexact HR
    isplitl [HO]; · iexact HO
    isplitl [HWags]; · iexact HWags
    iexact HWrsw
  iintro %r ⟨HO, HWags, HWrsw⟩
  iapply (cond_rw I K c 2 (by decide) (cd11 c) (fun h => sem_rss _ _ (dv 2) (by rfl)) (fun h => by rfl) (above_zero _)) $$ [HO HWrsw]
  · isplitr; · iexact HR
    isplitl [HO]; · iexact HO
    iexact HWrsw
  iintro ⟨HO, HWrsw⟩
  iapply (cond_rw I K c 3 (by decide) (cd12 c) (fun h => sem_rss _ _ (dv 3) (by rfl)) (fun h => by rfl) (above_zero _)) $$ [HO HWrsw]
  · isplitr; · iexact HR
    isplitl [HO]; · iexact HO
    iexact HWrsw
  iintro ⟨HO, HWrsw⟩
  iapply (cond_rw I K c 4 (by decide) (cd13 c) (fun h => sem_rss _ _ (dv 4) (by rfl)) (fun h => by rfl) (above_zero _)) $$ [HO HWrsw]
  · isplitr; · iexact HR
    isplitl [HO]; · iexact HO
    iexact HWrsw
  iintro ⟨HO, HWrsw⟩
  iapply (cond_rw I K c 5 (by decide) (cd14 c) (fun h => sem_rss _ _ (dv 5) (by rfl)) (fun h => by rfl) (above_zero _)) $$ [HO HWrsw]
  · isplitr; · iexact HR
    isplitl [HO]; · iexact HO
    iexact HWrsw
  iintro ⟨HO, HWrsw⟩
  iapply (cond_rw I K c 6 (by decide) (cd15 c) (fun h => sem_rss _ _ (dv 6) (by rfl)) (fun h => by rfl) (above_zero _)) $$ [HO HWrsw]
  · isplitr; · iexact HR
    isplitl [HO]; · iexact HO
    iexact HWrsw
  iintro ⟨HO, HWrsw⟩
  iapply (cond_rw I K c 7 (by decide) (cd16 c) (fun h => sem_rss _ _ (dv 7) (by rfl)) (fun h => by rfl) (above_zero _)) $$ [HO HWrsw]
  · isplitr; · iexact HR
    isplitl [HO]; · iexact HO
    iexact HWrsw
  iintro ⟨HO, HWrsw⟩
  ihave Hz := (kvs_done I c) $$ [HWkvs HLk]
  · isplitl [HWkvs]; · iexact HWkvs
    iexact HLk
  icases Hz with ⟨HS0, Pkvs⟩
  ihave Hz := (agg_done I c) $$ [HWags HWagr]
  · isplitl [HWags]; · iexact HWags
    iexact HWagr
  icases Hz with ⟨HS5, Pags, Pagr⟩
  ihave Hz := (rss_done I c) $$ [HWrsw Hown]
  · isplitl [HWrsw]; · iexact HWrsw
    iexact Hown
  icases Hz with ⟨HS3, Prss⟩
  ihave Hz := (end_cells c) $$ [HD Prss Pkvs Pags Pagr PB Ploc Pkvr Prsr]
  · isplitl [HD]; · iexact HD
    isplitl [Prss]; · iexact Prss
    isplitl [Pkvs]; · iexact Pkvs
    isplitl [Pags]; · iexact Pags
    isplitl [Pagr]; · iexact Pagr
    isplitl [PB]; · iexact PB
    isplitl [Ploc]; · iexact Ploc
    isplitl [Pkvr]; · iexact Pkvr
    iexact Prsr
  icases Hz with HE
  imod (close_cells I K c) $$ [HE] with HE
  · isplitr; · iexact HR
    iexact HE
  iapply W_ret
  iapply Hk
  unfold after
  isplitl [HE]; · iexact HE
  isplitl [HO]; · iexact HO
  isplitl [HS0 HG HC HS3 HRB HS5]
  · isplitl [HS0]; · iexists (KVST I c); iexact HS0
    isplitl [HG]; · iexists (KVG I c); iexact HG
    isplitl [HC]; · iexists (PACC I c); iexact HC
    isplitl [HS3]; · iexists (PBF I c); iexact HS3
    isplitl [HRB]
    · unfold RSBs
      icases HRB with ⟨%g, -, HRB⟩
      iexists g; iexact HRB
    iexists (AGG I); iexact HS5
  isplitl [H0]; · iexact H0
  isplitl [H1]; · iexact H1
  isplitl [H2]; · iexact H2
  isplitl [H3]; · iexact H3
  isplitl [H4]; · iexact H4
  iapply (OUTs_done I c); iexact HY

end Cert.Attn

end
-- ==== Proof.Launch.lean ====
/-
The launch: what the launch deals each device, and the run of the program from any memory with zero counters.
-/
module

public import proofs.«01_k».proof.Proof.Body
public import proofs.«01_k».proof.Proof.Gen.KernelIdeal.Points
public import Idealize.ShloMosaic.Lib.Pipeline.CollectiveSegs

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

open Idealize.ShloMosaic.Rounds
open Idealize.ShloMosaic.Pipeline (Dat BodyObligation)

local notation "𝕄" => MT nD τ sig Unit (Elt F) ℕ UU ℕ

/-! ## What a device owes in all is what the others wait for -/

theorem nb_back (c : Dev nD) (k : ℕ) (h1 : 1 ≤ k) (h8 : k < 8) : nb (nb c k) (8 - k) = c := by
  have hc : c.val < 8 := c.isLt
  refine Fin.ext ?_
  show ((c.val + k) % 8 + (8 - k)) % 8 = c.val
  omega

theorem mem18 {k : ℕ} : k ∈ Finset.Ico 1 8 ↔ 1 ≤ k ∧ k < 8 := Finset.mem_Ico

/-- A sum over every device's seven peers, taken from the other end. -/
theorem sum_peers {A : Type} [AddCommMonoid A] (f : Dev nD → Dev nD → A) :
    ∑ d : Dev nD, ∑ k ∈ Finset.Ico 1 8, f d (nb d k) = ∑ c : Dev nD, ∑ k ∈ Finset.Ico 1 8, f (nb c k) c := by
  rw [← Finset.sum_product', ← Finset.sum_product']
  refine Finset.sum_nbij' (fun p => (nb p.1 p.2, 8 - p.2)) (fun p => (nb p.1 p.2, 8 - p.2)) ?_ ?_ ?_ ?_ ?_
  · rintro ⟨d, k⟩ h; rw [Finset.mem_product, mem18] at h ⊢; exact ⟨Finset.mem_univ _, by simp only; omega⟩
  · rintro ⟨d, k⟩ h; rw [Finset.mem_product, mem18] at h ⊢; exact ⟨Finset.mem_univ _, by simp only; omega⟩
  · rintro ⟨d, k⟩ h; rw [Finset.mem_product, mem18] at h
    exact Prod.ext (nb_back d k h.2.1 h.2.2) (show 8 - (8 - k) = k by have := h.2.2; simp only at this; omega)
  · rintro ⟨d, k⟩ h; rw [Finset.mem_product, mem18] at h
    exact Prod.ext (nb_back d k h.2.1 h.2.2) (show 8 - (8 - k) = k by have := h.2.2; simp only at this; omega)
  · rintro ⟨d, k⟩ h; rw [Finset.mem_product, mem18] at h
    show f d (nb d k) = f (nb (nb d k) (8 - k)) (nb d k)
    rw [nb_back d k h.2.1 h.2.2]

theorem sum_blocks {A : Type} [AddCommMonoid A] (g : ℕ → Fin 4 → A) :
    ∑ t ∈ Finset.Ico 0 28, g (t % 7 + 1) (rr t) = ∑ r : Fin 4, ∑ k ∈ Finset.Ico 1 8, g k r := by
  rw [← Finset.sum_product']
  refine Finset.sum_nbij' (fun t => (rr t, t % 7 + 1)) (fun p => 7 * p.1.val + (p.2 - 1)) ?_ ?_ ?_ ?_ ?_
  · intro t h; rw [Finset.mem_product, mem18]; exact ⟨Finset.mem_univ _, by simp only; omega⟩
  · rintro ⟨r, k⟩ h; rw [Finset.mem_product, mem18] at h; rw [Finset.mem_Ico]; have := r.isLt; simp only at h ⊢; omega
  · intro t h; rw [Finset.mem_Ico] at h; show 7 * (t / 7 % 4) + (t % 7 + 1 - 1) = t; omega
  · rintro ⟨r, k⟩ h; rw [Finset.mem_product, mem18] at h
    have hr := r.isLt; simp only at h
    refine Prod.ext (Fin.ext ?_) ?_
    · show (7 * r.val + (k - 1)) / 7 % 4 = r.val; omega
    · show (7 * r.val + (k - 1)) % 7 + 1 = k; omega
  · intro t h; rfl

theorem dv_sum {A : Type} [AddCommMonoid A] (d : Dev nD) (g : Dev nD → A) :
    (∑ e ∈ Finset.Ico 0 8, if dv e = d then 0 else g (dv e)) = ∑ k ∈ Finset.Ico 1 8, g (nb d k) := by
  rw [Finset.sum_congr rfl fun e _ => (ite_not (dv e = d) (g (dv e)) 0).symm, ← Finset.sum_filter]
  refine Finset.sum_nbij' (fun e => dist d (dv e)) (fun k => (nb d k).val) ?_ ?_ ?_ ?_ ?_
  · intro e h
    rw [Finset.mem_filter, Finset.mem_Ico] at h
    have hd : d.val < 8 := d.isLt
    have hne : e % 8 ≠ d.val := fun hh => h.2 (Fin.ext hh)
    rw [mem18]
    show 1 ≤ (e % 8 + 8 - d.val) % 8 ∧ (e % 8 + 8 - d.val) % 8 < 8
    omega
  · intro k h
    rw [mem18] at h
    rw [Finset.mem_filter, Finset.mem_Ico]
    refine ⟨⟨Nat.zero_le _, (nb d k).isLt⟩, fun hh => nb_ne d k h.1 h.2 (Eq.trans (Fin.ext ?_) hh)⟩
    exact (Nat.mod_eq_of_lt (nb d k).isLt).symm
  · intro e h
    rw [Finset.mem_filter, Finset.mem_Ico] at h
    have hd : d.val < 8 := d.isLt
    show (d.val + (e % 8 + 8 - d.val) % 8) % 8 = e
    omega
  · intro k h
    rw [mem18] at h
    have hd : d.val < 8 := d.isLt
    show ((d.val + k) % 8 % 8 + 8 - d.val) % 8 = k
    omega
  · intro e h
    rw [Finset.mem_filter, Finset.mem_Ico] at h
    have hd : d.val < 8 := d.isLt
    refine congrArg g (Fin.ext ?_)
    show e % 8 = (d.val + (e % 8 + 8 - d.val) % 8) % 8
    omega

/-- What a device waits for that others pay. -/
def Tw (c : Dev nD) : CellTallies nD τ sig Unit :=
  tallyAt (bar c) () 7 + ((∑ u ∈ Finset.Ico 0 28, tallyAt (cell c (xKvr (pk c u) (rr u))) () nKv)
    + ((∑ k ∈ Finset.Ico 1 8, tallyAt (cell c (xRsr (nb c k))) () nRs) + ∑ k ∈ Finset.Ico 1 8, tallyAt (cell c (xAgr (nb c k))) () nAg))

theorem seven (g : GSem nD τ sig) : ∑ k ∈ Finset.Ico 1 8, (tallyAt g () 1 : CellTallies nD τ sig Unit) = tallyAt g () 7 := by
  have h : ∀ n, ∑ k ∈ Finset.range n, (tallyAt g () 1 : CellTallies nD τ sig Unit) = tallyAt g () n := by
    intro n
    induction n with
    | zero => rw [Finset.sum_range_zero]; unfold tallyAt; rw [Finsupp.single_zero, tallyOn_zero]
    | succ n ih => rw [Finset.sum_range_succ, ih, tallyAt_add]
  rw [← h 7, Finset.sum_const, Finset.sum_const]
  rfl

theorem owed_sum : (∑ d : Dev nD, O₀ d) = ∑ d : Dev nD, Tw d := by
  unfold O₀ Tw
  rw [Finset.sum_add_distrib, Finset.sum_add_distrib, Finset.sum_add_distrib, Finset.sum_add_distrib, Finset.sum_add_distrib, Finset.sum_add_distrib]
  have h1 : ∑ d : Dev nD, OBar d 1 = ∑ c : Dev nD, tallyAt (bar c) () 7 := by
    unfold OBar
    rw [sum_peers (fun _ e => (tallyAt (bar e) () 1 : CellTallies nD τ sig Unit))]
    exact Finset.sum_congr rfl fun c _ => seven (bar c)
  have h2 : ∑ d : Dev nD, OKv d 0 = ∑ c : Dev nD, ∑ u ∈ Finset.Ico 0 28, tallyAt (cell c (xKvr (pk c u) (rr u))) () nKv := by
    unfold OKv pk
    have e1 := fun d : Dev nD => sum_blocks (fun k r => (tallyAt (cell (nb d k) (xKvr d r)) () nKv : CellTallies nD τ sig Unit))
    have e2 := fun d : Dev nD => sum_blocks (fun k r => (tallyAt (cell d (xKvr (nb d k) r)) () nKv : CellTallies nD τ sig Unit))
    rw [Finset.sum_congr rfl fun d _ => e1 d, Finset.sum_congr rfl fun d _ => e2 d, Finset.sum_comm, Finset.sum_comm (s := (Finset.univ : Finset (Dev nD)))]
    exact Finset.sum_congr rfl fun r _ => sum_peers (fun d e => (tallyAt (cell e (xKvr d r)) () nKv : CellTallies nD τ sig Unit))
  have h3 : ∑ d : Dev nD, ORs d 0 = ∑ c : Dev nD, ∑ k ∈ Finset.Ico 1 8, tallyAt (cell c (xRsr (nb c k))) () nRs := by
    unfold ORs
    rw [Finset.sum_congr rfl fun d _ => dv_sum d (fun e => (tallyAt (cell e (xRsr d)) () nRs : CellTallies nD τ sig Unit))]
    exact sum_peers (fun d e => (tallyAt (cell e (xRsr d)) () nRs : CellTallies nD τ sig Unit))
  have h4 : ∑ d : Dev nD, OAg d 1 = ∑ c : Dev nD, ∑ k ∈ Finset.Ico 1 8, tallyAt (cell c (xAgr (nb c k))) () nAg := by
    unfold OAg
    exact sum_peers (fun d e => (tallyAt (cell e (xAgr d)) () nAg : CellTallies nD τ sig Unit))
  rw [h1, h2, h3, h4]

/-- All on the device's own cells. -/
def OnDev (c : Dev nD) (T : CellTallies nD τ sig Unit) : Prop := ∀ g, T g ≠ 0 → g.1 = (c.tc : Thread nD τ)
theorem on_add {c : Dev nD} {S T : CellTallies nD τ sig Unit} (hS : OnDev c S) (hT : OnDev c T) : OnDev c (S + T) := by
  intro g h
  by_contra hn
  refine h ?_
  rw [Pi.add_apply, not_not.1 fun h' => hn (hS g h'), not_not.1 fun h' => hn (hT g h'), add_zero]
theorem on_sum {c : Dev nD} (s : Finset ℕ) (T : ℕ → CellTallies nD τ sig Unit) (h : ∀ i, OnDev c (T i)) : OnDev c (∑ i ∈ s, T i) := by
  induction s using Finset.induction_on with
  | empty => rw [Finset.sum_empty]; exact fun g hg => absurd rfl hg
  | insert a s ha ih => rw [Finset.sum_insert ha]; exact on_add (h a) ih
theorem on_tally (c : Dev nD) (x : CX) (n : ℕ) : OnDev c (tallyAt (kcell (c, x)) () n) := by
  intro g hg
  by_contra hn
  refine hg (Finsupp.ext fun u => ?_)
  rw [tallyAt_apply, if_neg fun h => hn (by rw [h.1])]
  rfl
theorem on_Tw (c : Dev nD) : OnDev c (Tw c) := by
  unfold Tw
  exact on_add (on_tally c (.inl ()) 7) (on_add (on_sum _ _ fun u => on_tally c (.inr (xKvr (pk c u) (rr u))) _)
    (on_add (on_sum _ _ fun k => on_tally c (.inr (xRsr (nb c k))) _) (on_sum _ _ fun k => on_tally c (.inr (xAgr (nb c k))) _)))

theorem creds_intro (c : Dev nD) : (Pipeline.launchCred O₀ c : sProp 𝕄) ⊢ creds (F := F) c := by
  rw [Pipeline.launchCred_of_sum O₀ Tw owed_sum on_Tw c]
  unfold Tw creds
  refine (cred_add _ _).1.trans (sep_mono_right ?_)
  refine (cred_add _ _).1.trans (BI.sep_mono (Entails.of_eq (Pipeline.cred_finsetSum _ _)) ?_)
  exact (cred_add _ _).1.trans (BI.sep_mono (Entails.of_eq (Pipeline.cred_finsetSum _ _)) (Entails.of_eq (Pipeline.cred_finsetSum _ _)))

/-! ## The duty tokens, by who pays -/

/-- The payments a device makes: at the barrier; of its key/value sends and landings; of its reduction's; of its
    gather's; of its local copy. -/
abbrev J : Type := Fin 7 ⊕ (Fin 28 × Bool) ⊕ (Fin 7 × Bool) ⊕ (Fin 7 × Bool) ⊕ Unit
/-- Which cell each payment falls on, and under whose name. -/
def tokX (p : Dev nD × J) : Dev nD × CX × Fin 8 := match p with
  | (c, .inl k) => (nb c (1 + k.val), .inl (), c)
  | (c, .inr (.inl (t, true))) => (c, .inr (xKvs (pk c t.val) (rr t.val)), 0)
  | (c, .inr (.inl (t, false))) => (pk c t.val, .inr (xKvr c (rr t.val)), 0)
  | (c, .inr (.inr (.inl (k, true)))) => (c, .inr (xRss (nb c (1 + k.val))), 0)
  | (c, .inr (.inr (.inl (k, false)))) => (nb c (1 + k.val), .inr (xRsr c), 0)
  | (c, .inr (.inr (.inr (.inl (k, true))))) => (c, .inr (xAgs (nb c (1 + k.val))), 0)
  | (c, .inr (.inr (.inr (.inl (k, false))))) => (nb c (1 + k.val), .inr (xAgr c), 0)
  | (c, .inr (.inr (.inr (.inr _)))) => (c, .inr xLoc, 0)

def m7 (n : ℕ) : Fin 7 := ⟨n % 7, Nat.mod_lt _ (by decide)⟩
def m28 (n : ℕ) : Fin 28 := ⟨n % 28, Nat.mod_lt _ (by decide)⟩
/-- The payment, read off the cell and the name. -/
def tokB (q : Dev nD × CX × Fin 8) : Dev nD × J := match q with
  | (d, .inl _, c) => (c, .inl (m7 (dist c d - 1)))
  | (c, .inr (.inl (e, r)), _) => (c, .inr (.inl (m28 (7 * r.val + (dist c e - 1)), true)))
  | (p, .inr (.inr (.inl (c, r))), _) => (c, .inr (.inl (m28 (7 * r.val + (dist c p - 1)), false)))
  | (c, .inr (.inr (.inr (.inl e))), _) => (c, .inr (.inr (.inl (m7 (dist c e - 1), true))))
  | (p, .inr (.inr (.inr (.inr (.inl c)))), _) => (c, .inr (.inr (.inl (m7 (dist c p - 1), false))))
  | (c, .inr (.inr (.inr (.inr (.inr (.inl e))))), _) => (c, .inr (.inr (.inr (.inl (m7 (dist c e - 1), true)))))
  | (p, .inr (.inr (.inr (.inr (.inr (.inr (.inl c)))))), _) => (c, .inr (.inr (.inr (.inl (m7 (dist c p - 1), false)))))
  | (c, .inr (.inr (.inr (.inr (.inr (.inr (.inr _)))))), _) => (c, .inr (.inr (.inr (.inr ()))))

theorem m7_dist (c : Dev nD) (k : Fin 7) : m7 (dist c (nb c (1 + k.val)) - 1) = k := by
  rw [dist_nb c _ (by omega)]; refine Fin.ext ?_; show (1 + k.val - 1) % 7 = k.val; omega
theorem m28_dist (c : Dev nD) (t : Fin 28) : m28 (7 * (rr t.val).val + (dist c (pk c t.val) - 1)) = t := by
  unfold pk
  rw [dist_nb c _ (by omega)]; refine Fin.ext ?_; show (7 * (t.val / 7 % 4) + (t.val % 7 + 1 - 1)) % 28 = t.val; omega

theorem tokB_tokX (p : Dev nD × J) : tokB (tokX p) = p := by
  rcases p with ⟨c, k | ⟨t, _ | _⟩ | ⟨k, _ | _⟩ | ⟨k, _ | _⟩ | u⟩ <;> simp only [tokX, tokB, m7_dist, m28_dist]

theorem kcell_injective : Function.Injective (kcell : Dev nD × CX → GSem nD τ sig) := by
  rintro ⟨c, x⟩ ⟨c', x'⟩ h
  exact Prod.ext (congrArg (fun g : GSem nD τ sig => g.1.1) h) (csem_inj (congrArg Prod.snd h))

abbrev tokOf (p : Dev nD × J) : GSem nD τ sig × ℕ × Fin 8 := (kcell ((tokX p).1, (tokX p).2.1), 0, (tokX p).2.2)
theorem tokOf_injective : Function.Injective (tokOf : Dev nD × J → GSem nD τ sig × ℕ × Fin 8) := by
  intro p p' h
  have h1 := kcell_injective (congrArg (fun x : GSem nD τ sig × ℕ × Fin 8 => x.1) h)
  have h2 : (tokX p).2.2 = (tokX p').2.2 := congrArg (fun x : GSem nD τ sig × ℕ × Fin 8 => x.2.2) h
  have h3 : tokX p = tokX p' := Prod.ext (congrArg (fun x => x.1) h1) (Prod.ext (congrArg (fun x => x.2) h1) h2)
  rw [← tokB_tokX p, h3, tokB_tokX]

def ringCells : Finset (GSem nD τ sig) := Finset.univ.map ⟨kcell, kcell_injective⟩
def ringToks : Finset (GSem nD τ sig × ℕ × Fin 8) := Finset.univ.map ⟨tokOf, tokOf_injective⟩
def u₀ : UU :=
  (initOf (Pipeline.cells cfgs cellOf_inj) (Pipeline.launchToks cfgs cellOf_inj), initOf ringCells ringToks)

theorem fin_Ico7 {M : Type} [URA M] (Φ : ℕ → sProp M) : (bigSep Finset.univ fun k : Fin 7 => Φ (1 + k.val)) = bigSep (Finset.Ico 1 8) Φ := by
  have e : Finset.Ico 1 8 = Finset.univ.map ⟨fun k : Fin 7 => 1 + k.val, fun a b h => Fin.ext (Nat.add_left_cancel h)⟩ := by decide +kernel
  rw [e, bigSep_map]; rfl
theorem fin_Ico28 {M : Type} [URA M] (Φ : ℕ → sProp M) : (bigSep Finset.univ fun k : Fin 28 => Φ k.val) = bigSep (Finset.Ico 0 28) Φ := by
  have e : Finset.Ico 0 28 = Finset.univ.map ⟨fun k : Fin 28 => k.val, fun a b h => Fin.ext h⟩ := by decide +kernel
  rw [e, bigSep_map]; rfl
theorem one_unit {M : Type} [URA M] (Φ : Unit → sProp M) : bigSep Finset.univ Φ = Φ () := by
  rw [Finset.univ_unique, bigSep_singleton]
theorem two_bool {M : Type} [URA M] (Φ : Bool → sProp M) : bigSep Finset.univ Φ = iprop(Φ true ∗ Φ false) :=
  bigSep_univ_eq_bigSepL [true, false] (by decide) (by decide) Φ

omit [FloatOps F] in
theorem toks_eq (c : Dev nD) : (bigSep Finset.univ fun j : J => (dutyTok ER (tokOf (c, j)).1 (tokOf (c, j)).2.1 (tokOf (c, j)).2.2 : sProp 𝕄)) = payToks (F := F) c := by
  rw [bigSep_univ_sum, bigSep_univ_sum, bigSep_univ_sum, bigSep_univ_sum, bigSep_univ_prod, bigSep_univ_prod, bigSep_univ_prod]
  simp only [two_bool]
  unfold payToks tokBar tokKv tokRs tokAg
  rw [← fin_Ico7, ← fin_Ico7, ← fin_Ico7, ← fin_Ico28, one_unit]
  rfl

variable (m : (b : Loc nD τ sig) → Buf (Elt F) b) (ρ : Dev nD → PrngReg)

/-- The memory at launch: arbitrary contents, every counter zero, arbitrary generator registers. -/
def s₀ : MemSt nD τ sig (Elt F) := ⟨m, fun _ => 0, ρ⟩

/-- A device's operands, as its memory holds them at launch. -/
def inM (c : Dev nD) : Ins F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  k := (win0_2.blk (0 : Fin 1)).view.read (Elt F) ((s₀ m ρ).mem ((c : Thread nD τ).loc main_arg2))
  v := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))

/-! ## The launch theorem's data -/

theorem fin_N (t : Fin cfg0.N) : t = (t0_0 : Fin cfg0.N) := fin_N0 t

/-- What the global step makes of a device's share. -/
def G' (c : Dev nD) : sProp 𝕄 :=
  iprop((∃ K : Dev nD × CX → ℕ, (bigSep Finset.univ fun ck : Dev nD × CX => cellInv ER (Rd (inM m ρ)) (K ck) (kcell ck)) ∗ bigSep Finset.univ fun ck : Dev nD × CX => (reached ER (kcell ck) 0 : sProp 𝕄))
    ∗ payToks (F := F) c ∗ bigSep Finset.univ fun x : CX => atPos ER (kcell (c, x)) 0 ∅ 0)

/-- What a device's body starts from, besides its memory. -/
def start (c : Dev nD) : sProp 𝕄 := iprop(G' m ρ c ∗ creds (F := F) c ∗ levAts L lv)

def scr (c : Dev nD) : sProp 𝕄 :=
  iprop((∃ f, pW (F := F) c cc0_scratch0 f) ∗ (∃ f, pW (F := F) c cc0_scratch1 f) ∗ (∃ f, pW (F := F) c cc0_scratch2 f) ∗ (∃ f, pW (F := F) c cc0_scratch3 f) ∗ (∃ f, pW (F := F) c cc0_scratch4 f) ∗ ∃ f, pW (F := F) c cc0_scratch5 f)

def Φ₀ (c : Dev nD) : sProp 𝕄 := iprop(start m ρ c ∗ scr (F := F) c)
def Φ₁ (c : Dev nD) : sProp 𝕄 := iprop((bigSep Finset.univ fun x : CX => semVal (kcell (c, x)) 0) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inM m ρ c).x
    | ⟨1, _⟩ => (inM m ρ c).wq
    | ⟨2, _⟩ => (inM m ρ c).k
    | ⟨3, _⟩ => (inM m ρ c).v
    | ⟨4, _⟩ => (inM m ρ c).wo
    | ⟨5, _⟩ => OUT (inM m ρ) c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_out (c : Dev nD) (b : Ref sig .tc) (X : b.ty.Contents (Elt F)) : stg c b X ⊢ pW c b X := by
  unfold stg pW
  iintro ⟨%f, %h, H⟩
  subst h
  iexact H
omit [FloatOps F] in
theorem stg_in (c : Dev nD) (b : Ref sig .tc) (X : b.ty.Contents (Elt F)) : pW c b X ⊢ stg c b X := by
  unfold stg pW
  iintro H
  iexists X
  isplitr; · ipureintro; rfl
  iexact H

def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 6) (t0_0 : Fin cfg0.N) d)) ∗ (∃ d, stg c cc0_stg1_0 ((dats m ρ 0 c).before (1 : Fin 6) (t0_0 : Fin cfg0.N) d))
    ∗ (∃ d, stg c cc0_stg2_0 ((dats m ρ 0 c).before (2 : Fin 6) (t0_0 : Fin cfg0.N) d)) ∗ (∃ d, stg c cc0_stg3_0 ((dats m ρ 0 c).before (3 : Fin 6) (t0_0 : Fin cfg0.N) d))
    ∗ (∃ d, stg c cc0_stg4_0 ((dats m ρ 0 c).before (4 : Fin 6) (t0_0 : Fin cfg0.N) d)) ∗ (∃ d, stg c cc0_stg5_0 ((dats m ρ 0 c).before (5 : Fin 6) (t0_0 : Fin cfg0.N) d)))
def bodyPost (c : Dev nD) : sProp 𝕄 :=
  iprop(Φ₁ (F := F) c ∗ (dats m ρ 0 c).owesAt () (t0_0 : Fin cfg0.N).succ ∗ stg c cc0_stg0_0 (inM m ρ c).x ∗ stg c cc0_stg1_0 (inM m ρ c).wq ∗ stg c cc0_stg2_0 (inM m ρ c).k
    ∗ stg c cc0_stg3_0 (inM m ρ c).v ∗ stg c cc0_stg4_0 (inM m ρ c).wo ∗ stg c cc0_stg5_0 (OUT (inM m ρ) c))

theorem before_0 (c : Dev nD) (d) : (dats m ρ 0 c).before (0 : Fin 6) (t0_0 : Fin cfg0.N) d = (inM m ρ c).x := by unfold Dat.before; rw [if_pos (fetch0_0 _)]; rfl
theorem before_1 (c : Dev nD) (d) : (dats m ρ 0 c).before (1 : Fin 6) (t0_0 : Fin cfg0.N) d = (inM m ρ c).wq := by unfold Dat.before; rw [if_pos (fetch0_1 _)]; rfl
theorem before_2 (c : Dev nD) (d) : (dats m ρ 0 c).before (2 : Fin 6) (t0_0 : Fin cfg0.N) d = (inM m ρ c).k := by unfold Dat.before; rw [if_pos (fetch0_2 _)]; rfl
theorem before_3 (c : Dev nD) (d) : (dats m ρ 0 c).before (3 : Fin 6) (t0_0 : Fin cfg0.N) d = (inM m ρ c).v := by unfold Dat.before; rw [if_pos (fetch0_3 _)]; rfl
theorem before_4 (c : Dev nD) (d) : (dats m ρ 0 c).before (4 : Fin 6) (t0_0 : Fin cfg0.N) d = (inM m ρ c).wo := by unfold Dat.before; rw [if_pos (fetch0_4 _)]; rfl

theorem body_at (c : Dev nD) :
    bodyPre m ρ c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12) (fun _ => bodyPost m ρ c) := by
  unfold bodyPre Φ₀ start G' Dat.owesAt Pipeline.owesWithin
  simp only [before_0, before_1, before_2, before_3, before_4]
  rw [show (dats m ρ 0 c).owed (t0_0 : Fin cfg0.N).castSucc = O₀ c from rfl]
  iintro ⟨⟨⟨⟨⟨%K, HI, HRe⟩, HT, HP⟩, HC, HL⟩, HS⟩, ⟨%W, -, HO⟩, ⟨%d0, H0⟩, ⟨%d1, H1⟩, ⟨%d2, H2⟩, ⟨%d3, H3⟩, ⟨%d4, H4⟩, ⟨%d5, H5⟩⟩
  iapply (body_run (inM m ρ) K c (Q := fun _ => bodyPost m ρ c)) $$ [HI HRe HL HT HP HC HO HS H0 H1 H2 H3 H4 H5]
  · unfold recs before
    isplitl [HI HRe HL]
    · isplitl [HI]; · iexact HI
      isplitl [HRe]; · iexact HRe
      iexact HL
    isplitl [HT]; · iexact HT
    isplitl [HP]; · iexact HP
    isplitl [HC]; · iexact HC
    isplitl [HO]; · unfold owesE; iexists W; iexact HO
    isplitl [HS]; · unfold scr; iexact HS
    isplitl [H0]; · iapply (stg_out c cc0_stg0_0 _); iexact H0
    isplitl [H1]; · iapply (stg_out c cc0_stg1_0 _); iexact H1
    isplitl [H2]; · iapply (stg_out c cc0_stg2_0 _); iexact H2
    isplitl [H3]; · iapply (stg_out c cc0_stg3_0 _); iexact H3
    isplitl [H4]; · iapply (stg_out c cc0_stg4_0 _); iexact H4
    iexists _; iapply (stg_out c cc0_stg5_0 _); iexact H5
  unfold after
  iintro ⟨HE, HO, HS, H0, H1, H2, H3, H4, H5⟩
  unfold bodyPost Φ₁ scr Dat.owesAt Pipeline.owesWithin owesE
  rw [show (dats m ρ 0 c).owed (t0_0 : Fin cfg0.N).succ = 0 from rfl]
  isplitl [HE HS]
  · isplitl [HE]; · iexact HE
    iexact HS
  isplitl [HO]
  · icases HO with ⟨%W', HO⟩
    iexists W'
    isplitr; · ipureintro; exact fun _ _ => Or.inl trivial
    iexact HO
  isplitl [H0]; · iapply (stg_in c cc0_stg0_0 _); iexact H0
  isplitl [H1]; · iapply (stg_in c cc0_stg1_0 _); iexact H1
  isplitl [H2]; · iapply (stg_in c cc0_stg2_0 _); iexact H2
  isplitl [H3]; · iapply (stg_in c cc0_stg3_0 _); iexact H3
  isplitl [H4]; · iapply (stg_in c cc0_stg4_0 _); iexact H4
  iapply (stg_in c cc0_stg5_0 _); iexact H5

theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_at m ρ c

theorem ownSemFacts : Pipeline.OwnSemFacts cfg0.spec osem where
  isScoped k := by revert k; decide +kernel
  inj a b h := dsem_inj (by rw [SemLoc.dma.injEq] at h; exact h)
  disj k w s h := by
    rw [SemLoc.dma.injEq] at h
    have h6 : ∀ x : Cx, 6 ≤ snum x := by decide +kernel
    have hs : ∀ (w : Fin 6) (s : Fin (cfg0.spec w).nbuf), ((cfg0.spec w).sem s).val < 6 := by decide +kernel
    have h1 := hs w s
    rw [← h] at h1
    exact absurd (h6 k) (Nat.not_le.2 h1)

theorem share_eq (c : Dev nD) (w : Fin cfg0.W) : (dats m ρ 0 c).share w = fullShare := by unfold Dat.share; split <;> rfl

/-- What the launch deals a device. -/
def G (c : Dev nD) : sProp 𝕄 :=
  iprop((bigSep Finset.univ fun x : CX => roundState ER (Rd (inM m ρ)) (kcell (c, x)) 0)
    ∗ (bigSep Finset.univ fun x : CX => iprop(atPos ER (kcell (c, x)) 0 ∅ 0 ∗ reached ER (kcell (c, x)) 0)) ∗ payToks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : CX => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => payToks (F := F) c := by
    unfold ringToks; rw [bigSep_map, bigSep_univ_prod]
    exact bigSep_congr fun c _ => toks_eq c
  iintro HX
  imod (Rounds.fund ER (Rd (inM m ρ)) ringCells ringToks) $$ HX with ⟨Hst, Hr, Hat, Htok⟩
  imodintro
  ihave Hst' := (Entails.of_eq (hX fun g => roundState ER (Rd (inM m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (bar c) 0 := by
  unfold unscopedSems0; rw [bigSep_eq_bigSepL_of_eq [SemLoc.reg barS] (by decide +kernel) (by decide)]; rfl

omit [FloatOps F] in
theorem sems_eq (c : Dev nD) : (bigSep Finset.univ fun x : CX => semVal (kcell (c, x)) 0 : sProp 𝕄)
    = iprop(unscopedSems0 c ∗ Pipeline.ownSems0 (Ix := Unit) (Name := ℕ) (U := UU) (Lvl := ℕ) (Val := Elt F) (τ := τ) osem c) := by
  rw [unscopedSems0_eq, bigSep_univ_sum, one_unit]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : CX => iprop(∃ κ : ℕ, cellInv ER (Rd (inM m ρ)) κ (kcell (c, x))))
          ∗ (bigSep Finset.univ fun x : CX => iprop(atPos ER (kcell (c, x)) 0 ∅ 0 ∗ reached ER (kcell (c, x)) 0)) ∗ payToks (F := F) c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun x : CX => semVal (kcell (c, x)) 0) ∗ bigSep Finset.univ fun x : CX => roundState ER (Rd (inM m ρ)) (kcell (c, x)) 0)
      ⊢ (|={Set.univ}=> bigSep Finset.univ fun x : CX => iprop(∃ κ : ℕ, cellInv ER (Rd (inM m ρ)) κ (kcell (c, x))) : sProp 𝕄) from by
        rw [← bigSep_sep']
        exact (bigSep_mono fun x _ => (Rounds.body_intro ER (Rd (inM m ρ)) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant and mark, at one naming. -/
def marks (K : Dev nD × CX → ℕ) : sProp 𝕄 :=
  iprop((bigSep Finset.univ fun ck : Dev nD × CX => cellInv ER (Rd (inM m ρ)) (K ck) (kcell ck)) ∗ bigSep Finset.univ fun ck : Dev nD × CX => (reached ER (kcell ck) 0 : sProp 𝕄))
instance marks_persistent (K : Dev nD × CX → ℕ) : BI.Persistent (marks m ρ K) := by unfold marks; infer_instance

theorem share_marks (K : Dev nD × CX → ℕ) (c : Dev nD) :
    iprop(marks m ρ K ∗ ((bigSep Finset.univ fun x : CX => atPos ER (kcell (c, x)) 0 ∅ 0) ∗ payToks (F := F) c)) ⊢ G' m ρ c := by
  unfold marks G'
  iintro ⟨HM, HP, HT⟩
  isplitl [HM]; · iexists K; iexact HM
  isplitl [HT]; · iexact HT
  iexact HP

theorem regroup :
    (bigSep Finset.univ fun c : Dev nD => iprop((bigSep Finset.univ fun x : CX => iprop(∃ κ : ℕ, cellInv ER (Rd (inM m ρ)) κ (kcell (c, x))))
          ∗ (bigSep Finset.univ fun x : CX => iprop(atPos ER (kcell (c, x)) 0 ∅ 0 ∗ reached ER (kcell (c, x)) 0)) ∗ payToks (F := F) c) : sProp 𝕄)
      ⊢ bigSep Finset.univ (G' m ρ) := by
  rw [bigSep_sep', bigSep_sep', ← bigSep_univ_prod (fun ck : Dev nD × CX => iprop(∃ κ : ℕ, cellInv ER (Rd (inM m ρ)) κ (kcell ck))),
    bigSep_congr (s := Finset.univ) (fun (c : Dev nD) _ => bigSep_sep' Finset.univ (fun x : CX => (atPos ER (kcell (c, x)) 0 ∅ 0 : sProp 𝕄)) (fun x => reached ER (kcell (c, x)) 0)),
    bigSep_sep', ← bigSep_univ_prod (fun ck : Dev nD × CX => (reached ER (kcell ck) 0 : sProp 𝕄))]
  iintro ⟨HI, ⟨Hat, #HR⟩, Htok⟩
  ihave HK := (BI.bigSep_exists_pi Finset.univ (fun (ck : Dev nD × CX) (κ : ℕ) => (cellInv ER (Rd (inM m ρ)) κ (kcell ck) : sProp 𝕄))) $$ HI
  icases HK with ⟨%K, #HI⟩
  iapply (with_pers (R := marks m ρ K) fun c _ => share_marks m ρ K c)
  isplitr
  · unfold marks; isplitl; · iexact HI
    iexact HR
  · iapply (Entails.of_eq (bigSep_sep' Finset.univ (fun c : Dev nD => bigSep Finset.univ fun x : CX => (atPos ER (kcell (c, x)) 0 ∅ 0 : sProp 𝕄)) (fun c => payToks (F := F) c)).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show Pipeline.scopedRest cfg0.spec c = scr (F := F) c from scopedRest0_eq c]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, show Pipeline.scopedRest cfg0.spec c = scr (F := F) c from scopedRest0_eq c]
  unfold Φ₁
  rw [sems_eq]
  iintro ⟨⟨H1, H2⟩, Hr⟩
  isplitl [H1]; · iexact H1
  isplitl [H2]; · iexact H2
  iexact Hr

theorem above_O₀ (c : Dev nD) : Above 0 (O₀ c) := by
  unfold O₀
  exact above_add (above_OBar c 1) (above_add (above_mono (Nat.zero_le 1) (above_OKv c 0)) (above_add (above_mono (Nat.zero_le 2) (above_ORs c 0)) (above_mono (Nat.zero_le 3) (above_OAg c 1))))

theorem waits (c : Dev nD) : (levAts L lv : sProp 𝕄) ⊢ Pipeline.cellsWaits cfgs (dats m ρ) () 0 c :=
  Pipeline.cellsWaits_intro cfgs (dats m ρ) () 0 c fun w s t =>
    mayWait_of_above c _ 0 (Nat.le_of_eq (lv_none c _ (by revert s; revert w; decide +kernel) ())) _ (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every weakly fair execution of the eight devices' program terminates, every
    device's arrays at the end as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.Frames.lean ====
/-
The kernel runs, its arguments unchanged and every counter at zero, read as bits and read as reals.
-/
module

public import proofs.«01_k».proof.Proof.Launch
public import proofs.«01_k».proof.Defs
public import proofs.«01_k».proof.Proof.Gen.Kernel
public import proofs.«01_k».proof.Proof.Gen.ReferenceIdeal.Run

@[expose] public section

set_option maxRecDepth 16384

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

section Args

variable (m : (b : Loc nD τ sig) → Buf (Elt F) b) (ρ : Dev nD → PrngReg)

theorem args_kept (r : PUnit × MemSt nD τ sig (Elt F)) (h : QC m ρ r) (c : Dev nD) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) :=
  ⟨(h c (0 : Fin 6)).trans ((dats (F := F) m ρ 0 c).arrAt_in (0 : Fin 6) rfl _), (h c (1 : Fin 6)).trans ((dats (F := F) m ρ 0 c).arrAt_in (1 : Fin 6) rfl _),
    (h c (2 : Fin 6)).trans ((dats (F := F) m ρ 0 c).arrAt_in (2 : Fin 6) rfl _), (h c (3 : Fin 6)).trans ((dats (F := F) m ρ 0 c).arrAt_in (3 : Fin 6) rfl _),
    (h c (4 : Fin 6)).trans ((dats (F := F) m ρ 0 c).arrAt_in (4 : Fin 6) rfl _)⟩

end Args

theorem frame_ideal : Cert.quiescent_KernelIdeal := fun m ρ _ =>
  (θ_run Cert.KernelIdeal.defs _ _).mono (fun r h => ⟨fun c => args_kept m ρ r h.1 c, h.2⟩) (run_main (F := Ideal) m ρ)

theorem frame_bits (m : (b : Loc nD τ sig) → Buf (Elt Bits) b) (ρ : Dev nD → PrngReg) :
    θ_run (Cert.KernelIdeal.defs (F := Bits)) (onTc (τ := τ) (Cert.KernelIdeal.main (F := Bits))) (s₀ m ρ)
      (fun r => (∀ c : Dev nD, r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run Cert.KernelIdeal.defs _ _).mono (fun r h => ⟨fun c => args_kept m ρ r h.1 c, h.2⟩) (run_main (F := Bits) m ρ)

theorem defs₀_eq : Cert.Kernel.defs₀ (F := F) = Cert.KernelIdeal.defs₀ (F := F) := by
  refine congrArg Defs.onTc (funext fun p => funext fun a => ?_)
  match p, a with
  | (0 : Fin 1), (t, s) => rfl

theorem defs_eq : Cert.Kernel.defs (F := F) = Cert.KernelIdeal.defs (F := F) := congrArg (Pipeline.defs Cert.KernelIdeal.pcfgs) defs₀_eq

theorem frame_kernel : Cert.quiescent_Kernel := by
  intro m ρ _
  rw [defs_eq]
  exact frame_bits m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

end Cert.Attn

end
-- ==== Proof.Codes.lean ====
/-
The quantiser's codes and the constants, over the extended reals.
-/
module

public import proofs.«01_k».proof.Proof.Contents
public import Idealize.ShloMosaic.Lib.Pointwise

@[expose] public section

set_option maxRecDepth 16384

noncomputable section

namespace Cert.Attn

open Cert.KernelIdeal Cert.KernelIdeal.Gen
open Idealize.ShloMosaic

theorem lit_scale16 : Ideal.ofBits .bf16 0x41FE#16 = ((127/4 : ℝ) : EReal) := by
  simp [Ideal.ofBits, Ideal.ieee, -EReal.coe_mul]; norm_num

theorem lit_scale32 : Ideal.ofBits .f32 0x41FE0000#32 = ((127/4 : ℝ) : EReal) := by
  simp [Ideal.ofBits, Ideal.ieee, -EReal.coe_mul]; norm_num

theorem lit_127 : Ideal.ofBits .f32 0x42FE0000#32 = ((127 : ℝ) : EReal) := by
  simp [Ideal.ofBits, Ideal.ieee, -EReal.coe_mul]; norm_num

theorem lit_n127 : Ideal.ofBits .f32 0xC2FE0000#32 = ((-127 : ℝ) : EReal) := by
  simp [Ideal.ofBits, Ideal.ieee, -EReal.coe_mul]; norm_num

theorem lit_bot : Ideal.ofBits .f32 0xFF800000#32 = ⊥ := by
  simp [Ideal.ofBits, Ideal.ieee]

theorem lit_zero : Ideal.ofBits .f32 0x00000000#32 = 0 := by
  simp [Ideal.ofBits, Ideal.ieee]

/-- A code read back as a real number. -/
def deq : ℝ := 8454660 / 268435456

theorem lit_deq : Ideal.ofBits .f32 0x3D010204#32 = (deq : EReal) := by
  simp [deq, Ideal.ofBits, Ideal.ieee, -EReal.coe_mul]; norm_num

theorem lit_eighth : Ideal.ofBits .f32 0x3E000000#32 = ((1/8 : ℝ) : EReal) := by
  simp [Ideal.ofBits, Ideal.ieee, -EReal.coe_mul]; norm_num

theorem lit_deq8 : Ideal.ofBits .f32 0x3B810204#32 = ((deq * (1/8) : ℝ) : EReal) := by
  simp [deq, Ideal.ofBits, Ideal.ieee, -EReal.coe_mul]; norm_num

/-- Rounding to a whole number, clipped to the range of the codes. -/
def clipZ : EReal → ℤ
  | ⊥ => -127
  | ⊤ => 127
  | (r : ℝ) => min 127 (max (-127) (Ideal.roundHalfEven r))

theorem clipZ_bot : clipZ ⊥ = -127 := rfl
theorem clipZ_top : clipZ ⊤ = 127 := rfl
theorem clipZ_coe (r : ℝ) : clipZ (r : EReal) = min 127 (max (-127) (Ideal.roundHalfEven r)) := rfl

theorem clipZ_bounds (t : EReal) : -127 ≤ clipZ t ∧ clipZ t ≤ 127 := by
  induction t using EReal.rec with
  | bot => rw [clipZ_bot]; omega
  | top => rw [clipZ_top]; omega
  | coe r => rw [clipZ_coe]; omega

theorem clip_round_aux (t : EReal) :
    min ((127 : ℝ) : EReal) (max ((-127 : ℝ) : EReal) (Ideal.liftRound Ideal.roundHalfEven t)) = ((clipZ t : ℝ) : EReal) := by
  induction t using EReal.rec with
  | bot =>
    rw [Ideal.liftRound_bot, max_eq_left bot_le, min_eq_right (by exact_mod_cast (by norm_num : (-127 : ℝ) ≤ 127)), clipZ_bot]
    norm_num
  | top =>
    rw [Ideal.liftRound_top, max_eq_right le_top, min_eq_left le_top, clipZ_top]
    norm_num
  | coe r =>
    have hm : ∀ a b : ℝ, max (a : EReal) (b : EReal) = ((max a b : ℝ) : EReal) := fun a b =>
      (Monotone.map_max EReal.coe_strictMono.monotone).symm
    have hn : ∀ a b : ℝ, min (a : EReal) (b : EReal) = ((min a b : ℝ) : EReal) := fun a b =>
      (Monotone.map_min EReal.coe_strictMono.monotone).symm
    rw [Ideal.liftRound_coe, hm, hn, clipZ_coe]
    push_cast
    rfl

/-- The code an extended real gets, as a real number. -/
def code (t : EReal) : ℝ := (clipZ (t * ((127/4 : ℝ) : EReal)) : ℝ)

/-- The clipped rounding is the code. -/
theorem clip_round (t : EReal) :
    min ((127 : ℝ) : EReal) (max ((-127 : ℝ) : EReal) (Ideal.liftRound Ideal.roundHalfEven (t * ((127/4 : ℝ) : EReal))))
      = (code t : EReal) := clip_round_aux _

/-- Storing a code in eight bits loses nothing. -/
theorem whole_store (φ ψ : FTy) (z : ℤ) (h : -127 ≤ z ∧ z ≤ 127) :
    (FloatOps.sitofp (F := Ideal) ψ (FloatOps.fptosi (F := Ideal) (φ := φ) 8 ((z : ℝ) : EReal)) : EReal) = ((z : ℝ) : EReal) := by
  have h1 : Ideal.toIntClamped (-(2 ^ (8 - 1) : Nat)) ((2 ^ (8 - 1) : Nat) - 1) ((z : ℝ) : EReal) = z := by
    rw [Ideal.toIntClamped_coe]
    simp only [Int.floor_intCast, Int.ceil_intCast, ite_self]
    norm_num
    omega
  show (((BitVec.ofInt 8 (Ideal.toIntClamped (-(2 ^ (8 - 1) : Nat)) ((2 ^ (8 - 1) : Nat) - 1) ((z : ℝ) : EReal))).toInt : ℝ) : EReal) = _
  rw [h1, BitVec.toInt_ofInt_eq_self (by norm_num) (by norm_num; omega) (by norm_num; omega)]

theorem code_store (φ ψ : FTy) (t : EReal) :
    (FloatOps.sitofp (F := Ideal) ψ (FloatOps.fptosi (F := Ideal) (φ := φ) 8 (code t : EReal)) : EReal) = (code t : EReal) :=
  whole_store φ ψ _ (clipZ_bounds _)

end Cert.Attn

end
-- ==== Proof.Tower.lean ====
/-
The reference's result as a tower of named steps, and each step read at an index.
-/
module

public import proofs.«01_k».proof.Proof.Codes
public import proofs.«01_k».proof.Proof.Gen.ReferenceIdeal.Run

@[expose] public section

set_option maxRecDepth 16384

noncomputable section

namespace Cert.Attn

open Cert.ReferenceIdeal Cert.ReferenceIdeal.Gen
open Idealize.ShloMosaic

/-- A row's block, a column's block, and four. -/
def rRow : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

def rCol : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

def rFour : IVec S_ 32 :=
  select (cmpi .eq (id (constantI S_ 32 4#32)) (constantI S_ 32 0#32)) (constantI S_ 32 1#32) (id (constantI S_ 32 4#32))

/-- The blocks modulo four. -/
def rRow4 : IVec S256x1 32 :=
  select (andi (cmpi .ne (cmpi .slt (Host.remsi (broadcastInDim S256x1 ![0] bcast_S256_S256x1_0 rRow) (broadcastInDim S256x1 ![] bcast_S_S256x1 rFour)) (broadcastInDim S256x1 ![] bcast_S_S256x1 (constantI S_ 32 0#32)))
        (broadcastInDim S256x1 ![] bcast_S_S256x1 (cmpi .slt rFour (constantI S_ 32 0#32))))
      (cmpi .ne (Host.remsi (broadcastInDim S256x1 ![0] bcast_S256_S256x1_0 rRow) (broadcastInDim S256x1 ![] bcast_S_S256x1 rFour)) (broadcastInDim S256x1 ![] bcast_S_S256x1 (constantI S_ 32 0#32))))
    (addi (Host.remsi (broadcastInDim S256x1 ![0] bcast_S256_S256x1_0 rRow) (broadcastInDim S256x1 ![] bcast_S_S256x1 rFour)) (broadcastInDim S256x1 ![] bcast_S_S256x1 rFour))
    (Host.remsi (broadcastInDim S256x1 ![0] bcast_S256_S256x1_0 rRow) (broadcastInDim S256x1 ![] bcast_S_S256x1 rFour))

def rCol4 : IVec S1x2048 32 :=
  select (andi (cmpi .ne (cmpi .slt (Host.remsi (broadcastInDim S1x2048 ![1] bcast_S2048_S1x2048_1 rCol) (broadcastInDim S1x2048 ![] bcast_S_S1x2048 rFour)) (broadcastInDim S1x2048 ![] bcast_S_S1x2048 (constantI S_ 32 0#32)))
        (broadcastInDim S1x2048 ![] bcast_S_S1x2048 (cmpi .slt rFour (constantI S_ 32 0#32))))
      (cmpi .ne (Host.remsi (broadcastInDim S1x2048 ![1] bcast_S2048_S1x2048_1 rCol) (broadcastInDim S1x2048 ![] bcast_S_S1x2048 rFour)) (broadcastInDim S1x2048 ![] bcast_S_S1x2048 (constantI S_ 32 0#32))))
    (addi (Host.remsi (broadcastInDim S1x2048 ![1] bcast_S2048_S1x2048_1 rCol) (broadcastInDim S1x2048 ![] bcast_S_S1x2048 rFour)) (broadcastInDim S1x2048 ![] bcast_S_S1x2048 rFour))
    (Host.remsi (broadcastInDim S1x2048 ![1] bcast_S2048_S1x2048_1 rCol) (broadcastInDim S1x2048 ![] bcast_S_S1x2048 rFour))

/-- Which columns a row attends to. -/
def rMask : IVec S256x2048 1 :=
  ori (cmpi .eq (broadcastInDim S256x2048 ![0, 1] bcast_S256x1_S256x2048_0_1 (broadcastInDim S256x1 ![0] bcast_S256_S256x1_0 rRow))
      (broadcastInDim S256x2048 ![0, 1] bcast_S1x2048_S256x2048_0_1 (broadcastInDim S1x2048 ![1] bcast_S2048_S1x2048_1 rCol)))
    (cmpi .eq (broadcastInDim S256x2048 ![0, 1] bcast_S1x2048_S256x2048_0_1 rCol4) (broadcastInDim S256x2048 ![0, 1] bcast_S256x1_S256x2048_0_1 rRow4))

/-- Which rows attend to any column. -/
def rKeep : IVec S1x1x256x1 1 :=
  broadcastInDim S1x1x256x1 ![2] bcast_S256_S1x1x256x1_2 (Host.reduce IntOp.ori rMask (constantI S_ 1 0#1) reducesTo_S256x2048_S256_d1 h_S_)

/-- The quantised keys or values, read back as real numbers. -/
def rCodes (k : FVec Ideal S2x2048x32x64 .bf16) : FVec Ideal S2x2048x32x64 .f32 :=
  mulf (minimumf (broadcastInDim S2x2048x32x64 ![] bcast_S_S2x2048x32x64 (id (constant S_ .f32 0x42FE0000#32)))
      (maximumf (broadcastInDim S2x2048x32x64 ![] bcast_S_S2x2048x32x64 (id (constant S_ .f32 0xC2FE0000#32)))
        (Host.roundeven (mulf (extf .f32 k bitsLt_bf16_f32) (broadcastInDim S2x2048x32x64 ![] bcast_S_S2x2048x32x64 (constant S_ .f32 0x41FE0000#32))))))
    (broadcastInDim S2x2048x32x64 ![] bcast_S_S2x2048x32x64 (constant S_ .f32 0x3D010204#32))

/-- The queries. -/
def rQ (x : FVec Ideal S2x256x512 .bf16) (wq : FVec Ideal S512x2048 .bf16) : FVec Ideal S2x256x32x64 .f32 :=
  shapeCast _ (Host.dotGeneral dot_S2x256x512_S512x2048_S2x256x2048_2_0_01_1_n_n none (extf .f32 x bitsLt_bf16_f32) (extf .f32 wq bitsLt_bf16_f32)) shapeCasts_S2x256x2048_S2x256x32x64

/-- The masked scores of queries `q` against keys `k`. -/
def rScore (q : FVec Ideal S2x256x32x64 .f32) (k : FVec Ideal S2x2048x32x64 .f32) : FVec Ideal S2x32x256x2048 .f32 :=
  select (broadcastInDim S2x32x256x2048 ![0, 1, 2, 3] bcast_S1x1x256x2048_S2x32x256x2048_0_1_2_3 (broadcastInDim S1x1x256x2048 ![2, 3] bcast_S256x2048_S1x1x256x2048_2_3 rMask))
    (mulf (Host.dotGeneral dot_S2x256x32x64_S2x2048x32x64_S2x32x256x2048_3_3_1_1_02_02 none q k) (broadcastInDim S2x32x256x2048 ![] bcast_S_S2x32x256x2048 (constant S_ .f32 0x3E000000#32)))
    (broadcastInDim S2x32x256x2048 ![] bcast_S_S2x32x256x2048 (id (constant S_ .f32 0xFF800000#32)))

/-- The exponentials of scores `s`. -/
def rExp (s : FVec Ideal S2x32x256x2048 .f32) : FVec Ideal S2x32x256x2048 .f32 :=
  Host.exp (subf s (broadcastInDim S2x32x256x2048 ![0, 1, 2, 3] bcast_S2x32x256x1_S2x32x256x2048_0_1_2_3
    (broadcastInDim S2x32x256x1 ![0, 1, 2] bcast_S2x32x256_S2x32x256x1_0_1_2 (Host.reduce FloatOps.maximumf s (constant S_ .f32 0xFF800000#32) reducesTo_S2x32x256x2048_S2x32x256_d3 h_S_))))

/-- The weights of exponentials `e`. -/
def rWeight (e : FVec Ideal S2x32x256x2048 .f32) : FVec Ideal S2x32x256x2048 .f32 :=
  select (broadcastInDim S2x32x256x2048 ![0, 1, 2, 3] bcast_S1x1x256x1_S2x32x256x2048_0_1_2_3 rKeep)
    (Host.divf e (broadcastInDim S2x32x256x2048 ![0, 1, 2, 3] bcast_S2x32x256x1_S2x32x256x2048_0_1_2_3
      (select (broadcastInDim S2x32x256x1 ![0, 1, 2, 3] bcast_S1x1x256x1_S2x32x256x1_0_1_2_3 rKeep)
        (broadcastInDim S2x32x256x1 ![0, 1, 2] bcast_S2x32x256_S2x32x256x1_0_1_2 (Host.reduceAdd e (constant S_ .f32 0x00000000#32) reducesTo_S2x32x256x2048_S2x32x256_d3 h_S_))
        (broadcastInDim S2x32x256x1 ![] bcast_S_S2x32x256x1 (id (constant S_ .f32 0x3F800000#32))))))
    (broadcastInDim S2x32x256x2048 ![] bcast_S_S2x32x256x2048 (id (constant S_ .f32 0x00000000#32)))

/-- The result of weights `w`, values `v` and output weights `wo`. -/
def rOut (w : FVec Ideal S2x32x256x2048 .f32) (v : FVec Ideal S2x2048x32x64 .f32) (wo : FVec Ideal S2048x512 .bf16) : FVec Ideal S2x256x512 .f32 :=
  Host.dotGeneral dot_S2x256x2048_S2048x512_S2x256x512_2_0_01_1_n_n none
    (shapeCast _ (transpose S2x256x32x64 [0, 3, 1, 2] (Host.dotGeneral dot_S2x2048x32x64_S2x32x256x2048_S2x32x64x256_1_3_3_2_02_01 none v w) transposes_S2x32x64x256_S2x256x32x64_0_3_1_2) shapeCasts_S2x256x32x64_S2x256x2048)
    (extf .f32 wo bitsLt_bf16_f32)

/-- The reference's result is this tower of its arguments. -/
theorem res_eq (m : (ℓ : Loc nD τ sig) → Buf (Elt Ideal) ℓ) (c : Dev nD) :
    Cert.ReferenceIdeal.Value.res_main_v56 m c
      = rOut (rWeight (rExp (rScore (rQ (m ((c.tc : Thread nD τ).loc main_arg0)) (m ((c.tc : Thread nD τ).loc main_arg1))) (rCodes (m ((c.tc : Thread nD τ).loc main_arg2))))))
          (rCodes (m ((c.tc : Thread nD τ).loc main_arg3))) (m ((c.tc : Thread nD τ).loc main_arg4)) := rfl

theorem rRow_apply (i : Fin 256) : rRow (ix1 i) = BitVec.ofNat 32 (i.val / 64) := by
  revert i
  decide +kernel

theorem rCol_apply (j : Fin 2048) : rCol (ix1 j) = BitVec.ofNat 32 (j.val / 64) := by
  revert j
  decide +kernel

theorem rRow4_apply (i : Fin 256) : rRow4 (ix2 i (0 : Fin 1)) = BitVec.ofNat 32 (i.val / 64) := by
  revert i
  decide +kernel

theorem rCol4_apply (j : Fin 2048) : rCol4 (ix2 (0 : Fin 1) j) = BitVec.ofNat 32 (j.val / 64 % 4) := by
  revert j
  decide +kernel

theorem row_word (i : Fin 256) (j : Fin 2048) :
    IntOp.ori (IntOp.cmpi .eq (BitVec.ofNat 32 (i.val / 64)) (BitVec.ofNat 32 (j.val / 64)))
        (IntOp.cmpi .eq (BitVec.ofNat 32 (j.val / 64 % 4)) (BitVec.ofNat 32 (i.val / 64)))
      = if j.val / 64 % 4 = i.val / 64 then 1#1 else 0#1 := by
  have hi : i.val / 64 < 4 := by omega
  have hj : j.val / 64 < 32 := by omega
  generalize i.val / 64 = a at hi ⊢
  generalize j.val / 64 = d at hj ⊢
  have h : ∀ (a : Fin 4) (d : Fin 32), IntOp.ori (IntOp.cmpi .eq (BitVec.ofNat 32 a.val) (BitVec.ofNat 32 d.val))
        (IntOp.cmpi .eq (BitVec.ofNat 32 (d.val % 4)) (BitVec.ofNat 32 a.val))
      = if d.val % 4 = a.val then 1#1 else 0#1 := by decide
  exact h ⟨a, hi⟩ ⟨d, hj⟩

theorem rMask_apply (i : Fin 256) (j : Fin 2048) :
    rMask (ix2 i j) = if j.val / 64 % 4 = i.val / 64 then 1#1 else 0#1 := by
  rw [← row_word]
  pointwise [rMask]
  rw [rRow_apply, rCol_apply, rCol4_apply, rRow4_apply]

/-- A fold by or over a list with a one in it. -/
theorem foldl_or {β : Type} (l : List β) (f : β → BitVec 1) (a : BitVec 1) (h : a = 1#1 ∨ ∃ n ∈ l, f n = 1#1) :
    l.foldl (fun r n => IntOp.ori r (f n)) a = 1#1 := by
  induction l generalizing a with
  | nil => simpa using h
  | cons n l ih =>
    refine ih _ ?_
    have h1 : ∀ x : BitVec 1, IntOp.ori 1#1 x = 1#1 := by decide
    have h2 : ∀ x : BitVec 1, IntOp.ori x 1#1 = 1#1 := by decide
    rcases h with h | ⟨k, hk, hf⟩
    · exact Or.inl (by show IntOp.ori a (f n) = _; rw [h, h1])
    · rcases List.mem_cons.1 hk with rfl | hk
      · exact Or.inl (by show IntOp.ori a (f _) = _; rw [hf, h2])
      · exact Or.inr ⟨k, hk, hf⟩

/-- Every row attends to a column. -/
theorem rKeep_apply (i : Fin 256) : rKeep (ix4 (0 : Fin 1) (0 : Fin 1) i (0 : Fin 1)) = 1#1 := by
  have h : Host.reduce IntOp.ori rMask (constantI S_ 1 0#1) reducesTo_S256x2048_S256_d1 h_S_ (ix1 i) = 1#1 := by
    refine foldl_or _ _ _ (Or.inr ⟨S256x2048.rowMajor (ix2 i (⟨i.val, by omega⟩ : Fin 2048)), ?_, ?_⟩)
    · rw [List.mem_filter]
      refine ⟨List.mem_finRange _, ?_⟩
      rw [Equiv.symm_apply_apply, decide_eq_true_eq]
      funext a
      match a with
      | 0 => rfl
    · rw [Equiv.symm_apply_apply, rMask_apply, if_pos (by show i.val / 64 % 4 = i.val / 64; omega)]
  rw [← h]
  pointwise [rKeep]

theorem rCodes_apply (k : FVec Ideal S2x2048x32x64 .bf16) (b : Fin 2) (j : Fin 2048) (h : Fin 32) (d : Fin 64) :
    rCodes k (ix4 b j h d) = ((code (k (ix4 b j h d)) : ℝ) : EReal) * (deq : EReal) := by
  rw [← clip_round, ← lit_127, ← lit_n127, ← lit_scale32, ← lit_deq]
  pointwise [rCodes]
  rfl

theorem rQ_apply (x : FVec Ideal S2x256x512 .bf16) (wq : FVec Ideal S512x2048 .bf16) (b : Fin 2) (i : Fin 256) (h : Fin 32) (d : Fin 64) :
    rQ x wq (ix4 b i h d) = ∑ e : Fin 512, x (ix3 b i e) * wq (ix2 e (⟨h.val * 64 + d.val, by omega⟩ : Fin 2048)) := by
  pointwise [rQ]

theorem rScore_apply (q : FVec Ideal S2x256x32x64 .f32) (k : FVec Ideal S2x2048x32x64 .f32) (b : Fin 2) (h : Fin 32) (i : Fin 256) (j : Fin 2048) :
    rScore q k (ix4 b h i j) = if j.val / 64 % 4 = i.val / 64 then (∑ d : Fin 64, q (ix4 b i h d) * k (ix4 b j h d)) * ((1/8 : ℝ) : EReal) else ⊥ := by
  have h1 : rScore q k (ix4 b h i j) = (Scalar.select (rMask (ix2 i j)) ((∑ d : Fin 64, q (ix4 b i h d) * k (ix4 b j h d)) * Ideal.ofBits .f32 0x3E000000#32)
      (Ideal.ofBits .f32 0xFF800000#32) : EReal) := by
    pointwise [rScore]
    rfl
  rw [h1, rMask_apply, lit_bot, lit_eighth]
  by_cases hm : j.val / 64 % 4 = i.val / 64
  · rw [if_pos hm, if_pos hm]; rfl
  · rw [if_neg hm, if_neg hm]; rfl

theorem rExp_apply (s : FVec Ideal S2x32x256x2048 .f32) (b : Fin 2) (h : Fin 32) (i : Fin 256) (j : Fin 2048) :
    rExp s (ix4 b h i j) = Ideal.exp (s (ix4 b h i j) - Finset.fold max (Ideal.ofBits .f32 0xFF800000#32) (fun n => s (ix4 b h i n)) Finset.univ) := by
  pointwise [rExp]

theorem rWeight_apply (e : FVec Ideal S2x32x256x2048 .f32) (b : Fin 2) (h : Fin 32) (i : Fin 256) (j : Fin 2048) :
    rWeight e (ix4 b h i j) = Ideal.div (e (ix4 b h i j)) (∑ n : Fin 2048, e (ix4 b h i n)) := by
  have hs : ∀ a c : EReal, Scalar.select 1#1 a c = a := fun a c => if_pos rfl
  pointwise [rWeight]
  rw [rKeep_apply, hs, hs]

theorem rOut_apply (w : FVec Ideal S2x32x256x2048 .f32) (v : FVec Ideal S2x2048x32x64 .f32) (wo : FVec Ideal S2048x512 .bf16) (b : Fin 2) (i : Fin 256) (o : Fin 512) :
    rOut w v wo (ix3 b i o) = ∑ x : Fin 2048, (∑ j : Fin 2048, v (ix4 b j (⟨x.val / 64, by omega⟩ : Fin 32) (⟨x.val % 64, by omega⟩ : Fin 64))
      * w (ix4 b (⟨x.val / 64, by omega⟩ : Fin 32) i j)) * wo (ix2 x o) := by
  pointwise [rOut]

end Cert.Attn

end
-- ==== Proof.Reads.lean ====
/-
The kernel's payloads read at an index, and what the devices' partial results hold.
-/
module

public import proofs.«01_k».proof.Proof.Codes

@[expose] public section

set_option maxRecDepth 16384

noncomputable section

namespace Cert.Attn

open Cert.KernelIdeal Cert.KernelIdeal.Gen
open Idealize.ShloMosaic

/-- The whole arrays. -/
structure Whole where
  x : FVec Ideal S2x256x512 .bf16
  wq : FVec Ideal ⟨2, ![512, 2048]⟩ .bf16
  k : FVec Ideal ⟨4, ![2, 2048, 32, 64]⟩ .bf16
  v : FVec Ideal ⟨4, ![2, 2048, 32, 64]⟩ .bf16
  wo : FVec Ideal ⟨2, ![2048, 512]⟩ .bf16

/-- Place `a` of device `c`'s 256 along an axis of 2048. -/
def at256 (c : Dev nD) (a : Fin 256) : Fin 2048 :=
  ⟨256 * c.val + a.val, by have hc : c.val < 8 := c.isLt; have := a.isLt; omega⟩

/-- Place `d` of head `h` along an axis of 2048. -/
def atHead (h : Fin 32) (d : Fin 64) : Fin 2048 := ⟨64 * h.val + d.val, by have := h.isLt; have := d.isLt; omega⟩

/-- The head that is device `c`'s `a`-th. -/
def headOf (c : Dev nD) (a : Fin 4) : Fin 32 := ⟨4 * c.val + a.val, head_lt c a⟩

/-- The column that query block `r` attends to in its `n`-th place. -/
def col (r : Fin 4) (n : Fin 512) : Fin 2048 :=
  ⟨256 * (n.val / 64) + (64 * r.val + n.val % 64), by have := r.isLt; have := n.isLt; omega⟩

/-- Device `c`'s blocks of the whole arrays. -/
def Whole.ins (A : Whole) (c : Dev nD) : Ins Ideal where
  x := A.x
  wq := fun j => A.wq (ix2 (j 0) (at256 c (j 1)))
  k := fun j => A.k (ix4 (j 0) (at256 c (j 1)) (j 2) (j 3))
  v := fun j => A.v (ix4 (j 0) (at256 c (j 1)) (j 2) (j 3))
  wo := fun j => A.wo (ix2 (at256 c (j 0)) (j 1))

variable (A : Whole)

/-- The queries. -/
def qv (b : Fin 2) (h : Fin 32) (i : Fin 256) (d : Fin 64) : EReal :=
  ∑ e : Fin 512, A.x (ix3 b i e) * A.wq (ix2 e (atHead h d))

/-- A query against the codes of a key. -/
def dotq (b : Fin 2) (h : Fin 32) (i : Fin 256) (j : Fin 2048) : EReal :=
  ∑ d : Fin 64, qv A b h i d * (code (A.k (ix4 b j h d)) : EReal)

/-- The score of a query in its block's `n`-th place. -/
def sc (b : Fin 2) (h : Fin 32) (i : Fin 256) (r : Fin 4) (n : Fin 512) : EReal :=
  dotq A b h i (col r n) * ((deq * (1/8) : ℝ) : EReal)

/-- The greatest score of a query. -/
def mx (b : Fin 2) (h : Fin 32) (i : Fin 256) (r : Fin 4) : EReal :=
  Finset.fold max ⊥ (fun n => sc A b h i r n) Finset.univ

/-- The sum of the exponentials. -/
def den (b : Fin 2) (h : Fin 32) (i : Fin 256) (r : Fin 4) : EReal :=
  ∑ n : Fin 512, Ideal.exp (sc A b h i r n - mx A b h i r)

/-- The weight of a place. -/
def wt (b : Fin 2) (h : Fin 32) (i : Fin 256) (r : Fin 4) (n : Fin 512) : EReal :=
  Ideal.div (Ideal.exp (sc A b h i r n - mx A b h i r)) (den A b h i r)

/-- The weighted sum of the values' codes, read back as a real number. -/
def ctxv (b : Fin 2) (h : Fin 32) (i : Fin 256) (r : Fin 4) (d : Fin 64) : EReal :=
  (∑ n : Fin 512, wt A b h i r n * (code (A.v (ix4 b (col r n) h d)) : EReal)) * (deq : EReal)

/-- Device `c`'s share of the result. -/
def part (c : Dev nD) (b : Fin 2) (i : Fin 256) (r : Fin 4) (o : Fin 512) : EReal :=
  ∑ x : Fin 256, ctxv A b (headOf c ⟨x.val / 64, by omega⟩) i r ⟨x.val % 64, by omega⟩ * A.wo (ix2 (at256 c x) o)

/-- The scaled scores of one query block: `q` the block's queries, `k` the gathered codes of the keys. -/
def scoreT (q : FVec Ideal S8x64x64 .bf16) (k : Vec Ideal S2x1x4x8x64x64 .i8) : FVec Ideal S8x64x512 .f32 :=
  mulf (matmul dot_S8x64x64_S8x512x64_S8x64x512_2_2_1_1_0_0 none q (k0_pay5 k) (constant S8x64x512 .f32 0x00000000#32))
    (broadcast S8x64x512 (Scalar.ofBits .f32 0x3B810204#32))

theorem pay5_apply (k : Vec Ideal S2x1x4x8x64x64 .i8) (g : Fin 8) (n : Fin 512) (d : Fin 64) :
    k0_pay5 (F := Ideal) k (ix3 g n d)
      = FloatOps.sitofp (F := Ideal) .bf16 (k (ix6 (⟨g.val / 4, by omega⟩ : Fin 2) (0 : Fin 1) (⟨g.val % 4, by omega⟩ : Fin 4)
          (⟨n.val / 64, by omega⟩ : Fin 8) (⟨n.val % 64, by omega⟩ : Fin 64) d)) := by
  pointwise [k0_pay5]

theorem scoreT_apply (q : FVec Ideal S8x64x64 .bf16) (k : Vec Ideal S2x1x4x8x64x64 .i8) (g : Fin 8) (i : Fin 64) (n : Fin 512) :
    scoreT q k (ix3 g i n) = (∑ d : Fin 64, q (ix3 g i d) * k0_pay5 (F := Ideal) k (ix3 g n d)) * Ideal.ofBits .f32 0x3B810204#32 := by
  pointwise [scoreT]

theorem pay7_apply (wo : FVec Ideal S256x512 .bf16) (v : FVec Ideal S8x512x64 .bf16) (s : FVec Ideal S8x64x512 .f32) (b : Fin 2) (i : Fin 64) (o : Fin 512) :
    k0_pay7 wo v s (ix3 b i o) = ∑ x : Fin 256, (∑ n : Fin 512,
      Ideal.div (Ideal.exp (s (ix3 (⟨b.val * 4 + x.val / 64, by omega⟩ : Fin 8) i n)
          - Finset.fold max (Ideal.ofBits .f32 0xFF800000#32) (fun m : Fin 512 => s (ix3 (⟨b.val * 4 + x.val / 64, by omega⟩ : Fin 8) i m)) Finset.univ))
        (∑ m : Fin 512, Ideal.exp (s (ix3 (⟨b.val * 4 + x.val / 64, by omega⟩ : Fin 8) i m)
          - Finset.fold max (Ideal.ofBits .f32 0xFF800000#32) (fun m : Fin 512 => s (ix3 (⟨b.val * 4 + x.val / 64, by omega⟩ : Fin 8) i m)) Finset.univ))
      * v (ix3 (⟨b.val * 4 + x.val / 64, by omega⟩ : Fin 8) n (⟨x.val % 64, by omega⟩ : Fin 64))) * Ideal.ofBits .f32 0x3D010204#32 * wo (ix2 x o) := by
  pointwise [k0_pay7]

theorem pay3_apply (x : Vec Ideal S2x256x512 .bf16) (wq : Vec Ideal S512x256 .bf16) (g : Fin 8) (i : Fin 256) (d : Fin 64) :
    k0_pay3 x wq (ix3 g i d) = ∑ e : Fin 512, x (ix3 (⟨(g.val / 4 * 256 + i.val) / 256, by omega⟩ : Fin 2) i e) * wq (ix2 e (⟨g.val % 4 * 64 + d.val, by omega⟩ : Fin 256)) := by
  pointwise [k0_pay3]

theorem pay1_apply (k : Vec Ideal S2x256x32x64 .bf16) (b : Fin 2) (h : Fin 32) (j : Fin 256) (d : Fin 64) :
    k0_pay1 k (ix5 b (0 : Fin 1) h j d) = FloatOps.fptosi (F := Ideal) (φ := .bf16) 8 (code (k (ix4 b j h d)) : EReal) := by
  rw [← clip_round]
  pointwise [k0_pay1]
  rw [lit_scale16]
  have h1 : (((127#32 : BitVec 32).toInt : ℝ) : EReal) = ((127 : ℝ) : EReal) := by
    rw [show (127#32 : BitVec 32).toInt = 127 from by decide]; norm_num
  have h2 : (((4294967169#32 : BitVec 32).toInt : ℝ) : EReal) = ((-127 : ℝ) : EReal) := by
    rw [show (4294967169#32 : BitVec 32).toInt = -127 from by decide]; norm_num
  rw [h1, h2]

theorem pay2_eq (k : Vec Ideal S2x256x32x64 .bf16) : k0_pay2 k = k0_pay1 k := rfl

theorem pay27_apply (w : BitVec 32) (r : Vec Ideal S8x2x32x512 .bf16) (p : Vec Ideal S2x32x512 .f32) (b : Fin 2) (i : Fin 32) (o : Fin 512) :
    k0_pay27 w r p (ix3 b i o) = p (ix3 b i o) + ∑ x : Fin 8, (Scalar.select (IntOp.cmpi .eq (BitVec.ofNat 32 x.val) w) (0 : EReal) (r (ix4 x b i o)) : EReal) := by
  pointwise [k0_pay27]

/-- Rows `64r … 64r+63` of the queries. -/
def qRows (r : Fin 4) (q : FVec Ideal S8x256x64 .bf16) : FVec Ideal S8x64x64 .bf16 := fun j =>
  q (ix3 (j 0) (⟨64 * r.val + (j 1).val, row_lt r (j 1)⟩ : Fin 256) (j 2))

theorem qRows_0 (q : FVec Ideal S8x256x64 .bf16) :
    extractStridedSlice S8x64x64 ![0, 0, 0] q slices_S8x256x64_o0_0_0_S8x64x64 = qRows 0 q := by
  funext j
  rw [eq_ix3 j]
  pointwise [qRows]

theorem qRows_1 (q : FVec Ideal S8x256x64 .bf16) :
    extractStridedSlice S8x64x64 ![0, 64, 0] q slices_S8x256x64_o0_64_0_S8x64x64 = qRows 1 q := by
  funext j
  rw [eq_ix3 j]
  pointwise [qRows]

theorem qRows_2 (q : FVec Ideal S8x256x64 .bf16) :
    extractStridedSlice S8x64x64 ![0, 128, 0] q slices_S8x256x64_o0_128_0_S8x64x64 = qRows 2 q := by
  funext j
  rw [eq_ix3 j]
  pointwise [qRows]

theorem qRows_3 (q : FVec Ideal S8x256x64 .bf16) :
    extractStridedSlice S8x64x64 ![0, 192, 0] q slices_S8x256x64_o0_192_0_S8x64x64 = qRows 3 q := by
  funext j
  rw [eq_ix3 j]
  pointwise [qRows]

variable (I : Dev nD → Ins Ideal)

/-- Every query block's partial result is one function of its queries and gathered codes. -/
theorem PQ_eq (c : Dev nD) (r : Fin 4) :
    PQ I c r = k0_pay7 (WO I c) (k0_pay5 (KVR I c 1 r)) (scoreT (qRows r (QQ I c)) (KVR I c 0 r)) := by
  match r with
  | 0 =>
    rw [← qRows_0]
    exact (shapeCast_id (k0_pay7 (WO I c) (k0_pay5 (KVR I c 1 0)) (k0_pay6 (QQ I c) (KVR I c 0 0))) shapeCasts_S2x64x512_S2x64x512).trans rfl
  | 1 =>
    rw [← qRows_1]
    exact (shapeCast_id (k0_pay13 (WO I c) (k0_pay10 (KVR I c 1 1)) (k0_pay11 (QQ I c) (KVR I c 0 1)) (k0_pay12 (QQ I c) (KVR I c 0 1))) shapeCasts_S2x64x512_S2x64x512).trans rfl
  | 2 =>
    rw [← qRows_2]
    exact (shapeCast_id (k0_pay19 (WO I c) (k0_pay16 (KVR I c 1 2)) (k0_pay17 (QQ I c) (KVR I c 0 2)) (k0_pay18 (QQ I c) (KVR I c 0 2))) shapeCasts_S2x64x512_S2x64x512).trans rfl
  | 3 =>
    rw [← qRows_3]
    exact (shapeCast_id (k0_pay24 (WO I c) (k0_pay22 (KVR I c 1 3)) (k0_pay23 (QQ I c) (KVR I c 0 3))) shapeCasts_S2x64x512_S2x64x512).trans rfl

/-- Rounding a partial result changes nothing here. -/
theorem PB_eq (c : Dev nD) (r : Fin 4) : PB I c r = PQ I c r := by
  match r with
  | 0 => rfl
  | 1 => rfl
  | 2 => rfl
  | 3 => rfl

end Cert.Attn

end
-- ==== Proof.Shares.lean ====
/-
What the devices compute of the whole arrays, up to the result's buffer.
-/
module

public import proofs.«01_k».proof.Proof.Reads

@[expose] public section

set_option maxRecDepth 16384

noncomputable section

namespace Cert.Attn

open Cert.KernelIdeal Cert.KernelIdeal.Gen
open Idealize.ShloMosaic

variable (A : Whole)

theorem codes_k (c : Dev nD) (r : Fin 4) (g : Fin 8) (n : Fin 512) (d : Fin 64) :
    k0_pay5 (F := Ideal) (KVR A.ins c 0 r) (ix3 g n d)
      = (code (A.k (ix4 (⟨g.val / 4, by omega⟩ : Fin 2) (col r n) (headOf c ⟨g.val % 4, by omega⟩) d)) : EReal) := by
  rw [pay5_apply]
  refine Eq.trans (congrArg (FloatOps.sitofp (F := Ideal) .bf16) (Eq.trans ?_ (pay1_apply (A.ins ⟨n.val / 64, by show n.val / 64 < 8; omega⟩).k
    (⟨g.val / 4, by omega⟩ : Fin 2) (headOf c ⟨g.val % 4, by omega⟩) (⟨64 * r.val + n.val % 64, by omega⟩ : Fin 256) d)))
    (code_store .bf16 .bf16 _)
  rw [ix5_eq_valueIdx]
  rfl

theorem codes_v (c : Dev nD) (r : Fin 4) (g : Fin 8) (n : Fin 512) (d : Fin 64) :
    k0_pay5 (F := Ideal) (KVR A.ins c 1 r) (ix3 g n d)
      = (code (A.v (ix4 (⟨g.val / 4, by omega⟩ : Fin 2) (col r n) (headOf c ⟨g.val % 4, by omega⟩) d)) : EReal) := by
  rw [pay5_apply]
  refine Eq.trans (congrArg (FloatOps.sitofp (F := Ideal) .bf16) (Eq.trans ?_ (pay1_apply (A.ins ⟨n.val / 64, by show n.val / 64 < 8; omega⟩).v
    (⟨g.val / 4, by omega⟩ : Fin 2) (headOf c ⟨g.val % 4, by omega⟩) (⟨64 * r.val + n.val % 64, by omega⟩ : Fin 256) d)))
    (code_store .bf16 .bf16 _)
  rw [ix5_eq_valueIdx, ← pay2_eq]
  rfl

theorem queries (c : Dev nD) (g : Fin 8) (i : Fin 256) (d : Fin 64) :
    QQ A.ins c (ix3 g i d) = qv A (⟨g.val / 4, by omega⟩ : Fin 2) (headOf c ⟨g.val % 4, by omega⟩) i d := by
  rw [QQ, pay3_apply]
  have h1 : (⟨(g.val / 4 * 256 + i.val) / 256, by omega⟩ : Fin 2) = ⟨g.val / 4, by omega⟩ :=
    Fin.ext (by show (g.val / 4 * 256 + i.val) / 256 = g.val / 4; omega)
  have h2 : at256 c (⟨g.val % 4 * 64 + d.val, by omega⟩ : Fin 256) = atHead (headOf c ⟨g.val % 4, by omega⟩) d :=
    Fin.ext (by simp only [at256, atHead, headOf]; omega)
  rw [qv, h1, ← h2]
  rfl

/-- Device `c`'s place for head `a` of batch `b`. -/
def slot (b : Fin 2) (a : Fin 4) : Fin 8 := ⟨b.val * 4 + a.val, by omega⟩

theorem slot_div (b : Fin 2) (a : Fin 4) (h : (slot b a).val / 4 < 2) : (⟨(slot b a).val / 4, h⟩ : Fin 2) = b :=
  Fin.ext (by simp only [slot]; omega)

theorem slot_mod (b : Fin 2) (a : Fin 4) (h : (slot b a).val % 4 < 4) : (⟨(slot b a).val % 4, h⟩ : Fin 4) = a :=
  Fin.ext (by simp only [slot]; omega)

/-- Row `i` of query block `r`. -/
def rowOf (r : Fin 4) (i : Fin 64) : Fin 256 := ⟨64 * r.val + i.val, row_lt r i⟩

theorem scores (c : Dev nD) (r : Fin 4) (b : Fin 2) (a : Fin 4) (i : Fin 64) (n : Fin 512) :
    scoreT (qRows r (QQ A.ins c)) (KVR A.ins c 0 r) (ix3 (slot b a) i n) = sc A b (headOf c a) (rowOf r i) r n := by
  rw [scoreT_apply, lit_deq8, sc, dotq]
  congr 1
  refine Finset.sum_congr rfl fun d _ => ?_
  rw [codes_k, slot_div, slot_mod]
  refine congrArg (· * _) (Eq.trans (queries A c (slot b a) (rowOf r i) d) ?_)
  rw [slot_div, slot_mod]

/-- One query block's partial result on device `c`. -/
theorem PQ_val (c : Dev nD) (r : Fin 4) (b : Fin 2) (i : Fin 64) (o : Fin 512) :
    PQ A.ins c r (ix3 b i o) = part A c b (rowOf r i) r o := by
  rw [PQ_eq, pay7_apply, part]
  refine Finset.sum_congr rfl fun x _ => ?_
  have hs : (⟨b.val * 4 + x.val / 64, by omega⟩ : Fin 8) = slot b ⟨x.val / 64, by omega⟩ := rfl
  rw [hs, lit_bot, lit_deq, ctxv]
  simp only [scores, codes_v, slot_div, slot_mod]
  congr 1
  exact congrFun (shapeCast_id (A.ins c).wo shapeCasts_S256x512_S256x512) (ix2 x o)

theorem PACC_val (c : Dev nD) (b : Fin 2) (i : Fin 256) (o : Fin 512) :
    PACC A.ins c (ix3 b i o) = part A c b i ⟨i.val / 64, by omega⟩ o := by
  have h := PQ_val A c ⟨i.val / 64, by omega⟩ b ⟨i.val % 64, by omega⟩ o
  have hr : rowOf ⟨i.val / 64, by omega⟩ ⟨i.val % 64, by omega⟩ = i := Fin.ext (by simp only [rowOf]; omega)
  rw [hr] at h
  rw [← h, ix3_eq_valueIdx]
  rfl

theorem PBF_val (c : Dev nD) (b : Fin 2) (i : Fin 256) (o : Fin 512) :
    PBF A.ins c (ix3 b i o) = part A c b i ⟨i.val / 64, by omega⟩ o := by
  rw [← PACC_val]
  exact congrFun (PB_eq A.ins c _) _

theorem myW_eq (c : Dev nD) : myW c = BitVec.ofNat 32 c.val := by
  revert c
  decide

theorem eq_word (x c : Fin 8) : IntOp.cmpi .eq (BitVec.ofNat 32 x.val) (BitVec.ofNat 32 c.val) = if x = c then 1#1 else 0#1 := by
  revert x c
  decide

/-- One term and the sum of the others. -/
theorem own_and_rest (f : Fin 8 → EReal) (c : Fin 8) : f c + ∑ s : Fin 8, (if s = c then 0 else f s) = ∑ s : Fin 8, f s := by
  rw [← Finset.add_sum_erase Finset.univ f (Finset.mem_univ c),
    ← Finset.add_sum_erase Finset.univ (fun s => if s = c then 0 else f s) (Finset.mem_univ c), if_pos rfl, zero_add]
  exact congrArg (f c + ·) (Finset.sum_congr rfl fun s hs => if_neg (Finset.ne_of_mem_erase hs))

/-- The finished rows of device `c`. -/
theorem RED_val (c : Dev nD) (b : Fin 2) (i : Fin 32) (o : Fin 512) :
    RED A.ins c (ix3 b i o) = ∑ s : Dev nD, part A s b ⟨32 * c.val + i.val, chunk_lt c i⟩
      ⟨(32 * c.val + i.val) / 64, by have := chunk_lt c i; omega⟩ o := by
  rw [RED, pay27_apply, myW_eq]
  have h1 : OWNP A.ins c (ix3 b i o) = part A c b ⟨32 * c.val + i.val, chunk_lt c i⟩
      ⟨(32 * c.val + i.val) / 64, by have := chunk_lt c i; omega⟩ o := by
    rw [← PACC_val, ix3_eq_valueIdx]
    rfl
  have h2 : ∀ s : Dev nD, RSB A.ins c (ix4 s b i o) = part A s b ⟨32 * c.val + i.val, chunk_lt c i⟩
      ⟨(32 * c.val + i.val) / 64, by have := chunk_lt c i; omega⟩ o := by
    intro s
    rw [← PBF_val, ix3_eq_valueIdx]
    rfl
  rw [h1]
  have h3 : ∀ s : Fin 8, (Scalar.select (IntOp.cmpi .eq (BitVec.ofNat 32 s.val) (BitVec.ofNat 32 c.val)) (0 : EReal) (RSB A.ins c (ix4 s b i o)) : EReal)
      = if s = c then 0 else part A s b ⟨32 * c.val + i.val, chunk_lt c i⟩
      ⟨(32 * c.val + i.val) / 64, by have := chunk_lt c i; omega⟩ o := by
    intro s
    rw [eq_word s c]
    by_cases h : s = c
    · rw [if_pos h, if_pos h]; rfl
    · rw [if_neg h, if_neg h]; exact h2 s
  rw [Finset.sum_congr rfl fun s _ => h3 s]
  exact own_and_rest (fun s : Fin 8 => part A s b ⟨32 * c.val + i.val, chunk_lt c i⟩
      ⟨(32 * c.val + i.val) / 64, by have := chunk_lt c i; omega⟩ o) c

/-- The result is the sum of the devices' shares. -/
theorem OUT_val (c : Dev nD) (b : Fin 2) (i : Fin 256) (o : Fin 512) :
    OUT A.ins c (ix3 b i o) = ∑ s : Dev nD, part A s b i ⟨i.val / 64, by omega⟩ o := by
  have h := RED_val A (rowDev i) b ⟨i.val % 32, by omega⟩ o
  have hr : (⟨32 * (rowDev i).val + i.val % 32, chunk_lt (rowDev i) ⟨i.val % 32, by omega⟩⟩ : Fin 256) = i :=
    Fin.ext (by simp only [rowDev]; omega)
  have hq : (⟨(32 * (rowDev i).val + i.val % 32) / 64, by have := chunk_lt (rowDev i) ⟨i.val % 32, by omega⟩; omega⟩ : Fin 4)
      = ⟨i.val / 64, by omega⟩ := Fin.ext (by simp only [rowDev]; omega)
  have h' : RED A.ins (rowDev i) (ix3 b ⟨i.val % 32, by omega⟩ o) = ∑ s : Dev nD, part A s b i ⟨i.val / 64, by omega⟩ o := by
    rw [h]
    exact Finset.sum_congr rfl fun s _ => by rw [hq]; exact congrArg (fun j => part A s b j _ o) hr
  rw [← h', ix3_eq_valueIdx, ix3_eq_valueIdx]
  by_cases hc : i.val / 32 = c.val
  · have : rowDev i = c := Fin.ext hc
    rw [this]
    exact if_pos hc
  · refine Eq.trans (if_neg hc) ?_
    exact congrFun (shapeCast_id (RED A.ins (rowDev i)) shapeCasts_S2x32x512_S2x32x512) _

end Cert.Attn

end
-- ==== Proof.Rows.lean ====
/-
A row of the masked attention over all columns is the row over the columns it attends to.
-/
module

public import proofs.«01_k».proof.Proof.Shares

@[expose] public section

set_option maxRecDepth 16384

noncomputable section

namespace Cert.Attn

open Cert.KernelIdeal Cert.KernelIdeal.Gen
open Idealize.ShloMosaic

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem col_inj (r : Fin 4) : Function.Injective (col r) := by
  intro n m h
  have h' : 256 * (n.val / 64) + (64 * r.val + n.val % 64) = 256 * (m.val / 64) + (64 * r.val + m.val % 64) := congrArg Fin.val h
  exact Fin.ext (by omega)

theorem col_sel (r : Fin 4) (n : Fin 512) : (col r n).val / 64 % 4 = r.val := by
  show (256 * (n.val / 64) + (64 * r.val + n.val % 64)) / 64 % 4 = r.val
  omega

theorem sel_col (r : Fin 4) (j : Fin 2048) (h : j.val / 64 % 4 = r.val) : ∃ n, col r n = j := by
  refine ⟨⟨j.val / 256 * 64 + j.val % 64, by omega⟩, Fin.ext ?_⟩
  show 256 * ((j.val / 256 * 64 + j.val % 64) / 64) + (64 * r.val + (j.val / 256 * 64 + j.val % 64) % 64) = j.val
  omega

/-- A sum over all columns of what vanishes off a row's columns. -/
theorem sum_cols (r : Fin 4) (f : Fin 2048 → EReal) (h : ∀ j, j.val / 64 % 4 ≠ r.val → f j = 0) :
    ∑ j, f j = ∑ n, f (col r n) := by
  refine (Finset.sum_of_injOn (col r) (col_inj r).injOn (fun _ _ => Finset.mem_coe.2 (Finset.mem_univ _)) (fun j _ hj => h j fun hs => hj ?_) (fun _ _ => rfl)).symm
  obtain ⟨n, rfl⟩ := sel_col r j hs
  exact ⟨n, Finset.mem_coe.2 (Finset.mem_univ _), rfl⟩

/-- The greatest over all columns of what is bottom off a row's columns. -/
theorem max_cols (r : Fin 4) (f : Fin 2048 → EReal) (h : ∀ j, j.val / 64 % 4 ≠ r.val → f j = ⊥) :
    Finset.fold max ⊥ f Finset.univ = Finset.fold max ⊥ (fun n => f (col r n)) Finset.univ := by
  show Finset.univ.sup f = Finset.univ.sup (fun n => f (col r n))
  refine le_antisymm (Finset.sup_le fun j _ => ?_) (Finset.sup_le fun n _ => Finset.le_sup (Finset.mem_univ (col r n)))
  by_cases hs : j.val / 64 % 4 = r.val
  · obtain ⟨n, rfl⟩ := sel_col r j hs
    exact Finset.le_sup (f := fun n => f (col r n)) (Finset.mem_univ n)
  · rw [h j hs]
    exact bot_le

/-- The greatest of finitely many reals is a real. -/
theorem max_real (g : Fin 512 → ℝ) : ∃ m : ℝ, Finset.fold max ⊥ (fun n => (g n : EReal)) Finset.univ = (m : EReal) := by
  obtain ⟨n, -, hn⟩ := Finset.exists_mem_eq_sup Finset.univ ⟨(0 : Fin 512), Finset.mem_univ _⟩ (fun n => (g n : EReal))
  exact ⟨g n, hn⟩

/-- The softmax of real scores is real, and its divisor is not zero. -/
theorem softmax_real (g : Fin 512 → ℝ) (m : ℝ) : ∃ d : ℝ, d ≠ 0 ∧
    ∑ n : Fin 512, Ideal.exp ((g n : EReal) - (m : EReal)) = (d : EReal) := by
  refine ⟨∑ n : Fin 512, Real.exp (g n - m), ne_of_gt (Finset.sum_pos (fun n _ => Real.exp_pos _) ⟨(0 : Fin 512), Finset.mem_univ _⟩), ?_⟩
  rw [coe_sum]
  exact Finset.sum_congr rfl fun n _ => by rw [← EReal.coe_sub, Ideal.exp_coe]

/-- A masked row over all columns and the same row over the columns it attends to. -/
theorem row_meets (r : Fin 4) (f : Fin 2048 → EReal) (h : ∀ j, j.val / 64 % 4 ≠ r.val → f j = ⊥) (g : Fin 512 → ℝ)
    (hg : ∀ n, f (col r n) = (g n : EReal)) (v : Fin 2048 → ℝ) (s : ℝ) :
    ∑ j : Fin 2048, ((v j : EReal) * (s : EReal)) * Ideal.div (Ideal.exp (f j - Finset.fold max ⊥ f Finset.univ))
        (∑ k : Fin 2048, Ideal.exp (f k - Finset.fold max ⊥ f Finset.univ))
      = (∑ n : Fin 512, Ideal.div (Ideal.exp (f (col r n) - Finset.fold max ⊥ (fun n => f (col r n)) Finset.univ))
        (∑ k : Fin 512, Ideal.exp (f (col r k) - Finset.fold max ⊥ (fun n => f (col r n)) Finset.univ)) * (v (col r n) : EReal)) * (s : EReal) := by
  rw [max_cols r f h]
  simp only [hg]
  obtain ⟨m, hm⟩ := max_real g
  rw [hm]
  have hz : ∀ j : Fin 2048, j.val / 64 % 4 ≠ r.val → Ideal.exp (f j - (m : EReal)) = 0 := by
    intro j hj
    rw [h j hj, sub_eq_add_neg, EReal.bot_add, Ideal.exp_bot]
  rw [sum_cols r (fun k => Ideal.exp (f k - (m : EReal))) hz]
  simp only [hg]
  obtain ⟨d, hd, hs⟩ := softmax_real g m
  rw [hs, sum_cols r (fun j => ((v j : EReal) * (s : EReal)) * Ideal.div (Ideal.exp (f j - (m : EReal))) (d : EReal))
    (fun j hj => by rw [hz j hj, Ideal.div_coe hd, zero_mul, mul_zero])]
  simp only [hg, Ideal.div_coe hd, ← EReal.coe_sub, Ideal.exp_coe, ← EReal.coe_mul, ← coe_sum]
  congr 1
  rw [Finset.sum_mul]
  exact Finset.sum_congr rfl fun n _ => by ring

/-- A sum over 2048 places is the sum over the devices of the sums over their places. -/
theorem sum_devs (f : Fin 2048 → EReal) : ∑ x, f x = ∑ c : Dev nD, ∑ y : Fin 256, f (at256 c y) := by
  have h : ∑ x : Fin (8 * 256), f x = ∑ p : Fin 8 × Fin 256, f (at256 p.1 p.2) :=
    (Fintype.sum_equiv finProdFinEquiv _ _ fun p => congrArg f (Fin.ext (by
      show 256 * p.1.val + p.2.val = p.2.val + 256 * p.1.val
      omega))).symm
  exact h.trans (Fintype.sum_prod_type _)

end Cert.Attn

end
-- ==== Proof.Meet.lean ====
/-
The reference's result is the sum of the devices' shares.
-/
module

public import proofs.«01_k».proof.Proof.Tower
public import proofs.«01_k».proof.Proof.Rows

@[expose] public section

set_option maxRecDepth 16384

noncomputable section

namespace Cert.Attn

open Cert.KernelIdeal Cert.KernelIdeal.Gen
open Idealize.ShloMosaic

variable (A : Whole) (hx : ∀ i, ∃ r : ℝ, A.x i = (r : EReal)) (hw : ∀ i, ∃ r : ℝ, A.wq i = (r : EReal))

include hx hw in
theorem qv_real (b : Fin 2) (h : Fin 32) (i : Fin 256) (d : Fin 64) : ∃ r : ℝ, qv A b h i d = (r : EReal) := by
  choose X hX using hx
  choose W hW using hw
  refine ⟨∑ e : Fin 512, X (ix3 b i e) * W (ix2 e (atHead h d)), ?_⟩
  rw [coe_sum, qv]
  exact Finset.sum_congr rfl fun e _ => by rw [hX, hW, EReal.coe_mul]

include hx hw in
theorem sc_real (b : Fin 2) (h : Fin 32) (i : Fin 256) (r : Fin 4) : ∃ g : Fin 512 → ℝ, ∀ n, sc A b h i r n = (g n : EReal) := by
  choose Q hQ using fun d => qv_real A hx hw b h i d
  refine ⟨fun n => (∑ d : Fin 64, Q d * code (A.k (ix4 b (col r n) h d))) * (deq * (1/8)), fun n => ?_⟩
  rw [sc, dotq]
  simp only [hQ, ← EReal.coe_mul, ← coe_sum]

theorem rQ_val (b : Fin 2) (i : Fin 256) (h : Fin 32) (d : Fin 64) : rQ A.x A.wq (ix4 b i h d) = qv A b h i d := by
  rw [rQ_apply, qv]
  have hc : (⟨h.val * 64 + d.val, by omega⟩ : Fin 2048) = atHead h d := Fin.ext (by simp only [atHead]; omega)
  rw [hc]

include hx hw in
/-- The reference's score on a row's columns. -/
theorem rScore_on (b : Fin 2) (h : Fin 32) (i : Fin 256) (n : Fin 512) :
    rScore (rQ A.x A.wq) (rCodes A.k) (ix4 b h i (col ⟨i.val / 64, by omega⟩ n)) = sc A b h i ⟨i.val / 64, by omega⟩ n := by
  rw [rScore_apply, if_pos (col_sel ⟨i.val / 64, by omega⟩ n), sc, dotq]
  choose Q hQ using fun d => qv_real A hx hw b h i d
  simp only [rQ_val, rCodes_apply, hQ, ← EReal.coe_mul, ← coe_sum]
  congr 1
  rw [Finset.sum_mul, Finset.sum_mul]
  exact Finset.sum_congr rfl fun d _ => by ring

theorem rScore_off (b : Fin 2) (h : Fin 32) (i : Fin 256) (j : Fin 2048) (hj : j.val / 64 % 4 ≠ i.val / 64) :
    rScore (rQ A.x A.wq) (rCodes A.k) (ix4 b h i j) = ⊥ := by
  rw [rScore_apply, if_neg hj]

include hx hw in
/-- One entry of the reference's weighted sum. -/
theorem ctx_meets (b : Fin 2) (h : Fin 32) (i : Fin 256) (d : Fin 64) :
    ∑ j : Fin 2048, rCodes A.v (ix4 b j h d) * rWeight (rExp (rScore (rQ A.x A.wq) (rCodes A.k))) (ix4 b h i j)
      = ctxv A b h i ⟨i.val / 64, by omega⟩ d := by
  obtain ⟨g, hg⟩ := sc_real A hx hw b h i ⟨i.val / 64, by omega⟩
  simp only [rWeight_apply, rExp_apply, rCodes_apply, lit_bot]
  rw [row_meets ⟨i.val / 64, by omega⟩ (fun j => rScore (rQ A.x A.wq) (rCodes A.k) (ix4 b h i j)) (fun j hj => rScore_off A b h i j hj) g
    (fun n => (rScore_on A hx hw b h i n).trans (hg n)) (fun j => code (A.v (ix4 b j h d))) deq]
  simp only [rScore_on A hx hw]
  rfl

include hx hw in
/-- The reference's result. -/
theorem ref_meets (b : Fin 2) (i : Fin 256) (o : Fin 512) :
    rOut (rWeight (rExp (rScore (rQ A.x A.wq) (rCodes A.k)))) (rCodes A.v) A.wo (ix3 b i o)
      = ∑ s : Dev nD, part A s b i ⟨i.val / 64, by omega⟩ o := by
  rw [rOut_apply, sum_devs]
  refine Finset.sum_congr rfl fun c _ => Finset.sum_congr rfl fun y _ => ?_
  have hc : c.val < 8 := c.isLt
  rw [ctx_meets A hx hw]
  have h1 : (⟨(at256 c y).val / 64, by have := (at256 c y).isLt; omega⟩ : Fin 32) = headOf c ⟨y.val / 64, by omega⟩ :=
    Fin.ext (by simp only [at256, headOf]; omega)
  have h2 : (⟨(at256 c y).val % 64, by omega⟩ : Fin 64) = ⟨y.val % 64, by omega⟩ := Fin.ext (by simp only [at256]; omega)
  rw [h1, h2]

end Cert.Attn

end
-- ==== Proof.Finite.lean ====
/-
What the precondition says: the inputs and their projection weights are real numbers.
-/
module

public import proofs.«01_k».proof.Pre_finite_queries_KernelIdeal
public import Idealize.ShloMosaic.Lib.Pointwise

@[expose] public section

set_option maxRecDepth 16384

noncomputable section

namespace Cert.Attn

open Cert.Pre_finite_queries_KernelIdeal
open Idealize.ShloMosaic

/-- A fold by and that ends in a one met only ones. -/
theorem foldl_and {β : Type} (l : List β) (f : β → BitVec 1) (a : BitVec 1) (h : l.foldl (fun r n => IntOp.andi r (f n)) a = 1#1) :
    a = 1#1 ∧ ∀ n ∈ l, f n = 1#1 := by
  induction l generalizing a with
  | nil => exact ⟨h, fun n hn => absurd hn List.not_mem_nil⟩
  | cons k l ih =>
    obtain ⟨h1, h2⟩ := ih _ h
    have h3 : ∀ x y : BitVec 1, IntOp.andi x y = 1#1 → x = 1#1 ∧ y = 1#1 := by decide
    obtain ⟨h4, h5⟩ := h3 _ _ h1
    refine ⟨h4, fun n hn => ?_⟩
    rcases List.mem_cons.1 hn with rfl | hn
    · exact h5
    · exact h2 n hn

/-- An array all of whose answers, taken together, are a one. -/
theorem all_ones {s : Shape} {axes : List (Fin s.rank)} (y : IVec s 1) (h : s.ReducesTo axes S_) (hu : 0 < S_.numel) (e : S_.Idx)
    (hy : Host.reduce IntOp.andi y (constantI S_ 1 1#1) h hu e = 1#1) (i : s.Idx) : y i = 1#1 := by
  have h1 := (foldl_and _ _ _ hy).2 (s.rowMajor i) (List.mem_filter.2 ⟨List.mem_finRange _, decide_eq_true (funext fun a => a.elim0)⟩)
  rwa [Equiv.symm_apply_apply] at h1

/-- An extended real whose absolute value is below infinity is a real. -/
theorem real_of_lt (t : EReal) (h : BitVec.ofBool (decide (max t (-t) < Ideal.ofBits .f32 0x7F800000#32)) = 1#1) : ∃ r : ℝ, t = (r : EReal) := by
  have ht : Ideal.ofBits .f32 0x7F800000#32 = ⊤ := by simp [Ideal.ofBits, Ideal.ieee]
  have h1 : max t (-t) < ⊤ := by
    by_contra hn
    rw [ht, decide_eq_false hn] at h
    exact absurd h (by decide)
  induction t using EReal.rec with
  | bot => exact absurd h1 (by simp)
  | top => exact absurd h1 (by simp)
  | coe r => exact ⟨r, rfl⟩

variable [Facts]
open Facts

theorem pre_real (x : FVec Ideal S2x256x512 .bf16) (wq : FVec Ideal S512x256 .bf16) (k v : FVec Ideal S2x256x32x64 .bf16) (wo : FVec Ideal S256x512 .bf16)
    (h : fn x wq k v wo = fun _ => 1#1) : (∀ i, ∃ r : ℝ, x i = (r : EReal)) ∧ ∀ i, ∃ r : ℝ, wq i = (r : EReal) := by
  have h0 := congrFun h ix0
  have h3 : ∀ x y : BitVec 1, IntOp.andi x y = 1#1 → x = 1#1 ∧ y = 1#1 := by decide
  obtain ⟨h1, h2⟩ := h3 _ _ h0
  refine ⟨fun i => ?_, fun i => ?_⟩
  · have h4 := all_ones _ _ _ _ h1 i
    simp only [pointwise] at h4
    exact real_of_lt _ h4
  · have h4 := all_ones _ _ _ _ h2 i
    simp only [pointwise] at h4
    exact real_of_lt _ h4

end Cert.Attn

end
-- ==== Proof.Value.lean ====
/-
The kernel's result on every device is the reference's.
-/
module

public import proofs.«01_k».proof.Proof.Frames
public import proofs.«01_k».proof.Proof.Meet
public import proofs.«01_k».proof.Proof.Finite
public import Idealize.ShloMosaic.Lib.Layout

@[expose] public section

set_option maxRecDepth 16384

noncomputable section

namespace Cert.Attn

open Cert.KernelIdeal Cert.KernelIdeal.Gen
open Idealize.ShloMosaic

open Idealize.ShloMosaic.TcCoe
open Idealize.SL.Sem

/-! ## Reading the windows -/

section Windows

variable {F : FTy → Type} [FloatOps F] (m : (b : Loc nD τ sig) → Buf (Elt F) b) (ρ : Dev nD → PrngReg)

theorem read_win0 (f : (main_arg0.ty).Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f

theorem read_win1 (f : (main_arg1.ty).Contents (Elt F)) : (win0_1.blk (0 : Fin 1)).view.read (Elt F) f = f :=
  Memref.read_access_unit_zero (Elt F) main_arg1 (off := fun a => (win0_1.index (0 : Fin 1)) a * main_arg1.ty.shape.size a)
    (funext fun a => by fin_cases a <;> decide) (fun a => by fin_cases a <;> decide) f

theorem read_win2 (f : (main_arg2.ty).Contents (Elt F)) : (win0_2.blk (0 : Fin 1)).view.read (Elt F) f = f :=
  Memref.read_access_unit_zero (Elt F) main_arg2 (off := fun a => (win0_2.index (0 : Fin 1)) a * main_arg2.ty.shape.size a)
    (funext fun a => by fin_cases a <;> decide) (fun a => by fin_cases a <;> decide) f

theorem read_win3 (f : (main_arg3.ty).Contents (Elt F)) : (win0_3.blk (0 : Fin 1)).view.read (Elt F) f = f :=
  Memref.read_access_unit_zero (Elt F) main_arg3 (off := fun a => (win0_3.index (0 : Fin 1)) a * main_arg3.ty.shape.size a)
    (funext fun a => by fin_cases a <;> decide) (fun a => by fin_cases a <;> decide) f

theorem read_win4 (f : (main_arg4.ty).Contents (Elt F)) : (win0_4.blk (0 : Fin 1)).view.read (Elt F) f = f :=
  Memref.read_access_unit_zero (Elt F) main_arg4 (off := fun a => (win0_4.index (0 : Fin 1)) a * main_arg4.ty.shape.size a)
    (funext fun a => by fin_cases a <;> decide) (fun a => by fin_cases a <;> decide) f

theorem read_win5 (f : (main_v1.ty).Contents (Elt F)) : (win0_5.blk (0 : Fin 1)).view.read (Elt F) f = f :=
  Memref.read_access_unit_zero (Elt F) main_v1 (off := fun a => (win0_5.index (0 : Fin 1)) a * main_v1.ty.shape.size a)
    (funext fun a => by fin_cases a <;> decide) (fun a => by fin_cases a <;> decide) f

/-- The result's buffer after the run. -/
theorem final_out (c : Dev nD) : finalA m ρ c (5 : Fin 6) = OUT (inM m ρ) c := by
  have h : (win0_5.blk (0 : Fin 1)).view.read (Elt F) (finalA m ρ c (5 : Fin 6)) = OUT (inM m ρ) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (read_win5 _).symm.trans h

end Windows

/-! ## The claim -/

instance preFacts : Cert.Pre_finite_queries_KernelIdeal.Facts :=
  ⟨by decide, by decide, by decide, by decide, by decide, by decide⟩

instance preFactsR : Cert.Pre_finite_queries_ReferenceIdeal.Facts :=
  ⟨by decide, by decide, by decide, by decide, by decide, by decide⟩

theorem block_cols (c : Dev nD) (w : FVec Ideal ⟨2, ![512, 2048]⟩ .bf16) :
    Layout.block ⟨2, ![512, 256]⟩ ⟨2, ![512, 2048]⟩ 1 8 c w = fun j => w (ix2 (j 0) (at256 c (j 1))) := by
  funext j
  refine congrArg w (funext fun a => Fin.ext ?_)
  match a with
  | 0 => rfl
  | 1 => show c.val * 256 + (j 1).val = 256 * c.val + (j 1).val; omega

theorem block_rows (c : Dev nD) (w : FVec Ideal ⟨2, ![2048, 512]⟩ .bf16) :
    Layout.block ⟨2, ![256, 512]⟩ ⟨2, ![2048, 512]⟩ 0 8 c w = fun j => w (ix2 (at256 c (j 0)) (j 1)) := by
  funext j
  refine congrArg w (funext fun a => Fin.ext ?_)
  match a with
  | 0 => show c.val * 256 + (j 0).val = 256 * c.val + (j 0).val; omega
  | 1 => rfl

theorem block_seq (c : Dev nD) (w : FVec Ideal ⟨4, ![2, 2048, 32, 64]⟩ .bf16) :
    Layout.block ⟨4, ![2, 256, 32, 64]⟩ ⟨4, ![2, 2048, 32, 64]⟩ 1 8 c w = fun j => w (ix4 (j 0) (at256 c (j 1)) (j 2) (j 3)) := by
  funext j
  refine congrArg w (funext fun a => Fin.ext ?_)
  match a with
  | 0 => rfl
  | 1 => show c.val * 256 + (j 1).val = 256 * c.val + (j 1).val; omega
  | 2 => rfl
  | 3 => rfl

/-- A column of the whole projection weights lies in one device's block. -/
theorem col_dev (y : Fin 2048) : ∃ (c : Dev nD) (a : Fin 256), at256 c a = y :=
  ⟨⟨y.val / 256, by show y.val / 256 < 8; omega⟩, ⟨y.val % 256, by omega⟩, Fin.ext (by simp only [at256]; omega)⟩

/-- The reference's arguments, as the whole arrays. -/
def wholeOf (m' : (ℓ : Loc Cert.ReferenceIdeal.nD Cert.ReferenceIdeal.τ Cert.ReferenceIdeal.sig) → Buf (Elt Ideal) ℓ) : Whole where
  x := m' (((0 : Dev Cert.ReferenceIdeal.nD).tc : Thread Cert.ReferenceIdeal.nD Cert.ReferenceIdeal.τ).loc Cert.ReferenceIdeal.main_arg0)
  wq := m' (((0 : Dev Cert.ReferenceIdeal.nD).tc : Thread Cert.ReferenceIdeal.nD Cert.ReferenceIdeal.τ).loc Cert.ReferenceIdeal.main_arg1)
  k := m' (((0 : Dev Cert.ReferenceIdeal.nD).tc : Thread Cert.ReferenceIdeal.nD Cert.ReferenceIdeal.τ).loc Cert.ReferenceIdeal.main_arg2)
  v := m' (((0 : Dev Cert.ReferenceIdeal.nD).tc : Thread Cert.ReferenceIdeal.nD Cert.ReferenceIdeal.τ).loc Cert.ReferenceIdeal.main_arg3)
  wo := m' (((0 : Dev Cert.ReferenceIdeal.nD).tc : Thread Cert.ReferenceIdeal.nD Cert.ReferenceIdeal.τ).loc Cert.ReferenceIdeal.main_arg4)

theorem value : Cert.algebraic_KernelIdeal_ReferenceIdeal_pre_finite_queries_KernelIdeal := by
  intro m ρ m' ρ' hpre hag
  have hI : inM m ρ = (wholeOf m').ins := by
    funext c
    obtain ⟨h0, h1, h2, h3, h4⟩ := hag c
    unfold inM Whole.ins
    congr 1
    · exact (read_win0 _).trans h0
    · exact (read_win1 _).trans (h1.trans (block_cols c _))
    · exact (read_win2 _).trans (h2.trans (block_seq c _))
    · exact (read_win3 _).trans (h3.trans (block_seq c _))
    · exact (read_win4 _).trans (h4.trans (block_rows c _))
  have hx : ∀ i, ∃ r : ℝ, (wholeOf m').x i = (r : EReal) := by
    intro i
    obtain ⟨r, hr⟩ := (pre_real _ _ _ _ _ (hpre (0 : Dev nD))).1 i
    exact ⟨r, (congrFun (hag (0 : Dev nD)).1 i).symm.trans hr⟩
  have hw : ∀ i, ∃ r : ℝ, (wholeOf m').wq i = (r : EReal) := by
    intro i
    obtain ⟨c, a, ha⟩ := col_dev (i 1)
    obtain ⟨r, hr⟩ := (pre_real _ _ _ _ _ (hpre c)).2 (ix2 (i 0) a)
    refine ⟨r, Eq.trans ?_ ((congrFun ((hag c).2.1.trans (block_cols c _)) (ix2 (i 0) a)).symm.trans hr)⟩
    show (wholeOf m').wq i = (wholeOf m').wq (ix2 (i 0) (at256 c a))
    rw [ha, ← eq_ix2 i]
  have hout : ∀ c : Dev nD, OUT (inM m ρ) c = Cert.ReferenceIdeal.Value.res_main_v56 m' 0 := by
    intro c
    rw [hI, res_eq]
    funext i
    rw [eq_ix3 i]
    exact (OUT_val (wholeOf m') c (i 0) (i 1) (i 2)).trans (ref_meets (wholeOf m') hx hw (i 0) (i 1) (i 2)).symm
  refine ⟨Cert.ReferenceIdeal.Value.res_main_v56 m' 0, ?_, ?_⟩
  · exact (θ_run Cert.KernelIdeal.defs _ _).mono
      (fun r h c => ⟨((h.1 c (5 : Fin 6)).trans (final_out m ρ c)).trans (hout c), args_kept m ρ r h.1 c⟩)
      (run_main (F := Ideal) m ρ)
  · exact (θ_run Cert.ReferenceIdeal.defs _ _).mono (fun _ h => h 0) (Cert.ReferenceIdeal.Value.run (F := Ideal) m' ρ')

theorem frame_ideal_pre : Cert.quiescent_KernelIdeal_pre_finite_queries_KernelIdeal := fun m ρ _ => frame_ideal m ρ trivial

theorem frame_reference_pre : Cert.quiescent_ReferenceIdeal_pre_finite_queries_ReferenceIdeal := fun m ρ _ => frame_reference m ρ trivial

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn.preFacts, Cert.Attn.preFactsR,
  Cert.Attn.frame_kernel, Cert.Attn.frame_ideal, Cert.Attn.frame_ideal_pre, Cert.Attn.frame_reference, Cert.Attn.frame_reference_pre,
  trivial, Cert.Attn.value⟩

end Cert.Proof

end
